-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepReferenceIdeal (m : (ℓ : Loc Cert.StepReferenceIdeal.nD Cert.StepReferenceIdeal.τ Cert.StepReferenceIdeal.sig) → Buf (Elt Ideal) ℓ) : Prop :=
  True

def Pre_Fresh (m : (ℓ : Loc Cert.Fresh.nD Cert.Fresh.τ Cert.Fresh.sig) → Buf (Elt Bits) ℓ) : Prop :=
  True

def Pre_FreshIdeal (m : (ℓ : Loc Cert.FreshIdeal.nD Cert.FreshIdeal.τ Cert.FreshIdeal.sig) → Buf (Elt Ideal) ℓ) : Prop :=
  True

def Pre_FreshReferenceIdeal (m : (ℓ : Loc Cert.FreshReferenceIdeal.nD Cert.FreshReferenceIdeal.τ Cert.FreshReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7)
      ∧ r.2.mem ((c.tc : Thread Cert.Step.nD Cert.Step.τ).loc Cert.Step.main_arg8) = m ((c.tc : Thread Cert.Step.nD Cert.Step.τ).loc Cert.Step.main_arg8)
      ∧ r.2.mem ((c.tc : Thread Cert.Step.nD Cert.Step.τ).loc Cert.Step.main_arg9) = m ((c.tc : Thread Cert.Step.nD Cert.Step.τ).loc Cert.Step.main_arg9)
      ∧ r.2.mem ((c.tc : Thread Cert.Step.nD Cert.Step.τ).loc Cert.Step.main_arg10) = m ((c.tc : Thread Cert.Step.nD Cert.Step.τ).loc Cert.Step.main_arg10)
      ∧ r.2.mem ((c.tc : Thread Cert.Step.nD Cert.Step.τ).loc Cert.Step.main_arg11) = m ((c.tc : Thread Cert.Step.nD Cert.Step.τ).loc Cert.Step.main_arg11)
      ∧ r.2.mem ((c.tc : Thread Cert.Step.nD Cert.Step.τ).loc Cert.Step.main_arg12) = m ((c.tc : Thread Cert.Step.nD Cert.Step.τ).loc Cert.Step.main_arg12))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
      ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
      ∧ r.2.mem ((c.tc : Thread Cert.StepIdeal.nD Cert.StepIdeal.τ).loc Cert.StepIdeal.main_arg10) = m ((c.tc : Thread Cert.StepIdeal.nD Cert.StepIdeal.τ).loc Cert.StepIdeal.main_arg10)
      ∧ r.2.mem ((c.tc : Thread Cert.StepIdeal.nD Cert.StepIdeal.τ).loc Cert.StepIdeal.main_arg11) = m ((c.tc : Thread Cert.StepIdeal.nD Cert.StepIdeal.τ).loc Cert.StepIdeal.main_arg11)
      ∧ r.2.mem ((c.tc : Thread Cert.StepIdeal.nD Cert.StepIdeal.τ).loc Cert.StepIdeal.main_arg12) = m ((c.tc : Thread Cert.StepIdeal.nD Cert.StepIdeal.τ).loc Cert.StepIdeal.main_arg12))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3)
      ∧ r.2.mem ((c.tc : Thread Cert.StepReferenceIdeal.nD Cert.StepReferenceIdeal.τ).loc Cert.StepReferenceIdeal.main_arg4) = m ((c.tc : Thread Cert.StepReferenceIdeal.nD Cert.StepReferenceIdeal.τ).loc Cert.StepReferenceIdeal.main_arg4)
      ∧ r.2.mem ((c.tc : Thread Cert.StepReferenceIdeal.nD Cert.StepReferenceIdeal.τ).loc Cert.StepReferenceIdeal.main_arg5) = m ((c.tc : Thread Cert.StepReferenceIdeal.nD Cert.StepReferenceIdeal.τ).loc Cert.StepReferenceIdeal.main_arg5)
      ∧ r.2.mem ((c.tc : Thread Cert.StepReferenceIdeal.nD Cert.StepReferenceIdeal.τ).loc Cert.StepReferenceIdeal.main_arg6) = m ((c.tc : Thread Cert.StepReferenceIdeal.nD Cert.StepReferenceIdeal.τ).loc Cert.StepReferenceIdeal.main_arg6)
      ∧ r.2.mem ((c.tc : Thread Cert.StepReferenceIdeal.nD Cert.StepReferenceIdeal.τ).loc Cert.StepReferenceIdeal.main_arg7) = m ((c.tc : Thread Cert.StepReferenceIdeal.nD Cert.StepReferenceIdeal.τ).loc Cert.StepReferenceIdeal.main_arg7)
      ∧ r.2.mem ((c.tc : Thread Cert.StepReferenceIdeal.nD Cert.StepReferenceIdeal.τ).loc Cert.StepReferenceIdeal.main_arg8) = m ((c.tc : Thread Cert.StepReferenceIdeal.nD Cert.StepReferenceIdeal.τ).loc Cert.StepReferenceIdeal.main_arg8)
      ∧ r.2.mem ((c.tc : Thread Cert.StepReferenceIdeal.nD Cert.StepReferenceIdeal.τ).loc Cert.StepReferenceIdeal.main_arg9) = m ((c.tc : Thread Cert.StepReferenceIdeal.nD Cert.StepReferenceIdeal.τ).loc Cert.StepReferenceIdeal.main_arg9)
      ∧ r.2.mem ((c.tc : Thread Cert.StepReferenceIdeal.nD Cert.StepReferenceIdeal.τ).loc Cert.StepReferenceIdeal.main_arg10) = m ((c.tc : Thread Cert.StepReferenceIdeal.nD Cert.StepReferenceIdeal.τ).loc Cert.StepReferenceIdeal.main_arg10)
      ∧ r.2.mem ((c.tc : Thread Cert.StepReferenceIdeal.nD Cert.StepReferenceIdeal.τ).loc Cert.StepReferenceIdeal.main_arg11) = m ((c.tc : Thread Cert.StepReferenceIdeal.nD Cert.StepReferenceIdeal.τ).loc Cert.StepReferenceIdeal.main_arg11)
      ∧ r.2.mem ((c.tc : Thread Cert.StepReferenceIdeal.nD Cert.StepReferenceIdeal.τ).loc Cert.StepReferenceIdeal.main_arg12) = m ((c.tc : Thread Cert.StepReferenceIdeal.nD Cert.StepReferenceIdeal.τ).loc Cert.StepReferenceIdeal.main_arg12))
      ∧ r.2.sem = fun _ => 0)

def quiescent_Fresh [hFresh : Cert.Fresh.Facts] : Prop :=
  ∀ (m : (ℓ : Loc Cert.Fresh.nD Cert.Fresh.τ Cert.Fresh.sig) → Buf (Elt Bits) ℓ) (g : Dev Cert.Fresh.nD → PrngReg), Pre_Fresh m →
    θ_run (Cert.Fresh.defs (F := Bits)) (onTc (τ := Cert.Fresh.τ) (Cert.Fresh.main (F := Bits))) ⟨m, fun _ => 0, g⟩ (fun r => (∀ c : Dev Cert.Fresh.nD,
      r.2.mem ((c.tc : Thread Cert.Fresh.nD Cert.Fresh.τ).loc Cert.Fresh.main_arg0) = m ((c.tc : Thread Cert.Fresh.nD Cert.Fresh.τ).loc Cert.Fresh.main_arg0)
      ∧ r.2.mem ((c.tc : Thread Cert.Fresh.nD Cert.Fresh.τ).loc Cert.Fresh.main_arg1) = m ((c.tc : Thread Cert.Fresh.nD Cert.Fresh.τ).loc Cert.Fresh.main_arg1)
      ∧ r.2.mem ((c.tc : Thread Cert.Fresh.nD Cert.Fresh.τ).loc Cert.Fresh.main_arg2) = m ((c.tc : Thread Cert.Fresh.nD Cert.Fresh.τ).loc Cert.Fresh.main_arg2)
      ∧ r.2.mem ((c.tc : Thread Cert.Fresh.nD Cert.Fresh.τ).loc Cert.Fresh.main_arg3) = m ((c.tc : Thread Cert.Fresh.nD Cert.Fresh.τ).loc Cert.Fresh.main_arg3)
      ∧ r.2.mem ((c.tc : Thread Cert.Fresh.nD Cert.Fresh.τ).loc Cert.Fresh.main_arg4) = m ((c.tc : Thread Cert.Fresh.nD Cert.Fresh.τ).loc Cert.Fresh.main_arg4)
      ∧ r.2.mem ((c.tc : Thread Cert.Fresh.nD Cert.Fresh.τ).loc Cert.Fresh.main_arg5) = m ((c.tc : Thread Cert.Fresh.nD Cert.Fresh.τ).loc Cert.Fresh.main_arg5)
      ∧ r.2.mem ((c.tc : Thread Cert.Fresh.nD Cert.Fresh.τ).loc Cert.Fresh.main_arg6) = m ((c.tc : Thread Cert.Fresh.nD Cert.Fresh.τ).loc Cert.Fresh.main_arg6)
      ∧ r.2.mem ((c.tc : Thread Cert.Fresh.nD Cert.Fresh.τ).loc Cert.Fresh.main_arg7) = m ((c.tc : Thread Cert.Fresh.nD Cert.Fresh.τ).loc Cert.Fresh.main_arg7))
      ∧ r.2.sem = fun _ => 0)

def quiescent_FreshIdeal [hFreshIdeal : Cert.FreshIdeal.Facts] : Prop :=
  ∀ (m : (ℓ : Loc Cert.FreshIdeal.nD Cert.FreshIdeal.τ Cert.FreshIdeal.sig) → Buf (Elt Ideal) ℓ) (g : Dev Cert.FreshIdeal.nD → PrngReg), Pre_FreshIdeal m →
    θ_run (Cert.FreshIdeal.defs (F := Ideal)) (onTc (τ := Cert.FreshIdeal.τ) (Cert.FreshIdeal.main (F := Ideal))) ⟨m, fun _ => 0, g⟩ (fun r => (∀ c : Dev Cert.FreshIdeal.nD,
      r.2.mem ((c.tc : Thread Cert.FreshIdeal.nD Cert.FreshIdeal.τ).loc Cert.FreshIdeal.main_arg0) = m ((c.tc : Thread Cert.FreshIdeal.nD Cert.FreshIdeal.τ).loc Cert.FreshIdeal.main_arg0)
      ∧ r.2.mem ((c.tc : Thread Cert.FreshIdeal.nD Cert.FreshIdeal.τ).loc Cert.FreshIdeal.main_arg1) = m ((c.tc : Thread Cert.FreshIdeal.nD Cert.FreshIdeal.τ).loc Cert.FreshIdeal.main_arg1)
      ∧ r.2.mem ((c.tc : Thread Cert.FreshIdeal.nD Cert.FreshIdeal.τ).loc Cert.FreshIdeal.main_arg2) = m ((c.tc : Thread Cert.FreshIdeal.nD Cert.FreshIdeal.τ).loc Cert.FreshIdeal.main_arg2)
      ∧ r.2.mem ((c.tc : Thread Cert.FreshIdeal.nD Cert.FreshIdeal.τ).loc Cert.FreshIdeal.main_arg3) = m ((c.tc : Thread Cert.FreshIdeal.nD Cert.FreshIdeal.τ).loc Cert.FreshIdeal.main_arg3)
      ∧ r.2.mem ((c.tc : Thread Cert.FreshIdeal.nD Cert.FreshIdeal.τ).loc Cert.FreshIdeal.main_arg4) = m ((c.tc : Thread Cert.FreshIdeal.nD Cert.FreshIdeal.τ).loc Cert.FreshIdeal.main_arg4)
      ∧ r.2.mem ((c.tc : Thread Cert.FreshIdeal.nD Cert.FreshIdeal.τ).loc Cert.FreshIdeal.main_arg5) = m ((c.tc : Thread Cert.FreshIdeal.nD Cert.FreshIdeal.τ).loc Cert.FreshIdeal.main_arg5)
      ∧ r.2.mem ((c.tc : Thread Cert.FreshIdeal.nD Cert.FreshIdeal.τ).loc Cert.FreshIdeal.main_arg6) = m ((c.tc : Thread Cert.FreshIdeal.nD Cert.FreshIdeal.τ).loc Cert.FreshIdeal.main_arg6)
      ∧ r.2.mem ((c.tc : Thread Cert.FreshIdeal.nD Cert.FreshIdeal.τ).loc Cert.FreshIdeal.main_arg7) = m ((c.tc : Thread Cert.FreshIdeal.nD Cert.FreshIdeal.τ).loc Cert.FreshIdeal.main_arg7))
      ∧ r.2.sem = fun _ => 0)

def quiescent_FreshReferenceIdeal [hFreshReferenceIdeal : Cert.FreshReferenceIdeal.Facts] : Prop :=
  ∀ (m : (ℓ : Loc Cert.FreshReferenceIdeal.nD Cert.FreshReferenceIdeal.τ Cert.FreshReferenceIdeal.sig) → Buf (Elt Ideal) ℓ) (g : Dev Cert.FreshReferenceIdeal.nD → PrngReg), Pre_FreshReferenceIdeal m →
    θ_run (Cert.FreshReferenceIdeal.defs (F := Ideal)) (onTc (τ := Cert.FreshReferenceIdeal.τ) (Cert.FreshReferenceIdeal.main (F := Ideal))) ⟨m, fun _ => 0, g⟩ (fun r => (∀ c : Dev Cert.FreshReferenceIdeal.nD,
      r.2.mem ((c.tc : Thread Cert.FreshReferenceIdeal.nD Cert.FreshReferenceIdeal.τ).loc Cert.FreshReferenceIdeal.main_arg0) = m ((c.tc : Thread Cert.FreshReferenceIdeal.nD Cert.FreshReferenceIdeal.τ).loc Cert.FreshReferenceIdeal.main_arg0)
      ∧ r.2.mem ((c.tc : Thread Cert.FreshReferenceIdeal.nD Cert.FreshReferenceIdeal.τ).loc Cert.FreshReferenceIdeal.main_arg1) = m ((c.tc : Thread Cert.FreshReferenceIdeal.nD Cert.FreshReferenceIdeal.τ).loc Cert.FreshReferenceIdeal.main_arg1)
      ∧ r.2.mem ((c.tc : Thread Cert.FreshReferenceIdeal.nD Cert.FreshReferenceIdeal.τ).loc Cert.FreshReferenceIdeal.main_arg2) = m ((c.tc : Thread Cert.FreshReferenceIdeal.nD Cert.FreshReferenceIdeal.τ).loc Cert.FreshReferenceIdeal.main_arg2)
      ∧ r.2.mem ((c.tc : Thread Cert.FreshReferenceIdeal.nD Cert.FreshReferenceIdeal.τ).loc Cert.FreshReferenceIdeal.main_arg3) = m ((c.tc : Thread Cert.FreshReferenceIdeal.nD Cert.FreshReferenceIdeal.τ).loc Cert.FreshReferenceIdeal.main_arg3)
      ∧ r.2.mem ((c.tc : Thread Cert.FreshReferenceIdeal.nD Cert.FreshReferenceIdeal.τ).loc Cert.FreshReferenceIdeal.main_arg4) = m ((c.tc : Thread Cert.FreshReferenceIdeal.nD Cert.FreshReferenceIdeal.τ).loc Cert.FreshReferenceIdeal.main_arg4)
      ∧ r.2.mem ((c.tc : Thread Cert.FreshReferenceIdeal.nD Cert.FreshReferenceIdeal.τ).loc Cert.FreshReferenceIdeal.main_arg5) = m ((c.tc : Thread Cert.FreshReferenceIdeal.nD Cert.FreshReferenceIdeal.τ).loc Cert.FreshReferenceIdeal.main_arg5)
      ∧ r.2.mem ((c.tc : Thread Cert.FreshReferenceIdeal.nD Cert.FreshReferenceIdeal.τ).loc Cert.FreshReferenceIdeal.main_arg6) = m ((c.tc : Thread Cert.FreshReferenceIdeal.nD Cert.FreshReferenceIdeal.τ).loc Cert.FreshReferenceIdeal.main_arg6)
      ∧ r.2.mem ((c.tc : Thread Cert.FreshReferenceIdeal.nD Cert.FreshReferenceIdeal.τ).loc Cert.FreshReferenceIdeal.main_arg7) = m ((c.tc : Thread Cert.FreshReferenceIdeal.nD Cert.FreshReferenceIdeal.τ).loc Cert.FreshReferenceIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v44_0)) (v1 : (c : Dev Cert.ProjIdeal.nD) → Buf (Elt Ideal) ((c.tc : Thread Cert.ProjIdeal.nD Cert.ProjIdeal.τ).loc Cert.ProjIdeal.main_v44_1)) (v2 : (c : Dev Cert.ProjIdeal.nD) → Buf (Elt Ideal) ((c.tc : Thread Cert.ProjIdeal.nD Cert.ProjIdeal.τ).loc Cert.ProjIdeal.main_v44_2)) (v3 : (c : Dev Cert.ProjIdeal.nD) → Buf (Elt Ideal) ((c.tc : Thread Cert.ProjIdeal.nD Cert.ProjIdeal.τ).loc Cert.ProjIdeal.main_v44_3)) (v4 : (c : Dev Cert.ProjIdeal.nD) → Buf (Elt Ideal) ((c.tc : Thread Cert.ProjIdeal.nD Cert.ProjIdeal.τ).loc Cert.ProjIdeal.main_v44_4)) (v5 : (c : Dev Cert.ProjIdeal.nD) → Buf (Elt Ideal) ((c.tc : Thread Cert.ProjIdeal.nD Cert.ProjIdeal.τ).loc Cert.ProjIdeal.main_v44_5)) (v6 : (c : Dev Cert.ProjIdeal.nD) → Buf (Elt Ideal) ((c.tc : Thread Cert.ProjIdeal.nD Cert.ProjIdeal.τ).loc Cert.ProjIdeal.main_v44_6)) (v7 : (c : Dev Cert.ProjIdeal.nD) → Buf (Elt Ideal) ((c.tc : Thread Cert.ProjIdeal.nD Cert.ProjIdeal.τ).loc Cert.ProjIdeal.main_v44_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v44_0) = v0 c
          ∧ r.2.mem ((c.tc : Thread Cert.ProjIdeal.nD Cert.ProjIdeal.τ).loc Cert.ProjIdeal.main_v44_1) = v1 c
          ∧ r.2.mem ((c.tc : Thread Cert.ProjIdeal.nD Cert.ProjIdeal.τ).loc Cert.ProjIdeal.main_v44_2) = v2 c
          ∧ r.2.mem ((c.tc : Thread Cert.ProjIdeal.nD Cert.ProjIdeal.τ).loc Cert.ProjIdeal.main_v44_3) = v3 c
          ∧ r.2.mem ((c.tc : Thread Cert.ProjIdeal.nD Cert.ProjIdeal.τ).loc Cert.ProjIdeal.main_v44_4) = v4 c
          ∧ r.2.mem ((c.tc : Thread Cert.ProjIdeal.nD Cert.ProjIdeal.τ).loc Cert.ProjIdeal.main_v44_5) = v5 c
          ∧ r.2.mem ((c.tc : Thread Cert.ProjIdeal.nD Cert.ProjIdeal.τ).loc Cert.ProjIdeal.main_v44_6) = v6 c
          ∧ r.2.mem ((c.tc : Thread Cert.ProjIdeal.nD Cert.ProjIdeal.τ).loc Cert.ProjIdeal.main_v44_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v138) = v0 c
          ∧ r.2.mem ((c.tc : Thread Cert.ProjReferenceIdeal.nD Cert.ProjReferenceIdeal.τ).loc Cert.ProjReferenceIdeal.main_v18) = v1 c
          ∧ r.2.mem ((c.tc : Thread Cert.ProjReferenceIdeal.nD Cert.ProjReferenceIdeal.τ).loc Cert.ProjReferenceIdeal.main_v166) = v2 c
          ∧ r.2.mem ((c.tc : Thread Cert.ProjReferenceIdeal.nD Cert.ProjReferenceIdeal.τ).loc Cert.ProjReferenceIdeal.main_v190) = v3 c
          ∧ r.2.mem ((c.tc : Thread Cert.ProjReferenceIdeal.nD Cert.ProjReferenceIdeal.τ).loc Cert.ProjReferenceIdeal.main_v192) = v4 c
          ∧ r.2.mem ((c.tc : Thread Cert.ProjReferenceIdeal.nD Cert.ProjReferenceIdeal.τ).loc Cert.ProjReferenceIdeal.main_v174) = v5 c
          ∧ r.2.mem ((c.tc : Thread Cert.ProjReferenceIdeal.nD Cert.ProjReferenceIdeal.τ).loc Cert.ProjReferenceIdeal.main_v181) = v6 c
          ∧ r.2.mem ((c.tc : Thread Cert.ProjReferenceIdeal.nD Cert.ProjReferenceIdeal.τ).loc Cert.ProjReferenceIdeal.main_v188) = v7 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)) →
    ∃ (v0 : (c : Dev Cert.MixIdeal.nD) → Buf (Elt Ideal) ((c.tc : Thread Cert.MixIdeal.nD Cert.MixIdeal.τ).loc Cert.MixIdeal.main_v33)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v33) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v377) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13))

def preserves_Step_StepIdeal : Prop :=
  True

def algebraic_StepIdeal_StepReferenceIdeal [hStepIdeal : Cert.StepIdeal.Facts] [hStepReferenceIdeal : Cert.StepReferenceIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepIdeal m →
    (∀ c : Dev Cert.StepIdeal.nD,
      m' ((c.tc : Thread Cert.StepReferenceIdeal.nD Cert.StepReferenceIdeal.τ).loc Cert.StepReferenceIdeal.main_arg0) = m ((c.tc : Thread Cert.StepIdeal.nD Cert.StepIdeal.τ).loc Cert.StepIdeal.main_arg0)
      ∧ m' ((c.tc : Thread Cert.StepReferenceIdeal.nD Cert.StepReferenceIdeal.τ).loc Cert.StepReferenceIdeal.main_arg1) = m ((c.tc : Thread Cert.StepIdeal.nD Cert.StepIdeal.τ).loc Cert.StepIdeal.main_arg1)
      ∧ m' ((c.tc : Thread Cert.StepReferenceIdeal.nD Cert.StepReferenceIdeal.τ).loc Cert.StepReferenceIdeal.main_arg2) = m ((c.tc : Thread Cert.StepIdeal.nD Cert.StepIdeal.τ).loc Cert.StepIdeal.main_arg2)
      ∧ m' ((c.tc : Thread Cert.StepReferenceIdeal.nD Cert.StepReferenceIdeal.τ).loc Cert.StepReferenceIdeal.main_arg3) = m ((c.tc : Thread Cert.StepIdeal.nD Cert.StepIdeal.τ).loc Cert.StepIdeal.main_arg3)
      ∧ m' ((c.tc : Thread Cert.StepReferenceIdeal.nD Cert.StepReferenceIdeal.τ).loc Cert.StepReferenceIdeal.main_arg4) = m ((c.tc : Thread Cert.StepIdeal.nD Cert.StepIdeal.τ).loc Cert.StepIdeal.main_arg4)
      ∧ m' ((c.tc : Thread Cert.StepReferenceIdeal.nD Cert.StepReferenceIdeal.τ).loc Cert.StepReferenceIdeal.main_arg5) = m ((c.tc : Thread Cert.StepIdeal.nD Cert.StepIdeal.τ).loc Cert.StepIdeal.main_arg5)
      ∧ m' ((c.tc : Thread Cert.StepReferenceIdeal.nD Cert.StepReferenceIdeal.τ).loc Cert.StepReferenceIdeal.main_arg6) = m ((c.tc : Thread Cert.StepIdeal.nD Cert.StepIdeal.τ).loc Cert.StepIdeal.main_arg6)
      ∧ m' ((c.tc : Thread Cert.StepReferenceIdeal.nD Cert.StepReferenceIdeal.τ).loc Cert.StepReferenceIdeal.main_arg7) = m ((c.tc : Thread Cert.StepIdeal.nD Cert.StepIdeal.τ).loc Cert.StepIdeal.main_arg7)
      ∧ m' ((c.tc : Thread Cert.StepReferenceIdeal.nD Cert.StepReferenceIdeal.τ).loc Cert.StepReferenceIdeal.main_arg8) = m ((c.tc : Thread Cert.StepIdeal.nD Cert.StepIdeal.τ).loc Cert.StepIdeal.main_arg8)
      ∧ m' ((c.tc : Thread Cert.StepReferenceIdeal.nD Cert.StepReferenceIdeal.τ).loc Cert.StepReferenceIdeal.main_arg9) = m ((c.tc : Thread Cert.StepIdeal.nD Cert.StepIdeal.τ).loc Cert.StepIdeal.main_arg9)
      ∧ m' ((c.tc : Thread Cert.StepReferenceIdeal.nD Cert.StepReferenceIdeal.τ).loc Cert.StepReferenceIdeal.main_arg10) = m ((c.tc : Thread Cert.StepIdeal.nD Cert.StepIdeal.τ).loc Cert.StepIdeal.main_arg10)
      ∧ m' ((c.tc : Thread Cert.StepReferenceIdeal.nD Cert.StepReferenceIdeal.τ).loc Cert.StepReferenceIdeal.main_arg11) = m ((c.tc : Thread Cert.StepIdeal.nD Cert.StepIdeal.τ).loc Cert.StepIdeal.main_arg11)
      ∧ m' ((c.tc : Thread Cert.StepReferenceIdeal.nD Cert.StepReferenceIdeal.τ).loc Cert.StepReferenceIdeal.main_arg12) = m ((c.tc : Thread Cert.StepIdeal.nD Cert.StepIdeal.τ).loc Cert.StepIdeal.main_arg12)) →
    ∃ (v0 : (c : Dev Cert.StepIdeal.nD) → Buf (Elt Ideal) ((c.tc : Thread Cert.StepIdeal.nD Cert.StepIdeal.τ).loc Cert.StepIdeal.main_v35_0)) (v1 : (c : Dev Cert.StepIdeal.nD) → Buf (Elt Ideal) ((c.tc : Thread Cert.StepIdeal.nD Cert.StepIdeal.τ).loc Cert.StepIdeal.main_v35_1)) (v2 : (c : Dev Cert.StepIdeal.nD) → Buf (Elt Ideal) ((c.tc : Thread Cert.StepIdeal.nD Cert.StepIdeal.τ).loc Cert.StepIdeal.main_v35_2)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v35_0) = v0 c
          ∧ r.2.mem ((c.tc : Thread Cert.StepIdeal.nD Cert.StepIdeal.τ).loc Cert.StepIdeal.main_v35_1) = v1 c
          ∧ r.2.mem ((c.tc : Thread Cert.StepIdeal.nD Cert.StepIdeal.τ).loc Cert.StepIdeal.main_v35_2) = v2 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
          ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
          ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
          ∧ r.2.mem ((c.tc : Thread Cert.StepIdeal.nD Cert.StepIdeal.τ).loc Cert.StepIdeal.main_arg10) = m ((c.tc : Thread Cert.StepIdeal.nD Cert.StepIdeal.τ).loc Cert.StepIdeal.main_arg10)
          ∧ r.2.mem ((c.tc : Thread Cert.StepIdeal.nD Cert.StepIdeal.τ).loc Cert.StepIdeal.main_arg11) = m ((c.tc : Thread Cert.StepIdeal.nD Cert.StepIdeal.τ).loc Cert.StepIdeal.main_arg11)
          ∧ r.2.mem ((c.tc : Thread Cert.StepIdeal.nD Cert.StepIdeal.τ).loc Cert.StepIdeal.main_arg12) = m ((c.tc : Thread Cert.StepIdeal.nD Cert.StepIdeal.τ).loc Cert.StepIdeal.main_arg12))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v412) = v0 c
          ∧ r.2.mem ((c.tc : Thread Cert.StepReferenceIdeal.nD Cert.StepReferenceIdeal.τ).loc Cert.StepReferenceIdeal.main_v414) = v1 c
          ∧ r.2.mem ((c.tc : Thread Cert.StepReferenceIdeal.nD Cert.StepReferenceIdeal.τ).loc Cert.StepReferenceIdeal.main_v416) = v2 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1)
          ∧ r.2.mem ((c.tc : Thread Cert.StepReferenceIdeal.nD Cert.StepReferenceIdeal.τ).loc Cert.StepReferenceIdeal.main_arg2) = m' ((c.tc : Thread Cert.StepReferenceIdeal.nD Cert.StepReferenceIdeal.τ).loc Cert.StepReferenceIdeal.main_arg2)
          ∧ r.2.mem ((c.tc : Thread Cert.StepReferenceIdeal.nD Cert.StepReferenceIdeal.τ).loc Cert.StepReferenceIdeal.main_arg3) = m' ((c.tc : Thread Cert.StepReferenceIdeal.nD Cert.StepReferenceIdeal.τ).loc Cert.StepReferenceIdeal.main_arg3)
          ∧ r.2.mem ((c.tc : Thread Cert.StepReferenceIdeal.nD Cert.StepReferenceIdeal.τ).loc Cert.StepReferenceIdeal.main_arg4) = m' ((c.tc : Thread Cert.StepReferenceIdeal.nD Cert.StepReferenceIdeal.τ).loc Cert.StepReferenceIdeal.main_arg4)
          ∧ r.2.mem ((c.tc : Thread Cert.StepReferenceIdeal.nD Cert.StepReferenceIdeal.τ).loc Cert.StepReferenceIdeal.main_arg5) = m' ((c.tc : Thread Cert.StepReferenceIdeal.nD Cert.StepReferenceIdeal.τ).loc Cert.StepReferenceIdeal.main_arg5)
          ∧ r.2.mem ((c.tc : Thread Cert.StepReferenceIdeal.nD Cert.StepReferenceIdeal.τ).loc Cert.StepReferenceIdeal.main_arg6) = m' ((c.tc : Thread Cert.StepReferenceIdeal.nD Cert.StepReferenceIdeal.τ).loc Cert.StepReferenceIdeal.main_arg6)
          ∧ r.2.mem ((c.tc : Thread Cert.StepReferenceIdeal.nD Cert.StepReferenceIdeal.τ).loc Cert.StepReferenceIdeal.main_arg7) = m' ((c.tc : Thread Cert.StepReferenceIdeal.nD Cert.StepReferenceIdeal.τ).loc Cert.StepReferenceIdeal.main_arg7)
          ∧ r.2.mem ((c.tc : Thread Cert.StepReferenceIdeal.nD Cert.StepReferenceIdeal.τ).loc Cert.StepReferenceIdeal.main_arg8) = m' ((c.tc : Thread Cert.StepReferenceIdeal.nD Cert.StepReferenceIdeal.τ).loc Cert.StepReferenceIdeal.main_arg8)
          ∧ r.2.mem ((c.tc : Thread Cert.StepReferenceIdeal.nD Cert.StepReferenceIdeal.τ).loc Cert.StepReferenceIdeal.main_arg9) = m' ((c.tc : Thread Cert.StepReferenceIdeal.nD Cert.StepReferenceIdeal.τ).loc Cert.StepReferenceIdeal.main_arg9)
          ∧ r.2.mem ((c.tc : Thread Cert.StepReferenceIdeal.nD Cert.StepReferenceIdeal.τ).loc Cert.StepReferenceIdeal.main_arg10) = m' ((c.tc : Thread Cert.StepReferenceIdeal.nD Cert.StepReferenceIdeal.τ).loc Cert.StepReferenceIdeal.main_arg10)
          ∧ r.2.mem ((c.tc : Thread Cert.StepReferenceIdeal.nD Cert.StepReferenceIdeal.τ).loc Cert.StepReferenceIdeal.main_arg11) = m' ((c.tc : Thread Cert.StepReferenceIdeal.nD Cert.StepReferenceIdeal.τ).loc Cert.StepReferenceIdeal.main_arg11)
          ∧ r.2.mem ((c.tc : Thread Cert.StepReferenceIdeal.nD Cert.StepReferenceIdeal.τ).loc Cert.StepReferenceIdeal.main_arg12) = m' ((c.tc : Thread Cert.StepReferenceIdeal.nD Cert.StepReferenceIdeal.τ).loc Cert.StepReferenceIdeal.main_arg12))

def preserves_Fresh_FreshIdeal : Prop :=
  True

def algebraic_FreshIdeal_FreshReferenceIdeal [hFreshIdeal : Cert.FreshIdeal.Facts] [hFreshReferenceIdeal : Cert.FreshReferenceIdeal.Facts] : Prop :=
  ∀ (m : (ℓ : Loc Cert.FreshIdeal.nD Cert.FreshIdeal.τ Cert.FreshIdeal.sig) → Buf (Elt Ideal) ℓ) (g : Dev Cert.FreshIdeal.nD → PrngReg)
    (m' : (ℓ : Loc Cert.FreshReferenceIdeal.nD Cert.FreshReferenceIdeal.τ Cert.FreshReferenceIdeal.sig) → Buf (Elt Ideal) ℓ) (g' : Dev Cert.FreshReferenceIdeal.nD → PrngReg), Pre_FreshIdeal m →
    (∀ c : Dev Cert.FreshIdeal.nD,
      m' ((c.tc : Thread Cert.FreshReferenceIdeal.nD Cert.FreshReferenceIdeal.τ).loc Cert.FreshReferenceIdeal.main_arg0) = m ((c.tc : Thread Cert.FreshIdeal.nD Cert.FreshIdeal.τ).loc Cert.FreshIdeal.main_arg0)
      ∧ m' ((c.tc : Thread Cert.FreshReferenceIdeal.nD Cert.FreshReferenceIdeal.τ).loc Cert.FreshReferenceIdeal.main_arg1) = m ((c.tc : Thread Cert.FreshIdeal.nD Cert.FreshIdeal.τ).loc Cert.FreshIdeal.main_arg1)
      ∧ m' ((c.tc : Thread Cert.FreshReferenceIdeal.nD Cert.FreshReferenceIdeal.τ).loc Cert.FreshReferenceIdeal.main_arg2) = m ((c.tc : Thread Cert.FreshIdeal.nD Cert.FreshIdeal.τ).loc Cert.FreshIdeal.main_arg2)
      ∧ m' ((c.tc : Thread Cert.FreshReferenceIdeal.nD Cert.FreshReferenceIdeal.τ).loc Cert.FreshReferenceIdeal.main_arg3) = m ((c.tc : Thread Cert.FreshIdeal.nD Cert.FreshIdeal.τ).loc Cert.FreshIdeal.main_arg3)
      ∧ m' ((c.tc : Thread Cert.FreshReferenceIdeal.nD Cert.FreshReferenceIdeal.τ).loc Cert.FreshReferenceIdeal.main_arg4) = m ((c.tc : Thread Cert.FreshIdeal.nD Cert.FreshIdeal.τ).loc Cert.FreshIdeal.main_arg4)
      ∧ m' ((c.tc : Thread Cert.FreshReferenceIdeal.nD Cert.FreshReferenceIdeal.τ).loc Cert.FreshReferenceIdeal.main_arg5) = m ((c.tc : Thread Cert.FreshIdeal.nD Cert.FreshIdeal.τ).loc Cert.FreshIdeal.main_arg5)
      ∧ m' ((c.tc : Thread Cert.FreshReferenceIdeal.nD Cert.FreshReferenceIdeal.τ).loc Cert.FreshReferenceIdeal.main_arg6) = m ((c.tc : Thread Cert.FreshIdeal.nD Cert.FreshIdeal.τ).loc Cert.FreshIdeal.main_arg6)
      ∧ m' ((c.tc : Thread Cert.FreshReferenceIdeal.nD Cert.FreshReferenceIdeal.τ).loc Cert.FreshReferenceIdeal.main_arg7) = m ((c.tc : Thread Cert.FreshIdeal.nD Cert.FreshIdeal.τ).loc Cert.FreshIdeal.main_arg7)) →
    ∃ (v0 : (c : Dev Cert.FreshIdeal.nD) → Buf (Elt Ideal) ((c.tc : Thread Cert.FreshIdeal.nD Cert.FreshIdeal.τ).loc Cert.FreshIdeal.main_v44_0)) (v1 : (c : Dev Cert.FreshIdeal.nD) → Buf (Elt Ideal) ((c.tc : Thread Cert.FreshIdeal.nD Cert.FreshIdeal.τ).loc Cert.FreshIdeal.main_v44_1)) (v2 : (c : Dev Cert.FreshIdeal.nD) → Buf (Elt Ideal) ((c.tc : Thread Cert.FreshIdeal.nD Cert.FreshIdeal.τ).loc Cert.FreshIdeal.main_v44_2)) (v3 : (c : Dev Cert.FreshIdeal.nD) → Buf (Elt Ideal) ((c.tc : Thread Cert.FreshIdeal.nD Cert.FreshIdeal.τ).loc Cert.FreshIdeal.main_v44_3)) (v4 : (c : Dev Cert.FreshIdeal.nD) → Buf (Elt Ideal) ((c.tc : Thread Cert.FreshIdeal.nD Cert.FreshIdeal.τ).loc Cert.FreshIdeal.main_v44_4)) (v5 : (c : Dev Cert.FreshIdeal.nD) → Buf (Elt Ideal) ((c.tc : Thread Cert.FreshIdeal.nD Cert.FreshIdeal.τ).loc Cert.FreshIdeal.main_v44_5)) (v6 : (c : Dev Cert.FreshIdeal.nD) → Buf (Elt Ideal) ((c.tc : Thread Cert.FreshIdeal.nD Cert.FreshIdeal.τ).loc Cert.FreshIdeal.main_v44_6)) (v7 : (c : Dev Cert.FreshIdeal.nD) → Buf (Elt Ideal) ((c.tc : Thread Cert.FreshIdeal.nD Cert.FreshIdeal.τ).loc Cert.FreshIdeal.main_v44_7)),
      θ_run (Cert.FreshIdeal.defs (F := Ideal)) (onTc (τ := Cert.FreshIdeal.τ) (Cert.FreshIdeal.main (F := Ideal))) ⟨m, fun _ => 0, g⟩ (fun r => ∀ c : Dev Cert.FreshIdeal.nD,
          r.2.mem ((c.tc : Thread Cert.FreshIdeal.nD Cert.FreshIdeal.τ).loc Cert.FreshIdeal.main_v44_0) = v0 c
          ∧ r.2.mem ((c.tc : Thread Cert.FreshIdeal.nD Cert.FreshIdeal.τ).loc Cert.FreshIdeal.main_v44_1) = v1 c
          ∧ r.2.mem ((c.tc : Thread Cert.FreshIdeal.nD Cert.FreshIdeal.τ).loc Cert.FreshIdeal.main_v44_2) = v2 c
          ∧ r.2.mem ((c.tc : Thread Cert.FreshIdeal.nD Cert.FreshIdeal.τ).loc Cert.FreshIdeal.main_v44_3) = v3 c
          ∧ r.2.mem ((c.tc : Thread Cert.FreshIdeal.nD Cert.FreshIdeal.τ).loc Cert.FreshIdeal.main_v44_4) = v4 c
          ∧ r.2.mem ((c.tc : Thread Cert.FreshIdeal.nD Cert.FreshIdeal.τ).loc Cert.FreshIdeal.main_v44_5) = v5 c
          ∧ r.2.mem ((c.tc : Thread Cert.FreshIdeal.nD Cert.FreshIdeal.τ).loc Cert.FreshIdeal.main_v44_6) = v6 c
          ∧ r.2.mem ((c.tc : Thread Cert.FreshIdeal.nD Cert.FreshIdeal.τ).loc Cert.FreshIdeal.main_v44_7) = v7 c
          ∧ r.2.mem ((c.tc : Thread Cert.FreshIdeal.nD Cert.FreshIdeal.τ).loc Cert.FreshIdeal.main_arg0) = m ((c.tc : Thread Cert.FreshIdeal.nD Cert.FreshIdeal.τ).loc Cert.FreshIdeal.main_arg0)
          ∧ r.2.mem ((c.tc : Thread Cert.FreshIdeal.nD Cert.FreshIdeal.τ).loc Cert.FreshIdeal.main_arg1) = m ((c.tc : Thread Cert.FreshIdeal.nD Cert.FreshIdeal.τ).loc Cert.FreshIdeal.main_arg1)
          ∧ r.2.mem ((c.tc : Thread Cert.FreshIdeal.nD Cert.FreshIdeal.τ).loc Cert.FreshIdeal.main_arg2) = m ((c.tc : Thread Cert.FreshIdeal.nD Cert.FreshIdeal.τ).loc Cert.FreshIdeal.main_arg2)
          ∧ r.2.mem ((c.tc : Thread Cert.FreshIdeal.nD Cert.FreshIdeal.τ).loc Cert.FreshIdeal.main_arg3) = m ((c.tc : Thread Cert.FreshIdeal.nD Cert.FreshIdeal.τ).loc Cert.FreshIdeal.main_arg3)
          ∧ r.2.mem ((c.tc : Thread Cert.FreshIdeal.nD Cert.FreshIdeal.τ).loc Cert.FreshIdeal.main_arg4) = m ((c.tc : Thread Cert.FreshIdeal.nD Cert.FreshIdeal.τ).loc Cert.FreshIdeal.main_arg4)
          ∧ r.2.mem ((c.tc : Thread Cert.FreshIdeal.nD Cert.FreshIdeal.τ).loc Cert.FreshIdeal.main_arg5) = m ((c.tc : Thread Cert.FreshIdeal.nD Cert.FreshIdeal.τ).loc Cert.FreshIdeal.main_arg5)
          ∧ r.2.mem ((c.tc : Thread Cert.FreshIdeal.nD Cert.FreshIdeal.τ).loc Cert.FreshIdeal.main_arg6) = m ((c.tc : Thread Cert.FreshIdeal.nD Cert.FreshIdeal.τ).loc Cert.FreshIdeal.main_arg6)
          ∧ r.2.mem ((c.tc : Thread Cert.FreshIdeal.nD Cert.FreshIdeal.τ).loc Cert.FreshIdeal.main_arg7) = m ((c.tc : Thread Cert.FreshIdeal.nD Cert.FreshIdeal.τ).loc Cert.FreshIdeal.main_arg7))
      ∧ θ_run (Cert.FreshReferenceIdeal.defs (F := Ideal)) (onTc (τ := Cert.FreshReferenceIdeal.τ) (Cert.FreshReferenceIdeal.main (F := Ideal))) ⟨m', fun _ => 0, g'⟩ (fun r => ∀ c : Dev Cert.FreshReferenceIdeal.nD,
          r.2.mem ((c.tc : Thread Cert.FreshReferenceIdeal.nD Cert.FreshReferenceIdeal.τ).loc Cert.FreshReferenceIdeal.main_v138) = v0 c
          ∧ r.2.mem ((c.tc : Thread Cert.FreshReferenceIdeal.nD Cert.FreshReferenceIdeal.τ).loc Cert.FreshReferenceIdeal.main_v18) = v1 c
          ∧ r.2.mem ((c.tc : Thread Cert.FreshReferenceIdeal.nD Cert.FreshReferenceIdeal.τ).loc Cert.FreshReferenceIdeal.main_v166) = v2 c
          ∧ r.2.mem ((c.tc : Thread Cert.FreshReferenceIdeal.nD Cert.FreshReferenceIdeal.τ).loc Cert.FreshReferenceIdeal.main_v190) = v3 c
          ∧ r.2.mem ((c.tc : Thread Cert.FreshReferenceIdeal.nD Cert.FreshReferenceIdeal.τ).loc Cert.FreshReferenceIdeal.main_v192) = v4 c
          ∧ r.2.mem ((c.tc : Thread Cert.FreshReferenceIdeal.nD Cert.FreshReferenceIdeal.τ).loc Cert.FreshReferenceIdeal.main_v174) = v5 c
          ∧ r.2.mem ((c.tc : Thread Cert.FreshReferenceIdeal.nD Cert.FreshReferenceIdeal.τ).loc Cert.FreshReferenceIdeal.main_v181) = v6 c
          ∧ r.2.mem ((c.tc : Thread Cert.FreshReferenceIdeal.nD Cert.FreshReferenceIdeal.τ).loc Cert.FreshReferenceIdeal.main_v188) = v7 c
          ∧ r.2.mem ((c.tc : Thread Cert.FreshReferenceIdeal.nD Cert.FreshReferenceIdeal.τ).loc Cert.FreshReferenceIdeal.main_arg0) = m' ((c.tc : Thread Cert.FreshReferenceIdeal.nD Cert.FreshReferenceIdeal.τ).loc Cert.FreshReferenceIdeal.main_arg0)
          ∧ r.2.mem ((c.tc : Thread Cert.FreshReferenceIdeal.nD Cert.FreshReferenceIdeal.τ).loc Cert.FreshReferenceIdeal.main_arg1) = m' ((c.tc : Thread Cert.FreshReferenceIdeal.nD Cert.FreshReferenceIdeal.τ).loc Cert.FreshReferenceIdeal.main_arg1)
          ∧ r.2.mem ((c.tc : Thread Cert.FreshReferenceIdeal.nD Cert.FreshReferenceIdeal.τ).loc Cert.FreshReferenceIdeal.main_arg2) = m' ((c.tc : Thread Cert.FreshReferenceIdeal.nD Cert.FreshReferenceIdeal.τ).loc Cert.FreshReferenceIdeal.main_arg2)
          ∧ r.2.mem ((c.tc : Thread Cert.FreshReferenceIdeal.nD Cert.FreshReferenceIdeal.τ).loc Cert.FreshReferenceIdeal.main_arg3) = m' ((c.tc : Thread Cert.FreshReferenceIdeal.nD Cert.FreshReferenceIdeal.τ).loc Cert.FreshReferenceIdeal.main_arg3)
          ∧ r.2.mem ((c.tc : Thread Cert.FreshReferenceIdeal.nD Cert.FreshReferenceIdeal.τ).loc Cert.FreshReferenceIdeal.main_arg4) = m' ((c.tc : Thread Cert.FreshReferenceIdeal.nD Cert.FreshReferenceIdeal.τ).loc Cert.FreshReferenceIdeal.main_arg4)
          ∧ r.2.mem ((c.tc : Thread Cert.FreshReferenceIdeal.nD Cert.FreshReferenceIdeal.τ).loc Cert.FreshReferenceIdeal.main_arg5) = m' ((c.tc : Thread Cert.FreshReferenceIdeal.nD Cert.FreshReferenceIdeal.τ).loc Cert.FreshReferenceIdeal.main_arg5)
          ∧ r.2.mem ((c.tc : Thread Cert.FreshReferenceIdeal.nD Cert.FreshReferenceIdeal.τ).loc Cert.FreshReferenceIdeal.main_arg6) = m' ((c.tc : Thread Cert.FreshReferenceIdeal.nD Cert.FreshReferenceIdeal.τ).loc Cert.FreshReferenceIdeal.main_arg6)
          ∧ r.2.mem ((c.tc : Thread Cert.FreshReferenceIdeal.nD Cert.FreshReferenceIdeal.τ).loc Cert.FreshReferenceIdeal.main_arg7) = m' ((c.tc : Thread Cert.FreshReferenceIdeal.nD Cert.FreshReferenceIdeal.τ).loc Cert.FreshReferenceIdeal.main_arg7))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v6) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_Attn_AttnIdeal : Prop :=
  True

def Claim : Prop :=
  ∃ (hProj : Cert.Proj.Facts) (hProjIdeal : Cert.ProjIdeal.Facts) (hProjReferenceIdeal : Cert.ProjReferenceIdeal.Facts) (hMix : Cert.Mix.Facts) (hMixIdeal : Cert.MixIdeal.Facts) (hMixReferenceIdeal : Cert.MixReferenceIdeal.Facts) (hStep : Cert.Step.Facts) (hStepIdeal : Cert.StepIdeal.Facts) (hStepReferenceIdeal : Cert.StepReferenceIdeal.Facts) (hFresh : Cert.Fresh.Facts) (hFreshIdeal : Cert.FreshIdeal.Facts) (hFreshReferenceIdeal : Cert.FreshReferenceIdeal.Facts) (hOut : Cert.Out.Facts) (hOutIdeal : Cert.OutIdeal.Facts) (hOutReferenceIdeal : Cert.OutReferenceIdeal.Facts) (hAttn : Cert.Attn.Facts) (hAttnIdeal : Cert.AttnIdeal.Facts),
    quiescent_Proj (hProj := hProj)
    ∧ quiescent_ProjIdeal (hProjIdeal := hProjIdeal)
    ∧ quiescent_ProjReferenceIdeal (hProjReferenceIdeal := hProjReferenceIdeal)
    ∧ quiescent_Mix (hMix := hMix)
    ∧ quiescent_MixIdeal (hMixIdeal := hMixIdeal)
    ∧ quiescent_MixReferenceIdeal (hMixReferenceIdeal := hMixReferenceIdeal)
    ∧ quiescent_Step (hStep := hStep)
    ∧ quiescent_StepIdeal (hStepIdeal := hStepIdeal)
    ∧ quiescent_StepReferenceIdeal (hStepReferenceIdeal := hStepReferenceIdeal)
    ∧ quiescent_Fresh (hFresh := hFresh)
    ∧ quiescent_FreshIdeal (hFreshIdeal := hFreshIdeal)
    ∧ quiescent_FreshReferenceIdeal (hFreshReferenceIdeal := hFreshReferenceIdeal)
    ∧ quiescent_Out (hOut := hOut)
    ∧ quiescent_OutIdeal (hOutIdeal := hOutIdeal)
    ∧ quiescent_OutReferenceIdeal (hOutReferenceIdeal := hOutReferenceIdeal)
    ∧ quiescent_Attn (hAttn := hAttn)
    ∧ quiescent_AttnIdeal (hAttnIdeal := hAttnIdeal)
    ∧ preserves_Proj_ProjIdeal
    ∧ algebraic_ProjIdeal_ProjReferenceIdeal (hProjIdeal := hProjIdeal) (hProjReferenceIdeal := hProjReferenceIdeal)
    ∧ preserves_Mix_MixIdeal
    ∧ algebraic_MixIdeal_MixReferenceIdeal (hMixIdeal := hMixIdeal) (hMixReferenceIdeal := hMixReferenceIdeal)
    ∧ preserves_Step_StepIdeal
    ∧ algebraic_StepIdeal_StepReferenceIdeal (hStepIdeal := hStepIdeal) (hStepReferenceIdeal := hStepReferenceIdeal)
    ∧ preserves_Fresh_FreshIdeal
    ∧ algebraic_FreshIdeal_FreshReferenceIdeal (hFreshIdeal := hFreshIdeal) (hFreshReferenceIdeal := hFreshReferenceIdeal)
    ∧ preserves_Out_OutIdeal
    ∧ algebraic_OutIdeal_OutReferenceIdeal (hOutIdeal := hOutIdeal) (hOutReferenceIdeal := hOutReferenceIdeal)
    ∧ preserves_Attn_AttnIdeal
-- ==== Proj.lean ====
abbrev S8x2048x1024 : Shape := ⟨3, ![8, 2048, 1024]⟩
abbrev S1024 : Shape := ⟨1, ![1024]⟩
abbrev S1024x3096 : Shape := ⟨2, ![1024, 3096]⟩
abbrev S64 : Shape := ⟨1, ![64]⟩
abbrev S3x64 : Shape := ⟨2, ![3, 64]⟩
abbrev S2x8x256x2048 : Shape := ⟨4, ![2, 8, 256, 2048]⟩
abbrev S1024x256 : Shape := ⟨2, ![1024, 256]⟩
abbrev S1024x512 : Shape := ⟨2, ![1024, 512]⟩
abbrev S1024x768 : Shape := ⟨2, ![1024, 768]⟩
abbrev S1024x24 : Shape := ⟨2, ![1024, 24]⟩
abbrev S_ : Shape := ⟨0, ![]⟩
abbrev S1024x8 : Shape := ⟨2, ![1024, 8]⟩
abbrev S1024x1792 : Shape := ⟨2, ![1024, 1792]⟩
abbrev S1024x1312 : Shape := ⟨2, ![1024, 1312]⟩
abbrev S1312x1024 : Shape := ⟨2, ![1312, 1024]⟩
abbrev S3x1x64 : Shape := ⟨3, ![3, 1, 64]⟩
abbrev S3x2x64 : Shape := ⟨3, ![3, 2, 64]⟩
abbrev S3x4x64 : Shape := ⟨3, ![3, 4, 64]⟩
abbrev S8x64 : Shape := ⟨2, ![8, 64]⟩
abbrev S512 : Shape := ⟨1, ![512]⟩
abbrev S768 : Shape := ⟨1, ![768]⟩
abbrev S1280 : Shape := ⟨1, ![1280]⟩
abbrev S1280x1 : Shape := ⟨2, ![1280, 1]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S8x2048 : Shape := ⟨2, ![8, 2048]⟩
abbrev S1x1024 : Shape := ⟨2, ![1, 1024]⟩
abbrev S8x2048x256 : Shape := ⟨3, ![8, 2048, 256]⟩
abbrev S8x32x2048 : Shape := ⟨3, ![8, 32, 2048]⟩
abbrev S8x512x2048 : Shape := ⟨3, ![8, 512, 2048]⟩
abbrev S1x1024x1024 : Shape := ⟨3, ![1, 1024, 1024]⟩
abbrev S8x1024 : Shape := ⟨2, ![8, 1024]⟩
abbrev S1x1024x256 : Shape := ⟨3, ![1, 1024, 256]⟩
abbrev S1x32x1024 : Shape := ⟨3, ![1, 32, 1024]⟩
abbrev S1x512x1024 : Shape := ⟨3, ![1, 512, 1024]⟩
abbrev S1x1x256x1024 : Shape := ⟨4, ![1, 1, 256, 1024]⟩
abbrev S1024x1024 : Shape := ⟨2, ![1024, 1024]⟩
abbrev S1024x1 : Shape := ⟨2, ![1024, 1]⟩
abbrev S32x1024 : Shape := ⟨2, ![32, 1024]⟩
abbrev S64x1024 : Shape := ⟨2, ![64, 1024]⟩
abbrev S64x1 : Shape := ⟨2, ![64, 1]⟩
abbrev S48x1024 : Shape := ⟨2, ![48, 1024]⟩
abbrev S1x64x1024 : Shape := ⟨3, ![1, 64, 1024]⟩
abbrev S1x1x64x1024 : Shape := ⟨4, ![1, 1, 64, 1024]⟩

abbrev nBuf : Space → Nat
  | .hbm => 65
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3096, .f32⟩
  | .hbm, ⟨3, _⟩ => ⟨S64, .f32⟩
  | .hbm, ⟨4, _⟩ => ⟨S3x64, .f32⟩
  | .hbm, ⟨5, _⟩ => ⟨S2x8x256x2048, .f32⟩
  | .hbm, ⟨6, _⟩ => ⟨S2x8x256x2048, .f32⟩
  | .hbm, ⟨7, _⟩ => ⟨S2x8x256x2048, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x512, .f32⟩
  | .hbm, ⟨14, _⟩ => ⟨S1024x768, .f32⟩
  | .hbm, ⟨15, _⟩ => ⟨S1024x24, .f32⟩
  | .hbm, ⟨16, _⟩ => ⟨S1024x512, .f32⟩
  | .hbm, ⟨17, _⟩ => ⟨S_, .f32⟩
  | .hbm, ⟨18, _⟩ => ⟨S1024x8, .f32⟩
  | .hbm, ⟨19, _⟩ => ⟨S1024x1792, .f32⟩
  | .hbm, ⟨20, _⟩ => ⟨S1024x1792, .bf16⟩
  | .hbm, ⟨21, _⟩ => ⟨S1024x1312, .f32⟩
  | .hbm, ⟨22, _⟩ => ⟨S1312x1024, .f32⟩
  | .hbm, ⟨23, _⟩ => ⟨S1312x1024, .bf16⟩
  | .hbm, ⟨24, _⟩ => ⟨S3x1x64, .f32⟩
  | .hbm, ⟨25, _⟩ => ⟨S3x2x64, .f32⟩
  | .hbm, ⟨26, _⟩ => ⟨S_, .f32⟩
  | .hbm, ⟨27, _⟩ => ⟨S3x2x64, .f32⟩
  | .hbm, ⟨28, _⟩ => ⟨S3x4x64, .f32⟩
  | .hbm, ⟨29, _⟩ => ⟨S8x64, .f32⟩
  | .hbm, ⟨30, _⟩ => ⟨S512, .f32⟩
  | .hbm, ⟨31, _⟩ => ⟨S768, .f32⟩
  | .hbm, ⟨32, _⟩ => ⟨S1280, .f32⟩
  | .hbm, ⟨33, _⟩ => ⟨S1280x1, .f32⟩
  | .hbm, ⟨34, _⟩ => ⟨S2048, .i32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S2048, .f32⟩
  | .hbm, ⟨47, _⟩ => ⟨S2048x1, .f32⟩
  | .hbm, ⟨48, _⟩ => ⟨S1x8, .f32⟩
  | .hbm, ⟨49, _⟩ => ⟨S2048x8, .f32⟩
  | .hbm, ⟨50, _⟩ => ⟨S2048x8, .f32⟩
  | .hbm, ⟨51, _⟩ => ⟨S2048x8, .f32⟩
  | .hbm, ⟨52, _⟩ => ⟨S2048x8, .f32⟩
  | .hbm, ⟨53, _⟩ => ⟨S8x2048, .f32⟩
  | .hbm, ⟨54, _⟩ => ⟨S2048x8, .f32⟩
  | .hbm, ⟨55, _⟩ => ⟨S8x2048, .f32⟩
  | .hbm, ⟨56, _⟩ => ⟨S1x1024, .f32⟩
  | .hbm, ⟨57, _⟩ => ⟨S8x2048x256, .f32⟩
  | .hbm, ⟨58, _⟩ => ⟨S8x2048x256, .f32⟩
  | .hbm, ⟨59, _⟩ => ⟨S8x2048x1024, .f32⟩
  | .hbm, ⟨60, _⟩ => ⟨S8x32x2048, .f32⟩
  | .hbm, ⟨61, _⟩ => ⟨S8x512x2048, .f32⟩
  | .hbm, ⟨62, _⟩ => ⟨S2x8x256x2048, .f32⟩
  | .hbm, ⟨63, _⟩ => ⟨S2x8x256x2048, .f32⟩
  | .hbm, ⟨64, _⟩ => ⟨S2x8x256x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1792, .bf16⟩
  | .local _ .vmem, ⟨4, _⟩ => ⟨S1312x1024, .bf16⟩
  | .local _ .vmem, ⟨5, _⟩ => ⟨S1280x1, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | .local _ .vmem, ⟨14, _⟩ => ⟨S1x1024x1024, .f32⟩
  | .local _ .vmem, ⟨15, _⟩ => ⟨S1x1024x1024, .f32⟩
  | .local _ .vmem, ⟨16, _⟩ => ⟨S1x32x1024, .f32⟩
  | .local _ .vmem, ⟨17, _⟩ => ⟨S1x32x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x1x256x1024, .f32⟩
  | .local _ .vmem, ⟨21, _⟩ => ⟨S1x1x256x1024, .f32⟩
  | .local _ .vmem, ⟨22, _⟩ => ⟨S1x1x256x1024, .f32⟩
  | .local _ .vmem, ⟨23, _⟩ => ⟨S1x1x256x1024, .f32⟩
  | .local _ .vmem, ⟨24, _⟩ => ⟨S1x1x256x1024, .f32⟩
  | .local _ .vmem, ⟨25, _⟩ => ⟨S1x1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44_0 : Ref sig .tc := ⟨.hbm, 57, rfl⟩
abbrev main_v44_1 : Ref sig .tc := ⟨.hbm, 58, rfl⟩
abbrev main_v44_2 : Ref sig .tc := ⟨.hbm, 59, rfl⟩
abbrev main_v44_3 : Ref sig .tc := ⟨.hbm, 60, rfl⟩
abbrev main_v44_4 : Ref sig .tc := ⟨.hbm, 61, rfl⟩
abbrev main_v44_5 : Ref sig .tc := ⟨.hbm, 62, rfl⟩
abbrev main_v44_6 : Ref sig .tc := ⟨.hbm, 63, rfl⟩
abbrev main_v44_7 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_16 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_17 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1312x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1280x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ProjReferenceIdeal.lean ====
abbrev S8x2048x1024 : Shape := ⟨3, ![8, 2048, 1024]⟩
abbrev S1024 : Shape := ⟨1, ![1024]⟩
abbrev S1024x3096 : Shape := ⟨2, ![1024, 3096]⟩
abbrev S64 : Shape := ⟨1, ![64]⟩
abbrev S3x64 : Shape := ⟨2, ![3, 64]⟩
abbrev S2x8x256x2048 : Shape := ⟨4, ![2, 8, 256, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3096 : Shape := ⟨3, ![8, 2048, 3096]⟩
abbrev S8x2048x256 : Shape := ⟨3, ![8, 2048, 256]⟩
abbrev S8x2048x512 : Shape := ⟨3, ![8, 2048, 512]⟩
abbrev S8x2048x768 : Shape := ⟨3, ![8, 2048, 768]⟩
abbrev S8x2048x24 : Shape := ⟨3, ![8, 2048, 24]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S8x2048x8x8 : Shape := ⟨4, ![8, 2048, 8, 8]⟩
abbrev S1x2048x1x8 : Shape := ⟨4, ![1, 2048, 1, 8]⟩
abbrev S8x2048x8x48 : Shape := ⟨4, ![8, 2048, 8, 48]⟩
abbrev S8x2048x3x2x2x64 : Shape := ⟨6, ![8, 2048, 3, 2, 2, 64]⟩
abbrev S8x2048x3x1x2x64 : Shape := ⟨6, ![8, 2048, 3, 1, 2, 64]⟩
abbrev S8x2048x3x2x64 : Shape := ⟨5, ![8, 2048, 3, 2, 64]⟩
abbrev S3x1x64 : Shape := ⟨3, ![3, 1, 64]⟩
abbrev S8x2048x3x2 : Shape := ⟨4, ![8, 2048, 3, 2]⟩
abbrev S8x2048x3x2x1 : Shape := ⟨5, ![8, 2048, 3, 2, 1]⟩
abbrev S1x1x3x1x64 : Shape := ⟨5, ![1, 1, 3, 1, 64]⟩
abbrev S2048x1x1x8 : Shape := ⟨4, ![2048, 1, 1, 8]⟩
abbrev S8x2048x3x2x8 : Shape := ⟨5, ![8, 2048, 3, 2, 8]⟩
abbrev S1x2048x1x1x8 : Shape := ⟨5, ![1, 2048, 1, 1, 8]⟩
abbrev S8x2048x3x2x48 : Shape := ⟨5, ![8, 2048, 3, 2, 48]⟩
abbrev S8x8x2048 : Shape := ⟨3, ![8, 8, 2048]⟩
abbrev S1x8x256x2048 : Shape := ⟨4, ![1, 8, 256, 2048]⟩
abbrev S8x2048x1x2x2x64 : Shape := ⟨6, ![8, 2048, 1, 2, 2, 64]⟩
abbrev S8x2048x2x2x64 : Shape := ⟨5, ![8, 2048, 2, 2, 64]⟩
abbrev S8x256x2048 : Shape := ⟨3, ![8, 256, 2048]⟩
abbrev S8x24x2048 : Shape := ⟨3, ![8, 24, 2048]⟩
abbrev S8x32x2048 : Shape := ⟨3, ![8, 32, 2048]⟩
abbrev S8x512x2048 : Shape := ⟨3, ![8, 512, 2048]⟩

abbrev nBuf : Space → Nat
  | .hbm => 227
  | .vmem => 0
  | .smem => 0
  | _ => 0

abbrev hbmTy0_0 (i : Nat) : BufTy := match i % 128 with
  | 0 => ⟨S8x2048x1024, .f32⟩
  | 1 => ⟨S1024, .f32⟩
  | 2 => ⟨S1024x3096, .f32⟩
  | 3 => ⟨S64, .f32⟩
  | 4 => ⟨S3x64, .f32⟩
  | 5 => ⟨S2x8x256x2048, .f32⟩
  | 6 => ⟨S2x8x256x2048, .f32⟩
  | 7 => ⟨S2x8x256x2048, .f32⟩
  | 8 => ⟨S2048, .i32⟩
  | 9 => ⟨S8x2048x1024, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x1024, .f32⟩
  | 21 => ⟨S8x2048x1024, .f32⟩
  | 22 => ⟨S1x1x1024, .f32⟩
  | 23 => ⟨S8x2048x1024, .f32⟩
  | 24 => ⟨S8x2048x1024, .f32⟩
  | 25 => ⟨S8x2048x3096, .f32⟩
  | 26 => ⟨S8x2048x256, .f32⟩
  | 27 => ⟨S8x2048x256, .f32⟩
  | 28 => ⟨S8x2048x256, .f32⟩
  | 29 => ⟨S8x2048x256, .f32⟩
  | 30 => ⟨S8x2048x256, .f32⟩
  | 31 => ⟨S8x2048x512, .f32⟩
  | 32 => ⟨S8x2048x768, .f32⟩
  | 33 => ⟨S8x2048x24, .f32⟩
  | 34 => ⟨S8x2048x512, .f32⟩
  | 35 => ⟨S8x2048x8x64, .f32⟩
  | 36 => ⟨S8x2048x8x64, .f32⟩
  | 37 => ⟨S_, .f32⟩
  | 38 => ⟨S8x2048x8, .f32⟩
  | 39 => ⟨S8x2048x8x1, .f32⟩
  | 40 => ⟨S_, .f32⟩
  | 41 => ⟨S8x2048x8x1, .f32⟩
  | 42 => ⟨S8x2048x8x1, .f32⟩
  | 43 => ⟨S_, .f32⟩
  | 44 => ⟨S8x2048x8x1, .f32⟩
  | 45 => ⟨S8x2048x8x1, .f32⟩
  | 46 => ⟨S8x2048x8x1, .f32⟩
  | 47 => ⟨S8x2048x8x64, .f32⟩
  | 48 => ⟨S8x2048x8x64, .f32⟩
  | 49 => ⟨S1x1x1x64, .f32⟩
  | 50 => ⟨S8x2048x8x64, .f32⟩
  | 51 => ⟨S8x2048x8x64, .f32⟩
  | 52 => ⟨S8, .f32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S8, .f32⟩
  | 60 => ⟨S_, .f32⟩
  | 61 => ⟨S8, .f32⟩
  | 62 => ⟨S8, .f32⟩
  | 63 => ⟨S2048, .f32⟩
  | 64 => ⟨S2048x1, .f32⟩
  | 65 => ⟨S1x8, .f32⟩
  | 66 => ⟨S2048x8, .f32⟩
  | 67 => ⟨S2048x8, .f32⟩
  | 68 => ⟨S2048x8, .f32⟩
  | 69 => ⟨S2048x8, .f32⟩
  | 70 => ⟨S2048x1x8, .f32⟩
  | 71 => ⟨S2048x8, .f32⟩
  | 72 => ⟨S2048x1x8, .f32⟩
  | 73 => ⟨S8x2048x8x8, .f32⟩
  | 74 => ⟨S8x2048x8x8, .f32⟩
  | 75 => ⟨S1x2048x1x8, .f32⟩
  | 76 => ⟨S8x2048x8x8, .f32⟩
  | 77 => ⟨S8x2048x8x8, .f32⟩
  | 78 => ⟨S1x2048x1x8, .f32⟩
  | 79 => ⟨S8x2048x8x8, .f32⟩
  | 80 => ⟨S8x2048x8x8, .f32⟩
  | 81 => ⟨S8x2048x8x8, .f32⟩
  | 82 => ⟨S1x2048x1x8, .f32⟩
  | 83 => ⟨S8x2048x8x8, .f32⟩
  | 84 => ⟨S8x2048x8x8, .f32⟩
  | 85 => ⟨S1x2048x1x8, .f32⟩
  | 86 => ⟨S8x2048x8x8, .f32⟩
  | 87 => ⟨S8x2048x8x8, .f32⟩
  | 88 => ⟨S8x2048x8x8, .f32⟩
  | 89 => ⟨S8x2048x8x48, .f32⟩
  | 90 => ⟨S8x2048x8x64, .f32⟩
  | 91 => ⟨S8x2048x3x2x2x64, .f32⟩
  | 92 => ⟨S8x2048x3x1x2x64, .f32⟩
  | 93 => ⟨S8x2048x3x2x64, .f32⟩
  | 94 => ⟨S3x1x64, .f32⟩
  | 95 => ⟨S8x2048x3x2x64, .f32⟩
  | 96 => ⟨S_, .f32⟩
  | 97 => ⟨S8x2048x3x2, .f32⟩
  | 98 => ⟨S8x2048x3x2x1, .f32⟩
  | 99 => ⟨S_, .f32⟩
  | 100 => ⟨S8x2048x3x2x1, .f32⟩
  | 101 => ⟨S8x2048x3x2x1, .f32⟩
  | 102 => ⟨S_, .f32⟩
  | 103 => ⟨S8x2048x3x2x1, .f32⟩
  | 104 => ⟨S8x2048x3x2x1, .f32⟩
  | 105 => ⟨S8x2048x3x2x1, .f32⟩
  | 106 => ⟨S8x2048x3x2x64, .f32⟩
  | 107 => ⟨S8x2048x3x2x64, .f32⟩
  | 108 => ⟨S1x1x3x1x64, .f32⟩
  | 109 => ⟨S8x2048x3x2x64, .f32⟩
  | 110 => ⟨S8x2048x3x2x64, .f32⟩
  | 111 => ⟨S8, .f32⟩
  | 112 => ⟨S8, .f32⟩
  | 113 => ⟨S_, .f32⟩
  | 114 => ⟨S8, .f32⟩
  | 115 => ⟨S8, .f32⟩
  | 116 => ⟨S_, .f32⟩
  | 117 => ⟨S8, .f32⟩
  | 118 => ⟨S8, .f32⟩
  | 119 => ⟨S_, .f32⟩
  | 120 => ⟨S8, .f32⟩
  | 121 => ⟨S8, .f32⟩
  | 122 => ⟨S2048, .f32⟩
  | 123 => ⟨S2048x1, .f32⟩
  | 124 => ⟨S1x8, .f32⟩
  | 125 => ⟨S2048x8, .f32⟩
  | 126 => ⟨S2048x8, .f32⟩
  | 127 => ⟨S2048x8, .f32⟩
  | _ => ⟨S8x2048x1024, .f32⟩

abbrev hbmTy0_1 (i : Nat) : BufTy := match i % 128 with
  | 0 => ⟨S2048x8, .f32⟩
  | 1 => ⟨S2048x1x1x8, .f32⟩
  | 2 => ⟨S2048x8, .f32⟩
  | 3 => ⟨S2048x1x1x8, .f32⟩
  | 4 => ⟨S8x2048x3x2x8, .f32⟩
  | 5 => ⟨S8x2048x3x2x8, .f32⟩
  | 6 => ⟨S1x2048x1x1x8, .f32⟩
  | 7 => ⟨S8x2048x3x2x8, .f32⟩
  | 8 => ⟨S8x2048x3x2x8, .f32⟩
  | 9 => ⟨S1x2048x1x1x8, .f32⟩
  | 10 => ⟨S8x2048x3x2x8, .f32⟩
  | 11 => ⟨S8x2048x3x2x8, .f32⟩
  | 12 => ⟨S8x2048x3x2x8, .f32⟩
  | 13 => ⟨S1x2048x1x1x8, .f32⟩
  | 14 => ⟨S8x2048x3x2x8, .f32⟩
  | 15 => ⟨S8x2048x3x2x8, .f32⟩
  | 16 => ⟨S1x2048x1x1x8, .f32⟩
  | 17 => ⟨S8x2048x3x2x8, .f32⟩
  | 18 => ⟨S8x2048x3x2x8, .f32⟩
  | 19 => ⟨S8x2048x3x2x8, .f32⟩
  | 20 => ⟨S8x2048x3x2x48, .f32⟩
  | 21 => ⟨S8x2048x3x2x64, .f32⟩
  | 22 => ⟨S8x2048x3x1x2x64, .f32⟩
  | 23 => ⟨S8x2048x3x2x64, .f32⟩
  | 24 => ⟨S8x2048x3x1x2x64, .f32⟩
  | 25 => ⟨S8x2048x3x1x2x64, .f32⟩
  | 26 => ⟨S8x2048x3x2x2x64, .f32⟩
  | 27 => ⟨S8x2048x256, .f32⟩
  | 28 => ⟨S8x2048x256, .f32⟩
  | 29 => ⟨S_, .f32⟩
  | 30 => ⟨S8x2048x256, .f32⟩
  | 31 => ⟨S8x2048x256, .f32⟩
  | 32 => ⟨S_, .f32⟩
  | 33 => ⟨S8x2048x256, .f32⟩
  | 34 => ⟨S8x2048x256, .f32⟩
  | 35 => ⟨S8x2048x256, .f32⟩
  | 36 => ⟨S8x2048x24, .f32⟩
  | 37 => ⟨S8x2048x24, .f32⟩
  | 38 => ⟨S_, .f32⟩
  | 39 => ⟨S8x2048x24, .f32⟩
  | 40 => ⟨S8x2048x24, .f32⟩
  | 41 => ⟨S_, .f32⟩
  | 42 => ⟨S8x2048x24, .f32⟩
  | 43 => ⟨S8x2048x24, .f32⟩
  | 44 => ⟨S8x2048x256, .f32⟩
  | 45 => ⟨S8x2048x256, .f32⟩
  | 46 => ⟨S_, .f32⟩
  | 47 => ⟨S8x2048x256, .f32⟩
  | 48 => ⟨S8x2048x256, .f32⟩
  | 49 => ⟨S_, .f32⟩
  | 50 => ⟨S8x2048x256, .f32⟩
  | 51 => ⟨S8x2048x256, .f32⟩
  | 52 => ⟨S8x2048x256, .f32⟩
  | 53 => ⟨S8x2048x256, .f32⟩
  | 54 => ⟨S8x2048x256, .f32⟩
  | 55 => ⟨S_, .f32⟩
  | 56 => ⟨S8x2048x256, .f32⟩
  | 57 => ⟨S8x2048x256, .f32⟩
  | 58 => ⟨S_, .f32⟩
  | 59 => ⟨S8x2048x256, .f32⟩
  | 60 => ⟨S8x2048x256, .f32⟩
  | 61 => ⟨S8x2048x256, .f32⟩
  | 62 => ⟨S8x2048x512, .f32⟩
  | 63 => ⟨S8x2048x512, .f32⟩
  | 64 => ⟨S_, .f32⟩
  | 65 => ⟨S8x2048x512, .f32⟩
  | 66 => ⟨S8x2048x512, .f32⟩
  | 67 => ⟨S_, .f32⟩
  | 68 => ⟨S8x2048x512, .f32⟩
  | 69 => ⟨S8x2048x512, .f32⟩
  | 70 => ⟨S8x2048x512, .f32⟩
  | 71 => ⟨S8x2048x1024, .f32⟩
  | 72 => ⟨S_, .f32⟩
  | 73 => ⟨S8x8x2048, .f32⟩
  | 74 => ⟨S1x8x256x2048, .f32⟩
  | 75 => ⟨S8x2048x1x2x2x64, .f32⟩
  | 76 => ⟨S8x2048x2x2x64, .f32⟩
  | 77 => ⟨S8x2048x256, .f32⟩
  | 78 => ⟨S8x256x2048, .f32⟩
  | 79 => ⟨S1x8x256x2048, .f32⟩
  | 80 => ⟨S2x8x256x2048, .f32⟩
  | 81 => ⟨S1x8x256x2048, .f32⟩
  | 82 => ⟨S8x2048x1x2x2x64, .f32⟩
  | 83 => ⟨S8x2048x2x2x64, .f32⟩
  | 84 => ⟨S8x2048x256, .f32⟩
  | 85 => ⟨S8x256x2048, .f32⟩
  | 86 => ⟨S1x8x256x2048, .f32⟩
  | 87 => ⟨S2x8x256x2048, .f32⟩
  | 88 => ⟨S1x8x256x2048, .f32⟩
  | 89 => ⟨S8x2048x1x2x2x64, .f32⟩
  | 90 => ⟨S8x2048x2x2x64, .f32⟩
  | 91 => ⟨S8x2048x256, .f32⟩
  | 92 => ⟨S8x256x2048, .f32⟩
  | 93 => ⟨S1x8x256x2048, .f32⟩
  | 94 => ⟨S2x8x256x2048, .f32⟩
  | 95 => ⟨S8x24x2048, .f32⟩
  | 96 => ⟨S8x32x2048, .f32⟩
  | 97 => ⟨S8x2048x512, .f32⟩
  | 98 => ⟨S8x512x2048, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_8 : Ref sig .tc := ⟨.hbm, 96, rfl⟩
abbrev main_v79 : Ref sig .tc := ⟨.hbm, 97, rfl⟩
abbrev main_v80 : Ref sig .tc := ⟨.hbm, 98, rfl⟩
abbrev main_cst_9 : Ref sig .tc := ⟨.hbm, 99, rfl⟩
abbrev main_v81 : Ref sig .tc := ⟨.hbm, 100, rfl⟩
abbrev main_v82 : Ref sig .tc := ⟨.hbm, 101, rfl⟩
abbrev main_cst_10 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_11 : Ref sig .tc := ⟨.hbm, 113, rfl⟩
abbrev main_v93 : Ref sig .tc := ⟨.hbm, 114, rfl⟩
abbrev main_v94 : Ref sig .tc := ⟨.hbm, 115, rfl⟩
abbrev main_cst_12 : Ref sig .tc := ⟨.hbm, 116, rfl⟩
abbrev main_v95 : Ref sig .tc := ⟨.hbm, 117, rfl⟩
abbrev main_v96 : Ref sig .tc := ⟨.hbm, 118, rfl⟩
abbrev main_cst_13 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_cst_14 : Ref sig .tc := ⟨.hbm, 157, rfl⟩
abbrev main_v134 : Ref sig .tc := ⟨.hbm, 158, rfl⟩
abbrev main_v135 : Ref sig .tc := ⟨.hbm, 159, rfl⟩
abbrev main_cst_15 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_cst_16 : Ref sig .tc := ⟨.hbm, 166, rfl⟩
abbrev main_v141 : Ref sig .tc := ⟨.hbm, 167, rfl⟩
abbrev main_v142 : Ref sig .tc := ⟨.hbm, 168, rfl⟩
abbrev main_cst_17 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_cst_18 : Ref sig .tc := ⟨.hbm, 174, rfl⟩
abbrev main_v147 : Ref sig .tc := ⟨.hbm, 175, rfl⟩
abbrev main_v148 : Ref sig .tc := ⟨.hbm, 176, rfl⟩
abbrev main_cst_19 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_cst_20 : Ref sig .tc := ⟨.hbm, 183, rfl⟩
abbrev main_v154 : Ref sig .tc := ⟨.hbm, 184, rfl⟩
abbrev main_v155 : Ref sig .tc := ⟨.hbm, 185, rfl⟩
abbrev main_cst_21 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_cst_22 : Ref sig .tc := ⟨.hbm, 192, rfl⟩
abbrev main_v161 : Ref sig .tc := ⟨.hbm, 193, rfl⟩
abbrev main_v162 : Ref sig .tc := ⟨.hbm, 194, rfl⟩
abbrev main_cst_23 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_cst_24 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩

abbrev nD : Nat := 1
abbrev τ : Topo := Topo.v7x

variable {F : FTy → Type} [FloatOps F]
-- ==== Mix.lean ====
abbrev S8x2048x1024 : Shape := ⟨3, ![8, 2048, 1024]⟩
abbrev S8x2048x256 : Shape := ⟨3, ![8, 2048, 256]⟩
abbrev S8x2048x512 : Shape := ⟨3, ![8, 2048, 512]⟩
abbrev S31x256 : Shape := ⟨2, ![31, 256]⟩
abbrev S256 : Shape := ⟨1, ![256]⟩
abbrev S256x256 : Shape := ⟨2, ![256, 256]⟩
abbrev S4x64x64 : Shape := ⟨3, ![4, 64, 64]⟩
abbrev S1024x1024 : Shape := ⟨2, ![1024, 1024]⟩
abbrev S_ : Shape := ⟨0, ![]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S1x256 : Shape := ⟨2, ![1, 256]⟩
abbrev S1x512x1024 : Shape := ⟨3, ![1, 512, 1024]⟩
abbrev S1x512x256 : Shape := ⟨3, ![1, 512, 256]⟩
abbrev S1x32x256 : Shape := ⟨3, ![1, 32, 256]⟩
abbrev S1x16x256 : Shape := ⟨3, ![1, 16, 256]⟩
abbrev S1x512x512 : Shape := ⟨3, ![1, 512, 512]⟩
abbrev S552x256 : Shape := ⟨2, ![552, 256]⟩
abbrev S528x256 : Shape := ⟨2, ![528, 256]⟩
abbrev S512x1024 : Shape := ⟨2, ![512, 1024]⟩
abbrev S32x256 : Shape := ⟨2, ![32, 256]⟩
abbrev S512x256 : Shape := ⟨2, ![512, 256]⟩
abbrev S8x256 : Shape := ⟨2, ![8, 256]⟩
abbrev S16x256 : Shape := ⟨2, ![16, 256]⟩
abbrev S1x256x1024 : Shape := ⟨3, ![1, 256, 1024]⟩
abbrev S256x1024 : Shape := ⟨2, ![256, 1024]⟩
abbrev S264x256 : Shape := ⟨2, ![264, 256]⟩
abbrev S256x1 : Shape := ⟨2, ![256, 1]⟩
abbrev S1x256x256 : Shape := ⟨3, ![1, 256, 256]⟩
abbrev S1x256x512 : Shape := ⟨3, ![1, 256, 512]⟩
abbrev S256x512 : Shape := ⟨2, ![256, 512]⟩

abbrev nBuf : Space → Nat
  | .hbm => 57
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S8x2048x256, .f32⟩
  | .hbm, ⟨3, _⟩ => ⟨S8x2048x1024, .f32⟩
  | .hbm, ⟨4, _⟩ => ⟨S8x2048x512, .f32⟩
  | .hbm, ⟨5, _⟩ => ⟨S31x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S4x64x64, .f32⟩
  | .hbm, ⟨12, _⟩ => ⟨S256, .f32⟩
  | .hbm, ⟨13, _⟩ => ⟨S1024x1024, .f32⟩
  | .hbm, ⟨14, _⟩ => ⟨S_, .f32⟩
  | .hbm, ⟨15, _⟩ => ⟨S256x256, .f32⟩
  | .hbm, ⟨16, _⟩ => ⟨S1x64x64, .f32⟩
  | .hbm, ⟨17, _⟩ => ⟨S64x64, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S256x256, .f32⟩
  | .hbm, ⟨24, _⟩ => ⟨S1x64x64, .f32⟩
  | .hbm, ⟨25, _⟩ => ⟨S64x64, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S256x256, .f32⟩
  | .hbm, ⟨32, _⟩ => ⟨S1x64x64, .f32⟩
  | .hbm, ⟨33, _⟩ => ⟨S64x64, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S256x256, .f32⟩
  | .hbm, ⟨40, _⟩ => ⟨S1x64x64, .f32⟩
  | .hbm, ⟨41, _⟩ => ⟨S64x64, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S256x256, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S256x256, .bf16⟩
  | .hbm, ⟨52, _⟩ => ⟨S1x256, .f32⟩
  | .hbm, ⟨53, _⟩ => ⟨S256x256, .bf16⟩
  | .hbm, ⟨54, _⟩ => ⟨S1x256, .f32⟩
  | .hbm, ⟨55, _⟩ => ⟨S1024x1024, .bf16⟩
  | .hbm, ⟨56, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x32x256, .f32⟩
  | .local _ .vmem, ⟨5, _⟩ => ⟨S1x32x256, .f32⟩
  | .local _ .vmem, ⟨6, _⟩ => ⟨S1x512x256, .f32⟩
  | .local _ .vmem, ⟨7, _⟩ => ⟨S1x512x256, .f32⟩
  | .local _ .vmem, ⟨8, _⟩ => ⟨S1x16x256, .f32⟩
  | .local _ .vmem, ⟨9, _⟩ => ⟨S1x16x256, .f32⟩
  | .local _ .vmem, ⟨10, _⟩ => ⟨S1x512x1024, .f32⟩
  | .local _ .vmem, ⟨11, _⟩ => ⟨S1x512x1024, .f32⟩
  | .local _ .vmem, ⟨12, _⟩ => ⟨S1x512x512, .f32⟩
  | .local _ .vmem, ⟨13, _⟩ => ⟨S1x512x512, .f32⟩
  | .local _ .vmem, ⟨14, _⟩ => ⟨S31x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x256, .bf16⟩
  | .local _ .vmem, ⟨19, _⟩ => ⟨S1x256, .f32⟩
  | .local _ .vmem, ⟨20, _⟩ => ⟨S256x256, .bf16⟩
  | .local _ .vmem, ⟨21, _⟩ => ⟨S1x256, .f32⟩
  | .local _ .vmem, ⟨22, _⟩ => ⟨S1024x1024, .bf16⟩
  | .local _ .vmem, ⟨23, _⟩ => ⟨S1x512x1024, .f32⟩
  | .local _ .vmem, ⟨24, _⟩ => ⟨S1x512x1024, .f32⟩
  | .local _ .vmem, ⟨25, _⟩ => ⟨S552x256, .f32⟩
  | .local _ .vmem, ⟨26, _⟩ => ⟨S528x256, .f32⟩
  | .local _ .vmem, ⟨27, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_c_6 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S31x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MixReferenceIdeal.lean ====
abbrev S8x2048x1024 : Shape := ⟨3, ![8, 2048, 1024]⟩
abbrev S8x2048x256 : Shape := ⟨3, ![8, 2048, 256]⟩
abbrev S8x2048x512 : Shape := ⟨3, ![8, 2048, 512]⟩
abbrev S31x256 : Shape := ⟨2, ![31, 256]⟩
abbrev S256 : Shape := ⟨1, ![256]⟩
abbrev S256x256 : Shape := ⟨2, ![256, 256]⟩
abbrev S4x64x64 : Shape := ⟨3, ![4, 64, 64]⟩
abbrev S1024x1024 : Shape := ⟨2, ![1024, 1024]⟩
abbrev S2048 : Shape := ⟨1, ![2048]⟩
abbrev S_ : Shape := ⟨0, ![]⟩
abbrev S8x30x256 : Shape := ⟨3, ![8, 30, 256]⟩
abbrev S8x2078x256 : Shape := ⟨3, ![8, 2078, 256]⟩
abbrev S1x256 : Shape := ⟨2, ![1, 256]⟩
abbrev S1x1x256 : Shape := ⟨3, ![1, 1, 256]⟩
abbrev S8x2048 : Shape := ⟨2, ![8, 2048]⟩
abbrev S8x2048x1 : Shape := ⟨3, ![8, 2048, 1]⟩
abbrev S8x15x256 : Shape := ⟨3, ![8, 15, 256]⟩
abbrev S8x2063x256 : Shape := ⟨3, ![8, 2063, 256]⟩
abbrev S8x2048x64 : Shape := ⟨3, ![8, 2048, 64]⟩
abbrev S1x2048x1 : Shape := ⟨3, ![1, 2048, 1]⟩
abbrev S8x2048x1x64 : Shape := ⟨4, ![8, 2048, 1, 64]⟩
abbrev S8x2048x4x64 : Shape := ⟨4, ![8, 2048, 4, 64]⟩
abbrev S4x64x8x2048 : Shape := ⟨4, ![4, 64, 8, 2048]⟩

abbrev nBuf : Space → Nat
  | .hbm => 414
  | .vmem => 0
  | .smem => 0
  | _ => 0

abbrev hbmTy0_0 (i : Nat) : BufTy := match i % 128 with
  | 0 => ⟨S8x2048x1024, .f32⟩
  | 1 => ⟨S8x2048x256, .f32⟩
  | 2 => ⟨S8x2048x256, .f32⟩
  | 3 => ⟨S8x2048x1024, .f32⟩
  | 4 => ⟨S8x2048x512, .f32⟩
  | 5 => ⟨S31x256, .f32⟩
  | 6 => ⟨S256, .f32⟩
  | 7 => ⟨S256, .f32⟩
  | 8 => ⟨S256, .f32⟩
  | 9 => ⟨S256x256, .f32⟩
  | 10 => ⟨S256, .f32⟩
  | 11 => ⟨S4x64x64, .f32⟩
  | 12 => ⟨S256, .f32⟩
  | 13 => ⟨S1024x1024, .f32⟩
  | 14 => ⟨S2048, .i32⟩
  | 15 => ⟨S_, .f32⟩
  | 16 => ⟨S8x30x256, .f32⟩
  | 17 => ⟨S8x2078x256, .f32⟩
  | 18 => ⟨S8x2048x256, .f32⟩
  | 19 => ⟨S1x256, .f32⟩
  | 20 => ⟨S256, .f32⟩
  | 21 => ⟨S1x1x256, .f32⟩
  | 22 => ⟨S8x2048x256, .f32⟩
  | 23 => ⟨S8x2048x256, .f32⟩
  | 24 => ⟨S_, .f32⟩
  | 25 => ⟨S8x2048x256, .f32⟩
  | 26 => ⟨S8x2048x256, .f32⟩
  | 27 => ⟨S8x2048x256, .f32⟩
  | 28 => ⟨S1x256, .f32⟩
  | 29 => ⟨S256, .f32⟩
  | 30 => ⟨S1x1x256, .f32⟩
  | 31 => ⟨S8x2048x256, .f32⟩
  | 32 => ⟨S8x2048x256, .f32⟩
  | 33 => ⟨S8x2048x256, .f32⟩
  | 34 => ⟨S8x2048x256, .f32⟩
  | 35 => ⟨S1x256, .f32⟩
  | 36 => ⟨S256, .f32⟩
  | 37 => ⟨S1x1x256, .f32⟩
  | 38 => ⟨S8x2048x256, .f32⟩
  | 39 => ⟨S8x2048x256, .f32⟩
  | 40 => ⟨S8x2048x256, .f32⟩
  | 41 => ⟨S8x2048x256, .f32⟩
  | 42 => ⟨S1x256, .f32⟩
  | 43 => ⟨S256, .f32⟩
  | 44 => ⟨S1x1x256, .f32⟩
  | 45 => ⟨S8x2048x256, .f32⟩
  | 46 => ⟨S8x2048x256, .f32⟩
  | 47 => ⟨S8x2048x256, .f32⟩
  | 48 => ⟨S8x2048x256, .f32⟩
  | 49 => ⟨S1x256, .f32⟩
  | 50 => ⟨S256, .f32⟩
  | 51 => ⟨S1x1x256, .f32⟩
  | 52 => ⟨S8x2048x256, .f32⟩
  | 53 => ⟨S8x2048x256, .f32⟩
  | 54 => ⟨S8x2048x256, .f32⟩
  | 55 => ⟨S8x2048x256, .f32⟩
  | 56 => ⟨S1x256, .f32⟩
  | 57 => ⟨S256, .f32⟩
  | 58 => ⟨S1x1x256, .f32⟩
  | 59 => ⟨S8x2048x256, .f32⟩
  | 60 => ⟨S8x2048x256, .f32⟩
  | 61 => ⟨S8x2048x256, .f32⟩
  | 62 => ⟨S8x2048x256, .f32⟩
  | 63 => ⟨S1x256, .f32⟩
  | 64 => ⟨S256, .f32⟩
  | 65 => ⟨S1x1x256, .f32⟩
  | 66 => ⟨S8x2048x256, .f32⟩
  | 67 => ⟨S8x2048x256, .f32⟩
  | 68 => ⟨S8x2048x256, .f32⟩
  | 69 => ⟨S8x2048x256, .f32⟩
  | 70 => ⟨S1x256, .f32⟩
  | 71 => ⟨S256, .f32⟩
  | 72 => ⟨S1x1x256, .f32⟩
  | 73 => ⟨S8x2048x256, .f32⟩
  | 74 => ⟨S8x2048x256, .f32⟩
  | 75 => ⟨S8x2048x256, .f32⟩
  | 76 => ⟨S8x2048x256, .f32⟩
  | 77 => ⟨S1x256, .f32⟩
  | 78 => ⟨S256, .f32⟩
  | 79 => ⟨S1x1x256, .f32⟩
  | 80 => ⟨S8x2048x256, .f32⟩
  | 81 => ⟨S8x2048x256, .f32⟩
  | 82 => ⟨S8x2048x256, .f32⟩
  | 83 => ⟨S8x2048x256, .f32⟩
  | 84 => ⟨S1x256, .f32⟩
  | 85 => ⟨S256, .f32⟩
  | 86 => ⟨S1x1x256, .f32⟩
  | 87 => ⟨S8x2048x256, .f32⟩
  | 88 => ⟨S8x2048x256, .f32⟩
  | 89 => ⟨S8x2048x256, .f32⟩
  | 90 => ⟨S8x2048x256, .f32⟩
  | 91 => ⟨S1x256, .f32⟩
  | 92 => ⟨S256, .f32⟩
  | 93 => ⟨S1x1x256, .f32⟩
  | 94 => ⟨S8x2048x256, .f32⟩
  | 95 => ⟨S8x2048x256, .f32⟩
  | 96 => ⟨S8x2048x256, .f32⟩
  | 97 => ⟨S8x2048x256, .f32⟩
  | 98 => ⟨S1x256, .f32⟩
  | 99 => ⟨S256, .f32⟩
  | 100 => ⟨S1x1x256, .f32⟩
  | 101 => ⟨S8x2048x256, .f32⟩
  | 102 => ⟨S8x2048x256, .f32⟩
  | 103 => ⟨S8x2048x256, .f32⟩
  | 104 => ⟨S8x2048x256, .f32⟩
  | 105 => ⟨S1x256, .f32⟩
  | 106 => ⟨S256, .f32⟩
  | 107 => ⟨S1x1x256, .f32⟩
  | 108 => ⟨S8x2048x256, .f32⟩
  | 109 => ⟨S8x2048x256, .f32⟩
  | 110 => ⟨S8x2048x256, .f32⟩
  | 111 => ⟨S8x2048x256, .f32⟩
  | 112 => ⟨S1x256, .f32⟩
  | 113 => ⟨S256, .f32⟩
  | 114 => ⟨S1x1x256, .f32⟩
  | 115 => ⟨S8x2048x256, .f32⟩
  | 116 => ⟨S8x2048x256, .f32⟩
  | 117 => ⟨S8x2048x256, .f32⟩
  | 118 => ⟨S8x2048x256, .f32⟩
  | 119 => ⟨S1x256, .f32⟩
  | 120 => ⟨S256, .f32⟩
  | 121 => ⟨S1x1x256, .f32⟩
  | 122 => ⟨S8x2048x256, .f32⟩
  | 123 => ⟨S8x2048x256, .f32⟩
  | 124 => ⟨S8x2048x256, .f32⟩
  | 125 => ⟨S8x2048x256, .f32⟩
  | 126 => ⟨S1x256, .f32⟩
  | 127 => ⟨S256, .f32⟩
  | _ => ⟨S8x2048x1024, .f32⟩

abbrev hbmTy0_1 (i : Nat) : BufTy := match i % 128 with
  | 0 => ⟨S1x1x256, .f32⟩
  | 1 => ⟨S8x2048x256, .f32⟩
  | 2 => ⟨S8x2048x256, .f32⟩
  | 3 => ⟨S8x2048x256, .f32⟩
  | 4 => ⟨S8x2048x256, .f32⟩
  | 5 => ⟨S1x256, .f32⟩
  | 6 => ⟨S256, .f32⟩
  | 7 => ⟨S1x1x256, .f32⟩
  | 8 => ⟨S8x2048x256, .f32⟩
  | 9 => ⟨S8x2048x256, .f32⟩
  | 10 => ⟨S8x2048x256, .f32⟩
  | 11 => ⟨S8x2048x256, .f32⟩
  | 12 => ⟨S1x256, .f32⟩
  | 13 => ⟨S256, .f32⟩
  | 14 => ⟨S1x1x256, .f32⟩
  | 15 => ⟨S8x2048x256, .f32⟩
  | 16 => ⟨S8x2048x256, .f32⟩
  | 17 => ⟨S8x2048x256, .f32⟩
  | 18 => ⟨S8x2048x256, .f32⟩
  | 19 => ⟨S1x256, .f32⟩
  | 20 => ⟨S256, .f32⟩
  | 21 => ⟨S1x1x256, .f32⟩
  | 22 => ⟨S8x2048x256, .f32⟩
  | 23 => ⟨S8x2048x256, .f32⟩
  | 24 => ⟨S8x2048x256, .f32⟩
  | 25 => ⟨S8x2048x256, .f32⟩
  | 26 => ⟨S1x256, .f32⟩
  | 27 => ⟨S256, .f32⟩
  | 28 => ⟨S1x1x256, .f32⟩
  | 29 => ⟨S8x2048x256, .f32⟩
  | 30 => ⟨S8x2048x256, .f32⟩
  | 31 => ⟨S8x2048x256, .f32⟩
  | 32 => ⟨S8x2048x256, .f32⟩
  | 33 => ⟨S1x256, .f32⟩
  | 34 => ⟨S256, .f32⟩
  | 35 => ⟨S1x1x256, .f32⟩
  | 36 => ⟨S8x2048x256, .f32⟩
  | 37 => ⟨S8x2048x256, .f32⟩
  | 38 => ⟨S8x2048x256, .f32⟩
  | 39 => ⟨S8x2048x256, .f32⟩
  | 40 => ⟨S1x256, .f32⟩
  | 41 => ⟨S256, .f32⟩
  | 42 => ⟨S1x1x256, .f32⟩
  | 43 => ⟨S8x2048x256, .f32⟩
  | 44 => ⟨S8x2048x256, .f32⟩
  | 45 => ⟨S8x2048x256, .f32⟩
  | 46 => ⟨S8x2048x256, .f32⟩
  | 47 => ⟨S1x256, .f32⟩
  | 48 => ⟨S256, .f32⟩
  | 49 => ⟨S1x1x256, .f32⟩
  | 50 => ⟨S8x2048x256, .f32⟩
  | 51 => ⟨S8x2048x256, .f32⟩
  | 52 => ⟨S8x2048x256, .f32⟩
  | 53 => ⟨S8x2048x256, .f32⟩
  | 54 => ⟨S1x256, .f32⟩
  | 55 => ⟨S256, .f32⟩
  | 56 => ⟨S1x1x256, .f32⟩
  | 57 => ⟨S8x2048x256, .f32⟩
  | 58 => ⟨S8x2048x256, .f32⟩
  | 59 => ⟨S8x2048x256, .f32⟩
  | 60 => ⟨S8x2048x256, .f32⟩
  | 61 => ⟨S1x256, .f32⟩
  | 62 => ⟨S256, .f32⟩
  | 63 => ⟨S1x1x256, .f32⟩
  | 64 => ⟨S8x2048x256, .f32⟩
  | 65 => ⟨S8x2048x256, .f32⟩
  | 66 => ⟨S8x2048x256, .f32⟩
  | 67 => ⟨S8x2048x256, .f32⟩
  | 68 => ⟨S1x256, .f32⟩
  | 69 => ⟨S256, .f32⟩
  | 70 => ⟨S1x1x256, .f32⟩
  | 71 => ⟨S8x2048x256, .f32⟩
  | 72 => ⟨S8x2048x256, .f32⟩
  | 73 => ⟨S8x2048x256, .f32⟩
  | 74 => ⟨S8x2048x256, .f32⟩
  | 75 => ⟨S1x256, .f32⟩
  | 76 => ⟨S256, .f32⟩
  | 77 => ⟨S1x1x256, .f32⟩
  | 78 => ⟨S8x2048x256, .f32⟩
  | 79 => ⟨S8x2048x256, .f32⟩
  | 80 => ⟨S8x2048x256, .f32⟩
  | 81 => ⟨S8x2048x256, .f32⟩
  | 82 => ⟨S1x256, .f32⟩
  | 83 => ⟨S256, .f32⟩
  | 84 => ⟨S1x1x256, .f32⟩
  | 85 => ⟨S8x2048x256, .f32⟩
  | 86 => ⟨S8x2048x256, .f32⟩
  | 87 => ⟨S8x2048x256, .f32⟩
  | 88 => ⟨S8x2048x256, .f32⟩
  | 89 => ⟨S1x256, .f32⟩
  | 90 => ⟨S256, .f32⟩
  | 91 => ⟨S1x1x256, .f32⟩
  | 92 => ⟨S8x2048x256, .f32⟩
  | 93 => ⟨S8x2048x256, .f32⟩
  | 94 => ⟨S8x2048x256, .f32⟩
  | 95 => ⟨S8x2048x256, .f32⟩
  | 96 => ⟨S1x256, .f32⟩
  | 97 => ⟨S256, .f32⟩
  | 98 => ⟨S1x1x256, .f32⟩
  | 99 => ⟨S8x2048x256, .f32⟩
  | 100 => ⟨S8x2048x256, .f32⟩
  | 101 => ⟨S8x2048x256, .f32⟩
  | 102 => ⟨S8x2048x256, .f32⟩
  | 103 => ⟨S1x256, .f32⟩
  | 104 => ⟨S256, .f32⟩
  | 105 => ⟨S1x1x256, .f32⟩
  | 106 => ⟨S8x2048x256, .f32⟩
  | 107 => ⟨S8x2048x256, .f32⟩
  | 108 => ⟨S8x2048x256, .f32⟩
  | 109 => ⟨S1x1x256, .f32⟩
  | 110 => ⟨S8x2048x256, .f32⟩
  | 111 => ⟨S8x2048x256, .f32⟩
  | 112 => ⟨S_, .f32⟩
  | 113 => ⟨S8x2048, .f32⟩
  | 114 => ⟨S8x2048x1, .f32⟩
  | 115 => ⟨S_, .f32⟩
  | 116 => ⟨S8x2048x1, .f32⟩
  | 117 => ⟨S8x2048x1, .f32⟩
  | 118 => ⟨S8x2048x256, .f32⟩
  | 119 => ⟨S8x2048x256, .f32⟩
  | 120 => ⟨S8x2048x256, .f32⟩
  | 121 => ⟨S_, .f32⟩
  | 122 => ⟨S8x2048, .f32⟩
  | 123 => ⟨S8x2048x1, .f32⟩
  | 124 => ⟨S_, .f32⟩
  | 125 => ⟨S8x2048x1, .f32⟩
  | 126 => ⟨S8x2048x1, .f32⟩
  | 127 => ⟨S_, .f32⟩
  | _ => ⟨S8x2048x1024, .f32⟩

abbrev hbmTy0_2 (i : Nat) : BufTy := match i % 128 with
  | 0 => ⟨S8x2048x1, .f32⟩
  | 1 => ⟨S8x2048x1, .f32⟩
  | 2 => ⟨S8x2048x1, .f32⟩
  | 3 => ⟨S8x2048x256, .f32⟩
  | 4 => ⟨S8x2048x256, .f32⟩
  | 5 => ⟨S1x1x256, .f32⟩
  | 6 => ⟨S8x2048x256, .f32⟩
  | 7 => ⟨S8x2048x256, .f32⟩
  | 8 => ⟨S1x1x256, .f32⟩
  | 9 => ⟨S8x2048x256, .f32⟩
  | 10 => ⟨S8x2048x256, .f32⟩
  | 11 => ⟨S8x2048x256, .f32⟩
  | 12 => ⟨S8x2048x256, .f32⟩
  | 13 => ⟨S_, .f32⟩
  | 14 => ⟨S8x2048x256, .f32⟩
  | 15 => ⟨S8x2048x256, .f32⟩
  | 16 => ⟨S_, .f32⟩
  | 17 => ⟨S8x2048x256, .f32⟩
  | 18 => ⟨S8x2048x256, .f32⟩
  | 19 => ⟨S8x2048x256, .f32⟩
  | 20 => ⟨S8x2048x256, .f32⟩
  | 21 => ⟨S1x1x256, .f32⟩
  | 22 => ⟨S8x2048x256, .f32⟩
  | 23 => ⟨S8x2048x256, .f32⟩
  | 24 => ⟨S_, .f32⟩
  | 25 => ⟨S8x15x256, .f32⟩
  | 26 => ⟨S8x2063x256, .f32⟩
  | 27 => ⟨S8x2048x64, .f32⟩
  | 28 => ⟨S_, .f32⟩
  | 29 => ⟨S8x2048x64, .f32⟩
  | 30 => ⟨S8x2048x64, .f32⟩
  | 31 => ⟨S8x2048x64, .f32⟩
  | 32 => ⟨S8x2048x64, .f32⟩
  | 33 => ⟨S_, .i32⟩
  | 34 => ⟨S2048, .i32⟩
  | 35 => ⟨S2048, .i32⟩
  | 36 => ⟨S_, .i32⟩
  | 37 => ⟨S2048, .i32⟩
  | 38 => ⟨S2048, .i32⟩
  | 39 => ⟨S2048, .f32⟩
  | 40 => ⟨S1x2048x1, .f32⟩
  | 41 => ⟨S8x2048x64, .f32⟩
  | 42 => ⟨S8x2048x64, .f32⟩
  | 43 => ⟨S8x2048x64, .f32⟩
  | 44 => ⟨S8x2048x64, .f32⟩
  | 45 => ⟨S8x2048x64, .f32⟩
  | 46 => ⟨S_, .f32⟩
  | 47 => ⟨S8x2048x64, .f32⟩
  | 48 => ⟨S8x2048x64, .f32⟩
  | 49 => ⟨S8x2048x64, .f32⟩
  | 50 => ⟨S8x2048x64, .f32⟩
  | 51 => ⟨S8x2048x64, .f32⟩
  | 52 => ⟨S8x2048x64, .f32⟩
  | 53 => ⟨S8x2048x64, .f32⟩
  | 54 => ⟨S8x2048x64, .f32⟩
  | 55 => ⟨S_, .i32⟩
  | 56 => ⟨S2048, .i32⟩
  | 57 => ⟨S2048, .i32⟩
  | 58 => ⟨S_, .i32⟩
  | 59 => ⟨S2048, .i32⟩
  | 60 => ⟨S2048, .i32⟩
  | 61 => ⟨S2048, .f32⟩
  | 62 => ⟨S1x2048x1, .f32⟩
  | 63 => ⟨S8x2048x64, .f32⟩
  | 64 => ⟨S8x2048x64, .f32⟩
  | 65 => ⟨S8x2048x64, .f32⟩
  | 66 => ⟨S8x2048x64, .f32⟩
  | 67 => ⟨S8x2048x64, .f32⟩
  | 68 => ⟨S_, .f32⟩
  | 69 => ⟨S8x2048x64, .f32⟩
  | 70 => ⟨S8x2048x64, .f32⟩
  | 71 => ⟨S8x2048x64, .f32⟩
  | 72 => ⟨S8x2048x64, .f32⟩
  | 73 => ⟨S8x2048x64, .f32⟩
  | 74 => ⟨S8x2048x64, .f32⟩
  | 75 => ⟨S8x2048x64, .f32⟩
  | 76 => ⟨S8x2048x64, .f32⟩
  | 77 => ⟨S8x2048x64, .f32⟩
  | 78 => ⟨S8x2048x64, .f32⟩
  | 79 => ⟨S8x2048x64, .f32⟩
  | 80 => ⟨S8x2048x64, .f32⟩
  | 81 => ⟨S8x2048x64, .f32⟩
  | 82 => ⟨S8x2048x64, .f32⟩
  | 83 => ⟨S8x2048x64, .f32⟩
  | 84 => ⟨S8x2048x64, .f32⟩
  | 85 => ⟨S_, .i32⟩
  | 86 => ⟨S2048, .i32⟩
  | 87 => ⟨S2048, .i32⟩
  | 88 => ⟨S_, .i32⟩
  | 89 => ⟨S2048, .i32⟩
  | 90 => ⟨S2048, .i32⟩
  | 91 => ⟨S2048, .f32⟩
  | 92 => ⟨S1x2048x1, .f32⟩
  | 93 => ⟨S8x2048x64, .f32⟩
  | 94 => ⟨S8x2048x64, .f32⟩
  | 95 => ⟨S8x2048x64, .f32⟩
  | 96 => ⟨S8x2048x64, .f32⟩
  | 97 => ⟨S8x2048x64, .f32⟩
  | 98 => ⟨S_, .f32⟩
  | 99 => ⟨S8x2048x64, .f32⟩
  | 100 => ⟨S8x2048x64, .f32⟩
  | 101 => ⟨S8x2048x64, .f32⟩
  | 102 => ⟨S8x2048x64, .f32⟩
  | 103 => ⟨S8x2048x64, .f32⟩
  | 104 => ⟨S8x2048x64, .f32⟩
  | 105 => ⟨S8x2048x64, .f32⟩
  | 106 => ⟨S8x2048x64, .f32⟩
  | 107 => ⟨S8x2048x64, .f32⟩
  | 108 => ⟨S8x2048x64, .f32⟩
  | 109 => ⟨S8x2048x64, .f32⟩
  | 110 => ⟨S8x2048x64, .f32⟩
  | 111 => ⟨S8x2048x64, .f32⟩
  | 112 => ⟨S8x2048x64, .f32⟩
  | 113 => ⟨S8x2048x64, .f32⟩
  | 114 => ⟨S8x2048x64, .f32⟩
  | 115 => ⟨S8x2048x64, .f32⟩
  | 116 => ⟨S8x2048x64, .f32⟩
  | 117 => ⟨S8x2048x64, .f32⟩
  | 118 => ⟨S8x2048x64, .f32⟩
  | 119 => ⟨S8x2048x64, .f32⟩
  | 120 => ⟨S8x2048x64, .f32⟩
  | 121 => ⟨S8x2048x64, .f32⟩
  | 122 => ⟨S8x2048x64, .f32⟩
  | 123 => ⟨S8x2048x64, .f32⟩
  | 124 => ⟨S8x2048x64, .f32⟩
  | 125 => ⟨S8x2048x64, .f32⟩
  | 126 => ⟨S8x2048x64, .f32⟩
  | 127 => ⟨S8x2048x64, .f32⟩
  | _ => ⟨S8x2048x1024, .f32⟩

abbrev hbmTy0_3 (i : Nat) : BufTy := match i % 128 with
  | 0 => ⟨S8x2048x64, .f32⟩
  | 1 => ⟨S8x2048x64, .f32⟩
  | 2 => ⟨S8x2048x64, .f32⟩
  | 3 => ⟨S_, .i32⟩
  | 4 => ⟨S2048, .i32⟩
  | 5 => ⟨S2048, .i32⟩
  | 6 => ⟨S_, .i32⟩
  | 7 => ⟨S2048, .i32⟩
  | 8 => ⟨S2048, .i32⟩
  | 9 => ⟨S2048, .f32⟩
  | 10 => ⟨S1x2048x1, .f32⟩
  | 11 => ⟨S8x2048x64, .f32⟩
  | 12 => ⟨S8x2048x64, .f32⟩
  | 13 => ⟨S8x2048x64, .f32⟩
  | 14 => ⟨S8x2048x64, .f32⟩
  | 15 => ⟨S8x2048x1x64, .f32⟩
  | 16 => ⟨S8x2048x1x64, .f32⟩
  | 17 => ⟨S8x2048x1x64, .f32⟩
  | 18 => ⟨S8x2048x1x64, .f32⟩
  | 19 => ⟨S8x2048x4x64, .f32⟩
  | 20 => ⟨S4x64x8x2048, .f32⟩
  | 21 => ⟨S8x2048x4x64, .f32⟩
  | 22 => ⟨S8x2048x256, .f32⟩
  | 23 => ⟨S1x1x256, .f32⟩
  | 24 => ⟨S8x2048x256, .f32⟩
  | 25 => ⟨S8x2048x256, .f32⟩
  | 26 => ⟨S8x2048x1024, .f32⟩
  | 27 => ⟨S8x2048x1024, .f32⟩
  | 28 => ⟨S8x2048x1024, .f32⟩
  | 29 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_cst_1 : Ref sig .tc := ⟨.hbm, 240, rfl⟩
abbrev main_v224 : Ref sig .tc := ⟨.hbm, 241, rfl⟩
abbrev main_v225 : Ref sig .tc := ⟨.hbm, 242, rfl⟩
abbrev main_cst_2 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_cst_3 : Ref sig .tc := ⟨.hbm, 249, rfl⟩
abbrev main_v231 : Ref sig .tc := ⟨.hbm, 250, rfl⟩
abbrev main_v232 : Ref sig .tc := ⟨.hbm, 251, rfl⟩
abbrev main_cst_4 : Ref sig .tc := ⟨.hbm, 252, rfl⟩
abbrev main_v233 : Ref sig .tc := ⟨.hbm, 253, rfl⟩
abbrev main_v234 : Ref sig .tc := ⟨.hbm, 254, rfl⟩
abbrev main_cst_5 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_cst_6 : Ref sig .tc := ⟨.hbm, 269, rfl⟩
abbrev main_v248 : Ref sig .tc := ⟨.hbm, 270, rfl⟩
abbrev main_v249 : Ref sig .tc := ⟨.hbm, 271, rfl⟩
abbrev main_cst_7 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_cst_8 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_cst_9 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_c : Ref sig .tc := ⟨.hbm, 289, rfl⟩
abbrev main_v264 : Ref sig .tc := ⟨.hbm, 290, rfl⟩
abbrev main_v265 : Ref sig .tc := ⟨.hbm, 291, rfl⟩
abbrev main_c_10 : Ref sig .tc := ⟨.hbm, 292, rfl⟩
abbrev main_v266 : Ref sig .tc := ⟨.hbm, 293, rfl⟩
abbrev main_v267 : Ref sig .tc := ⟨.hbm, 294, rfl⟩
abbrev main_v268 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_v274 : Ref sig .tc := ⟨.hbm, 301, rfl⟩
abbrev main_cst_11 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_c_12 : Ref sig .tc := ⟨.hbm, 311, rfl⟩
abbrev main_v283 : Ref sig .tc := ⟨.hbm, 312, rfl⟩
abbrev main_v284 : Ref sig .tc := ⟨.hbm, 313, rfl⟩
abbrev main_c_13 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_v288 : Ref sig .tc := ⟨.hbm, 318, rfl⟩
abbrev main_v289 : Ref sig .tc := ⟨.hbm, 319, rfl⟩
abbrev main_v290 : Ref sig .tc := ⟨.hbm, 320, rfl⟩
abbrev main_v291 : Ref sig .tc := ⟨.hbm, 321, rfl⟩
abbrev main_v292 : Ref sig .tc := ⟨.hbm, 322, rfl⟩
abbrev main_v293 : Ref sig .tc := ⟨.hbm, 323, rfl⟩
abbrev main_cst_14 : Ref sig .tc := ⟨.hbm, 324, rfl⟩
abbrev main_v294 : Ref sig .tc := ⟨.hbm, 325, rfl⟩
abbrev main_v295 : Ref sig .tc := ⟨.hbm, 326, rfl⟩
abbrev main_v296 : Ref sig .tc := ⟨.hbm, 327, rfl⟩
abbrev main_v297 : Ref sig .tc := ⟨.hbm, 328, rfl⟩
abbrev main_v298 : Ref sig .tc := ⟨.hbm, 329, rfl⟩
abbrev main_v299 : Ref sig .tc := ⟨.hbm, 330, rfl⟩
abbrev main_v300 : Ref sig .tc := ⟨.hbm, 331, rfl⟩
abbrev main_v301 : Ref sig .tc := ⟨.hbm, 332, rfl⟩
abbrev main_v302 : Ref sig .tc := ⟨.hbm, 333, rfl⟩
abbrev main_v303 : Ref sig .tc := ⟨.hbm, 334, rfl⟩
abbrev main_v304 : Ref sig .tc := ⟨.hbm, 335, rfl⟩
abbrev main_v305 : Ref sig .tc := ⟨.hbm, 336, rfl⟩
abbrev main_v306 : Ref sig .tc := ⟨.hbm, 337, rfl⟩
abbrev main_v307 : Ref sig .tc := ⟨.hbm, 338, rfl⟩
abbrev main_v308 : Ref sig .tc := ⟨.hbm, 339, rfl⟩
abbrev main_v309 : Ref sig .tc := ⟨.hbm, 340, rfl⟩
abbrev main_c_15 : Ref sig .tc := ⟨.hbm, 341, rfl⟩
abbrev main_v310 : Ref sig .tc := ⟨.hbm, 342, rfl⟩
abbrev main_v311 : Ref sig .tc := ⟨.hbm, 343, rfl⟩
abbrev main_c_16 : Ref sig .tc := ⟨.hbm, 344, rfl⟩
abbrev main_v312 : Ref sig .tc := ⟨.hbm, 345, rfl⟩
abbrev main_v313 : Ref sig .tc := ⟨.hbm, 346, rfl⟩
abbrev main_v314 : Ref sig .tc := ⟨.hbm, 347, rfl⟩
abbrev main_v315 : Ref sig .tc := ⟨.hbm, 348, rfl⟩
abbrev main_v316 : Ref sig .tc := ⟨.hbm, 349, rfl⟩
abbrev main_v317 : Ref sig .tc := ⟨.hbm, 350, rfl⟩
abbrev main_v318 : Ref sig .tc := ⟨.hbm, 351, rfl⟩
abbrev main_v319 : Ref sig .tc := ⟨.hbm, 352, rfl⟩
abbrev main_v320 : Ref sig .tc := ⟨.hbm, 353, rfl⟩
abbrev main_cst_17 : Ref sig .tc := ⟨.hbm, 354, rfl⟩
abbrev main_v321 : Ref sig .tc := ⟨.hbm, 355, rfl⟩
abbrev main_v322 : Ref sig .tc := ⟨.hbm, 356, rfl⟩
abbrev main_v323 : Ref sig .tc := ⟨.hbm, 357, rfl⟩
abbrev main_v324 : Ref sig .tc := ⟨.hbm, 358, rfl⟩
abbrev main_v325 : Ref sig .tc := ⟨.hbm, 359, rfl⟩
abbrev main_v326 : Ref sig .tc := ⟨.hbm, 360, rfl⟩
abbrev main_v327 : Ref sig .tc := ⟨.hbm, 361, rfl⟩
abbrev main_v328 : Ref sig .tc := ⟨.hbm, 362, rfl⟩
abbrev main_v329 : Ref sig .tc := ⟨.hbm, 363, rfl⟩
abbrev main_v330 : Ref sig .tc := ⟨.hbm, 364, rfl⟩
abbrev main_v331 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_v335 : Ref sig .tc := ⟨.hbm, 369, rfl⟩
abbrev main_v336 : Ref sig .tc := ⟨.hbm, 370, rfl⟩
abbrev main_v337 : Ref sig .tc := ⟨.hbm, 371, rfl⟩
abbrev main_v338 : Ref sig .tc := ⟨.hbm, 372, rfl⟩
abbrev main_v339 : Ref sig .tc := ⟨.hbm, 373, rfl⟩
abbrev main_v340 : Ref sig .tc := ⟨.hbm, 374, rfl⟩
abbrev main_v341 : Ref sig .tc := ⟨.hbm, 375, rfl⟩
abbrev main_v342 : Ref sig .tc := ⟨.hbm, 376, rfl⟩
abbrev main_v343 : Ref sig .tc := ⟨.hbm, 377, rfl⟩
abbrev main_v344 : Ref sig .tc := ⟨.hbm, 378, rfl⟩
abbrev main_v345 : Ref sig .tc := ⟨.hbm, 379, rfl⟩
abbrev main_v346 : Ref sig .tc := ⟨.hbm, 380, rfl⟩
abbrev main_v347 : Ref sig .tc := ⟨.hbm, 381, rfl⟩
abbrev main_v348 : Ref sig .tc := ⟨.hbm, 382, rfl⟩
abbrev main_v349 : Ref sig .tc := ⟨.hbm, 383, rfl⟩
abbrev main_v350 : Ref sig .tc := ⟨.hbm, 384, rfl⟩
abbrev main_v351 : Ref sig .tc := ⟨.hbm, 385, rfl⟩
abbrev main_v352 : Ref sig .tc := ⟨.hbm, 386, rfl⟩
abbrev main_c_18 : Ref sig .tc := ⟨.hbm, 387, rfl⟩
abbrev main_v353 : Ref sig .tc := ⟨.hbm, 388, rfl⟩
abbrev main_v354 : Ref sig .tc := ⟨.hbm, 389, rfl⟩
abbrev main_c_19 : Ref sig .tc := ⟨.hbm, 390, rfl⟩
abbrev main_v355 : Ref sig .tc := ⟨.hbm, 391, rfl⟩
abbrev main_v356 : Ref sig .tc := ⟨.hbm, 392, rfl⟩
abbrev main_v357 : Ref sig .tc := ⟨.hbm, 393, rfl⟩
abbrev main_v358 : Ref sig .tc := ⟨.hbm, 394, rfl⟩
abbrev main_v359 : Ref sig .tc := ⟨.hbm, 395, rfl⟩
abbrev main_v360 : Ref sig .tc := ⟨.hbm, 396, rfl⟩
abbrev main_v361 : Ref sig .tc := ⟨.hbm, 397, rfl⟩
abbrev main_v362 : Ref sig .tc := ⟨.hbm, 398, rfl⟩
abbrev main_v363 : Ref sig .tc := ⟨.hbm, 399, rfl⟩
abbrev main_v364 : Ref sig .tc := ⟨.hbm, 400, rfl⟩
abbrev main_v365 : Ref sig .tc := ⟨.hbm, 401, rfl⟩
abbrev main_v366 : Ref sig .tc := ⟨.hbm, 402, rfl⟩
abbrev main_v367 : Ref sig .tc := ⟨.hbm, 403, rfl⟩
abbrev main_v368 : Ref sig .tc := ⟨.hbm, 404, rfl⟩
abbrev main_v369 : Ref sig .tc := ⟨.hbm, 405, rfl⟩
abbrev main_v370 : Ref sig .tc := ⟨.hbm, 406, rfl⟩
abbrev main_v371 : Ref sig .tc := ⟨.hbm, 407, rfl⟩
abbrev main_v372 : Ref sig .tc := ⟨.hbm, 408, rfl⟩
abbrev main_v373 : Ref sig .tc := ⟨.hbm, 409, rfl⟩
abbrev main_v374 : Ref sig .tc := ⟨.hbm, 410, rfl⟩
abbrev main_v375 : Ref sig .tc := ⟨.hbm, 411, rfl⟩
abbrev main_v376 : Ref sig .tc := ⟨.hbm, 412, rfl⟩
abbrev main_v377 : Ref sig .tc := ⟨.hbm, 413, rfl⟩

abbrev nD : Nat := 1
abbrev τ : Topo := Topo.v7x

variable {F : FTy → Type} [FloatOps F]
-- ==== Step.lean ====
abbrev S128x256 : Shape := ⟨2, ![128, 256]⟩
abbrev S128x1024 : Shape := ⟨2, ![128, 1024]⟩
abbrev S128x30x256 : Shape := ⟨3, ![128, 30, 256]⟩
abbrev S128x15x256 : Shape := ⟨3, ![128, 15, 256]⟩
abbrev S31x256 : Shape := ⟨2, ![31, 256]⟩
abbrev S256 : Shape := ⟨1, ![256]⟩
abbrev S256x256 : Shape := ⟨2, ![256, 256]⟩
abbrev S4x64x64 : Shape := ⟨3, ![4, 64, 64]⟩
abbrev S_ : Shape := ⟨0, ![]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S30x128x256 : Shape := ⟨3, ![30, 128, 256]⟩
abbrev S15x128x256 : Shape := ⟨3, ![15, 128, 256]⟩
abbrev S1x256 : Shape := ⟨2, ![1, 256]⟩
abbrev S128x512 : Shape := ⟨2, ![128, 512]⟩
abbrev S1x128x256 : Shape := ⟨3, ![1, 128, 256]⟩
abbrev S128 : Shape := ⟨1, ![128]⟩
abbrev S128x1 : Shape := ⟨2, ![128, 1]⟩

abbrev nBuf : Space → Nat
  | .hbm => 60
  | .vmem => 16
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x1024, .f32⟩
  | .hbm, ⟨3, _⟩ => ⟨S128x30x256, .f32⟩
  | .hbm, ⟨4, _⟩ => ⟨S128x15x256, .f32⟩
  | .hbm, ⟨5, _⟩ => ⟨S31x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S4x64x64, .f32⟩
  | .hbm, ⟨12, _⟩ => ⟨S256, .f32⟩
  | .hbm, ⟨13, _⟩ => ⟨S_, .f32⟩
  | .hbm, ⟨14, _⟩ => ⟨S256x256, .f32⟩
  | .hbm, ⟨15, _⟩ => ⟨S1x64x64, .f32⟩
  | .hbm, ⟨16, _⟩ => ⟨S64x64, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S256x256, .f32⟩
  | .hbm, ⟨23, _⟩ => ⟨S1x64x64, .f32⟩
  | .hbm, ⟨24, _⟩ => ⟨S64x64, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S256x256, .f32⟩
  | .hbm, ⟨31, _⟩ => ⟨S1x64x64, .f32⟩
  | .hbm, ⟨32, _⟩ => ⟨S64x64, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S256x256, .f32⟩
  | .hbm, ⟨39, _⟩ => ⟨S1x64x64, .f32⟩
  | .hbm, ⟨40, _⟩ => ⟨S64x64, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S256x256, .f32⟩
  | .hbm, ⟨47, _⟩ => ⟨S30x128x256, .f32⟩
  | .hbm, ⟨48, _⟩ => ⟨S15x128x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S256x256, .bf16⟩
  | .hbm, ⟨53, _⟩ => ⟨S1x256, .f32⟩
  | .hbm, ⟨54, _⟩ => ⟨S256x256, .bf16⟩
  | .hbm, ⟨55, _⟩ => ⟨S1x256, .f32⟩
  | .hbm, ⟨56, _⟩ => ⟨S128x512, .f32⟩
  | .hbm, ⟨57, _⟩ => ⟨S128x512, .f32⟩
  | .hbm, ⟨58, _⟩ => ⟨S30x128x256, .f32⟩
  | .hbm, ⟨59, _⟩ => ⟨S15x128x256, .f32⟩
  | .local _ .vmem, ⟨0, _⟩ => ⟨S30x128x256, .f32⟩
  | .local _ .vmem, ⟨1, _⟩ => ⟨S15x128x256, .f32⟩
  | .local _ .vmem, ⟨2, _⟩ => ⟨S128x256, .f32⟩
  | .local _ .vmem, ⟨3, _⟩ => ⟨S128x256, .f32⟩
  | .local _ .vmem, ⟨4, _⟩ => ⟨S128x512, .f32⟩
  | .local _ .vmem, ⟨5, _⟩ => ⟨S31x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S128x512, .f32⟩
  | .local _ .vmem, ⟨14, _⟩ => ⟨S30x128x256, .f32⟩
  | .local _ .vmem, ⟨15, _⟩ => ⟨S15x128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35_0 : Ref sig .tc := ⟨.hbm, 57, rfl⟩
abbrev main_v35_1 : Ref sig .tc := ⟨.hbm, 58, rfl⟩
abbrev main_v35_2 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S30x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S30x128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S15x128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== StepReferenceIdeal.lean ====
abbrev S128x256 : Shape := ⟨2, ![128, 256]⟩
abbrev S128x1024 : Shape := ⟨2, ![128, 1024]⟩
abbrev S128x30x256 : Shape := ⟨3, ![128, 30, 256]⟩
abbrev S128x15x256 : Shape := ⟨3, ![128, 15, 256]⟩
abbrev S31x256 : Shape := ⟨2, ![31, 256]⟩
abbrev S256 : Shape := ⟨1, ![256]⟩
abbrev S256x256 : Shape := ⟨2, ![256, 256]⟩
abbrev S4x64x64 : Shape := ⟨3, ![4, 64, 64]⟩
abbrev S128x1x256 : Shape := ⟨3, ![128, 1, 256]⟩
abbrev S128x31x256 : Shape := ⟨3, ![128, 31, 256]⟩
abbrev S1x256 : Shape := ⟨2, ![1, 256]⟩
abbrev S_ : Shape := ⟨0, ![]⟩
abbrev S128 : Shape := ⟨1, ![128]⟩
abbrev S128x1 : Shape := ⟨2, ![128, 1]⟩
abbrev S128x16x256 : Shape := ⟨3, ![128, 16, 256]⟩
abbrev S128x1x64 : Shape := ⟨3, ![128, 1, 64]⟩
abbrev S128x64 : Shape := ⟨2, ![128, 64]⟩
abbrev S128x4x64 : Shape := ⟨3, ![128, 4, 64]⟩
abbrev S4x64x128 : Shape := ⟨3, ![4, 64, 128]⟩
abbrev S128x512 : Shape := ⟨2, ![128, 512]⟩
abbrev S30x128x256 : Shape := ⟨3, ![30, 128, 256]⟩
abbrev S15x128x256 : Shape := ⟨3, ![15, 128, 256]⟩

abbrev nBuf : Space → Nat
  | .hbm => 446
  | .vmem => 0
  | .smem => 0
  | _ => 0

abbrev hbmTy0_0 (i : Nat) : BufTy := match i % 128 with
  | 0 => ⟨S128x256, .f32⟩
  | 1 => ⟨S128x256, .f32⟩
  | 2 => ⟨S128x1024, .f32⟩
  | 3 => ⟨S128x30x256, .f32⟩
  | 4 => ⟨S128x15x256, .f32⟩
  | 5 => ⟨S31x256, .f32⟩
  | 6 => ⟨S256, .f32⟩
  | 7 => ⟨S256, .f32⟩
  | 8 => ⟨S256, .f32⟩
  | 9 => ⟨S256x256, .f32⟩
  | 10 => ⟨S256, .f32⟩
  | 11 => ⟨S4x64x64, .f32⟩
  | 12 => ⟨S256, .f32⟩
  | 13 => ⟨S128x1x256, .f32⟩
  | 14 => ⟨S128x31x256, .f32⟩
  | 15 => ⟨S128x1x256, .f32⟩
  | 16 => ⟨S128x256, .f32⟩
  | 17 => ⟨S1x256, .f32⟩
  | 18 => ⟨S256, .f32⟩
  | 19 => ⟨S1x256, .f32⟩
  | 20 => ⟨S128x256, .f32⟩
  | 21 => ⟨S128x256, .f32⟩
  | 22 => ⟨S_, .f32⟩
  | 23 => ⟨S128x256, .f32⟩
  | 24 => ⟨S128x256, .f32⟩
  | 25 => ⟨S128x1x256, .f32⟩
  | 26 => ⟨S128x256, .f32⟩
  | 27 => ⟨S1x256, .f32⟩
  | 28 => ⟨S256, .f32⟩
  | 29 => ⟨S1x256, .f32⟩
  | 30 => ⟨S128x256, .f32⟩
  | 31 => ⟨S128x256, .f32⟩
  | 32 => ⟨S128x256, .f32⟩
  | 33 => ⟨S128x1x256, .f32⟩
  | 34 => ⟨S128x256, .f32⟩
  | 35 => ⟨S1x256, .f32⟩
  | 36 => ⟨S256, .f32⟩
  | 37 => ⟨S1x256, .f32⟩
  | 38 => ⟨S128x256, .f32⟩
  | 39 => ⟨S128x256, .f32⟩
  | 40 => ⟨S128x256, .f32⟩
  | 41 => ⟨S128x1x256, .f32⟩
  | 42 => ⟨S128x256, .f32⟩
  | 43 => ⟨S1x256, .f32⟩
  | 44 => ⟨S256, .f32⟩
  | 45 => ⟨S1x256, .f32⟩
  | 46 => ⟨S128x256, .f32⟩
  | 47 => ⟨S128x256, .f32⟩
  | 48 => ⟨S128x256, .f32⟩
  | 49 => ⟨S128x1x256, .f32⟩
  | 50 => ⟨S128x256, .f32⟩
  | 51 => ⟨S1x256, .f32⟩
  | 52 => ⟨S256, .f32⟩
  | 53 => ⟨S1x256, .f32⟩
  | 54 => ⟨S128x256, .f32⟩
  | 55 => ⟨S128x256, .f32⟩
  | 56 => ⟨S128x256, .f32⟩
  | 57 => ⟨S128x1x256, .f32⟩
  | 58 => ⟨S128x256, .f32⟩
  | 59 => ⟨S1x256, .f32⟩
  | 60 => ⟨S256, .f32⟩
  | 61 => ⟨S1x256, .f32⟩
  | 62 => ⟨S128x256, .f32⟩
  | 63 => ⟨S128x256, .f32⟩
  | 64 => ⟨S128x256, .f32⟩
  | 65 => ⟨S128x1x256, .f32⟩
  | 66 => ⟨S128x256, .f32⟩
  | 67 => ⟨S1x256, .f32⟩
  | 68 => ⟨S256, .f32⟩
  | 69 => ⟨S1x256, .f32⟩
  | 70 => ⟨S128x256, .f32⟩
  | 71 => ⟨S128x256, .f32⟩
  | 72 => ⟨S128x256, .f32⟩
  | 73 => ⟨S128x1x256, .f32⟩
  | 74 => ⟨S128x256, .f32⟩
  | 75 => ⟨S1x256, .f32⟩
  | 76 => ⟨S256, .f32⟩
  | 77 => ⟨S1x256, .f32⟩
  | 78 => ⟨S128x256, .f32⟩
  | 79 => ⟨S128x256, .f32⟩
  | 80 => ⟨S128x256, .f32⟩
  | 81 => ⟨S128x1x256, .f32⟩
  | 82 => ⟨S128x256, .f32⟩
  | 83 => ⟨S1x256, .f32⟩
  | 84 => ⟨S256, .f32⟩
  | 85 => ⟨S1x256, .f32⟩
  | 86 => ⟨S128x256, .f32⟩
  | 87 => ⟨S128x256, .f32⟩
  | 88 => ⟨S128x256, .f32⟩
  | 89 => ⟨S128x1x256, .f32⟩
  | 90 => ⟨S128x256, .f32⟩
  | 91 => ⟨S1x256, .f32⟩
  | 92 => ⟨S256, .f32⟩
  | 93 => ⟨S1x256, .f32⟩
  | 94 => ⟨S128x256, .f32⟩
  | 95 => ⟨S128x256, .f32⟩
  | 96 => ⟨S128x256, .f32⟩
  | 97 => ⟨S128x1x256, .f32⟩
  | 98 => ⟨S128x256, .f32⟩
  | 99 => ⟨S1x256, .f32⟩
  | 100 => ⟨S256, .f32⟩
  | 101 => ⟨S1x256, .f32⟩
  | 102 => ⟨S128x256, .f32⟩
  | 103 => ⟨S128x256, .f32⟩
  | 104 => ⟨S128x256, .f32⟩
  | 105 => ⟨S128x1x256, .f32⟩
  | 106 => ⟨S128x256, .f32⟩
  | 107 => ⟨S1x256, .f32⟩
  | 108 => ⟨S256, .f32⟩
  | 109 => ⟨S1x256, .f32⟩
  | 110 => ⟨S128x256, .f32⟩
  | 111 => ⟨S128x256, .f32⟩
  | 112 => ⟨S128x256, .f32⟩
  | 113 => ⟨S128x1x256, .f32⟩
  | 114 => ⟨S128x256, .f32⟩
  | 115 => ⟨S1x256, .f32⟩
  | 116 => ⟨S256, .f32⟩
  | 117 => ⟨S1x256, .f32⟩
  | 118 => ⟨S128x256, .f32⟩
  | 119 => ⟨S128x256, .f32⟩
  | 120 => ⟨S128x256, .f32⟩
  | 121 => ⟨S128x1x256, .f32⟩
  | 122 => ⟨S128x256, .f32⟩
  | 123 => ⟨S1x256, .f32⟩
  | 124 => ⟨S256, .f32⟩
  | 125 => ⟨S1x256, .f32⟩
  | 126 => ⟨S128x256, .f32⟩
  | 127 => ⟨S128x256, .f32⟩
  | _ => ⟨S128x256, .f32⟩

abbrev hbmTy0_1 (i : Nat) : BufTy := match i % 128 with
  | 0 => ⟨S128x256, .f32⟩
  | 1 => ⟨S128x1x256, .f32⟩
  | 2 => ⟨S128x256, .f32⟩
  | 3 => ⟨S1x256, .f32⟩
  | 4 => ⟨S256, .f32⟩
  | 5 => ⟨S1x256, .f32⟩
  | 6 => ⟨S128x256, .f32⟩
  | 7 => ⟨S128x256, .f32⟩
  | 8 => ⟨S128x256, .f32⟩
  | 9 => ⟨S128x1x256, .f32⟩
  | 10 => ⟨S128x256, .f32⟩
  | 11 => ⟨S1x256, .f32⟩
  | 12 => ⟨S256, .f32⟩
  | 13 => ⟨S1x256, .f32⟩
  | 14 => ⟨S128x256, .f32⟩
  | 15 => ⟨S128x256, .f32⟩
  | 16 => ⟨S128x256, .f32⟩
  | 17 => ⟨S128x1x256, .f32⟩
  | 18 => ⟨S128x256, .f32⟩
  | 19 => ⟨S1x256, .f32⟩
  | 20 => ⟨S256, .f32⟩
  | 21 => ⟨S1x256, .f32⟩
  | 22 => ⟨S128x256, .f32⟩
  | 23 => ⟨S128x256, .f32⟩
  | 24 => ⟨S128x256, .f32⟩
  | 25 => ⟨S128x1x256, .f32⟩
  | 26 => ⟨S128x256, .f32⟩
  | 27 => ⟨S1x256, .f32⟩
  | 28 => ⟨S256, .f32⟩
  | 29 => ⟨S1x256, .f32⟩
  | 30 => ⟨S128x256, .f32⟩
  | 31 => ⟨S128x256, .f32⟩
  | 32 => ⟨S128x256, .f32⟩
  | 33 => ⟨S128x1x256, .f32⟩
  | 34 => ⟨S128x256, .f32⟩
  | 35 => ⟨S1x256, .f32⟩
  | 36 => ⟨S256, .f32⟩
  | 37 => ⟨S1x256, .f32⟩
  | 38 => ⟨S128x256, .f32⟩
  | 39 => ⟨S128x256, .f32⟩
  | 40 => ⟨S128x256, .f32⟩
  | 41 => ⟨S128x1x256, .f32⟩
  | 42 => ⟨S128x256, .f32⟩
  | 43 => ⟨S1x256, .f32⟩
  | 44 => ⟨S256, .f32⟩
  | 45 => ⟨S1x256, .f32⟩
  | 46 => ⟨S128x256, .f32⟩
  | 47 => ⟨S128x256, .f32⟩
  | 48 => ⟨S128x256, .f32⟩
  | 49 => ⟨S128x1x256, .f32⟩
  | 50 => ⟨S128x256, .f32⟩
  | 51 => ⟨S1x256, .f32⟩
  | 52 => ⟨S256, .f32⟩
  | 53 => ⟨S1x256, .f32⟩
  | 54 => ⟨S128x256, .f32⟩
  | 55 => ⟨S128x256, .f32⟩
  | 56 => ⟨S128x256, .f32⟩
  | 57 => ⟨S128x1x256, .f32⟩
  | 58 => ⟨S128x256, .f32⟩
  | 59 => ⟨S1x256, .f32⟩
  | 60 => ⟨S256, .f32⟩
  | 61 => ⟨S1x256, .f32⟩
  | 62 => ⟨S128x256, .f32⟩
  | 63 => ⟨S128x256, .f32⟩
  | 64 => ⟨S128x256, .f32⟩
  | 65 => ⟨S128x1x256, .f32⟩
  | 66 => ⟨S128x256, .f32⟩
  | 67 => ⟨S1x256, .f32⟩
  | 68 => ⟨S256, .f32⟩
  | 69 => ⟨S1x256, .f32⟩
  | 70 => ⟨S128x256, .f32⟩
  | 71 => ⟨S128x256, .f32⟩
  | 72 => ⟨S128x256, .f32⟩
  | 73 => ⟨S128x1x256, .f32⟩
  | 74 => ⟨S128x256, .f32⟩
  | 75 => ⟨S1x256, .f32⟩
  | 76 => ⟨S256, .f32⟩
  | 77 => ⟨S1x256, .f32⟩
  | 78 => ⟨S128x256, .f32⟩
  | 79 => ⟨S128x256, .f32⟩
  | 80 => ⟨S128x256, .f32⟩
  | 81 => ⟨S128x1x256, .f32⟩
  | 82 => ⟨S128x256, .f32⟩
  | 83 => ⟨S1x256, .f32⟩
  | 84 => ⟨S256, .f32⟩
  | 85 => ⟨S1x256, .f32⟩
  | 86 => ⟨S128x256, .f32⟩
  | 87 => ⟨S128x256, .f32⟩
  | 88 => ⟨S128x256, .f32⟩
  | 89 => ⟨S128x1x256, .f32⟩
  | 90 => ⟨S128x256, .f32⟩
  | 91 => ⟨S1x256, .f32⟩
  | 92 => ⟨S256, .f32⟩
  | 93 => ⟨S1x256, .f32⟩
  | 94 => ⟨S128x256, .f32⟩
  | 95 => ⟨S128x256, .f32⟩
  | 96 => ⟨S128x256, .f32⟩
  | 97 => ⟨S128x1x256, .f32⟩
  | 98 => ⟨S128x256, .f32⟩
  | 99 => ⟨S1x256, .f32⟩
  | 100 => ⟨S256, .f32⟩
  | 101 => ⟨S1x256, .f32⟩
  | 102 => ⟨S128x256, .f32⟩
  | 103 => ⟨S128x256, .f32⟩
  | 104 => ⟨S128x256, .f32⟩
  | 105 => ⟨S128x1x256, .f32⟩
  | 106 => ⟨S128x256, .f32⟩
  | 107 => ⟨S1x256, .f32⟩
  | 108 => ⟨S256, .f32⟩
  | 109 => ⟨S1x256, .f32⟩
  | 110 => ⟨S128x256, .f32⟩
  | 111 => ⟨S128x256, .f32⟩
  | 112 => ⟨S128x256, .f32⟩
  | 113 => ⟨S128x1x256, .f32⟩
  | 114 => ⟨S128x256, .f32⟩
  | 115 => ⟨S1x256, .f32⟩
  | 116 => ⟨S256, .f32⟩
  | 117 => ⟨S1x256, .f32⟩
  | 118 => ⟨S128x256, .f32⟩
  | 119 => ⟨S128x256, .f32⟩
  | 120 => ⟨S128x256, .f32⟩
  | 121 => ⟨S128x1x256, .f32⟩
  | 122 => ⟨S128x256, .f32⟩
  | 123 => ⟨S1x256, .f32⟩
  | 124 => ⟨S256, .f32⟩
  | 125 => ⟨S1x256, .f32⟩
  | 126 => ⟨S128x256, .f32⟩
  | 127 => ⟨S128x256, .f32⟩
  | _ => ⟨S128x256, .f32⟩

abbrev hbmTy0_2 (i : Nat) : BufTy := match i % 128 with
  | 0 => ⟨S128x256, .f32⟩
  | 1 => ⟨S128x1x256, .f32⟩
  | 2 => ⟨S128x256, .f32⟩
  | 3 => ⟨S1x256, .f32⟩
  | 4 => ⟨S256, .f32⟩
  | 5 => ⟨S1x256, .f32⟩
  | 6 => ⟨S128x256, .f32⟩
  | 7 => ⟨S128x256, .f32⟩
  | 8 => ⟨S128x256, .f32⟩
  | 9 => ⟨S1x256, .f32⟩
  | 10 => ⟨S128x256, .f32⟩
  | 11 => ⟨S128x256, .f32⟩
  | 12 => ⟨S_, .f32⟩
  | 13 => ⟨S128, .f32⟩
  | 14 => ⟨S128x1, .f32⟩
  | 15 => ⟨S_, .f32⟩
  | 16 => ⟨S128x1, .f32⟩
  | 17 => ⟨S128x1, .f32⟩
  | 18 => ⟨S128x256, .f32⟩
  | 19 => ⟨S128x256, .f32⟩
  | 20 => ⟨S128x256, .f32⟩
  | 21 => ⟨S_, .f32⟩
  | 22 => ⟨S128, .f32⟩
  | 23 => ⟨S128x1, .f32⟩
  | 24 => ⟨S_, .f32⟩
  | 25 => ⟨S128x1, .f32⟩
  | 26 => ⟨S128x1, .f32⟩
  | 27 => ⟨S_, .f32⟩
  | 28 => ⟨S128x1, .f32⟩
  | 29 => ⟨S128x1, .f32⟩
  | 30 => ⟨S128x1, .f32⟩
  | 31 => ⟨S128x256, .f32⟩
  | 32 => ⟨S128x256, .f32⟩
  | 33 => ⟨S1x256, .f32⟩
  | 34 => ⟨S128x256, .f32⟩
  | 35 => ⟨S128x256, .f32⟩
  | 36 => ⟨S1x256, .f32⟩
  | 37 => ⟨S128x256, .f32⟩
  | 38 => ⟨S128x256, .f32⟩
  | 39 => ⟨S128x256, .f32⟩
  | 40 => ⟨S128x256, .f32⟩
  | 41 => ⟨S_, .f32⟩
  | 42 => ⟨S128x256, .f32⟩
  | 43 => ⟨S128x256, .f32⟩
  | 44 => ⟨S_, .f32⟩
  | 45 => ⟨S128x256, .f32⟩
  | 46 => ⟨S128x256, .f32⟩
  | 47 => ⟨S128x256, .f32⟩
  | 48 => ⟨S128x256, .f32⟩
  | 49 => ⟨S1x256, .f32⟩
  | 50 => ⟨S128x256, .f32⟩
  | 51 => ⟨S128x256, .f32⟩
  | 52 => ⟨S128x1x256, .f32⟩
  | 53 => ⟨S128x16x256, .f32⟩
  | 54 => ⟨S128x1x64, .f32⟩
  | 55 => ⟨S128x64, .f32⟩
  | 56 => ⟨S_, .f32⟩
  | 57 => ⟨S128x64, .f32⟩
  | 58 => ⟨S128x64, .f32⟩
  | 59 => ⟨S128x1x64, .f32⟩
  | 60 => ⟨S128x64, .f32⟩
  | 61 => ⟨S128x64, .f32⟩
  | 62 => ⟨S_, .f32⟩
  | 63 => ⟨S128x64, .f32⟩
  | 64 => ⟨S128x64, .f32⟩
  | 65 => ⟨S128x64, .f32⟩
  | 66 => ⟨S128x64, .f32⟩
  | 67 => ⟨S128x1x64, .f32⟩
  | 68 => ⟨S128x64, .f32⟩
  | 69 => ⟨S_, .f32⟩
  | 70 => ⟨S128x64, .f32⟩
  | 71 => ⟨S128x64, .f32⟩
  | 72 => ⟨S128x1x64, .f32⟩
  | 73 => ⟨S128x64, .f32⟩
  | 74 => ⟨S128x64, .f32⟩
  | 75 => ⟨S128x1x64, .f32⟩
  | 76 => ⟨S128x64, .f32⟩
  | 77 => ⟨S128x64, .f32⟩
  | 78 => ⟨S128x1x64, .f32⟩
  | 79 => ⟨S128x64, .f32⟩
  | 80 => ⟨S128x64, .f32⟩
  | 81 => ⟨S_, .f32⟩
  | 82 => ⟨S128x64, .f32⟩
  | 83 => ⟨S128x64, .f32⟩
  | 84 => ⟨S128x64, .f32⟩
  | 85 => ⟨S128x64, .f32⟩
  | 86 => ⟨S128x1x64, .f32⟩
  | 87 => ⟨S128x64, .f32⟩
  | 88 => ⟨S_, .f32⟩
  | 89 => ⟨S128x64, .f32⟩
  | 90 => ⟨S128x64, .f32⟩
  | 91 => ⟨S128x1x64, .f32⟩
  | 92 => ⟨S128x64, .f32⟩
  | 93 => ⟨S128x64, .f32⟩
  | 94 => ⟨S128x1x64, .f32⟩
  | 95 => ⟨S128x64, .f32⟩
  | 96 => ⟨S128x64, .f32⟩
  | 97 => ⟨S128x1x64, .f32⟩
  | 98 => ⟨S128x64, .f32⟩
  | 99 => ⟨S128x64, .f32⟩
  | 100 => ⟨S128x1x64, .f32⟩
  | 101 => ⟨S128x64, .f32⟩
  | 102 => ⟨S128x64, .f32⟩
  | 103 => ⟨S128x1x64, .f32⟩
  | 104 => ⟨S128x64, .f32⟩
  | 105 => ⟨S128x64, .f32⟩
  | 106 => ⟨S128x1x64, .f32⟩
  | 107 => ⟨S128x64, .f32⟩
  | 108 => ⟨S128x64, .f32⟩
  | 109 => ⟨S128x1x64, .f32⟩
  | 110 => ⟨S128x64, .f32⟩
  | 111 => ⟨S128x64, .f32⟩
  | 112 => ⟨S_, .f32⟩
  | 113 => ⟨S128x64, .f32⟩
  | 114 => ⟨S128x64, .f32⟩
  | 115 => ⟨S128x64, .f32⟩
  | 116 => ⟨S128x64, .f32⟩
  | 117 => ⟨S128x1x64, .f32⟩
  | 118 => ⟨S128x64, .f32⟩
  | 119 => ⟨S_, .f32⟩
  | 120 => ⟨S128x64, .f32⟩
  | 121 => ⟨S128x64, .f32⟩
  | 122 => ⟨S128x1x64, .f32⟩
  | 123 => ⟨S128x64, .f32⟩
  | 124 => ⟨S128x64, .f32⟩
  | 125 => ⟨S128x1x64, .f32⟩
  | 126 => ⟨S128x64, .f32⟩
  | 127 => ⟨S128x64, .f32⟩
  | _ => ⟨S128x256, .f32⟩

abbrev hbmTy0_3 (i : Nat) : BufTy := match i % 128 with
  | 0 => ⟨S128x1x64, .f32⟩
  | 1 => ⟨S128x64, .f32⟩
  | 2 => ⟨S128x64, .f32⟩
  | 3 => ⟨S128x1x64, .f32⟩
  | 4 => ⟨S128x64, .f32⟩
  | 5 => ⟨S128x64, .f32⟩
  | 6 => ⟨S128x1x64, .f32⟩
  | 7 => ⟨S128x64, .f32⟩
  | 8 => ⟨S128x64, .f32⟩
  | 9 => ⟨S128x1x64, .f32⟩
  | 10 => ⟨S128x64, .f32⟩
  | 11 => ⟨S128x64, .f32⟩
  | 12 => ⟨S128x1x64, .f32⟩
  | 13 => ⟨S128x64, .f32⟩
  | 14 => ⟨S128x64, .f32⟩
  | 15 => ⟨S128x1x64, .f32⟩
  | 16 => ⟨S128x64, .f32⟩
  | 17 => ⟨S128x64, .f32⟩
  | 18 => ⟨S128x1x64, .f32⟩
  | 19 => ⟨S128x64, .f32⟩
  | 20 => ⟨S128x64, .f32⟩
  | 21 => ⟨S128x1x64, .f32⟩
  | 22 => ⟨S128x64, .f32⟩
  | 23 => ⟨S128x64, .f32⟩
  | 24 => ⟨S128x1x64, .f32⟩
  | 25 => ⟨S128x64, .f32⟩
  | 26 => ⟨S128x64, .f32⟩
  | 27 => ⟨S128x1x64, .f32⟩
  | 28 => ⟨S128x64, .f32⟩
  | 29 => ⟨S128x64, .f32⟩
  | 30 => ⟨S128x1x64, .f32⟩
  | 31 => ⟨S128x64, .f32⟩
  | 32 => ⟨S128x64, .f32⟩
  | 33 => ⟨S128x1x64, .f32⟩
  | 34 => ⟨S128x64, .f32⟩
  | 35 => ⟨S128x64, .f32⟩
  | 36 => ⟨S128x1x64, .f32⟩
  | 37 => ⟨S128x64, .f32⟩
  | 38 => ⟨S128x64, .f32⟩
  | 39 => ⟨S_, .f32⟩
  | 40 => ⟨S128x64, .f32⟩
  | 41 => ⟨S128x64, .f32⟩
  | 42 => ⟨S128x64, .f32⟩
  | 43 => ⟨S128x64, .f32⟩
  | 44 => ⟨S128x1x64, .f32⟩
  | 45 => ⟨S128x1x64, .f32⟩
  | 46 => ⟨S128x1x64, .f32⟩
  | 47 => ⟨S128x1x64, .f32⟩
  | 48 => ⟨S128x4x64, .f32⟩
  | 49 => ⟨S4x64x128, .f32⟩
  | 50 => ⟨S128x4x64, .f32⟩
  | 51 => ⟨S128x256, .f32⟩
  | 52 => ⟨S1x256, .f32⟩
  | 53 => ⟨S128x256, .f32⟩
  | 54 => ⟨S128x256, .f32⟩
  | 55 => ⟨S128x512, .f32⟩
  | 56 => ⟨S128x512, .f32⟩
  | 57 => ⟨S128x512, .f32⟩
  | 58 => ⟨S128x30x256, .f32⟩
  | 59 => ⟨S30x128x256, .f32⟩
  | 60 => ⟨S128x15x256, .f32⟩
  | 61 => ⟨S15x128x256, .f32⟩
  | _ => ⟨S128x256, .f32⟩

abbrev hbmTy (i : Nat) : BufTy := match i / 128 with
  | 0 => hbmTy0_0 i
  | 1 => hbmTy0_1 i
  | 2 => hbmTy0_2 i
  | 3 => hbmTy0_3 i
  | _ => ⟨S128x256, .f32⟩

abbrev bufTy : (tb : Table) → Fin (tcTables nBuf tb) → BufTy
  | .hbm, ⟨i, _⟩ => hbmTy i
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_cst_0 : Ref sig .tc := ⟨.hbm, 268, rfl⟩
abbrev main_v254 : Ref sig .tc := ⟨.hbm, 269, rfl⟩
abbrev main_v255 : Ref sig .tc := ⟨.hbm, 270, rfl⟩
abbrev main_cst_1 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_cst_2 : Ref sig .tc := ⟨.hbm, 277, rfl⟩
abbrev main_v261 : Ref sig .tc := ⟨.hbm, 278, rfl⟩
abbrev main_v262 : Ref sig .tc := ⟨.hbm, 279, rfl⟩
abbrev main_cst_3 : Ref sig .tc := ⟨.hbm, 280, rfl⟩
abbrev main_v263 : Ref sig .tc := ⟨.hbm, 281, rfl⟩
abbrev main_v264 : Ref sig .tc := ⟨.hbm, 282, rfl⟩
abbrev main_cst_4 : Ref sig .tc := ⟨.hbm, 283, rfl⟩
abbrev main_v265 : Ref sig .tc := ⟨.hbm, 284, rfl⟩
abbrev main_v266 : Ref sig .tc := ⟨.hbm, 285, rfl⟩
abbrev main_v267 : Ref sig .tc := ⟨.hbm, 286, rfl⟩
abbrev main_v268 : Ref sig .tc := ⟨.hbm, 287, rfl⟩
abbrev main_v269 : Ref sig .tc := ⟨.hbm, 288, rfl⟩
abbrev main_v270 : Ref sig .tc := ⟨.hbm, 289, rfl⟩
abbrev main_v271 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_v276 : Ref sig .tc := ⟨.hbm, 295, rfl⟩
abbrev main_v277 : Ref sig .tc := ⟨.hbm, 296, rfl⟩
abbrev main_cst_5 : Ref sig .tc := ⟨.hbm, 297, rfl⟩
abbrev main_v278 : Ref sig .tc := ⟨.hbm, 298, rfl⟩
abbrev main_v279 : Ref sig .tc := ⟨.hbm, 299, rfl⟩
abbrev main_cst_6 : Ref sig .tc := ⟨.hbm, 300, rfl⟩
abbrev main_v280 : Ref sig .tc := ⟨.hbm, 301, rfl⟩
abbrev main_v281 : Ref sig .tc := ⟨.hbm, 302, rfl⟩
abbrev main_v282 : Ref sig .tc := ⟨.hbm, 303, rfl⟩
abbrev main_v283 : Ref sig .tc := ⟨.hbm, 304, rfl⟩
abbrev main_v284 : Ref sig .tc := ⟨.hbm, 305, rfl⟩
abbrev main_v285 : Ref sig .tc := ⟨.hbm, 306, rfl⟩
abbrev main_v286 : Ref sig .tc := ⟨.hbm, 307, rfl⟩
abbrev main_v287 : Ref sig .tc := ⟨.hbm, 308, rfl⟩
abbrev main_v288 : Ref sig .tc := ⟨.hbm, 309, rfl⟩
abbrev main_v289 : Ref sig .tc := ⟨.hbm, 310, rfl⟩
abbrev main_v290 : Ref sig .tc := ⟨.hbm, 311, rfl⟩
abbrev main_cst_7 : Ref sig .tc := ⟨.hbm, 312, rfl⟩
abbrev main_v291 : Ref sig .tc := ⟨.hbm, 313, rfl⟩
abbrev main_v292 : Ref sig .tc := ⟨.hbm, 314, rfl⟩
abbrev main_v293 : Ref sig .tc := ⟨.hbm, 315, rfl⟩
abbrev main_v294 : Ref sig .tc := ⟨.hbm, 316, rfl⟩
abbrev main_v295 : Ref sig .tc := ⟨.hbm, 317, rfl⟩
abbrev main_cst_8 : Ref sig .tc := ⟨.hbm, 318, rfl⟩
abbrev main_v296 : Ref sig .tc := ⟨.hbm, 319, rfl⟩
abbrev main_v297 : Ref sig .tc := ⟨.hbm, 320, rfl⟩
abbrev main_v298 : Ref sig .tc := ⟨.hbm, 321, rfl⟩
abbrev main_v299 : Ref sig .tc := ⟨.hbm, 322, rfl⟩
abbrev main_v300 : Ref sig .tc := ⟨.hbm, 323, rfl⟩
abbrev main_v301 : Ref sig .tc := ⟨.hbm, 324, rfl⟩
abbrev main_cst_9 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_v309 : Ref sig .tc := ⟨.hbm, 333, rfl⟩
abbrev main_v310 : Ref sig .tc := ⟨.hbm, 334, rfl⟩
abbrev main_v311 : Ref sig .tc := ⟨.hbm, 335, rfl⟩
abbrev main_v312 : Ref sig .tc := ⟨.hbm, 336, rfl⟩
abbrev main_cst_10 : Ref sig .tc := ⟨.hbm, 337, rfl⟩
abbrev main_v313 : Ref sig .tc := ⟨.hbm, 338, rfl⟩
abbrev main_v314 : Ref sig .tc := ⟨.hbm, 339, rfl⟩
abbrev main_v315 : Ref sig .tc := ⟨.hbm, 340, rfl⟩
abbrev main_v316 : Ref sig .tc := ⟨.hbm, 341, rfl⟩
abbrev main_v317 : Ref sig .tc := ⟨.hbm, 342, rfl⟩
abbrev main_v318 : Ref sig .tc := ⟨.hbm, 343, rfl⟩
abbrev main_cst_11 : Ref sig .tc := ⟨.hbm, 344, rfl⟩
abbrev main_v319 : Ref sig .tc := ⟨.hbm, 345, rfl⟩
abbrev main_v320 : Ref sig .tc := ⟨.hbm, 346, rfl⟩
abbrev main_v321 : Ref sig .tc := ⟨.hbm, 347, rfl⟩
abbrev main_v322 : Ref sig .tc := ⟨.hbm, 348, rfl⟩
abbrev main_v323 : Ref sig .tc := ⟨.hbm, 349, rfl⟩
abbrev main_v324 : Ref sig .tc := ⟨.hbm, 350, rfl⟩
abbrev main_v325 : Ref sig .tc := ⟨.hbm, 351, rfl⟩
abbrev main_v326 : Ref sig .tc := ⟨.hbm, 352, rfl⟩
abbrev main_v327 : Ref sig .tc := ⟨.hbm, 353, rfl⟩
abbrev main_v328 : Ref sig .tc := ⟨.hbm, 354, rfl⟩
abbrev main_v329 : Ref sig .tc := ⟨.hbm, 355, rfl⟩
abbrev main_v330 : Ref sig .tc := ⟨.hbm, 356, rfl⟩
abbrev main_v331 : Ref sig .tc := ⟨.hbm, 357, rfl⟩
abbrev main_v332 : Ref sig .tc := ⟨.hbm, 358, rfl⟩
abbrev main_v333 : Ref sig .tc := ⟨.hbm, 359, rfl⟩
abbrev main_v334 : Ref sig .tc := ⟨.hbm, 360, rfl⟩
abbrev main_v335 : Ref sig .tc := ⟨.hbm, 361, rfl⟩
abbrev main_v336 : Ref sig .tc := ⟨.hbm, 362, rfl⟩
abbrev main_v337 : Ref sig .tc := ⟨.hbm, 363, rfl⟩
abbrev main_v338 : Ref sig .tc := ⟨.hbm, 364, rfl⟩
abbrev main_v339 : Ref sig .tc := ⟨.hbm, 365, rfl⟩
abbrev main_v340 : Ref sig .tc := ⟨.hbm, 366, rfl⟩
abbrev main_v341 : Ref sig .tc := ⟨.hbm, 367, rfl⟩
abbrev main_cst_12 : Ref sig .tc := ⟨.hbm, 368, rfl⟩
abbrev main_v342 : Ref sig .tc := ⟨.hbm, 369, rfl⟩
abbrev main_v343 : Ref sig .tc := ⟨.hbm, 370, rfl⟩
abbrev main_v344 : Ref sig .tc := ⟨.hbm, 371, rfl⟩
abbrev main_v345 : Ref sig .tc := ⟨.hbm, 372, rfl⟩
abbrev main_v346 : Ref sig .tc := ⟨.hbm, 373, rfl⟩
abbrev main_v347 : Ref sig .tc := ⟨.hbm, 374, rfl⟩
abbrev main_cst_13 : Ref sig .tc := ⟨.hbm, 375, rfl⟩
abbrev main_v348 : Ref sig .tc := ⟨.hbm, 376, rfl⟩
abbrev main_v349 : Ref sig .tc := ⟨.hbm, 377, rfl⟩
abbrev main_v350 : Ref sig .tc := ⟨.hbm, 378, rfl⟩
abbrev main_v351 : Ref sig .tc := ⟨.hbm, 379, rfl⟩
abbrev main_v352 : Ref sig .tc := ⟨.hbm, 380, rfl⟩
abbrev main_v353 : Ref sig .tc := ⟨.hbm, 381, rfl⟩
abbrev main_v354 : Ref sig .tc := ⟨.hbm, 382, rfl⟩
abbrev main_v355 : Ref sig .tc := ⟨.hbm, 383, rfl⟩
abbrev main_v356 : Ref sig .tc := ⟨.hbm, 384, rfl⟩
abbrev main_v357 : Ref sig .tc := ⟨.hbm, 385, rfl⟩
abbrev main_v358 : Ref sig .tc := ⟨.hbm, 386, rfl⟩
abbrev main_v359 : Ref sig .tc := ⟨.hbm, 387, rfl⟩
abbrev main_v360 : Ref sig .tc := ⟨.hbm, 388, rfl⟩
abbrev main_v361 : Ref sig .tc := ⟨.hbm, 389, rfl⟩
abbrev main_v362 : Ref sig .tc := ⟨.hbm, 390, rfl⟩
abbrev main_v363 : Ref sig .tc := ⟨.hbm, 391, rfl⟩
abbrev main_v364 : Ref sig .tc := ⟨.hbm, 392, rfl⟩
abbrev main_v365 : Ref sig .tc := ⟨.hbm, 393, rfl⟩
abbrev main_v366 : Ref sig .tc := ⟨.hbm, 394, rfl⟩
abbrev main_v367 : Ref sig .tc := ⟨.hbm, 395, rfl⟩
abbrev main_v368 : Ref sig .tc := ⟨.hbm, 396, rfl⟩
abbrev main_v369 : Ref sig .tc := ⟨.hbm, 397, rfl⟩
abbrev main_v370 : Ref sig .tc := ⟨.hbm, 398, rfl⟩
abbrev main_v371 : Ref sig .tc := ⟨.hbm, 399, rfl⟩
abbrev main_v372 : Ref sig .tc := ⟨.hbm, 400, rfl⟩
abbrev main_v373 : Ref sig .tc := ⟨.hbm, 401, rfl⟩
abbrev main_v374 : Ref sig .tc := ⟨.hbm, 402, rfl⟩
abbrev main_v375 : Ref sig .tc := ⟨.hbm, 403, rfl⟩
abbrev main_v376 : Ref sig .tc := ⟨.hbm, 404, rfl⟩
abbrev main_v377 : Ref sig .tc := ⟨.hbm, 405, rfl⟩
abbrev main_v378 : Ref sig .tc := ⟨.hbm, 406, rfl⟩
abbrev main_v379 : Ref sig .tc := ⟨.hbm, 407, rfl⟩
abbrev main_v380 : Ref sig .tc := ⟨.hbm, 408, rfl⟩
abbrev main_v381 : Ref sig .tc := ⟨.hbm, 409, rfl⟩
abbrev main_v382 : Ref sig .tc := ⟨.hbm, 410, rfl⟩
abbrev main_v383 : Ref sig .tc := ⟨.hbm, 411, rfl⟩
abbrev main_v384 : Ref sig .tc := ⟨.hbm, 412, rfl⟩
abbrev main_v385 : Ref sig .tc := ⟨.hbm, 413, rfl⟩
abbrev main_v386 : Ref sig .tc := ⟨.hbm, 414, rfl⟩
abbrev main_v387 : Ref sig .tc := ⟨.hbm, 415, rfl⟩
abbrev main_v388 : Ref sig .tc := ⟨.hbm, 416, rfl⟩
abbrev main_v389 : Ref sig .tc := ⟨.hbm, 417, rfl⟩
abbrev main_v390 : Ref sig .tc := ⟨.hbm, 418, rfl⟩
abbrev main_v391 : Ref sig .tc := ⟨.hbm, 419, rfl⟩
abbrev main_v392 : Ref sig .tc := ⟨.hbm, 420, rfl⟩
abbrev main_v393 : Ref sig .tc := ⟨.hbm, 421, rfl⟩
abbrev main_v394 : Ref sig .tc := ⟨.hbm, 422, rfl⟩
abbrev main_cst_14 : Ref sig .tc := ⟨.hbm, 423, rfl⟩
abbrev main_v395 : Ref sig .tc := ⟨.hbm, 424, rfl⟩
abbrev main_v396 : Ref sig .tc := ⟨.hbm, 425, rfl⟩
abbrev main_v397 : Ref sig .tc := ⟨.hbm, 426, rfl⟩
abbrev main_v398 : Ref sig .tc := ⟨.hbm, 427, rfl⟩
abbrev main_v399 : Ref sig .tc := ⟨.hbm, 428, rfl⟩
abbrev main_v400 : Ref sig .tc := ⟨.hbm, 429, rfl⟩
abbrev main_v401 : Ref sig .tc := ⟨.hbm, 430, rfl⟩
abbrev main_v402 : Ref sig .tc := ⟨.hbm, 431, rfl⟩
abbrev main_v403 : Ref sig .tc := ⟨.hbm, 432, rfl⟩
abbrev main_v404 : Ref sig .tc := ⟨.hbm, 433, rfl⟩
abbrev main_v405 : Ref sig .tc := ⟨.hbm, 434, rfl⟩
abbrev main_v406 : Ref sig .tc := ⟨.hbm, 435, rfl⟩
abbrev main_v407 : Ref sig .tc := ⟨.hbm, 436, rfl⟩
abbrev main_v408 : Ref sig .tc := ⟨.hbm, 437, rfl⟩
abbrev main_v409 : Ref sig .tc := ⟨.hbm, 438, rfl⟩
abbrev main_v410 : Ref sig .tc := ⟨.hbm, 439, rfl⟩
abbrev main_v411 : Ref sig .tc := ⟨.hbm, 440, rfl⟩
abbrev main_v412 : Ref sig .tc := ⟨.hbm, 441, rfl⟩
abbrev main_v413 : Ref sig .tc := ⟨.hbm, 442, rfl⟩
abbrev main_v414 : Ref sig .tc := ⟨.hbm, 443, rfl⟩
abbrev main_v415 : Ref sig .tc := ⟨.hbm, 444, rfl⟩
abbrev main_v416 : Ref sig .tc := ⟨.hbm, 445, rfl⟩

abbrev nD : Nat := 1
abbrev τ : Topo := Topo.v7x

variable {F : FTy → Type} [FloatOps F]
-- ==== Fresh.lean ====
abbrev S1x128x1024 : Shape := ⟨3, ![1, 128, 1024]⟩
abbrev S1024 : Shape := ⟨1, ![1024]⟩
abbrev S1024x3096 : Shape := ⟨2, ![1024, 3096]⟩
abbrev S64 : Shape := ⟨1, ![64]⟩
abbrev S3x64 : Shape := ⟨2, ![3, 64]⟩
abbrev S2x1x256x128 : Shape := ⟨4, ![2, 1, 256, 128]⟩
abbrev S1024x256 : Shape := ⟨2, ![1024, 256]⟩
abbrev S1024x512 : Shape := ⟨2, ![1024, 512]⟩
abbrev S1024x768 : Shape := ⟨2, ![1024, 768]⟩
abbrev S1024x24 : Shape := ⟨2, ![1024, 24]⟩
abbrev S_ : Shape := ⟨0, ![]⟩
abbrev S1024x8 : Shape := ⟨2, ![1024, 8]⟩
abbrev S1024x1792 : Shape := ⟨2, ![1024, 1792]⟩
abbrev S1024x1312 : Shape := ⟨2, ![1024, 1312]⟩
abbrev S1312x1024 : Shape := ⟨2, ![1312, 1024]⟩
abbrev S3x1x64 : Shape := ⟨3, ![3, 1, 64]⟩
abbrev S3x2x64 : Shape := ⟨3, ![3, 2, 64]⟩
abbrev S3x4x64 : Shape := ⟨3, ![3, 4, 64]⟩
abbrev S8x64 : Shape := ⟨2, ![8, 64]⟩
abbrev S512 : Shape := ⟨1, ![512]⟩
abbrev S768 : Shape := ⟨1, ![768]⟩
abbrev S1280 : Shape := ⟨1, ![1280]⟩
abbrev S1280x1 : Shape := ⟨2, ![1280, 1]⟩
abbrev S128 : Shape := ⟨1, ![128]⟩
abbrev S8 : Shape := ⟨1, ![8]⟩
abbrev S128x1 : Shape := ⟨2, ![128, 1]⟩
abbrev S1x8 : Shape := ⟨2, ![1, 8]⟩
abbrev S128x8 : Shape := ⟨2, ![128, 8]⟩
abbrev S8x128 : Shape := ⟨2, ![8, 128]⟩
abbrev S1x1024 : Shape := ⟨2, ![1, 1024]⟩
abbrev S1x128x256 : Shape := ⟨3, ![1, 128, 256]⟩
abbrev S1x32x128 : Shape := ⟨3, ![1, 32, 128]⟩
abbrev S1x512x128 : Shape := ⟨3, ![1, 512, 128]⟩
abbrev S1x1x256x128 : Shape := ⟨4, ![1, 1, 256, 128]⟩
abbrev S128x1024 : Shape := ⟨2, ![128, 1024]⟩
abbrev S128x1792 : Shape := ⟨2, ![128, 1792]⟩
abbrev S128x256 : Shape := ⟨2, ![128, 256]⟩
abbrev S1312x128 : Shape := ⟨2, ![1312, 128]⟩
abbrev S32x128 : Shape := ⟨2, ![32, 128]⟩
abbrev S64x128 : Shape := ⟨2, ![64, 128]⟩
abbrev S1x128 : Shape := ⟨2, ![1, 128]⟩
abbrev S64x1 : Shape := ⟨2, ![64, 1]⟩
abbrev S48x128 : Shape := ⟨2, ![48, 128]⟩
abbrev S1x64x128 : Shape := ⟨3, ![1, 64, 128]⟩
abbrev S1x1x64x128 : Shape := ⟨4, ![1, 1, 64, 128]⟩

abbrev nBuf : Space → Nat
  | .hbm => 66
  | .vmem => 15
  | .smem => 0
  | _ => 0

abbrev bufTy : (tb : Table) → Fin (tcTables nBuf tb) → BufTy
  | .hbm, ⟨0, _⟩ => ⟨S1x128x1024, .f32⟩
  | .hbm, ⟨1, _⟩ => ⟨S1024, .f32⟩
  | .hbm, ⟨2, _⟩ => ⟨S1024x3096, .f32⟩
  | .hbm, ⟨3, _⟩ => ⟨S64, .f32⟩
  | .hbm, ⟨4, _⟩ => ⟨S3x64, .f32⟩
  | .hbm, ⟨5, _⟩ => ⟨S2x1x256x128, .f32⟩
  | .hbm, ⟨6, _⟩ => ⟨S2x1x256x128, .f32⟩
  | .hbm, ⟨7, _⟩ => ⟨S2x1x256x128, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x512, .f32⟩
  | .hbm, ⟨14, _⟩ => ⟨S1024x768, .f32⟩
  | .hbm, ⟨15, _⟩ => ⟨S1024x24, .f32⟩
  | .hbm, ⟨16, _⟩ => ⟨S1024x512, .f32⟩
  | .hbm, ⟨17, _⟩ => ⟨S_, .f32⟩
  | .hbm, ⟨18, _⟩ => ⟨S1024x8, .f32⟩
  | .hbm, ⟨19, _⟩ => ⟨S1024x1792, .f32⟩
  | .hbm, ⟨20, _⟩ => ⟨S1024x1792, .bf16⟩
  | .hbm, ⟨21, _⟩ => ⟨S1024x1312, .f32⟩
  | .hbm, ⟨22, _⟩ => ⟨S1312x1024, .f32⟩
  | .hbm, ⟨23, _⟩ => ⟨S1312x1024, .bf16⟩
  | .hbm, ⟨24, _⟩ => ⟨S3x1x64, .f32⟩
  | .hbm, ⟨25, _⟩ => ⟨S3x2x64, .f32⟩
  | .hbm, ⟨26, _⟩ => ⟨S_, .f32⟩
  | .hbm, ⟨27, _⟩ => ⟨S3x2x64, .f32⟩
  | .hbm, ⟨28, _⟩ => ⟨S3x4x64, .f32⟩
  | .hbm, ⟨29, _⟩ => ⟨S8x64, .f32⟩
  | .hbm, ⟨30, _⟩ => ⟨S512, .f32⟩
  | .hbm, ⟨31, _⟩ => ⟨S768, .f32⟩
  | .hbm, ⟨32, _⟩ => ⟨S1280, .f32⟩
  | .hbm, ⟨33, _⟩ => ⟨S1280x1, .f32⟩
  | .hbm, ⟨34, _⟩ => ⟨S_, .i32⟩
  | .hbm, ⟨35, _⟩ => ⟨S128, .i32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S128, .f32⟩
  | .hbm, ⟨48, _⟩ => ⟨S128x1, .f32⟩
  | .hbm, ⟨49, _⟩ => ⟨S1x8, .f32⟩
  | .hbm, ⟨50, _⟩ => ⟨S128x8, .f32⟩
  | .hbm, ⟨51, _⟩ => ⟨S128x8, .f32⟩
  | .hbm, ⟨52, _⟩ => ⟨S128x8, .f32⟩
  | .hbm, ⟨53, _⟩ => ⟨S128x8, .f32⟩
  | .hbm, ⟨54, _⟩ => ⟨S8x128, .f32⟩
  | .hbm, ⟨55, _⟩ => ⟨S128x8, .f32⟩
  | .hbm, ⟨56, _⟩ => ⟨S8x128, .f32⟩
  | .hbm, ⟨57, _⟩ => ⟨S1x1024, .f32⟩
  | .hbm, ⟨58, _⟩ => ⟨S1x128x256, .f32⟩
  | .hbm, ⟨59, _⟩ => ⟨S1x128x256, .f32⟩
  | .hbm, ⟨60, _⟩ => ⟨S1x128x1024, .f32⟩
  | .hbm, ⟨61, _⟩ => ⟨S1x32x128, .f32⟩
  | .hbm, ⟨62, _⟩ => ⟨S1x512x128, .f32⟩
  | .hbm, ⟨63, _⟩ => ⟨S2x1x256x128, .f32⟩
  | .hbm, ⟨64, _⟩ => ⟨S2x1x256x128, .f32⟩
  | .hbm, ⟨65, _⟩ => ⟨S2x1x256x128, .f32⟩
  | .local _ .vmem, ⟨0, _⟩ => ⟨S1x128x1024, .f32⟩
  | .local _ .vmem, ⟨1, _⟩ => ⟨S1x1024, .f32⟩
  | .local _ .vmem, ⟨2, _⟩ => ⟨S1024x1792, .bf16⟩
  | .local _ .vmem, ⟨3, _⟩ => ⟨S1312x1024, .bf16⟩
  | .local _ .vmem, ⟨4, _⟩ => ⟨S1280x1, .f32⟩
  | .local _ .vmem, ⟨5, _⟩ => ⟨S8x128, .f32⟩
  | .local _ .vmem, ⟨6, _⟩ => ⟨S8x128, .f32⟩
  | .local _ .vmem, ⟨7, _⟩ => ⟨S1x128x256, .f32⟩
  | .local _ .vmem, ⟨8, _⟩ => ⟨S1x128x256, .f32⟩
  | .local _ .vmem, ⟨9, _⟩ => ⟨S1x128x1024, .f32⟩
  | .local _ .vmem, ⟨10, _⟩ => ⟨S1x32x128, .f32⟩
  | .local _ .vmem, ⟨11, _⟩ => ⟨S1x512x128, .f32⟩
  | .local _ .vmem, ⟨12, _⟩ => ⟨S1x1x256x128, .f32⟩
  | .local _ .vmem, ⟨13, _⟩ => ⟨S1x1x256x128, .f32⟩
  | .local _ .vmem, ⟨14, _⟩ => ⟨S1x1x256x128, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44_0 : Ref sig .tc := ⟨.hbm, 58, rfl⟩
abbrev main_v44_1 : Ref sig .tc := ⟨.hbm, 59, rfl⟩
abbrev main_v44_2 : Ref sig .tc := ⟨.hbm, 60, rfl⟩
abbrev main_v44_3 : Ref sig .tc := ⟨.hbm, 61, rfl⟩
abbrev main_v44_4 : Ref sig .tc := ⟨.hbm, 62, rfl⟩
abbrev main_v44_5 : Ref sig .tc := ⟨.hbm, 63, rfl⟩
abbrev main_v44_6 : Ref sig .tc := ⟨.hbm, 64, rfl⟩
abbrev main_v44_7 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_16 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_17 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1312x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1280x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x1x256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x1x256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x1x256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]
-- ==== FreshReferenceIdeal.lean ====
abbrev S1x128x1024 : Shape := ⟨3, ![1, 128, 1024]⟩
abbrev S1024 : Shape := ⟨1, ![1024]⟩
abbrev S1024x3096 : Shape := ⟨2, ![1024, 3096]⟩
abbrev S64 : Shape := ⟨1, ![64]⟩
abbrev S3x64 : Shape := ⟨2, ![3, 64]⟩
abbrev S2x1x256x128 : Shape := ⟨4, ![2, 1, 256, 128]⟩
abbrev S_ : Shape := ⟨0, ![]⟩
abbrev S128 : Shape := ⟨1, ![128]⟩
abbrev S1x128 : Shape := ⟨2, ![1, 128]⟩
abbrev S1x128x1 : Shape := ⟨3, ![1, 128, 1]⟩
abbrev S1x1x1024 : Shape := ⟨3, ![1, 1, 1024]⟩
abbrev S1x128x3096 : Shape := ⟨3, ![1, 128, 3096]⟩
abbrev S1x128x256 : Shape := ⟨3, ![1, 128, 256]⟩
abbrev S1x128x512 : Shape := ⟨3, ![1, 128, 512]⟩
abbrev S1x128x768 : Shape := ⟨3, ![1, 128, 768]⟩
abbrev S1x128x24 : Shape := ⟨3, ![1, 128, 24]⟩
abbrev S1x128x8x64 : Shape := ⟨4, ![1, 128, 8, 64]⟩
abbrev S1x128x8 : Shape := ⟨3, ![1, 128, 8]⟩
abbrev S1x128x8x1 : Shape := ⟨4, ![1, 128, 8, 1]⟩
abbrev S1x1x1x64 : Shape := ⟨4, ![1, 1, 1, 64]⟩
abbrev S8 : Shape := ⟨1, ![8]⟩
abbrev S128x1 : Shape := ⟨2, ![128, 1]⟩
abbrev S1x8 : Shape := ⟨2, ![1, 8]⟩
abbrev S128x8 : Shape := ⟨2, ![128, 8]⟩
abbrev S128x1x8 : Shape := ⟨3, ![128, 1, 8]⟩
abbrev S1x128x8x8 : Shape := ⟨4, ![1, 128, 8, 8]⟩
abbrev S1x128x1x8 : Shape := ⟨4, ![1, 128, 1, 8]⟩
abbrev S1x128x8x48 : Shape := ⟨4, ![1, 128, 8, 48]⟩
abbrev S1x128x3x2x2x64 : Shape := ⟨6, ![1, 128, 3, 2, 2, 64]⟩
abbrev S1x128x3x1x2x64 : Shape := ⟨6, ![1, 128, 3, 1, 2, 64]⟩
abbrev S1x128x3x2x64 : Shape := ⟨5, ![1, 128, 3, 2, 64]⟩
abbrev S3x1x64 : Shape := ⟨3, ![3, 1, 64]⟩
abbrev S1x128x3x2 : Shape := ⟨4, ![1, 128, 3, 2]⟩
abbrev S1x128x3x2x1 : Shape := ⟨5, ![1, 128, 3, 2, 1]⟩
abbrev S1x1x3x1x64 : Shape := ⟨5, ![1, 1, 3, 1, 64]⟩
abbrev S128x1x1x8 : Shape := ⟨4, ![128, 1, 1, 8]⟩
abbrev S1x128x3x2x8 : Shape := ⟨5, ![1, 128, 3, 2, 8]⟩
abbrev S1x128x1x1x8 : Shape := ⟨5, ![1, 128, 1, 1, 8]⟩
abbrev S1x128x3x2x48 : Shape := ⟨5, ![1, 128, 3, 2, 48]⟩
abbrev S1x8x128 : Shape := ⟨3, ![1, 8, 128]⟩
abbrev S1x1x256x128 : Shape := ⟨4, ![1, 1, 256, 128]⟩
abbrev S1x128x1x2x2x64 : Shape := ⟨6, ![1, 128, 1, 2, 2, 64]⟩
abbrev S1x128x2x2x64 : Shape := ⟨5, ![1, 128, 2, 2, 64]⟩
abbrev S1x256x128 : Shape := ⟨3, ![1, 256, 128]⟩
abbrev S1x24x128 : Shape := ⟨3, ![1, 24, 128]⟩
abbrev S1x32x128 : Shape := ⟨3, ![1, 32, 128]⟩
abbrev S1x512x128 : Shape := ⟨3, ![1, 512, 128]⟩

abbrev nBuf : Space → Nat
  | .hbm => 228
  | .vmem => 0
  | .smem => 0
  | _ => 0

abbrev hbmTy0_0 (i : Nat) : BufTy := match i % 128 with
  | 0 => ⟨S1x128x1024, .f32⟩
  | 1 => ⟨S1024, .f32⟩
  | 2 => ⟨S1024x3096, .f32⟩
  | 3 => ⟨S64, .f32⟩
  | 4 => ⟨S3x64, .f32⟩
  | 5 => ⟨S2x1x256x128, .f32⟩
  | 6 => ⟨S2x1x256x128, .f32⟩
  | 7 => ⟨S2x1x256x128, .f32⟩
  | 8 => ⟨S_, .i32⟩
  | 9 => ⟨S128, .i32⟩
  | 10 => ⟨S1x128x1024, .f32⟩
  | 11 => ⟨S_, .f32⟩
  | 12 => ⟨S1x128, .f32⟩
  | 13 => ⟨S1x128x1, .f32⟩
  | 14 => ⟨S_, .f32⟩
  | 15 => ⟨S1x128x1, .f32⟩
  | 16 => ⟨S1x128x1, .f32⟩
  | 17 => ⟨S_, .f32⟩
  | 18 => ⟨S1x128x1, .f32⟩
  | 19 => ⟨S1x128x1, .f32⟩
  | 20 => ⟨S1x128x1, .f32⟩
  | 21 => ⟨S1x128x1024, .f32⟩
  | 22 => ⟨S1x128x1024, .f32⟩
  | 23 => ⟨S1x1x1024, .f32⟩
  | 24 => ⟨S1x128x1024, .f32⟩
  | 25 => ⟨S1x128x1024, .f32⟩
  | 26 => ⟨S1x128x3096, .f32⟩
  | 27 => ⟨S1x128x256, .f32⟩
  | 28 => ⟨S1x128x256, .f32⟩
  | 29 => ⟨S1x128x256, .f32⟩
  | 30 => ⟨S1x128x256, .f32⟩
  | 31 => ⟨S1x128x256, .f32⟩
  | 32 => ⟨S1x128x512, .f32⟩
  | 33 => ⟨S1x128x768, .f32⟩
  | 34 => ⟨S1x128x24, .f32⟩
  | 35 => ⟨S1x128x512, .f32⟩
  | 36 => ⟨S1x128x8x64, .f32⟩
  | 37 => ⟨S1x128x8x64, .f32⟩
  | 38 => ⟨S_, .f32⟩
  | 39 => ⟨S1x128x8, .f32⟩
  | 40 => ⟨S1x128x8x1, .f32⟩
  | 41 => ⟨S_, .f32⟩
  | 42 => ⟨S1x128x8x1, .f32⟩
  | 43 => ⟨S1x128x8x1, .f32⟩
  | 44 => ⟨S_, .f32⟩
  | 45 => ⟨S1x128x8x1, .f32⟩
  | 46 => ⟨S1x128x8x1, .f32⟩
  | 47 => ⟨S1x128x8x1, .f32⟩
  | 48 => ⟨S1x128x8x64, .f32⟩
  | 49 => ⟨S1x128x8x64, .f32⟩
  | 50 => ⟨S1x1x1x64, .f32⟩
  | 51 => ⟨S1x128x8x64, .f32⟩
  | 52 => ⟨S1x128x8x64, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S128, .f32⟩
  | 65 => ⟨S128x1, .f32⟩
  | 66 => ⟨S1x8, .f32⟩
  | 67 => ⟨S128x8, .f32⟩
  | 68 => ⟨S128x8, .f32⟩
  | 69 => ⟨S128x8, .f32⟩
  | 70 => ⟨S128x8, .f32⟩
  | 71 => ⟨S128x1x8, .f32⟩
  | 72 => ⟨S128x8, .f32⟩
  | 73 => ⟨S128x1x8, .f32⟩
  | 74 => ⟨S1x128x8x8, .f32⟩
  | 75 => ⟨S1x128x8x8, .f32⟩
  | 76 => ⟨S1x128x1x8, .f32⟩
  | 77 => ⟨S1x128x8x8, .f32⟩
  | 78 => ⟨S1x128x8x8, .f32⟩
  | 79 => ⟨S1x128x1x8, .f32⟩
  | 80 => ⟨S1x128x8x8, .f32⟩
  | 81 => ⟨S1x128x8x8, .f32⟩
  | 82 => ⟨S1x128x8x8, .f32⟩
  | 83 => ⟨S1x128x1x8, .f32⟩
  | 84 => ⟨S1x128x8x8, .f32⟩
  | 85 => ⟨S1x128x8x8, .f32⟩
  | 86 => ⟨S1x128x1x8, .f32⟩
  | 87 => ⟨S1x128x8x8, .f32⟩
  | 88 => ⟨S1x128x8x8, .f32⟩
  | 89 => ⟨S1x128x8x8, .f32⟩
  | 90 => ⟨S1x128x8x48, .f32⟩
  | 91 => ⟨S1x128x8x64, .f32⟩
  | 92 => ⟨S1x128x3x2x2x64, .f32⟩
  | 93 => ⟨S1x128x3x1x2x64, .f32⟩
  | 94 => ⟨S1x128x3x2x64, .f32⟩
  | 95 => ⟨S3x1x64, .f32⟩
  | 96 => ⟨S1x128x3x2x64, .f32⟩
  | 97 => ⟨S_, .f32⟩
  | 98 => ⟨S1x128x3x2, .f32⟩
  | 99 => ⟨S1x128x3x2x1, .f32⟩
  | 100 => ⟨S_, .f32⟩
  | 101 => ⟨S1x128x3x2x1, .f32⟩
  | 102 => ⟨S1x128x3x2x1, .f32⟩
  | 103 => ⟨S_, .f32⟩
  | 104 => ⟨S1x128x3x2x1, .f32⟩
  | 105 => ⟨S1x128x3x2x1, .f32⟩
  | 106 => ⟨S1x128x3x2x1, .f32⟩
  | 107 => ⟨S1x128x3x2x64, .f32⟩
  | 108 => ⟨S1x128x3x2x64, .f32⟩
  | 109 => ⟨S1x1x3x1x64, .f32⟩
  | 110 => ⟨S1x128x3x2x64, .f32⟩
  | 111 => ⟨S1x128x3x2x64, .f32⟩
  | 112 => ⟨S8, .f32⟩
  | 113 => ⟨S8, .f32⟩
  | 114 => ⟨S_, .f32⟩
  | 115 => ⟨S8, .f32⟩
  | 116 => ⟨S8, .f32⟩
  | 117 => ⟨S_, .f32⟩
  | 118 => ⟨S8, .f32⟩
  | 119 => ⟨S8, .f32⟩
  | 120 => ⟨S_, .f32⟩
  | 121 => ⟨S8, .f32⟩
  | 122 => ⟨S8, .f32⟩
  | 123 => ⟨S128, .f32⟩
  | 124 => ⟨S128x1, .f32⟩
  | 125 => ⟨S1x8, .f32⟩
  | 126 => ⟨S128x8, .f32⟩
  | 127 => ⟨S128x8, .f32⟩
  | _ => ⟨S1x128x1024, .f32⟩

abbrev hbmTy0_1 (i : Nat) : BufTy := match i % 128 with
  | 0 => ⟨S128x8, .f32⟩
  | 1 => ⟨S128x8, .f32⟩
  | 2 => ⟨S128x1x1x8, .f32⟩
  | 3 => ⟨S128x8, .f32⟩
  | 4 => ⟨S128x1x1x8, .f32⟩
  | 5 => ⟨S1x128x3x2x8, .f32⟩
  | 6 => ⟨S1x128x3x2x8, .f32⟩
  | 7 => ⟨S1x128x1x1x8, .f32⟩
  | 8 => ⟨S1x128x3x2x8, .f32⟩
  | 9 => ⟨S1x128x3x2x8, .f32⟩
  | 10 => ⟨S1x128x1x1x8, .f32⟩
  | 11 => ⟨S1x128x3x2x8, .f32⟩
  | 12 => ⟨S1x128x3x2x8, .f32⟩
  | 13 => ⟨S1x128x3x2x8, .f32⟩
  | 14 => ⟨S1x128x1x1x8, .f32⟩
  | 15 => ⟨S1x128x3x2x8, .f32⟩
  | 16 => ⟨S1x128x3x2x8, .f32⟩
  | 17 => ⟨S1x128x1x1x8, .f32⟩
  | 18 => ⟨S1x128x3x2x8, .f32⟩
  | 19 => ⟨S1x128x3x2x8, .f32⟩
  | 20 => ⟨S1x128x3x2x8, .f32⟩
  | 21 => ⟨S1x128x3x2x48, .f32⟩
  | 22 => ⟨S1x128x3x2x64, .f32⟩
  | 23 => ⟨S1x128x3x1x2x64, .f32⟩
  | 24 => ⟨S1x128x3x2x64, .f32⟩
  | 25 => ⟨S1x128x3x1x2x64, .f32⟩
  | 26 => ⟨S1x128x3x1x2x64, .f32⟩
  | 27 => ⟨S1x128x3x2x2x64, .f32⟩
  | 28 => ⟨S1x128x256, .f32⟩
  | 29 => ⟨S1x128x256, .f32⟩
  | 30 => ⟨S_, .f32⟩
  | 31 => ⟨S1x128x256, .f32⟩
  | 32 => ⟨S1x128x256, .f32⟩
  | 33 => ⟨S_, .f32⟩
  | 34 => ⟨S1x128x256, .f32⟩
  | 35 => ⟨S1x128x256, .f32⟩
  | 36 => ⟨S1x128x256, .f32⟩
  | 37 => ⟨S1x128x24, .f32⟩
  | 38 => ⟨S1x128x24, .f32⟩
  | 39 => ⟨S_, .f32⟩
  | 40 => ⟨S1x128x24, .f32⟩
  | 41 => ⟨S1x128x24, .f32⟩
  | 42 => ⟨S_, .f32⟩
  | 43 => ⟨S1x128x24, .f32⟩
  | 44 => ⟨S1x128x24, .f32⟩
  | 45 => ⟨S1x128x256, .f32⟩
  | 46 => ⟨S1x128x256, .f32⟩
  | 47 => ⟨S_, .f32⟩
  | 48 => ⟨S1x128x256, .f32⟩
  | 49 => ⟨S1x128x256, .f32⟩
  | 50 => ⟨S_, .f32⟩
  | 51 => ⟨S1x128x256, .f32⟩
  | 52 => ⟨S1x128x256, .f32⟩
  | 53 => ⟨S1x128x256, .f32⟩
  | 54 => ⟨S1x128x256, .f32⟩
  | 55 => ⟨S1x128x256, .f32⟩
  | 56 => ⟨S_, .f32⟩
  | 57 => ⟨S1x128x256, .f32⟩
  | 58 => ⟨S1x128x256, .f32⟩
  | 59 => ⟨S_, .f32⟩
  | 60 => ⟨S1x128x256, .f32⟩
  | 61 => ⟨S1x128x256, .f32⟩
  | 62 => ⟨S1x128x256, .f32⟩
  | 63 => ⟨S1x128x512, .f32⟩
  | 64 => ⟨S1x128x512, .f32⟩
  | 65 => ⟨S_, .f32⟩
  | 66 => ⟨S1x128x512, .f32⟩
  | 67 => ⟨S1x128x512, .f32⟩
  | 68 => ⟨S_, .f32⟩
  | 69 => ⟨S1x128x512, .f32⟩
  | 70 => ⟨S1x128x512, .f32⟩
  | 71 => ⟨S1x128x512, .f32⟩
  | 72 => ⟨S1x128x1024, .f32⟩
  | 73 => ⟨S_, .f32⟩
  | 74 => ⟨S1x8x128, .f32⟩
  | 75 => ⟨S1x1x256x128, .f32⟩
  | 76 => ⟨S1x128x1x2x2x64, .f32⟩
  | 77 => ⟨S1x128x2x2x64, .f32⟩
  | 78 => ⟨S1x128x256, .f32⟩
  | 79 => ⟨S1x256x128, .f32⟩
  | 80 => ⟨S1x1x256x128, .f32⟩
  | 81 => ⟨S2x1x256x128, .f32⟩
  | 82 => ⟨S1x1x256x128, .f32⟩
  | 83 => ⟨S1x128x1x2x2x64, .f32⟩
  | 84 => ⟨S1x128x2x2x64, .f32⟩
  | 85 => ⟨S1x128x256, .f32⟩
  | 86 => ⟨S1x256x128, .f32⟩
  | 87 => ⟨S1x1x256x128, .f32⟩
  | 88 => ⟨S2x1x256x128, .f32⟩
  | 89 => ⟨S1x1x256x128, .f32⟩
  | 90 => ⟨S1x128x1x2x2x64, .f32⟩
  | 91 => ⟨S1x128x2x2x64, .f32⟩
  | 92 => ⟨S1x128x256, .f32⟩
  | 93 => ⟨S1x256x128, .f32⟩
  | 94 => ⟨S1x1x256x128, .f32⟩
  | 95 => ⟨S2x1x256x128, .f32⟩
  | 96 => ⟨S1x24x128, .f32⟩
  | 97 => ⟨S1x32x128, .f32⟩
  | 98 => ⟨S1x128x512, .f32⟩
  | 99 => ⟨S1x512x128, .f32⟩
  | _ => ⟨S1x128x1024, .f32⟩

abbrev hbmTy (i : Nat) : BufTy := match i / 128 with
  | 0 => hbmTy0_0 i
  | 1 => hbmTy0_1 i
  | _ => ⟨S1x128x1024, .f32⟩

abbrev bufTy : (tb : Table) → Fin (tcTables nBuf tb) → BufTy
  | .hbm, ⟨i, _⟩ => hbmTy i
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_8 : Ref sig .tc := ⟨.hbm, 97, rfl⟩
abbrev main_v79 : Ref sig .tc := ⟨.hbm, 98, rfl⟩
abbrev main_v80 : Ref sig .tc := ⟨.hbm, 99, rfl⟩
abbrev main_cst_9 : Ref sig .tc := ⟨.hbm, 100, rfl⟩
abbrev main_v81 : Ref sig .tc := ⟨.hbm, 101, rfl⟩
abbrev main_v82 : Ref sig .tc := ⟨.hbm, 102, rfl⟩
abbrev main_cst_10 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_11 : Ref sig .tc := ⟨.hbm, 114, rfl⟩
abbrev main_v93 : Ref sig .tc := ⟨.hbm, 115, rfl⟩
abbrev main_v94 : Ref sig .tc := ⟨.hbm, 116, rfl⟩
abbrev main_cst_12 : Ref sig .tc := ⟨.hbm, 117, rfl⟩
abbrev main_v95 : Ref sig .tc := ⟨.hbm, 118, rfl⟩
abbrev main_v96 : Ref sig .tc := ⟨.hbm, 119, rfl⟩
abbrev main_cst_13 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_cst_14 : Ref sig .tc := ⟨.hbm, 158, rfl⟩
abbrev main_v134 : Ref sig .tc := ⟨.hbm, 159, rfl⟩
abbrev main_v135 : Ref sig .tc := ⟨.hbm, 160, rfl⟩
abbrev main_cst_15 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_cst_16 : Ref sig .tc := ⟨.hbm, 167, rfl⟩
abbrev main_v141 : Ref sig .tc := ⟨.hbm, 168, rfl⟩
abbrev main_v142 : Ref sig .tc := ⟨.hbm, 169, rfl⟩
abbrev main_cst_17 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_cst_18 : Ref sig .tc := ⟨.hbm, 175, rfl⟩
abbrev main_v147 : Ref sig .tc := ⟨.hbm, 176, rfl⟩
abbrev main_v148 : Ref sig .tc := ⟨.hbm, 177, rfl⟩
abbrev main_cst_19 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_cst_20 : Ref sig .tc := ⟨.hbm, 184, rfl⟩
abbrev main_v154 : Ref sig .tc := ⟨.hbm, 185, rfl⟩
abbrev main_v155 : Ref sig .tc := ⟨.hbm, 186, rfl⟩
abbrev main_cst_21 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_cst_22 : Ref sig .tc := ⟨.hbm, 193, rfl⟩
abbrev main_v161 : Ref sig .tc := ⟨.hbm, 194, rfl⟩
abbrev main_v162 : Ref sig .tc := ⟨.hbm, 195, rfl⟩
abbrev main_cst_23 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_cst_24 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩

abbrev nD : Nat := 1
abbrev τ : Topo := Topo.v7x

variable {F : FTy → Type} [FloatOps F]
-- ==== Out.lean ====
abbrev S128x1024 : Shape := ⟨2, ![128, 1024]⟩
abbrev S128x512 : Shape := ⟨2, ![128, 512]⟩
abbrev S128x1x512 : Shape := ⟨3, ![128, 1, 512]⟩
abbrev S1024x1024 : Shape := ⟨2, ![1024, 1024]⟩
abbrev S1x128x1024 : Shape := ⟨3, ![1, 128, 1024]⟩
abbrev S1x128x512 : Shape := ⟨3, ![1, 128, 512]⟩
abbrev S512x1024 : Shape := ⟨2, ![512, 1024]⟩

abbrev nBuf : Space → Nat
  | .hbm => 11
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x1x512, .f32⟩
  | .hbm, ⟨3, _⟩ => ⟨S128x1024, .f32⟩
  | .hbm, ⟨4, _⟩ => ⟨S1024x1024, .f32⟩
  | .hbm, ⟨5, _⟩ => ⟨S1x128x1024, .f32⟩
  | .hbm, ⟨6, _⟩ => ⟨S1x128x512, .f32⟩
  | .hbm, ⟨7, _⟩ => ⟨S1x128x512, .f32⟩
  | .hbm, ⟨8, _⟩ => ⟨S1x128x1024, .f32⟩
  | .hbm, ⟨9, _⟩ => ⟨S1024x1024, .bf16⟩
  | .hbm, ⟨10, _⟩ => ⟨S1x128x1024, .f32⟩
  | .local _ .vmem, ⟨0, _⟩ => ⟨S1x128x1024, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1024x1024, .bf16⟩
  | .local _ .vmem, ⟨5, _⟩ => ⟨S1x128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== OutReferenceIdeal.lean ====
abbrev S128x1024 : Shape := ⟨2, ![128, 1024]⟩
abbrev S128x512 : Shape := ⟨2, ![128, 512]⟩
abbrev S128x1x512 : Shape := ⟨3, ![128, 1, 512]⟩
abbrev S1024x1024 : Shape := ⟨2, ![1024, 1024]⟩
abbrev S1x128x1024 : Shape := ⟨3, ![1, 128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x1x512, .f32⟩
  | .hbm, ⟨3, _⟩ => ⟨S128x1024, .f32⟩
  | .hbm, ⟨4, _⟩ => ⟨S1024x1024, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S1x128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Attn.lean ====
abbrev S8x512x2048 : Shape := ⟨3, ![8, 512, 2048]⟩
abbrev S8x128x256 : Shape := ⟨3, ![8, 128, 256]⟩
abbrev S2x8x256x2048 : Shape := ⟨4, ![2, 8, 256, 2048]⟩
abbrev S8x32x2048 : Shape := ⟨3, ![8, 32, 2048]⟩
abbrev S32x128 : Shape := ⟨2, ![32, 128]⟩
abbrev S8x2048x512 : Shape := ⟨3, ![8, 2048, 512]⟩
abbrev S1x512x256 : Shape := ⟨3, ![1, 512, 256]⟩
abbrev S1x128x256 : Shape := ⟨3, ![1, 128, 256]⟩
abbrev S1x1x256x2048 : Shape := ⟨4, ![1, 1, 256, 2048]⟩
abbrev S1x32x256 : Shape := ⟨3, ![1, 32, 256]⟩
abbrev S1x256x512 : Shape := ⟨3, ![1, 256, 512]⟩
abbrev S2x2048x128 : Shape := ⟨3, ![2, 2048, 128]⟩
abbrev S2x2048x64 : Shape := ⟨3, ![2, 2048, 64]⟩
abbrev S2x2048x1024 : Shape := ⟨3, ![2, 2048, 1024]⟩
abbrev S2x80x1024 : Shape := ⟨3, ![2, 80, 1024]⟩
abbrev S2x1x1024 : Shape := ⟨3, ![2, 1, 1024]⟩
abbrev S1x256 : Shape := ⟨2, ![1, 256]⟩
abbrev S1x1x64x128 : Shape := ⟨4, ![1, 1, 64, 128]⟩
abbrev S64x128 : Shape := ⟨2, ![64, 128]⟩
abbrev S128x64 : Shape := ⟨2, ![128, 64]⟩
abbrev S1x128x64 : Shape := ⟨3, ![1, 128, 64]⟩
abbrev S32x256 : Shape := ⟨2, ![32, 256]⟩
abbrev S1x128x128 : Shape := ⟨3, ![1, 128, 128]⟩
abbrev S128x128 : Shape := ⟨2, ![128, 128]⟩
abbrev S1x64x256 : Shape := ⟨3, ![1, 64, 256]⟩
abbrev S64x256 : Shape := ⟨2, ![64, 256]⟩
abbrev S64x1024 : Shape := ⟨2, ![64, 1024]⟩
abbrev S128x1 : Shape := ⟨2, ![128, 1]⟩
abbrev S128x256 : Shape := ⟨2, ![128, 256]⟩
abbrev S128x1024 : Shape := ⟨2, ![128, 1024]⟩
abbrev S1024 : Shape := ⟨1, ![1024]⟩
abbrev S1x1024 : Shape := ⟨2, ![1, 1024]⟩
abbrev S8x256 : Shape := ⟨2, ![8, 256]⟩
abbrev S512x1 : Shape := ⟨2, ![512, 1]⟩
abbrev S1x512x128 : Shape := ⟨3, ![1, 512, 128]⟩
abbrev S512x128 : Shape := ⟨2, ![512, 128]⟩
abbrev S512x1024 : Shape := ⟨2, ![512, 1024]⟩
abbrev S1x512x1024 : Shape := ⟨3, ![1, 512, 1024]⟩
abbrev S1x1x1024 : Shape := ⟨3, ![1, 1, 1024]⟩
abbrev S512x256 : Shape := ⟨2, ![512, 256]⟩
abbrev S256x1 : Shape := ⟨2, ![256, 1]⟩
abbrev S1x256x128 : Shape := ⟨3, ![1, 256, 128]⟩
abbrev S256x128 : Shape := ⟨2, ![256, 128]⟩
abbrev S256x1024 : Shape := ⟨2, ![256, 1024]⟩
abbrev S256x256 : Shape := ⟨2, ![256, 256]⟩
abbrev S1x256x1024 : Shape := ⟨3, ![1, 256, 1024]⟩
abbrev S1x1x64x512 : Shape := ⟨4, ![1, 1, 64, 512]⟩
abbrev S64x512 : Shape := ⟨2, ![64, 512]⟩
abbrev S1x80x1024 : Shape := ⟨3, ![1, 80, 1024]⟩
abbrev S80x1024 : Shape := ⟨2, ![80, 1024]⟩
abbrev S16x512 : Shape := ⟨2, ![16, 512]⟩
abbrev S80x512 : Shape := ⟨2, ![80, 512]⟩
abbrev S1x1x64x256 : Shape := ⟨4, ![1, 1, 64, 256]⟩
abbrev S16x256 : Shape := ⟨2, ![16, 256]⟩
abbrev S80x256 : Shape := ⟨2, ![80, 256]⟩
abbrev S1x128 : Shape := ⟨2, ![1, 128]⟩
abbrev S128x512 : Shape := ⟨2, ![128, 512]⟩
abbrev S384x512 : Shape := ⟨2, ![384, 512]⟩
abbrev S512 : Shape := ⟨1, ![512]⟩
abbrev S1x512 : Shape := ⟨2, ![1, 512]⟩
abbrev S16x128 : Shape := ⟨2, ![16, 128]⟩
abbrev S80x128 : Shape := ⟨2, ![80, 128]⟩
abbrev S256x512 : Shape := ⟨2, ![256, 512]⟩

abbrev nBuf : Space → Nat
  | .hbm => 7
  | .vmem => 18
  | .smem => 0
  | _ => 0

abbrev bufTy : (tb : Table) → Fin (tcTables nBuf tb) → BufTy
  | .hbm, ⟨0, _⟩ => ⟨S8x512x2048, .f32⟩
  | .hbm, ⟨1, _⟩ => ⟨S8x128x256, .f32⟩
  | .hbm, ⟨2, _⟩ => ⟨S2x8x256x2048, .f32⟩
  | .hbm, ⟨3, _⟩ => ⟨S2x8x256x2048, .f32⟩
  | .hbm, ⟨4, _⟩ => ⟨S8x32x2048, .f32⟩
  | .hbm, ⟨5, _⟩ => ⟨S32x128, .bf16⟩
  | .hbm, ⟨6, _⟩ => ⟨S8x2048x512, .f32⟩
  | .local _ .vmem, ⟨0, _⟩ => ⟨S1x512x256, .f32⟩
  | .local _ .vmem, ⟨1, _⟩ => ⟨S1x512x256, .f32⟩
  | .local _ .vmem, ⟨2, _⟩ => ⟨S1x128x256, .f32⟩
  | .local _ .vmem, ⟨3, _⟩ => ⟨S1x128x256, .f32⟩
  | .local _ .vmem, ⟨4, _⟩ => ⟨S1x1x256x2048, .f32⟩
  | .local _ .vmem, ⟨5, _⟩ => ⟨S1x1x256x2048, .f32⟩
  | .local _ .vmem, ⟨6, _⟩ => ⟨S1x1x256x2048, .f32⟩
  | .local _ .vmem, ⟨7, _⟩ => ⟨S1x1x256x2048, .f32⟩
  | .local _ .vmem, ⟨8, _⟩ => ⟨S1x32x256, .f32⟩
  | .local _ .vmem, ⟨9, _⟩ => ⟨S1x32x256, .f32⟩
  | .local _ .vmem, ⟨10, _⟩ => ⟨S32x128, .bf16⟩
  | .local _ .vmem, ⟨11, _⟩ => ⟨S1x256x512, .f32⟩
  | .local _ .vmem, ⟨12, _⟩ => ⟨S1x256x512, .f32⟩
  | .local _ .vmem, ⟨13, _⟩ => ⟨S2x2048x128, .bf16⟩
  | .local _ .vmem, ⟨14, _⟩ => ⟨S2x2048x64, .bf16⟩
  | .local _ .vmem, ⟨15, _⟩ => ⟨S2x2048x1024, .bf16⟩
  | .local _ .vmem, ⟨16, _⟩ => ⟨S2x80x1024, .f32⟩
  | .local _ .vmem, ⟨17, _⟩ => ⟨S2x1x1024, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_685 : BitVec 32 := 0#32
  let v2325 : BitVec 1 := Scalar.cmpi .sgt v2290 c0_i32_685
  let v2326 : BitVec 32 := Scalar.extui v2325
  let c0_i32_686 : BitVec 32 := 0#32
  let v2327 : BitVec 1 := Scalar.cmpi .slt v2290 c0_i32_686
  let v2328 : BitVec 32 := Scalar.extui v2327
  let v2329 : BitVec 32 := Scalar.subi v2326 v2328
  let c512_i32_684 : BitVec 32 := 512#32
  let c0_i32_687 : BitVec 32 := 0#32
  let v2330 : BitVec 1 := Scalar.cmpi .sgt c512_i32_684 c0_i32_687
  let v2331 : BitVec 32 := Scalar.extui v2330
  let c0_i32_688 : BitVec 32 := 0#32
  let v2332 : BitVec 1 := Scalar.cmpi .slt c512_i32_684 c0_i32_688
  let v2333 : BitVec 32 := Scalar.extui v2332
  let v2334 : BitVec 32 := Scalar.subi v2331 v2333
  let v2335 : BitVec 1 := Scalar.cmpi .ne v2329 v2334
  let v2336 : BitVec 32 := Scalar.remsi v2290 c512_i32_684
  let c0_i32_689 : BitVec 32 := 0#32
  let v2337 : BitVec 1 := Scalar.cmpi .ne v2336 c0_i32_689
  let v2338 : BitVec 1 := Scalar.andi v2335 v2337
  let v2324 : BitVec 32 := Scalar.divsi v2290 c512_i32_684
  let c1_i32_690 : BitVec 32 := 1#32
  let v2339 : BitVec 32 := Scalar.subi v2324 c1_i32_690
  let v2340 : BitVec 32 := Scalar.select v2338 v2339 v2324
  let c512_i32_691 : BitVec 32 := 512#32
  let v2341 : BitVec 32 := Scalar.muli v2340 c512_i32_691
  v2341
@[reducible] def k0_t1_loop (i : grid0.Coords) : Scf.Loop 32 :=
  let c0_i32_697 : BitVec 32 := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let c0_i32_674 : BitVec 32 := 0#32
  let v2301 : BitVec 1 := Scalar.cmpi .sgt v2300 c0_i32_674
  let c256_i32_675 : BitVec 32 := 256#32
  let v2302 : BitVec 1 := Scalar.cmpi .sle v2300 c256_i32_675
  let v2303 : BitVec 1 := Scalar.andi v2301 v2302
  let v_true : BitVec 1 := 1#1
  let v2343 : BitVec 1 := Scalar.xori v2303 v_true
  let v2348 : BitVec 32 := Scalar.extui v2343
  let v2349 : BitVec 32 := Scalar.subi v2323 v2348
  let v2350 : BitVec 32 := Scalar.subi v2349 c0_i32_697
  let c1_i32_698 : BitVec 32 := 1#32
  let v2352 : BitVec 32 := Scalar.divsi v2350 c1_i32_698
  let v2353 : BitVec 32 := Scalar.muli v2352 c1_i32_698
  let v2354 : BitVec 32 := Scalar.addi c0_i32_697 v2353
  let c1_i32_699 : BitVec 32 := 1#32
  ⟨c0_i32_697, v2354, c1_i32_699⟩
def k0_mult2 (i : grid0.Coords) (k0_t1 : Fin (k0_t1_loop i).trips) : BitVec 32 :=
  let c0_i32_697 : BitVec 32 := 0#32
  let c1_i32_699 : BitVec 32 := 1#32
  let arg14 : BitVec 32 := Scf.iv c0_i32_697 c1_i32_699 k0_t1
  let c512_i32_976 : BitVec 32 := 512#32
  let v3163 : BitVec 32 := Scalar.muli arg14 c512_i32_976
  v3163
def k0_off1 (i : grid0.Coords) (k0_t1 : Fin (k0_t1_loop i).trips) : Fin 3 → Nat :=
  let c0_977 : Index := 0#32
  let c0_i32_697 : BitVec 32 := 0#32
  let c1_i32_699 : BitVec 32 := 1#32
  let arg14 : BitVec 32 := Scf.iv c0_i32_697 c1_i32_699 k0_t1
  let c512_i32_976 : BitVec 32 := 512#32
  let v3163 : BitVec 32 := Scalar.muli arg14 c512_i32_976
  let v3164 : BitVec 32 := v3163
  let v3168 : Index := Scalar.indexCast v3164
  let c0_978 : Index := 0#32
  ![0, v3168.toNat, 0]
def k0_off2 (i : grid0.Coords) (k0_t1 : Fin (k0_t1_loop i).trips) : Fin 3 → Nat :=
  let c0_980 : Index := 0#32
  let c0_i32_697 : BitVec 32 := 0#32
  let c1_i32_699 : BitVec 32 := 1#32
  let arg14 : BitVec 32 := Scf.iv c0_i32_697 c1_i32_699 k0_t1
  let c512_i32_976 : BitVec 32 := 512#32
  let v3163 : BitVec 32 := Scalar.muli arg14 c512_i32_976
  let v3164 : BitVec 32 := v3163
  let v3173 : Index := Scalar.indexCast v3164
  let c0_981 : Index := 0#32
  ![0, v3173.toNat, 0]
def k0_off3 (i : grid0.Coords) (k0_t1 : Fin (k0_t1_loop i).trips) : Fin 3 → Nat :=
  let c1_989 : Index := 1#32
  let c0_i32_697 : BitVec 32 := 0#32
  let c1_i32_699 : BitVec 32 := 1#32
  let arg14 : BitVec 32 := Scf.iv c0_i32_697 c1_i32_699 k0_t1
  let c512_i32_976 : BitVec 32 := 512#32
  let v3163 : BitVec 32 := Scalar.muli arg14 c512_i32_976
  let v3164 : BitVec 32 := v3163
  let v3185 : Index := Scalar.indexCast v3164
  let c0_990 : Index := 0#32
  ![1, v3185.toNat, 0]
def k0_off4 (i : grid0.Coords) (k0_t1 : Fin (k0_t1_loop i).trips) : Fin 3 → Nat :=
  let c1_992 : Index := 1#32
  let c0_i32_697 : BitVec 32 := 0#32
  let c1_i32_699 : BitVec 32 := 1#32
  let arg14 : BitVec 32 := Scf.iv c0_i32_697 c1_i32_699 k0_t1
  let c512_i32_976 : BitVec 32 := 512#32
  let v3163 : BitVec 32 := Scalar.muli arg14 c512_i32_976
  let v3164 : BitVec 32 := v3163
  let v3190 : Index := Scalar.indexCast v3164
  let c0_993 : Index := 0#32
  ![1, v3190.toNat, 0]
@[reducible] def k0_t2_loop (i : grid0.Coords) : Scf.Loop 32 :=
  let c0_i32_697 : BitVec 32 := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let c0_i32_674 : BitVec 32 := 0#32
  let v2301 : BitVec 1 := Scalar.cmpi .sgt v2300 c0_i32_674
  let c256_i32_675 : BitVec 32 := 256#32
  let v2302 : BitVec 1 := Scalar.cmpi .sle v2300 c256_i32_675
  let v2303 : BitVec 1 := Scalar.andi v2301 v2302
  let v_true : BitVec 1 := 1#1
  let v2343 : BitVec 1 := Scalar.xori v2303 v_true
  let v2348 : BitVec 32 := Scalar.extui v2343
  let v2349 : BitVec 32 := Scalar.subi v2323 v2348
  let v2350 : BitVec 32 := Scalar.subi v2349 c0_i32_697
  let c1_i32_698 : BitVec 32 := 1#32
  let v2352 : BitVec 32 := Scalar.divsi v2350 c1_i32_698
  let v2353 : BitVec 32 := Scalar.muli v2352 c1_i32_698
  let v2354 : BitVec 32 := Scalar.addi c0_i32_697 v2353
  let v2351 : BitVec 32 := Scalar.addi c0_i32_697 v2350
  let c1_i32_700 : BitVec 32 := 1#32
  ⟨v2354, v2351, c1_i32_700⟩
def k0_mult3 (i : grid0.Coords) (k0_t2 : Fin (k0_t2_loop i).trips) : BitVec 32 :=
  let c0_i32_697 : BitVec 32 := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let c0_i32_674 : BitVec 32 := 0#32
  let v2301 : BitVec 1 := Scalar.cmpi .sgt v2300 c0_i32_674
  let c256_i32_675 : BitVec 32 := 256#32
  let v2302 : BitVec 1 := Scalar.cmpi .sle v2300 c256_i32_675
  let v2303 : BitVec 1 := Scalar.andi v2301 v2302
  let v_true : BitVec 1 := 1#1
  let v2343 : BitVec 1 := Scalar.xori v2303 v_true
  let v2348 : BitVec 32 := Scalar.extui v2343
  let v2349 : BitVec 32 := Scalar.subi v2323 v2348
  let v2350 : BitVec 32 := Scalar.subi v2349 c0_i32_697
  let c1_i32_698 : BitVec 32 := 1#32
  let v2352 : BitVec 32 := Scalar.divsi v2350 c1_i32_698
  let v2353 : BitVec 32 := Scalar.muli v2352 c1_i32_698
  let v2354 : BitVec 32 := Scalar.addi c0_i32_697 v2353
  let c1_i32_700 : BitVec 32 := 1#32
  let arg14 : BitVec 32 := Scf.iv v2354 c1_i32_700 k0_t2
  let c512_i32_976 : BitVec 32 := 512#32
  let v3163 : BitVec 32 := Scalar.muli arg14 c512_i32_976
  v3163
def k0_off5 (i : grid0.Coords) (k0_t2 : Fin (k0_t2_loop i).trips) : Fin 3 → Nat :=
  let c0_977 : Index := 0#32
  let c0_i32_697 : BitVec 32 := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let c0_i32_674 : BitVec 32 := 0#32
  let v2301 : BitVec 1 := Scalar.cmpi .sgt v2300 c0_i32_674
  let c256_i32_675 : BitVec 32 := 256#32
  let v2302 : BitVec 1 := Scalar.cmpi .sle v2300 c256_i32_675
  let v2303 : BitVec 1 := Scalar.andi v2301 v2302
  let v_true : BitVec 1 := 1#1
  let v2343 : BitVec 1 := Scalar.xori v2303 v_true
  let v2348 : BitVec 32 := Scalar.extui v2343
  let v2349 : BitVec 32 := Scalar.subi v2323 v2348
  let v2350 : BitVec 32 := Scalar.subi v2349 c0_i32_697
  let c1_i32_698 : BitVec 32 := 1#32
  let v2352 : BitVec 32 := Scalar.divsi v2350 c1_i32_698
  let v2353 : BitVec 32 := Scalar.muli v2352 c1_i32_698
  let v2354 : BitVec 32 := Scalar.addi c0_i32_697 v2353
  let c1_i32_700 : BitVec 32 := 1#32
  let arg14 : BitVec 32 := Scf.iv v2354 c1_i32_700 k0_t2
  let c512_i32_976 : BitVec 32 := 512#32
  let v3163 : BitVec 32 := Scalar.muli arg14 c512_i32_976
  let v3164 : BitVec 32 := v3163
  let v3168 : Index := Scalar.indexCast v3164
  let c0_978 : Index := 0#32
  ![0, v3168.toNat, 0]
def k0_off6 (i : grid0.Coords) (k0_t2 : Fin (k0_t2_loop i).trips) : Fin 3 → Nat :=
  let c0_980 : Index := 0#32
  let c0_i32_697 : BitVec 32 := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let c0_i32_674 : BitVec 32 := 0#32
  let v2301 : BitVec 1 := Scalar.cmpi .sgt v2300 c0_i32_674
  let c256_i32_675 : BitVec 32 := 256#32
  let v2302 : BitVec 1 := Scalar.cmpi .sle v2300 c256_i32_675
  let v2303 : BitVec 1 := Scalar.andi v2301 v2302
  let v_true : BitVec 1 := 1#1
  let v2343 : BitVec 1 := Scalar.xori v2303 v_true
  let v2348 : BitVec 32 := Scalar.extui v2343
  let v2349 : BitVec 32 := Scalar.subi v2323 v2348
  let v2350 : BitVec 32 := Scalar.subi v2349 c0_i32_697
  let c1_i32_698 : BitVec 32 := 1#32
  let v2352 : BitVec 32 := Scalar.divsi v2350 c1_i32_698
  let v2353 : BitVec 32 := Scalar.muli v2352 c1_i32_698
  let v2354 : BitVec 32 := Scalar.addi c0_i32_697 v2353
  let c1_i32_700 : BitVec 32 := 1#32
  let arg14 : BitVec 32 := Scf.iv v2354 c1_i32_700 k0_t2
  let c512_i32_976 : BitVec 32 := 512#32
  let v3163 : BitVec 32 := Scalar.muli arg14 c512_i32_976
  let v3164 : BitVec 32 := v3163
  let v3173 : Index := Scalar.indexCast v3164
  let c0_981 : Index := 0#32
  ![0, v3173.toNat, 0]
def k0_off7 (i : grid0.Coords) (k0_t2 : Fin (k0_t2_loop i).trips) : Fin 3 → Nat :=
  let c1_989 : Index := 1#32
  let c0_i32_697 : BitVec 32 := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let c0_i32_674 : BitVec 32 := 0#32
  let v2301 : BitVec 1 := Scalar.cmpi .sgt v2300 c0_i32_674
  let c256_i32_675 : BitVec 32 := 256#32
  let v2302 : BitVec 1 := Scalar.cmpi .sle v2300 c256_i32_675
  let v2303 : BitVec 1 := Scalar.andi v2301 v2302
  let v_true : BitVec 1 := 1#1
  let v2343 : BitVec 1 := Scalar.xori v2303 v_true
  let v2348 : BitVec 32 := Scalar.extui v2343
  let v2349 : BitVec 32 := Scalar.subi v2323 v2348
  let v2350 : BitVec 32 := Scalar.subi v2349 c0_i32_697
  let c1_i32_698 : BitVec 32 := 1#32
  let v2352 : BitVec 32 := Scalar.divsi v2350 c1_i32_698
  let v2353 : BitVec 32 := Scalar.muli v2352 c1_i32_698
  let v2354 : BitVec 32 := Scalar.addi c0_i32_697 v2353
  let c1_i32_700 : BitVec 32 := 1#32
  let arg14 : BitVec 32 := Scf.iv v2354 c1_i32_700 k0_t2
  let c512_i32_976 : BitVec 32 := 512#32
  let v3163 : BitVec 32 := Scalar.muli arg14 c512_i32_976
  let v3164 : BitVec 32 := v3163
  let v3185 : Index := Scalar.indexCast v3164
  let c0_990 : Index := 0#32
  ![1, v3185.toNat, 0]
def k0_off8 (i : grid0.Coords) (k0_t2 : Fin (k0_t2_loop i).trips) : Fin 3 → Nat :=
  let c1_992 : Index := 1#32
  let c0_i32_697 : BitVec 32 := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let c0_i32_674 : BitVec 32 := 0#32
  let v2301 : BitVec 1 := Scalar.cmpi .sgt v2300 c0_i32_674
  let c256_i32_675 : BitVec 32 := 256#32
  let v2302 : BitVec 1 := Scalar.cmpi .sle v2300 c256_i32_675
  let v2303 : BitVec 1 := Scalar.andi v2301 v2302
  let v_true : BitVec 1 := 1#1
  let v2343 : BitVec 1 := Scalar.xori v2303 v_true
  let v2348 : BitVec 32 := Scalar.extui v2343
  let v2349 : BitVec 32 := Scalar.subi v2323 v2348
  let v2350 : BitVec 32 := Scalar.subi v2349 c0_i32_697
  let c1_i32_698 : BitVec 32 := 1#32
  let v2352 : BitVec 32 := Scalar.divsi v2350 c1_i32_698
  let v2353 : BitVec 32 := Scalar.muli v2352 c1_i32_698
  let v2354 : BitVec 32 := Scalar.addi c0_i32_697 v2353
  let c1_i32_700 : BitVec 32 := 1#32
  let arg14 : BitVec 32 := Scf.iv v2354 c1_i32_700 k0_t2
  let c512_i32_976 : BitVec 32 := 512#32
  let v3163 : BitVec 32 := Scalar.muli arg14 c512_i32_976
  let v3164 : BitVec 32 := v3163
  let v3190 : Index := Scalar.indexCast v3164
  let c0_993 : Index := 0#32
  ![1, v3190.toNat, 0]
def k0_cond2 (i : grid0.Coords) : BitVec 1 :=
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c0_i32_674 : BitVec 32 := 0#32
  let v2301 : BitVec 1 := Scalar.cmpi .sgt v2300 c0_i32_674
  let c256_i32_675 : BitVec 32 := 256#32
  let v2302 : BitVec 1 := Scalar.cmpi .sle v2300 c256_i32_675
  let v2303 : BitVec 1 := Scalar.andi v2301 v2302
  let v_true : BitVec 1 := 1#1
  let v2343 : BitVec 1 := Scalar.xori v2303 v_true
  let v2355 : BitVec 32 := Scalar.extui v2343
  let c0_i32_701 : BitVec 32 := 0#32
  let v2356 : BitVec 1 := Scalar.cmpi .ne v2355 c0_i32_701
  v2356

def k0_mult4 (i : grid0.Coords) : BitVec 32 :=
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let c1_i32_976 : BitVec 32 := 1#32
  let v3163 : BitVec 32 := Scalar.subi v2323 c1_i32_976
  let c512_i32_977 : BitVec 32 := 512#32
  let v3164 : BitVec 32 := Scalar.muli v3163 c512_i32_977
  v3164
def k0_off9 (i : grid0.Coords) : Fin 3 → Nat :=
  let c0_978 : Index := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let c1_i32_976 : BitVec 32 := 1#32
  let v3163 : BitVec 32 := Scalar.subi v2323 c1_i32_976
  let c512_i32_977 : BitVec 32 := 512#32
  let v3164 : BitVec 32 := Scalar.muli v3163 c512_i32_977
  let v3165 : BitVec 32 := v3164
  let v3169 : Index := Scalar.indexCast v3165
  let c0_979 : Index := 0#32
  ![0, v3169.toNat, 0]
def k0_off10 (i : grid0.Coords) : Fin 3 → Nat :=
  let c0_985 : Index := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let c1_i32_976 : BitVec 32 := 1#32
  let v3163 : BitVec 32 := Scalar.subi v2323 c1_i32_976
  let c512_i32_977 : BitVec 32 := 512#32
  let v3164 : BitVec 32 := Scalar.muli v3163 c512_i32_977
  let v3165 : BitVec 32 := v3164
  let v3190 : Index := Scalar.indexCast v3165
  let c0_986 : Index := 0#32
  ![0, v3190.toNat, 0]
def k0_off11 (i : grid0.Coords) : Fin 3 → Nat :=
  let c1_994 : Index := 1#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let c1_i32_976 : BitVec 32 := 1#32
  let v3163 : BitVec 32 := Scalar.subi v2323 c1_i32_976
  let c512_i32_977 : BitVec 32 := 512#32
  let v3164 : BitVec 32 := Scalar.muli v3163 c512_i32_977
  let v3165 : BitVec 32 := v3164
  let v3202 : Index := Scalar.indexCast v3165
  let c0_995 : Index := 0#32
  ![1, v3202.toNat, 0]
def k0_off12 (i : grid0.Coords) : Fin 3 → Nat :=
  let c1_1001 : Index := 1#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let c1_i32_976 : BitVec 32 := 1#32
  let v3163 : BitVec 32 := Scalar.subi v2323 c1_i32_976
  let c512_i32_977 : BitVec 32 := 512#32
  let v3164 : BitVec 32 := Scalar.muli v3163 c512_i32_977
  let v3165 : BitVec 32 := v3164
  let v3223 : Index := Scalar.indexCast v3165
  let c0_1002 : Index := 0#32
  ![1, v3223.toNat, 0]
def k0_cond3 (i : grid0.Coords) : BitVec 1 :=
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c0_i32_674 : BitVec 32 := 0#32
  let v2301 : BitVec 1 := Scalar.cmpi .sgt v2300 c0_i32_674
  let c256_i32_675 : BitVec 32 := 256#32
  let v2302 : BitVec 1 := Scalar.cmpi .sle v2300 c256_i32_675
  let v2303 : BitVec 1 := Scalar.andi v2301 v2302
  let v2357 : BitVec 32 := Scalar.extui v2303
  let c0_i32_702 : BitVec 32 := 0#32
  let v2358 : BitVec 1 := Scalar.cmpi .ne v2357 c0_i32_702
  v2358

def k0_off13 (i : grid0.Coords) : Fin 3 → Nat :=
  let c0_976 : Index := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_685 : BitVec 32 := 0#32
  let v2325 : BitVec 1 := Scalar.cmpi .sgt v2290 c0_i32_685
  let v2326 : BitVec 32 := Scalar.extui v2325
  let c0_i32_686 : BitVec 32 := 0#32
  let v2327 : BitVec 1 := Scalar.cmpi .slt v2290 c0_i32_686
  let v2328 : BitVec 32 := Scalar.extui v2327
  let v2329 : BitVec 32 := Scalar.subi v2326 v2328
  let c512_i32_684 : BitVec 32 := 512#32
  let c0_i32_687 : BitVec 32 := 0#32
  let v2330 : BitVec 1 := Scalar.cmpi .sgt c512_i32_684 c0_i32_687
  let v2331 : BitVec 32 := Scalar.extui v2330
  let c0_i32_688 : BitVec 32 := 0#32
  let v2332 : BitVec 1 := Scalar.cmpi .slt c512_i32_684 c0_i32_688
  let v2333 : BitVec 32 := Scalar.extui v2332
  let v2334 : BitVec 32 := Scalar.subi v2331 v2333
  let v2335 : BitVec 1 := Scalar.cmpi .ne v2329 v2334
  let v2336 : BitVec 32 := Scalar.remsi v2290 c512_i32_684
  let c0_i32_689 : BitVec 32 := 0#32
  let v2337 : BitVec 1 := Scalar.cmpi .ne v2336 c0_i32_689
  let v2338 : BitVec 1 := Scalar.andi v2335 v2337
  let v2324 : BitVec 32 := Scalar.divsi v2290 c512_i32_684
  let c1_i32_690 : BitVec 32 := 1#32
  let v2339 : BitVec 32 := Scalar.subi v2324 c1_i32_690
  let v2340 : BitVec 32 := Scalar.select v2338 v2339 v2324
  let c512_i32_691 : BitVec 32 := 512#32
  let v2341 : BitVec 32 := Scalar.muli v2340 c512_i32_691
  let v2342 : BitVec 32 := v2341
  let v3166 : Index := Scalar.indexCast v2342
  let c0_977 : Index := 0#32
  ![0, v3166.toNat, 0]
def k0_off14 (i : grid0.Coords) : Fin 3 → Nat :=
  let c0_983 : Index := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_685 : BitVec 32 := 0#32
  let v2325 : BitVec 1 := Scalar.cmpi .sgt v2290 c0_i32_685
  let v2326 : BitVec 32 := Scalar.extui v2325
  let c0_i32_686 : BitVec 32 := 0#32
  let v2327 : BitVec 1 := Scalar.cmpi .slt v2290 c0_i32_686
  let v2328 : BitVec 32 := Scalar.extui v2327
  let v2329 : BitVec 32 := Scalar.subi v2326 v2328
  let c512_i32_684 : BitVec 32 := 512#32
  let c0_i32_687 : BitVec 32 := 0#32
  let v2330 : BitVec 1 := Scalar.cmpi .sgt c512_i32_684 c0_i32_687
  let v2331 : BitVec 32 := Scalar.extui v2330
  let c0_i32_688 : BitVec 32 := 0#32
  let v2332 : BitVec 1 := Scalar.cmpi .slt c512_i32_684 c0_i32_688
  let v2333 : BitVec 32 := Scalar.extui v2332
  let v2334 : BitVec 32 := Scalar.subi v2331 v2333
  let v2335 : BitVec 1 := Scalar.cmpi .ne v2329 v2334
  let v2336 : BitVec 32 := Scalar.remsi v2290 c512_i32_684
  let c0_i32_689 : BitVec 32 := 0#32
  let v2337 : BitVec 1 := Scalar.cmpi .ne v2336 c0_i32_689
  let v2338 : BitVec 1 := Scalar.andi v2335 v2337
  let v2324 : BitVec 32 := Scalar.divsi v2290 c512_i32_684
  let c1_i32_690 : BitVec 32 := 1#32
  let v2339 : BitVec 32 := Scalar.subi v2324 c1_i32_690
  let v2340 : BitVec 32 := Scalar.select v2338 v2339 v2324
  let c512_i32_691 : BitVec 32 := 512#32
  let v2341 : BitVec 32 := Scalar.muli v2340 c512_i32_691
  let v2342 : BitVec 32 := v2341
  let v3187 : Index := Scalar.indexCast v2342
  let c0_984 : Index := 0#32
  ![0, v3187.toNat, 0]
def k0_off15 (i : grid0.Coords) : Fin 3 → Nat :=
  let c1_992 : Index := 1#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_685 : BitVec 32 := 0#32
  let v2325 : BitVec 1 := Scalar.cmpi .sgt v2290 c0_i32_685
  let v2326 : BitVec 32 := Scalar.extui v2325
  let c0_i32_686 : BitVec 32 := 0#32
  let v2327 : BitVec 1 := Scalar.cmpi .slt v2290 c0_i32_686
  let v2328 : BitVec 32 := Scalar.extui v2327
  let v2329 : BitVec 32 := Scalar.subi v2326 v2328
  let c512_i32_684 : BitVec 32 := 512#32
  let c0_i32_687 : BitVec 32 := 0#32
  let v2330 : BitVec 1 := Scalar.cmpi .sgt c512_i32_684 c0_i32_687
  let v2331 : BitVec 32 := Scalar.extui v2330
  let c0_i32_688 : BitVec 32 := 0#32
  let v2332 : BitVec 1 := Scalar.cmpi .slt c512_i32_684 c0_i32_688
  let v2333 : BitVec 32 := Scalar.extui v2332
  let v2334 : BitVec 32 := Scalar.subi v2331 v2333
  let v2335 : BitVec 1 := Scalar.cmpi .ne v2329 v2334
  let v2336 : BitVec 32 := Scalar.remsi v2290 c512_i32_684
  let c0_i32_689 : BitVec 32 := 0#32
  let v2337 : BitVec 1 := Scalar.cmpi .ne v2336 c0_i32_689
  let v2338 : BitVec 1 := Scalar.andi v2335 v2337
  let v2324 : BitVec 32 := Scalar.divsi v2290 c512_i32_684
  let c1_i32_690 : BitVec 32 := 1#32
  let v2339 : BitVec 32 := Scalar.subi v2324 c1_i32_690
  let v2340 : BitVec 32 := Scalar.select v2338 v2339 v2324
  let c512_i32_691 : BitVec 32 := 512#32
  let v2341 : BitVec 32 := Scalar.muli v2340 c512_i32_691
  let v2342 : BitVec 32 := v2341
  let v3199 : Index := Scalar.indexCast v2342
  let c0_993 : Index := 0#32
  ![1, v3199.toNat, 0]
def k0_off16 (i : grid0.Coords) : Fin 3 → Nat :=
  let c1_999 : Index := 1#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_685 : BitVec 32 := 0#32
  let v2325 : BitVec 1 := Scalar.cmpi .sgt v2290 c0_i32_685
  let v2326 : BitVec 32 := Scalar.extui v2325
  let c0_i32_686 : BitVec 32 := 0#32
  let v2327 : BitVec 1 := Scalar.cmpi .slt v2290 c0_i32_686
  let v2328 : BitVec 32 := Scalar.extui v2327
  let v2329 : BitVec 32 := Scalar.subi v2326 v2328
  let c512_i32_684 : BitVec 32 := 512#32
  let c0_i32_687 : BitVec 32 := 0#32
  let v2330 : BitVec 1 := Scalar.cmpi .sgt c512_i32_684 c0_i32_687
  let v2331 : BitVec 32 := Scalar.extui v2330
  let c0_i32_688 : BitVec 32 := 0#32
  let v2332 : BitVec 1 := Scalar.cmpi .slt c512_i32_684 c0_i32_688
  let v2333 : BitVec 32 := Scalar.extui v2332
  let v2334 : BitVec 32 := Scalar.subi v2331 v2333
  let v2335 : BitVec 1 := Scalar.cmpi .ne v2329 v2334
  let v2336 : BitVec 32 := Scalar.remsi v2290 c512_i32_684
  let c0_i32_689 : BitVec 32 := 0#32
  let v2337 : BitVec 1 := Scalar.cmpi .ne v2336 c0_i32_689
  let v2338 : BitVec 1 := Scalar.andi v2335 v2337
  let v2324 : BitVec 32 := Scalar.divsi v2290 c512_i32_684
  let c1_i32_690 : BitVec 32 := 1#32
  let v2339 : BitVec 32 := Scalar.subi v2324 c1_i32_690
  let v2340 : BitVec 32 := Scalar.select v2338 v2339 v2324
  let c512_i32_691 : BitVec 32 := 512#32
  let v2341 : BitVec 32 := Scalar.muli v2340 c512_i32_691
  let v2342 : BitVec 32 := v2341
  let v3220 : Index := Scalar.indexCast v2342
  let c0_1000 : Index := 0#32
  ![1, v3220.toNat, 0]
@[reducible] def k0_t3_loop (i : grid0.Coords) : Scf.Loop 32 :=
  let c0_i32_713 : BitVec 32 := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let v2369 : BitVec 32 := Scalar.subi v2323 c0_i32_713
  let c1_i32_714 : BitVec 32 := 1#32
  let v2371 : BitVec 32 := Scalar.divsi v2369 c1_i32_714
  let v2372 : BitVec 32 := Scalar.muli v2371 c1_i32_714
  let v2373 : BitVec 32 := Scalar.addi c0_i32_713 v2372
  let c1_i32_715 : BitVec 32 := 1#32
  ⟨c0_i32_713, v2373, c1_i32_715⟩
def k0_mult5 (i : grid0.Coords) (k0_t3 : Fin (k0_t3_loop i).trips) : BitVec 32 :=
  let c0_i32_713 : BitVec 32 := 0#32
  let c1_i32_715 : BitVec 32 := 1#32
  let arg14 : BitVec 32 := Scf.iv c0_i32_713 c1_i32_715 k0_t3
  let c512_i32_976 : BitVec 32 := 512#32
  let v3163 : BitVec 32 := Scalar.muli arg14 c512_i32_976
  v3163
def k0_off17 (i : grid0.Coords) (k0_t3 : Fin (k0_t3_loop i).trips) : Fin 3 → Nat :=
  let c0_977 : Index := 0#32
  let c0_i32_713 : BitVec 32 := 0#32
  let c1_i32_715 : BitVec 32 := 1#32
  let arg14 : BitVec 32 := Scf.iv c0_i32_713 c1_i32_715 k0_t3
  let c512_i32_976 : BitVec 32 := 512#32
  let v3163 : BitVec 32 := Scalar.muli arg14 c512_i32_976
  let v3164 : BitVec 32 := v3163
  let v3165 : Index := Scalar.indexCast v3164
  let c0_978 : Index := 0#32
  ![0, v3165.toNat, 0]
def k0_off18 (i : grid0.Coords) (k0_t3 : Fin (k0_t3_loop i).trips) : Fin 4 → Nat :=
  let c0_979 : Index := 0#32
  let c0_980 : Index := 0#32
  let c128_981 : Index := 128#32
  let c0_i32_713 : BitVec 32 := 0#32
  let c1_i32_715 : BitVec 32 := 1#32
  let arg14 : BitVec 32 := Scf.iv c0_i32_713 c1_i32_715 k0_t3
  let c512_i32_976 : BitVec 32 := 512#32
  let v3163 : BitVec 32 := Scalar.muli arg14 c512_i32_976
  let v3164 : BitVec 32 := v3163
  let v3171 : Index := Scalar.indexCast v3164
  ![0, 0, 128, v3171.toNat]
def k0_off19 (i : grid0.Coords) (k0_t3 : Fin (k0_t3_loop i).trips) : Fin 3 → Nat :=
  let c1_990 : Index := 1#32
  let c0_i32_713 : BitVec 32 := 0#32
  let c1_i32_715 : BitVec 32 := 1#32
  let arg14 : BitVec 32 := Scf.iv c0_i32_713 c1_i32_715 k0_t3
  let c512_i32_976 : BitVec 32 := 512#32
  let v3163 : BitVec 32 := Scalar.muli arg14 c512_i32_976
  let v3164 : BitVec 32 := v3163
  let v3184 : Index := Scalar.indexCast v3164
  let c0_991 : Index := 0#32
  ![1, v3184.toNat, 0]
def k0_off20 (i : grid0.Coords) (k0_t3 : Fin (k0_t3_loop i).trips) : Fin 4 → Nat :=
  let c0_992 : Index := 0#32
  let c0_993 : Index := 0#32
  let c192_994 : Index := 192#32
  let c0_i32_713 : BitVec 32 := 0#32
  let c1_i32_715 : BitVec 32 := 1#32
  let arg14 : BitVec 32 := Scf.iv c0_i32_713 c1_i32_715 k0_t3
  let c512_i32_976 : BitVec 32 := 512#32
  let v3163 : BitVec 32 := Scalar.muli arg14 c512_i32_976
  let v3164 : BitVec 32 := v3163
  let v3190 : Index := Scalar.indexCast v3164
  ![0, 0, 192, v3190.toNat]
@[reducible] def k0_t4_loop (i : grid0.Coords) : Scf.Loop 32 :=
  let c0_i32_713 : BitVec 32 := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let v2369 : BitVec 32 := Scalar.subi v2323 c0_i32_713
  let c1_i32_714 : BitVec 32 := 1#32
  let v2371 : BitVec 32 := Scalar.divsi v2369 c1_i32_714
  let v2372 : BitVec 32 := Scalar.muli v2371 c1_i32_714
  let v2373 : BitVec 32 := Scalar.addi c0_i32_713 v2372
  let v2370 : BitVec 32 := Scalar.addi c0_i32_713 v2369
  let c1_i32_716 : BitVec 32 := 1#32
  ⟨v2373, v2370, c1_i32_716⟩
def k0_mult6 (i : grid0.Coords) (k0_t4 : Fin (k0_t4_loop i).trips) : BitVec 32 :=
  let c0_i32_713 : BitVec 32 := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let v2369 : BitVec 32 := Scalar.subi v2323 c0_i32_713
  let c1_i32_714 : BitVec 32 := 1#32
  let v2371 : BitVec 32 := Scalar.divsi v2369 c1_i32_714
  let v2372 : BitVec 32 := Scalar.muli v2371 c1_i32_714
  let v2373 : BitVec 32 := Scalar.addi c0_i32_713 v2372
  let c1_i32_716 : BitVec 32 := 1#32
  let arg14 : BitVec 32 := Scf.iv v2373 c1_i32_716 k0_t4
  let c512_i32_976 : BitVec 32 := 512#32
  let v3163 : BitVec 32 := Scalar.muli arg14 c512_i32_976
  v3163
def k0_off21 (i : grid0.Coords) (k0_t4 : Fin (k0_t4_loop i).trips) : Fin 3 → Nat :=
  let c0_977 : Index := 0#32
  let c0_i32_713 : BitVec 32 := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let v2369 : BitVec 32 := Scalar.subi v2323 c0_i32_713
  let c1_i32_714 : BitVec 32 := 1#32
  let v2371 : BitVec 32 := Scalar.divsi v2369 c1_i32_714
  let v2372 : BitVec 32 := Scalar.muli v2371 c1_i32_714
  let v2373 : BitVec 32 := Scalar.addi c0_i32_713 v2372
  let c1_i32_716 : BitVec 32 := 1#32
  let arg14 : BitVec 32 := Scf.iv v2373 c1_i32_716 k0_t4
  let c512_i32_976 : BitVec 32 := 512#32
  let v3163 : BitVec 32 := Scalar.muli arg14 c512_i32_976
  let v3164 : BitVec 32 := v3163
  let v3165 : Index := Scalar.indexCast v3164
  let c0_978 : Index := 0#32
  ![0, v3165.toNat, 0]
def k0_off22 (i : grid0.Coords) (k0_t4 : Fin (k0_t4_loop i).trips) : Fin 4 → Nat :=
  let c0_979 : Index := 0#32
  let c0_980 : Index := 0#32
  let c128_981 : Index := 128#32
  let c0_i32_713 : BitVec 32 := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let v2369 : BitVec 32 := Scalar.subi v2323 c0_i32_713
  let c1_i32_714 : BitVec 32 := 1#32
  let v2371 : BitVec 32 := Scalar.divsi v2369 c1_i32_714
  let v2372 : BitVec 32 := Scalar.muli v2371 c1_i32_714
  let v2373 : BitVec 32 := Scalar.addi c0_i32_713 v2372
  let c1_i32_716 : BitVec 32 := 1#32
  let arg14 : BitVec 32 := Scf.iv v2373 c1_i32_716 k0_t4
  let c512_i32_976 : BitVec 32 := 512#32
  let v3163 : BitVec 32 := Scalar.muli arg14 c512_i32_976
  let v3164 : BitVec 32 := v3163
  let v3171 : Index := Scalar.indexCast v3164
  ![0, 0, 128, v3171.toNat]
def k0_off23 (i : grid0.Coords) (k0_t4 : Fin (k0_t4_loop i).trips) : Fin 3 → Nat :=
  let c1_990 : Index := 1#32
  let c0_i32_713 : BitVec 32 := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let v2369 : BitVec 32 := Scalar.subi v2323 c0_i32_713
  let c1_i32_714 : BitVec 32 := 1#32
  let v2371 : BitVec 32 := Scalar.divsi v2369 c1_i32_714
  let v2372 : BitVec 32 := Scalar.muli v2371 c1_i32_714
  let v2373 : BitVec 32 := Scalar.addi c0_i32_713 v2372
  let c1_i32_716 : BitVec 32 := 1#32
  let arg14 : BitVec 32 := Scf.iv v2373 c1_i32_716 k0_t4
  let c512_i32_976 : BitVec 32 := 512#32
  let v3163 : BitVec 32 := Scalar.muli arg14 c512_i32_976
  let v3164 : BitVec 32 := v3163
  let v3184 : Index := Scalar.indexCast v3164
  let c0_991 : Index := 0#32
  ![1, v3184.toNat, 0]
def k0_off24 (i : grid0.Coords) (k0_t4 : Fin (k0_t4_loop i).trips) : Fin 4 → Nat :=
  let c0_992 : Index := 0#32
  let c0_993 : Index := 0#32
  let c192_994 : Index := 192#32
  let c0_i32_713 : BitVec 32 := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_677 : BitVec 32 := 0#32
  let v2305 : BitVec 1 := Scalar.cmpi .sgt v2290 c0_i32_677
  let v2306 : BitVec 32 := Scalar.extui v2305
  let c0_i32_678 : BitVec 32 := 0#32
  let v2307 : BitVec 1 := Scalar.cmpi .slt v2290 c0_i32_678
  let v2308 : BitVec 32 := Scalar.extui v2307
  let v2309 : BitVec 32 := Scalar.subi v2306 v2308
  let c512_i32_676 : BitVec 32 := 512#32
  let c0_i32_679 : BitVec 32 := 0#32
  let v2310 : BitVec 1 := Scalar.cmpi .sgt c512_i32_676 c0_i32_679
  let v2311 : BitVec 32 := Scalar.extui v2310
  let c0_i32_680 : BitVec 32 := 0#32
  let v2312 : BitVec 1 := Scalar.cmpi .slt c512_i32_676 c0_i32_680
  let v2313 : BitVec 32 := Scalar.extui v2312
  let v2314 : BitVec 32 := Scalar.subi v2311 v2313
  let v2315 : BitVec 1 := Scalar.cmpi .ne v2309 v2314
  let v2316 : BitVec 32 := Scalar.remsi v2290 c512_i32_676
  let c0_i32_681 : BitVec 32 := 0#32
  let v2317 : BitVec 1 := Scalar.cmpi .ne v2316 c0_i32_681
  let v2318 : BitVec 1 := Scalar.andi v2315 v2317
  let v2304 : BitVec 32 := Scalar.divsi v2290 c512_i32_676
  let c1_i32_682 : BitVec 32 := 1#32
  let v2319 : BitVec 32 := Scalar.subi v2304 c1_i32_682
  let v2320 : BitVec 32 := Scalar.select v2318 v2319 v2304
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c256_i32_683 : BitVec 32 := 256#32
  let v2321 : BitVec 1 := Scalar.cmpi .sgt v2300 c256_i32_683
  let v2322 : BitVec 32 := Scalar.extui v2321
  let v2323 : BitVec 32 := Scalar.addi v2320 v2322
  let v2369 : BitVec 32 := Scalar.subi v2323 c0_i32_713
  let c1_i32_714 : BitVec 32 := 1#32
  let v2371 : BitVec 32 := Scalar.divsi v2369 c1_i32_714
  let v2372 : BitVec 32 := Scalar.muli v2371 c1_i32_714
  let v2373 : BitVec 32 := Scalar.addi c0_i32_713 v2372
  let c1_i32_716 : BitVec 32 := 1#32
  let arg14 : BitVec 32 := Scf.iv v2373 c1_i32_716 k0_t4
  let c512_i32_976 : BitVec 32 := 512#32
  let v3163 : BitVec 32 := Scalar.muli arg14 c512_i32_976
  let v3164 : BitVec 32 := v3163
  let v3190 : Index := Scalar.indexCast v3164
  ![0, 0, 192, v3190.toNat]
def k0_cond4 (i : grid0.Coords) : BitVec 1 :=
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c512_i32 : BitVec 32 := 512#32
  let c0_i32_669 : BitVec 32 := 0#32
  let v2291 : BitVec 1 := Scalar.cmpi .eq c512_i32 c0_i32_669
  let c1_i32_670 : BitVec 32 := 1#32
  let v2292 : BitVec 32 := Scalar.select v2291 c1_i32_670 c512_i32
  let v2293 : BitVec 32 := Scalar.remsi v2290 v2292
  let c0_i32_672 : BitVec 32 := 0#32
  let v2295 : BitVec 1 := Scalar.cmpi .slt v2293 c0_i32_672
  let c0_i32_673 : BitVec 32 := 0#32
  let v2296 : BitVec 1 := Scalar.cmpi .slt v2292 c0_i32_673
  let v2297 : BitVec 1 := Scalar.xori v2295 v2296
  let c0_i32_671 : BitVec 32 := 0#32
  let v2294 : BitVec 1 := Scalar.cmpi .ne v2293 c0_i32_671
  let v2298 : BitVec 1 := Scalar.andi v2297 v2294
  let v2299 : BitVec 32 := Scalar.addi v2293 v2292
  let v2300 : BitVec 32 := Scalar.select v2298 v2299 v2293
  let c0_i32_674 : BitVec 32 := 0#32
  let v2301 : BitVec 1 := Scalar.cmpi .sgt v2300 c0_i32_674
  let c256_i32_675 : BitVec 32 := 256#32
  let v2302 : BitVec 1 := Scalar.cmpi .sle v2300 c256_i32_675
  let v2303 : BitVec 1 := Scalar.andi v2301 v2302
  let v2374 : BitVec 32 := Scalar.extui v2303
  let c0_i32_717 : BitVec 32 := 0#32
  let v2375 : BitVec 1 := Scalar.cmpi .ne v2374 c0_i32_717
  v2375

def k0_off25 (i : grid0.Coords) : Fin 3 → Nat :=
  let c0_976 : Index := 0#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_685 : BitVec 32 := 0#32
  let v2325 : BitVec 1 := Scalar.cmpi .sgt v2290 c0_i32_685
  let v2326 : BitVec 32 := Scalar.extui v2325
  let c0_i32_686 : BitVec 32 := 0#32
  let v2327 : BitVec 1 := Scalar.cmpi .slt v2290 c0_i32_686
  let v2328 : BitVec 32 := Scalar.extui v2327
  let v2329 : BitVec 32 := Scalar.subi v2326 v2328
  let c512_i32_684 : BitVec 32 := 512#32
  let c0_i32_687 : BitVec 32 := 0#32
  let v2330 : BitVec 1 := Scalar.cmpi .sgt c512_i32_684 c0_i32_687
  let v2331 : BitVec 32 := Scalar.extui v2330
  let c0_i32_688 : BitVec 32 := 0#32
  let v2332 : BitVec 1 := Scalar.cmpi .slt c512_i32_684 c0_i32_688
  let v2333 : BitVec 32 := Scalar.extui v2332
  let v2334 : BitVec 32 := Scalar.subi v2331 v2333
  let v2335 : BitVec 1 := Scalar.cmpi .ne v2329 v2334
  let v2336 : BitVec 32 := Scalar.remsi v2290 c512_i32_684
  let c0_i32_689 : BitVec 32 := 0#32
  let v2337 : BitVec 1 := Scalar.cmpi .ne v2336 c0_i32_689
  let v2338 : BitVec 1 := Scalar.andi v2335 v2337
  let v2324 : BitVec 32 := Scalar.divsi v2290 c512_i32_684
  let c1_i32_690 : BitVec 32 := 1#32
  let v2339 : BitVec 32 := Scalar.subi v2324 c1_i32_690
  let v2340 : BitVec 32 := Scalar.select v2338 v2339 v2324
  let c512_i32_691 : BitVec 32 := 512#32
  let v2341 : BitVec 32 := Scalar.muli v2340 c512_i32_691
  let v2342 : BitVec 32 := v2341
  let v3163 : Index := Scalar.indexCast v2342
  let c0_977 : Index := 0#32
  ![0, v3163.toNat, 0]
def k0_off26 (i : grid0.Coords) : Fin 4 → Nat :=
  let c0_978 : Index := 0#32
  let c0_979 : Index := 0#32
  let c128_980 : Index := 128#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_685 : BitVec 32 := 0#32
  let v2325 : BitVec 1 := Scalar.cmpi .sgt v2290 c0_i32_685
  let v2326 : BitVec 32 := Scalar.extui v2325
  let c0_i32_686 : BitVec 32 := 0#32
  let v2327 : BitVec 1 := Scalar.cmpi .slt v2290 c0_i32_686
  let v2328 : BitVec 32 := Scalar.extui v2327
  let v2329 : BitVec 32 := Scalar.subi v2326 v2328
  let c512_i32_684 : BitVec 32 := 512#32
  let c0_i32_687 : BitVec 32 := 0#32
  let v2330 : BitVec 1 := Scalar.cmpi .sgt c512_i32_684 c0_i32_687
  let v2331 : BitVec 32 := Scalar.extui v2330
  let c0_i32_688 : BitVec 32 := 0#32
  let v2332 : BitVec 1 := Scalar.cmpi .slt c512_i32_684 c0_i32_688
  let v2333 : BitVec 32 := Scalar.extui v2332
  let v2334 : BitVec 32 := Scalar.subi v2331 v2333
  let v2335 : BitVec 1 := Scalar.cmpi .ne v2329 v2334
  let v2336 : BitVec 32 := Scalar.remsi v2290 c512_i32_684
  let c0_i32_689 : BitVec 32 := 0#32
  let v2337 : BitVec 1 := Scalar.cmpi .ne v2336 c0_i32_689
  let v2338 : BitVec 1 := Scalar.andi v2335 v2337
  let v2324 : BitVec 32 := Scalar.divsi v2290 c512_i32_684
  let c1_i32_690 : BitVec 32 := 1#32
  let v2339 : BitVec 32 := Scalar.subi v2324 c1_i32_690
  let v2340 : BitVec 32 := Scalar.select v2338 v2339 v2324
  let c512_i32_691 : BitVec 32 := 512#32
  let v2341 : BitVec 32 := Scalar.muli v2340 c512_i32_691
  let v2342 : BitVec 32 := v2341
  let v3169 : Index := Scalar.indexCast v2342
  ![0, 0, 128, v3169.toNat]
def k0_off27 (i : grid0.Coords) : Fin 3 → Nat :=
  let c1_989 : Index := 1#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_685 : BitVec 32 := 0#32
  let v2325 : BitVec 1 := Scalar.cmpi .sgt v2290 c0_i32_685
  let v2326 : BitVec 32 := Scalar.extui v2325
  let c0_i32_686 : BitVec 32 := 0#32
  let v2327 : BitVec 1 := Scalar.cmpi .slt v2290 c0_i32_686
  let v2328 : BitVec 32 := Scalar.extui v2327
  let v2329 : BitVec 32 := Scalar.subi v2326 v2328
  let c512_i32_684 : BitVec 32 := 512#32
  let c0_i32_687 : BitVec 32 := 0#32
  let v2330 : BitVec 1 := Scalar.cmpi .sgt c512_i32_684 c0_i32_687
  let v2331 : BitVec 32 := Scalar.extui v2330
  let c0_i32_688 : BitVec 32 := 0#32
  let v2332 : BitVec 1 := Scalar.cmpi .slt c512_i32_684 c0_i32_688
  let v2333 : BitVec 32 := Scalar.extui v2332
  let v2334 : BitVec 32 := Scalar.subi v2331 v2333
  let v2335 : BitVec 1 := Scalar.cmpi .ne v2329 v2334
  let v2336 : BitVec 32 := Scalar.remsi v2290 c512_i32_684
  let c0_i32_689 : BitVec 32 := 0#32
  let v2337 : BitVec 1 := Scalar.cmpi .ne v2336 c0_i32_689
  let v2338 : BitVec 1 := Scalar.andi v2335 v2337
  let v2324 : BitVec 32 := Scalar.divsi v2290 c512_i32_684
  let c1_i32_690 : BitVec 32 := 1#32
  let v2339 : BitVec 32 := Scalar.subi v2324 c1_i32_690
  let v2340 : BitVec 32 := Scalar.select v2338 v2339 v2324
  let c512_i32_691 : BitVec 32 := 512#32
  let v2341 : BitVec 32 := Scalar.muli v2340 c512_i32_691
  let v2342 : BitVec 32 := v2341
  let v3182 : Index := Scalar.indexCast v2342
  let c0_990 : Index := 0#32
  ![1, v3182.toNat, 0]
def k0_off28 (i : grid0.Coords) : Fin 4 → Nat :=
  let c0_991 : Index := 0#32
  let c0_992 : Index := 0#32
  let c192_993 : Index := 192#32
  let arg1 : BitVec 32 := BitVec.ofNat 32 (i 1).val
  let c256_i32 : BitVec 32 := 256#32
  let v0 : BitVec 32 := Scalar.muli arg1 c256_i32
  let c256_i32_668 : BitVec 32 := 256#32
  let v2290 : BitVec 32 := Scalar.addi v0 c256_i32_668
  let c0_i32_685 : BitVec 32 := 0#32
  let v2325 : BitVec 1 := Scalar.cmpi .sgt v2290 c0_i32_685
  let v2326 : BitVec 32 := Scalar.extui v2325
  let c0_i32_686 : BitVec 32 := 0#32
  let v2327 : BitVec 1 := Scalar.cmpi .slt v2290 c0_i32_686
  let v2328 : BitVec 32 := Scalar.extui v2327
  let v2329 : BitVec 32 := Scalar.subi v2326 v2328
  let c512_i32_684 : BitVec 32 := 512#32
  let c0_i32_687 : BitVec 32 := 0#32
  let v2330 : BitVec 1 := Scalar.cmpi .sgt c512_i32_684 c0_i32_687
  let v2331 : BitVec 32 := Scalar.extui v2330
  let c0_i32_688 : BitVec 32 := 0#32
  let v2332 : BitVec 1 := Scalar.cmpi .slt c512_i32_684 c0_i32_688
  let v2333 : BitVec 32 := Scalar.extui v2332
  let v2334 : BitVec 32 := Scalar.subi v2331 v2333
  let v2335 : BitVec 1 := Scalar.cmpi .ne v2329 v2334
  let v2336 : BitVec 32 := Scalar.remsi v2290 c512_i32_684
  let c0_i32_689 : BitVec 32 := 0#32
  let v2337 : BitVec 1 := Scalar.cmpi .ne v2336 c0_i32_689
  let v2338 : BitVec 1 := Scalar.andi v2335 v2337
  let v2324 : BitVec 32 := Scalar.divsi v2290 c512_i32_684
  let c1_i32_690 : BitVec 32 := 1#32
  let v2339 : BitVec 32 := Scalar.subi v2324 c1_i32_690
  let v2340 : BitVec 32 := Scalar.select v2338 v2339 v2324
  let c512_i32_691 : BitVec 32 := 512#32
  let v2341 : BitVec 32 := Scalar.muli v2340 c512_i32_691
  let v2342 : BitVec 32 := v2341
  let v3188 : Index := Scalar.indexCast v2342
  ![0, 0, 192, v3188.toNat]
def k0_mult7 (i : grid0.Coords) : BitVec 32 :=
  let arg1 : BitVec 32 := BitVec.ofNat 32 (i 1).val
  let c256_i32 : BitVec 32 := 256#32
  let v0 : BitVec 32 := Scalar.muli arg1 c256_i32
  let c0_i32_718 : BitVec 32 := 0#32
  let v2378 : BitVec 1 := Scalar.cmpi .sgt v0 c0_i32_718
  let v2379 : BitVec 32 := Scalar.extui v2378
  let c0_i32_719 : BitVec 32 := 0#32
  let v2380 : BitVec 1 := Scalar.cmpi .slt v0 c0_i32_719
  let v2381 : BitVec 32 := Scalar.extui v2380
  let v2382 : BitVec 32 := Scalar.subi v2379 v2381
  let c128_i32 : BitVec 32 := 128#32
  let c0_i32_720 : BitVec 32 := 0#32
  let v2383 : BitVec 1 := Scalar.cmpi .sgt c128_i32 c0_i32_720
  let v2384 : BitVec 32 := Scalar.extui v2383
  let c0_i32_721 : BitVec 32 := 0#32
  let v2385 : BitVec 1 := Scalar.cmpi .slt c128_i32 c0_i32_721
  let v2386 : BitVec 32 := Scalar.extui v2385
  let v2387 : BitVec 32 := Scalar.subi v2384 v2386
  let v2388 : BitVec 1 := Scalar.cmpi .ne v2382 v2387
  let v2389 : BitVec 32 := Scalar.remsi v0 c128_i32
  let c0_i32_722 : BitVec 32 := 0#32
  let v2390 : BitVec 1 := Scalar.cmpi .ne v2389 c0_i32_722
  let v2391 : BitVec 1 := Scalar.andi v2388 v2390
  let v2377 : BitVec 32 := Scalar.divsi v0 c128_i32
  let c1_i32_723 : BitVec 32 := 1#32
  let v2392 : BitVec 32 := Scalar.subi v2377 c1_i32_723
  let v2393 : BitVec 32 := Scalar.select v2391 v2392 v2377
  let c0_i32_724 : BitVec 32 := 0#32
  let v2394 : BitVec 32 := Scalar.addi v2393 c0_i32_724
  let c2_i32_725 : BitVec 32 := 2#32
  let v2395 : BitVec 32 := Scalar.subi v2394 c2_i32_725
  let c0_i32_726 : BitVec 32 := 0#32
  let v2396 : BitVec 32 := Scalar.addi v2395 c0_i32_726
  let c0_i32_727 : BitVec 32 := 0#32
  let v2397 : BitVec 32 := Scalar.maxsi v2396 c0_i32_727
  let c128_i32_728 : BitVec 32 := 128#32
  let v2398 : BitVec 32 := Scalar.muli v2397 c128_i32_728
  v2398
def k0_mult8 (i : grid0.Coords) : BitVec 32 :=
  let arg1 : BitVec 32 := BitVec.ofNat 32 (i 1).val
  let c256_i32 : BitVec 32 := 256#32
  let v0 : BitVec 32 := Scalar.muli arg1 c256_i32
  let c0_i32_733 : BitVec 32 := 0#32
  let v2418 : BitVec 1 := Scalar.cmpi .sgt v0 c0_i32_733
  let v2419 : BitVec 32 := Scalar.extui v2418
  let c0_i32_734 : BitVec 32 := 0#32
  let v2420 : BitVec 1 := Scalar.cmpi .slt v0 c0_i32_734
  let v2421 : BitVec 32 := Scalar.extui v2420
  let v2422 : BitVec 32 := Scalar.subi v2419 v2421
  let c128_i32_732 : BitVec 32 := 128#32
  let c0_i32_735 : BitVec 32 := 0#32
  let v2423 : BitVec 1 := Scalar.cmpi .sgt c128_i32_732 c0_i32_735
  let v2424 : BitVec 32 := Scalar.extui v2423
  let c0_i32_736 : BitVec 32 := 0#32
  let v2425 : BitVec 1 := Scalar.cmpi .slt c128_i32_732 c0_i32_736
  let v2426 : BitVec 32 := Scalar.extui v2425
  let v2427 : BitVec 32 := Scalar.subi v2424 v2426
  let v2428 : BitVec 1 := Scalar.cmpi .ne v2422 v2427
  let v2429 : BitVec 32 := Scalar.remsi v0 c128_i32_732
  let c0_i32_737 : BitVec 32 := 0#32
  let v2430 : BitVec 1 := Scalar.cmpi .ne v2429 c0_i32_737
  let v2431 : BitVec 1 := Scalar.andi v2428 v2430
  let v2417 : BitVec 32 := Scalar.divsi v0 c128_i32_732
  let c1_i32_738 : BitVec 32 := 1#32
  let v2432 : BitVec 32 := Scalar.subi v2417 c1_i32_738
  let v2433 : BitVec 32 := Scalar.select v2431 v2432 v2417
  let c0_i32_739 : BitVec 32 := 0#32
  let v2434 : BitVec 32 := Scalar.addi v2433 c0_i32_739
  let c2_i32_740 : BitVec 32 := 2#32
  let v2435 : BitVec 32 := Scalar.subi v2434 c2_i32_740
  let c1_i32_741 : BitVec 32 := 1#32
  let v2436 : BitVec 32 := Scalar.addi v2435 c1_i32_741
  let c0_i32_742 : BitVec 32 := 0#32
  let v2437 : BitVec 32 := Scalar.maxsi v2436 c0_i32_742
  let c128_i32_743 : BitVec 32 := 128#32
  let v2438 : BitVec 32 := Scalar.muli v2437 c128_i32_743
  v2438
def k0_mult9 (i : grid0.Coords) : BitVec 32 :=
  let arg1 : BitVec 32 := BitVec.ofNat 32 (i 1).val
  let c256_i32 : BitVec 32 := 256#32
  let v0 : BitVec 32 := Scalar.muli arg1 c256_i32
  let c0_i32_748 : BitVec 32 := 0#32
  let v2458 : BitVec 1 := Scalar.cmpi .sgt v0 c0_i32_748
  let v2459 : BitVec 32 := Scalar.extui v2458
  let c0_i32_749 : BitVec 32 := 0#32
  let v2460 : BitVec 1 := Scalar.cmpi .slt v0 c0_i32_749
  let v2461 : BitVec 32 := Scalar.extui v2460
  let v2462 : BitVec 32 := Scalar.subi v2459 v2461
  let c128_i32_747 : BitVec 32 := 128#32
  let c0_i32_750 : BitVec 32 := 0#32
  let v2463 : BitVec 1 := Scalar.cmpi .sgt c128_i32_747 c0_i32_750
  let v2464 : BitVec 32 := Scalar.extui v2463
  let c0_i32_751 : BitVec 32 := 0#32
  let v2465 : BitVec 1 := Scalar.cmpi .slt c128_i32_747 c0_i32_751
  let v2466 : BitVec 32 := Scalar.extui v2465
  let v2467 : BitVec 32 := Scalar.subi v2464 v2466
  let v2468 : BitVec 1 := Scalar.cmpi .ne v2462 v2467
  let v2469 : BitVec 32 := Scalar.remsi v0 c128_i32_747
  let c0_i32_752 : BitVec 32 := 0#32
  let v2470 : BitVec 1 := Scalar.cmpi .ne v2469 c0_i32_752
  let v2471 : BitVec 1 := Scalar.andi v2468 v2470
  let v2457 : BitVec 32 := Scalar.divsi v0 c128_i32_747
  let c1_i32_753 : BitVec 32 := 1#32
  let v2472 : BitVec 32 := Scalar.subi v2457 c1_i32_753
  let v2473 : BitVec 32 := Scalar.select v2471 v2472 v2457
  let c0_i32_754 : BitVec 32 := 0#32
  let v2474 : BitVec 32 := Scalar.addi v2473 c0_i32_754
  let c2_i32_755 : BitVec 32 := 2#32
  let v2475 : BitVec 32 := Scalar.subi v2474 c2_i32_755
  let c2_i32_756 : BitVec 32 := 2#32
  let v2476 : BitVec 32 := Scalar.addi v2475 c2_i32_756
  let c0_i32_757 : BitVec 32 := 0#32
  let v2477 : BitVec 32 := Scalar.maxsi v2476 c0_i32_757
  let c128_i32_758 : BitVec 32 := 128#32
  let v2478 : BitVec 32 := Scalar.muli v2477 c128_i32_758
  v2478
def k0_mult10 (i : grid0.Coords) : BitVec 32 :=
  let arg1 : BitVec 32 := BitVec.ofNat 32 (i 1).val
  let c256_i32 : BitVec 32 := 256#32
  let v0 : BitVec 32 := Scalar.muli arg1 c256_i32
  let c0_i32_763 : BitVec 32 := 0#32
  let v2499 : BitVec 1 := Scalar.cmpi .sgt v0 c0_i32_763
  let v2500 : BitVec 32 := Scalar.extui v2499
  let c0_i32_764 : BitVec 32 := 0#32
  let v2501 : BitVec 1 := Scalar.cmpi .slt v0 c0_i32_764
  let v2502 : BitVec 32 := Scalar.extui v2501
  let v2503 : BitVec 32 := Scalar.subi v2500 v2502
  let c128_i32_762 : BitVec 32 := 128#32
  let c0_i32_765 : BitVec 32 := 0#32
  let v2504 : BitVec 1 := Scalar.cmpi .sgt c128_i32_762 c0_i32_765
  let v2505 : BitVec 32 := Scalar.extui v2504
  let c0_i32_766 : BitVec 32 := 0#32
  let v2506 : BitVec 1 := Scalar.cmpi .slt c128_i32_762 c0_i32_766
  let v2507 : BitVec 32 := Scalar.extui v2506
  let v2508 : BitVec 32 := Scalar.subi v2505 v2507
  let v2509 : BitVec 1 := Scalar.cmpi .ne v2503 v2508
  let v2510 : BitVec 32 := Scalar.remsi v0 c128_i32_762
  let c0_i32_767 : BitVec 32 := 0#32
  let v2511 : BitVec 1 := Scalar.cmpi .ne v2510 c0_i32_767
  let v2512 : BitVec 1 := Scalar.andi v2509 v2511
  let v2498 : BitVec 32 := Scalar.divsi v0 c128_i32_762
  let c1_i32_768 : BitVec 32 := 1#32
  let v2513 : BitVec 32 := Scalar.subi v2498 c1_i32_768
  let v2514 : BitVec 32 := Scalar.select v2512 v2513 v2498
  let c1_i32_769 : BitVec 32 := 1#32
  let v2515 : BitVec 32 := Scalar.addi v2514 c1_i32_769
  let c2_i32_770 : BitVec 32 := 2#32
  let v2516 : BitVec 32 := Scalar.subi v2515 c2_i32_770
  let c0_i32_771 : BitVec 32 := 0#32
  let v2517 : BitVec 32 := Scalar.addi v2516 c0_i32_771
  let c0_i32_772 : BitVec 32 := 0#32
  let v2518 : BitVec 32 := Scalar.maxsi v2517 c0_i32_772
  let c128_i32_773 : BitVec 32 := 128#32
  let v2519 : BitVec 32 := Scalar.muli v2518 c128_i32_773
  v2519
def k0_mult11 (i : grid0.Coords) : BitVec 32 :=
  let arg1 : BitVec 32 := BitVec.ofNat 32 (i 1).val
  let c256_i32 : BitVec 32 := 256#32
  let v0 : BitVec 32 := Scalar.muli arg1 c256_i32
  let c0_i32_778 : BitVec 32 := 0#32
  let v2539 : BitVec 1 := Scalar.cmpi .sgt v0 c0_i32_778
  let v2540 : BitVec 32 := Scalar.extui v2539
  let c0_i32_779 : BitVec 32 := 0#32
  let v2541 : BitVec 1 := Scalar.cmpi .slt v0 c0_i32_779
  let v2542 : BitVec 32 := Scalar.extui v2541
  let v2543 : BitVec 32 := Scalar.subi v2540 v2542
  let c128_i32_777 : BitVec 32 := 128#32
  let c0_i32_780 : BitVec 32 := 0#32
  let v2544 : BitVec 1 := Scalar.cmpi .sgt c128_i32_777 c0_i32_780
  let v2545 : BitVec 32 := Scalar.extui v2544
  let c0_i32_781 : BitVec 32 := 0#32
  let v2546 : BitVec 1 := Scalar.cmpi .slt c128_i32_777 c0_i32_781
  let v2547 : BitVec 32 := Scalar.extui v2546
  let v2548 : BitVec 32 := Scalar.subi v2545 v2547
  let v2549 : BitVec 1 := Scalar.cmpi .ne v2543 v2548
  let v2550 : BitVec 32 := Scalar.remsi v0 c128_i32_777
  let c0_i32_782 : BitVec 32 := 0#32
  let v2551 : BitVec 1 := Scalar.cmpi .ne v2550 c0_i32_782
  let v2552 : BitVec 1 := Scalar.andi v2549 v2551
  let v2538 : BitVec 32 := Scalar.divsi v0 c128_i32_777
  let c1_i32_783 : BitVec 32 := 1#32
  let v2553 : BitVec 32 := Scalar.subi v2538 c1_i32_783
  let v2554 : BitVec 32 := Scalar.select v2552 v2553 v2538
  let c1_i32_784 : BitVec 32 := 1#32
  let v2555 : BitVec 32 := Scalar.addi v2554 c1_i32_784
  let c2_i32_785 : BitVec 32 := 2#32
  let v2556 : BitVec 32 := Scalar.subi v2555 c2_i32_785
  let c1_i32_786 : BitVec 32 := 1#32
  let v2557 : BitVec 32 := Scalar.addi v2556 c1_i32_786
  let c0_i32_787 : BitVec 32 := 0#32
  let v2558 : BitVec 32 := Scalar.maxsi v2557 c0_i32_787
  let c128_i32_788 : BitVec 32 := 128#32
  let v2559 : BitVec 32 := Scalar.muli v2558 c128_i32_788
  v2559
def k0_mult12 (i : grid0.Coords) : BitVec 32 :=
  let arg1 : BitVec 32 := BitVec.ofNat 32 (i 1).val
  let c256_i32 : BitVec 32 := 256#32
  let v0 : BitVec 32 := Scalar.muli arg1 c256_i32
  let c0_i32_793 : BitVec 32 := 0#32
  let v2579 : BitVec 1 := Scalar.cmpi .sgt v0 c0_i32_793
  let v2580 : BitVec 32 := Scalar.extui v2579
  let c0_i32_794 : BitVec 32 := 0#32
  let v2581 : BitVec 1 := Scalar.cmpi .slt v0 c0_i32_794
  let v2582 : BitVec 32 := Scalar.extui v2581
  let v2583 : BitVec 32 := Scalar.subi v2580 v2582
  let c128_i32_792 : BitVec 32 := 128#32
  let c0_i32_795 : BitVec 32 := 0#32
  let v2584 : BitVec 1 := Scalar.cmpi .sgt c128_i32_792 c0_i32_795
  let v2585 : BitVec 32 := Scalar.extui v2584
  let c0_i32_796 : BitVec 32 := 0#32
  let v2586 : BitVec 1 := Scalar.cmpi .slt c128_i32_792 c0_i32_796
  let v2587 : BitVec 32 := Scalar.extui v2586
  let v2588 : BitVec 32 := Scalar.subi v2585 v2587
  let v2589 : BitVec 1 := Scalar.cmpi .ne v2583 v2588
  let v2590 : BitVec 32 := Scalar.remsi v0 c128_i32_792
  let c0_i32_797 : BitVec 32 := 0#32
  let v2591 : BitVec 1 := Scalar.cmpi .ne v2590 c0_i32_797
  let v2592 : BitVec 1 := Scalar.andi v2589 v2591
  let v2578 : BitVec 32 := Scalar.divsi v0 c128_i32_792
  let c1_i32_798 : BitVec 32 := 1#32
  let v2593 : BitVec 32 := Scalar.subi v2578 c1_i32_798
  let v2594 : BitVec 32 := Scalar.select v2592 v2593 v2578
  let c1_i32_799 : BitVec 32 := 1#32
  let v2595 : BitVec 32 := Scalar.addi v2594 c1_i32_799
  let c2_i32_800 : BitVec 32 := 2#32
  let v2596 : BitVec 32 := Scalar.subi v2595 c2_i32_800
  let c2_i32_801 : BitVec 32 := 2#32
  let v2597 : BitVec 32 := Scalar.addi v2596 c2_i32_801
  let c0_i32_802 : BitVec 32 := 0#32
  let v2598 : BitVec 32 := Scalar.maxsi v2597 c0_i32_802
  let c128_i32_803 : BitVec 32 := 128#32
  let v2599 : BitVec 32 := Scalar.muli v2598 c128_i32_803
  v2599
def k0_off29 (i : grid0.Coords) (c0_i32_724 : BitVec 32) (c0_i32_726 : BitVec 32) : Fin 3 → Nat :=
  let c0_812 : Index := 0#32
  let arg1 : BitVec 32 := BitVec.ofNat 32 (i 1).val
  let c256_i32 : BitVec 32 := 256#32
  let v0 : BitVec 32 := Scalar.muli arg1 c256_i32
  let c0_i32_718 : BitVec 32 := 0#32
  let v2378 : BitVec 1 := Scalar.cmpi .sgt v0 c0_i32_718
  let v2379 : BitVec 32 := Scalar.extui v2378
  let c0_i32_719 : BitVec 32 := 0#32
  let v2380 : BitVec 1 := Scalar.cmpi .slt v0 c0_i32_719
  let v2381 : BitVec 32 := Scalar.extui v2380
  let v2382 : BitVec 32 := Scalar.subi v2379 v2381
  let c128_i32 : BitVec 32 := 128#32
  let c0_i32_720 : BitVec 32 := 0#32
  let v2383 : BitVec 1 := Scalar.cmpi .sgt c128_i32 c0_i32_720
  let v2384 : BitVec 32 := Scalar.extui v2383
  let c0_i32_721 : BitVec 32 := 0#32
  let v2385 : BitVec 1 := Scalar.cmpi .slt c128_i32 c0_i32_721
  let v2386 : BitVec 32 := Scalar.extui v2385
  let v2387 : BitVec 32 := Scalar.subi v2384 v2386
  let v2388 : BitVec 1 := Scalar.cmpi .ne v2382 v2387
  let v2389 : BitVec 32 := Scalar.remsi v0 c128_i32
  let c0_i32_722 : BitVec 32 := 0#32
  let v2390 : BitVec 1 := Scalar.cmpi .ne v2389 c0_i32_722
  let v2391 : BitVec 1 := Scalar.andi v2388 v2390
  let v2377 : BitVec 32 := Scalar.divsi v0 c128_i32
  let c1_i32_723 : BitVec 32 := 1#32
  let v2392 : BitVec 32 := Scalar.subi v2377 c1_i32_723
  let v2393 : BitVec 32 := Scalar.select v2391 v2392 v2377
  let v2394 : BitVec 32 := Scalar.addi v2393 c0_i32_724
  let c2_i32_725 : BitVec 32 := 2#32
  let v2395 : BitVec 32 := Scalar.subi v2394 c2_i32_725
  let v2396 : BitVec 32 := Scalar.addi v2395 c0_i32_726
  let c0_i32_727 : BitVec 32 := 0#32
  let v2397 : BitVec 32 := Scalar.maxsi v2396 c0_i32_727
  let c128_i32_728 : BitVec 32 := 128#32
  let v2398 : BitVec 32 := Scalar.muli v2397 c128_i32_728
  let v2399 : BitVec 32 := v2398
  let v2633 : Index := Scalar.indexCast v2399
  let c0_813 : Index := 0#32
  ![0, v2633.toNat, 0]
def k0_off30 (i : grid0.Coords) (c0_i32_724 : BitVec 32) (c0_i32_726 : BitVec 32) : Fin 4 → Nat :=
  let c0_834 : Index := 0#32
  let c0_835 : Index := 0#32
  let c128_836 : Index := 128#32
  let arg1 : BitVec 32 := BitVec.ofNat 32 (i 1).val
  let c256_i32 : BitVec 32 := 256#32
  let v0 : BitVec 32 := Scalar.muli arg1 c256_i32
  let c0_i32_718 : BitVec 32 := 0#32
  let v2378 : BitVec 1 := Scalar.cmpi .sgt v0 c0_i32_718
  let v2379 : BitVec 32 := Scalar.extui v2378
  let c0_i32_719 : BitVec 32 := 0#32
  let v2380 : BitVec 1 := Scalar.cmpi .slt v0 c0_i32_719
  let v2381 : BitVec 32 := Scalar.extui v2380
  let v2382 : BitVec 32 := Scalar.subi v2379 v2381
  let c128_i32 : BitVec 32 := 128#32
  let c0_i32_720 : BitVec 32 := 0#32
  let v2383 : BitVec 1 := Scalar.cmpi .sgt c128_i32 c0_i32_720
  let v2384 : BitVec 32 := Scalar.extui v2383
  let c0_i32_721 : BitVec 32 := 0#32
  let v2385 : BitVec 1 := Scalar.cmpi .slt c128_i32 c0_i32_721
  let v2386 : BitVec 32 := Scalar.extui v2385
  let v2387 : BitVec 32 := Scalar.subi v2384 v2386
  let v2388 : BitVec 1 := Scalar.cmpi .ne v2382 v2387
  let v2389 : BitVec 32 := Scalar.remsi v0 c128_i32
  let c0_i32_722 : BitVec 32 := 0#32
  let v2390 : BitVec 1 := Scalar.cmpi .ne v2389 c0_i32_722
  let v2391 : BitVec 1 := Scalar.andi v2388 v2390
  let v2377 : BitVec 32 := Scalar.divsi v0 c128_i32
  let c1_i32_723 : BitVec 32 := 1#32
  let v2392 : BitVec 32 := Scalar.subi v2377 c1_i32_723
  let v2393 : BitVec 32 := Scalar.select v2391 v2392 v2377
  let v2394 : BitVec 32 := Scalar.addi v2393 c0_i32_724
  let c2_i32_725 : BitVec 32 := 2#32
  let v2395 : BitVec 32 := Scalar.subi v2394 c2_i32_725
  let v2396 : BitVec 32 := Scalar.addi v2395 c0_i32_726
  let c0_i32_727 : BitVec 32 := 0#32
  let v2397 : BitVec 32 := Scalar.maxsi v2396 c0_i32_727
  let c128_i32_728 : BitVec 32 := 128#32
  let v2398 : BitVec 32 := Scalar.muli v2397 c128_i32_728
  let v2399 : BitVec 32 := v2398
  let v2692 : Index := Scalar.indexCast v2399
  ![0, 0, 128, v2692.toNat]
def k0_off31 (i : grid0.Coords) (c0_i32_724 : BitVec 32) (c0_i32_726 : BitVec 32) : Fin 3 → Nat :=
  let c1_895 : Index := 1#32
  let arg1 : BitVec 32 := BitVec.ofNat 32 (i 1).val
  let c256_i32 : BitVec 32 := 256#32
  let v0 : BitVec 32 := Scalar.muli arg1 c256_i32
  let c0_i32_718 : BitVec 32 := 0#32
  let v2378 : BitVec 1 := Scalar.cmpi .sgt v0 c0_i32_718
  let v2379 : BitVec 32 := Scalar.extui v2378
  let c0_i32_719 : BitVec 32 := 0#32
  let v2380 : BitVec 1 := Scalar.cmpi .slt v0 c0_i32_719
  let v2381 : BitVec 32 := Scalar.extui v2380
  let v2382 : BitVec 32 := Scalar.subi v2379 v2381
  let c128_i32 : BitVec 32 := 128#32
  let c0_i32_720 : BitVec 32 := 0#32
  let v2383 : BitVec 1 := Scalar.cmpi .sgt c128_i32 c0_i32_720
  let v2384 : BitVec 32 := Scalar.extui v2383
  let c0_i32_721 : BitVec 32 := 0#32
  let v2385 : BitVec 1 := Scalar.cmpi .slt c128_i32 c0_i32_721
  let v2386 : BitVec 32 := Scalar.extui v2385
  let v2387 : BitVec 32 := Scalar.subi v2384 v2386
  let v2388 : BitVec 1 := Scalar.cmpi .ne v2382 v2387
  let v2389 : BitVec 32 := Scalar.remsi v0 c128_i32
  let c0_i32_722 : BitVec 32 := 0#32
  let v2390 : BitVec 1 := Scalar.cmpi .ne v2389 c0_i32_722
  let v2391 : BitVec 1 := Scalar.andi v2388 v2390
  let v2377 : BitVec 32 := Scalar.divsi v0 c128_i32
  let c1_i32_723 : BitVec 32 := 1#32
  let v2392 : BitVec 32 := Scalar.subi v2377 c1_i32_723
  let v2393 : BitVec 32 := Scalar.select v2391 v2392 v2377
  let v2394 : BitVec 32 := Scalar.addi v2393 c0_i32_724
  let c2_i32_725 : BitVec 32 := 2#32
  let v2395 : BitVec 32 := Scalar.subi v2394 c2_i32_725
  let v2396 : BitVec 32 := Scalar.addi v2395 c0_i32_726
  let c0_i32_727 : BitVec 32 := 0#32
  let v2397 : BitVec 32 := Scalar.maxsi v2396 c0_i32_727
  let c128_i32_728 : BitVec 32 := 128#32
  let v2398 : BitVec 32 := Scalar.muli v2397 c128_i32_728
  let v2399 : BitVec 32 := v2398
  let v2903 : Index := Scalar.indexCast v2399
  let c0_896 : Index := 0#32
  ![1, v2903.toNat, 0]
def k0_off32 (i : grid0.Coords) (c0_i32_724 : BitVec 32) (c0_i32_726 : BitVec 32) : Fin 4 → Nat :=
  let c0_917 : Index := 0#32
  let c0_918 : Index := 0#32
  let c192_919 : Index := 192#32
  let arg1 : BitVec 32 := BitVec.ofNat 32 (i 1).val
  let c256_i32 : BitVec 32 := 256#32
  let v0 : BitVec 32 := Scalar.muli arg1 c256_i32
  let c0_i32_718 : BitVec 32 := 0#32
  let v2378 : BitVec 1 := Scalar.cmpi .sgt v0 c0_i32_718
  let v2379 : BitVec 32 := Scalar.extui v2378
  let c0_i32_719 : BitVec 32 := 0#32
  let v2380 : BitVec 1 := Scalar.cmpi .slt v0 c0_i32_719
  let v2381 : BitVec 32 := Scalar.extui v2380
  let v2382 : BitVec 32 := Scalar.subi v2379 v2381
  let c128_i32 : BitVec 32 := 128#32
  let c0_i32_720 : BitVec 32 := 0#32
  let v2383 : BitVec 1 := Scalar.cmpi .sgt c128_i32 c0_i32_720
  let v2384 : BitVec 32 := Scalar.extui v2383
  let c0_i32_721 : BitVec 32 := 0#32
  let v2385 : BitVec 1 := Scalar.cmpi .slt c128_i32 c0_i32_721
  let v2386 : BitVec 32 := Scalar.extui v2385
  let v2387 : BitVec 32 := Scalar.subi v2384 v2386
  let v2388 : BitVec 1 := Scalar.cmpi .ne v2382 v2387
  let v2389 : BitVec 32 := Scalar.remsi v0 c128_i32
  let c0_i32_722 : BitVec 32 := 0#32
  let v2390 : BitVec 1 := Scalar.cmpi .ne v2389 c0_i32_722
  let v2391 : BitVec 1 := Scalar.andi v2388 v2390
  let v2377 : BitVec 32 := Scalar.divsi v0 c128_i32
  let c1_i32_723 : BitVec 32 := 1#32
  let v2392 : BitVec 32 := Scalar.subi v2377 c1_i32_723
  let v2393 : BitVec 32 := Scalar.select v2391 v2392 v2377
  let v2394 : BitVec 32 := Scalar.addi v2393 c0_i32_724
  let c2_i32_725 : BitVec 32 := 2#32
  let v2395 : BitVec 32 := Scalar.subi v2394 c2_i32_725
  let v2396 : BitVec 32 := Scalar.addi v2395 c0_i32_726
  let c0_i32_727 : BitVec 32 := 0#32
  let v2397 : BitVec 32 := Scalar.maxsi v2396 c0_i32_727
  let c128_i32_728 : BitVec 32 := 128#32
  let v2398 : BitVec 32 := Scalar.muli v2397 c128_i32_728
  let v2399 : BitVec 32 := v2398
  let v2962 : Index := Scalar.indexCast v2399
  ![0, 0, 192, v2962.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.InProj.Spec.lean ====
module

public import proofs.«01_k».proof.Proof.Gen.ProjIdeal
public import Idealize.ShloMosaic.Lib.Pointwise

@[expose] public section

set_option maxRecDepth 16384

noncomputable section

/-! The input projection of the layer, entry by entry, over the extended reals. -/

namespace Cert.InProj

open Cert.ProjIdeal
open Idealize.ShloMosaic

/-- The number 1024 the mean over a token's features divides by. -/
abbrev c1024 : EReal := Ideal.ofBits FTy.f32 0x44800000#32
/-- The number 64 the mean over a head's features divides by. -/
abbrev c64 : EReal := Ideal.ofBits FTy.f32 0x42800000#32
/-- The small number added to a mean square. -/
abbrev eps : EReal := Ideal.ofBits FTy.f32 0x358637BD#32

/-- The logistic function. -/
def sg (z : EReal) : EReal := Ideal.div 1 (1 + Ideal.exp (-z))

/-- Feature `k` of the normalised token `t` of sequence `n`. -/
def hrow (x : FVec Ideal S8x2048x1024 .f32) (wn : FVec Ideal S1024 .f32) (n : Fin 8) (t : Fin 2048) (k : Fin 1024) : EReal :=
  x (ix3 n t k) * Ideal.rsqrt (Ideal.div (∑ l : Fin 1024, x (ix3 n t l) * x (ix3 n t l)) c1024 + eps) * wn (ix1 k)

/-- Entry `k` of the weights' column `j`, zero past the last column. -/
def wcol (w : FVec Ideal S1024x3096 .f32) (k : Fin 1024) (j : ℕ) : EReal :=
  if h : j < 3096 then w (ix2 k ⟨j, h⟩) else 0

/-- Column `j` of the projected token `t` of sequence `n`. -/
def proj (x : FVec Ideal S8x2048x1024 .f32) (wn : FVec Ideal S1024 .f32) (w : FVec Ideal S1024x3096 .f32)
    (n : Fin 8) (t : Fin 2048) (j : ℕ) : EReal :=
  ∑ k : Fin 1024, hrow x wn n t k * wcol w k j

/-- A head's 64 features divided by their root mean square and scaled by the gains `g`. -/
def unit (p : Fin 64 → EReal) (g : Fin 64 → EReal) (d : Fin 64) : EReal :=
  p d * Ideal.rsqrt (Ideal.div (∑ e : Fin 64, p e * p e) c64 + eps) * g d

/-- The angle of rotary pair `i` at token `t`. -/
def angle (t : Fin 2048) (i : Fin 8) : EReal :=
  FloatOps.sitofp (F := Ideal) FTy.f32 (BitVec.ofNat 32 t.val) * Ideal.pow (Ideal.ofBits FTy.f32 1223959552#32)
    (Ideal.div (-(FloatOps.sitofp (F := Ideal) FTy.f32 (BitVec.ofNat 32 i.val) : EReal) * Ideal.ofBits FTy.f32 1073741824#32) (Ideal.ofBits FTy.f32 1098907648#32))

/-- Rotary embedding of a head `p` by the pairs' cosines and sines: the first eight features are turned against the next eight. -/
def rot (co si : Fin 8 → EReal) (p : Fin 64 → EReal) (d : Fin 64) : EReal :=
  if h : d.val < 8 then p ⟨d.val, by omega⟩ * co ⟨d.val, h⟩ - p ⟨8 + d.val, by omega⟩ * si ⟨d.val, h⟩
  else if h2 : d.val - 8 < 8 then p ⟨8 + (d.val - 8), by omega⟩ * co ⟨d.val - 8, h2⟩ + p ⟨d.val - 8, by omega⟩ * si ⟨d.val - 8, h2⟩
  else p ⟨16 + (d.val - 8 - 8), by omega⟩

/-- A normalised and turned head: the 64 columns from `b` on, with the gains `g`. -/
def head (x : FVec Ideal S8x2048x1024 .f32) (wn : FVec Ideal S1024 .f32) (w : FVec Ideal S1024x3096 .f32)
    (g : Fin 64 → EReal) (n : Fin 8) (t : Fin 2048) (b : ℕ) (d : Fin 64) : EReal :=
  rot (fun a => Ideal.cos (angle t a)) (fun a => Ideal.sin (angle t a)) (unit (fun e => proj x wn w n t (b + e.val)) g) d

section results

variable (x : FVec Ideal S8x2048x1024 .f32) (wn : FVec Ideal S1024 .f32) (w : FVec Ideal S1024x3096 .f32)

/-- The gated linear unit of the convolution branch. -/
def glu : FVec Ideal S8x2048x256 .f32 := fun i =>
  proj x wn w (i 0) (i 1) (i 2 : ℕ) * sg (proj x wn w (i 0) (i 1) (256 + (i 2 : ℕ)))

/-- The input of the pooling branch. -/
def pin : FVec Ideal S8x2048x256 .f32 := fun i => proj x wn w (i 0) (i 1) (768 + (i 2 : ℕ))

/-- The weights' column of output gate `j`: the three branches' gates one after the other. -/
def zcol (j : ℕ) : ℕ := if j < 256 then 512 + j else if j < 512 then 1024 + (j - 256) else 2584 + (j - 512)

/-- The output gates of the three branches. -/
def sz : FVec Ideal S8x2048x1024 .f32 := fun i =>
  proj x wn w (i 0) (i 1) (zcol (i 2 : ℕ)) * sg (proj x wn w (i 0) (i 1) (zcol (i 2 : ℕ)))

/-- The heads' branch gates, feature by token; the eight spare rows hold one half. -/
def gates : FVec Ideal S8x32x2048 .f32 := fun i =>
  if (i 1 : ℕ) < 24 then sg (proj x wn w (i 0) (i 2) (2560 + (i 1 : ℕ))) else Ideal.ofBits FTy.f32 0x3F000000#32

/-- The queries, feature by token. -/
def queries (g : FVec Ideal S64 .f32) : FVec Ideal S8x512x2048 .f32 := fun i =>
  head x wn w (fun d => g (ix1 d)) (i 0) (i 2) (1280 + 64 * ((i 1 : ℕ) / 64)) ⟨(i 1 : ℕ) % 64, Nat.mod_lt _ (by decide)⟩

/-- The keys (rows 0 to 127) and values of attention branch `b`, feature by token, in layer 1 of a cache whose layer 0 stays. -/
def cache (g : FVec Ideal S3x64 .f32) (b : Fin 3) (prev : FVec Ideal S2x8x256x2048 .f32) : FVec Ideal S2x8x256x2048 .f32 := fun i =>
  if (i 0 : ℕ) = 1 then
    if (i 2 : ℕ) < 128 then head x wn w (fun d => g (ix2 b d)) (i 1) (i 3) (1792 + 256 * b.val + 64 * ((i 2 : ℕ) / 64)) ⟨(i 2 : ℕ) % 64, Nat.mod_lt _ (by decide)⟩
    else proj x wn w (i 1) (i 3) (1792 + 256 * b.val + (i 2 : ℕ))
  else prev i

end results

end Cert.InProj

end
-- ==== Proof.InProj.Host.lean ====
module

public import proofs.«01_k».proof.Proof.Gen.ProjIdeal.Value
public import proofs.«01_k».proof.Proof.InProj.Spec
public import Idealize.ShloMosaic.Lib.Pointwise
public import Idealize.ShloMosaic.Lib.StableHlo.ReadAt
public import Idealize.ShloMosaic.Lib.Pipeline.ValueKit

@[expose] public section

set_option maxRecDepth 16384

noncomputable section

namespace Cert.ProjIdeal.Spec

open Cert.ProjIdeal Cert.ProjIdeal.Gen
open Idealize.ShloMosaic Idealize.ShloMosaic.TcCoe

variable (m : (ℓ : Loc nD τ sig) → Buf (Elt Ideal) ℓ) (c : Dev nD)

/-- The column of the input weights that column `j` of the token weights is. -/
def tokcol (j : ℕ) : ℕ := if j < 512 then j else if j < 768 then j + 256 else if j < 1024 then j - 256 else if j < 1280 then j else 1304 + j

theorem tokcol_lt (j : Fin 1792) : tokcol j.val < 3096 := by
  have := j.isLt
  unfold tokcol; repeat' split
  all_goals omega

theorem cat6 (w : FVec Ideal S1024x3096 .f32) (a b d e f : FVec Ideal S1024x256 .f32) (g : FVec Ideal S1024x512 .f32)
    (ha : ∀ (k : Fin 1024) (x : Fin 256), a (ix2 k x) = w (ix2 k ⟨x.val, by omega⟩))
    (hb : ∀ (k : Fin 1024) (x : Fin 256), b (ix2 k x) = w (ix2 k ⟨256 + x.val, by omega⟩))
    (hd : ∀ (k : Fin 1024) (x : Fin 256), d (ix2 k x) = w (ix2 k ⟨768 + x.val, by omega⟩))
    (he : ∀ (k : Fin 1024) (x : Fin 256), e (ix2 k x) = w (ix2 k ⟨512 + x.val, by omega⟩))
    (hf : ∀ (k : Fin 1024) (x : Fin 256), f (ix2 k x) = w (ix2 k ⟨1024 + x.val, by omega⟩))
    (hg : ∀ (k : Fin 1024) (x : Fin 512), g (ix2 k x) = w (ix2 k ⟨2584 + x.val, by omega⟩))
    (k : Fin 1024) (j : Fin 1792) :
    (truncf .bf16 (concatenate S1024x1792 1 [⟨S1024x256, a⟩, ⟨S1024x256, b⟩, ⟨S1024x256, d⟩, ⟨S1024x256, e⟩, ⟨S1024x256, f⟩, ⟨S1024x512, g⟩] concatenates_S1024x256_S1024x256_S1024x256_S1024x256_S1024x256_S1024x512_S1024x1792_d1) bitsLt_bf16_f32 : FVec Ideal S1024x1792 .bf16) (ix2 k j)
      = w (ix2 k ⟨tokcol j.val, tokcol_lt j⟩) := by
  pointwise
  have hj := j.isLt
  by_cases h0 : j.val < 256
  · rw [dif_pos h0, ha]; congr 2; apply Fin.ext; simp only [tokcol]; repeat' split
    all_goals omega
  rw [dif_neg h0]
  by_cases h1 : j.val - 256 < 256
  · rw [dif_pos h1, hb]; congr 2; apply Fin.ext; simp only [tokcol]; repeat' split
    all_goals omega
  rw [dif_neg h1]
  by_cases h2 : j.val - 256 - 256 < 256
  · rw [dif_pos h2, hd]; congr 2; apply Fin.ext; simp only [tokcol]; repeat' split
    all_goals omega
  rw [dif_neg h2]
  by_cases h3 : j.val - 256 - 256 - 256 < 256
  · rw [dif_pos h3, he]; congr 2; apply Fin.ext; simp only [tokcol]; repeat' split
    all_goals omega
  rw [dif_neg h3]
  by_cases h4 : j.val - 256 - 256 - 256 - 256 < 256
  · rw [dif_pos h4, hf]; congr 2; apply Fin.ext; simp only [tokcol]; repeat' split
    all_goals omega
  rw [dif_neg h4, hg]; congr 2; apply Fin.ext; simp only [tokcol]; repeat' split
  all_goals omega

theorem cat4 (w : FVec Ideal S1024x3096 .f32) (a : FVec Ideal S1024x512 .f32) (b : FVec Ideal S1024x768 .f32) (d : FVec Ideal S1024x24 .f32) (e : FVec Ideal S1024x8 .f32)
    (ha : ∀ (k : Fin 1024) (x : Fin 512), a (ix2 k x) = w (ix2 k ⟨1280 + x.val, by omega⟩))
    (hb : ∀ (k : Fin 1024) (x : Fin 768), b (ix2 k x) = w (ix2 k ⟨1792 + x.val, by omega⟩))
    (hd : ∀ (k : Fin 1024) (x : Fin 24), d (ix2 k x) = w (ix2 k ⟨2560 + x.val, by omega⟩))
    (he : ∀ (k : Fin 1024) (x : Fin 8), e (ix2 k x) = 0)
    (k : Fin 1024) (j : Fin 1312) :
    (concatenate S1024x1312 1 [⟨S1024x512, a⟩, ⟨S1024x768, b⟩, ⟨S1024x24, d⟩, ⟨S1024x8, e⟩] concatenates_S1024x512_S1024x768_S1024x24_S1024x8_S1024x1312_d1 : FVec Ideal S1024x1312 .f32) (ix2 k j)
      = if h : j.val < 1304 then w (ix2 k ⟨1280 + j.val, by omega⟩) else (0 : EReal) := by
  pointwise
  have hj := j.isLt
  by_cases h0 : j.val < 512
  · rw [dif_pos h0, ha, dif_pos (by omega)]
  rw [dif_neg h0]
  by_cases h1 : j.val - 512 < 768
  · rw [dif_pos h1, hb, dif_pos (by omega)]; congr 2; apply Fin.ext; simp only; omega
  rw [dif_neg h1]
  by_cases h2 : j.val - 512 - 768 < 24
  · rw [dif_pos h2, hd, dif_pos (by omega)]; congr 2; apply Fin.ext; simp only; omega
  rw [dif_neg h2, he, dif_neg (by omega)]

theorem turn (a : FVec Ideal S1024x1312 .f32) (j : Fin 1312) (k : Fin 1024) :
    (truncf .bf16 (transpose S1312x1024 [1, 0] a transposes_S1024x1312_S1312x1024_1_0) bitsLt_bf16_f32 : FVec Ideal S1312x1024 .bf16) (ix2 j k) = a (ix2 k j) := by
  pointwise

theorem wtok_read (k : Fin 1024) (j : Fin 1792) : (V m c main_v11 : FVec Ideal S1024x1792 .bf16) (ix2 k j) = (m ((c : Thread nD τ).loc main_arg2) : FVec Ideal S1024x3096 .f32) (ix2 k ⟨tokcol j.val, tokcol_lt j⟩) := by
  show (StableHlo.after hostOps0 (fun b => m (c, b)) (Proc.devRef .tc main_v11) : FVec Ideal S1024x1792 .bf16) (ix2 k j) = _
  after_reads_simp
  refine cat6 _ _ _ _ _ _ _ ?_ ?_ ?_ ?_ ?_ ?_ k j <;> intro k x
  · show (StableHlo.upto hostOps0 (fun b => m (c, b)) 11 (Proc.devRef .tc main_v0) : FVec Ideal S1024x256 .f32) (ix2 k x) = _
    after_reads_simp; pointwise
  · show (StableHlo.upto hostOps0 (fun b => m (c, b)) 11 (Proc.devRef .tc main_v1) : FVec Ideal S1024x256 .f32) (ix2 k x) = _
    after_reads_simp; pointwise
  · show (StableHlo.upto hostOps0 (fun b => m (c, b)) 11 (Proc.devRef .tc main_v3) : FVec Ideal S1024x256 .f32) (ix2 k x) = _
    after_reads_simp; pointwise
  · show (StableHlo.upto hostOps0 (fun b => m (c, b)) 11 (Proc.devRef .tc main_v2) : FVec Ideal S1024x256 .f32) (ix2 k x) = _
    after_reads_simp; pointwise
  · show (StableHlo.upto hostOps0 (fun b => m (c, b)) 11 (Proc.devRef .tc main_v4) : FVec Ideal S1024x256 .f32) (ix2 k x) = _
    after_reads_simp; pointwise
  · show (StableHlo.upto hostOps0 (fun b => m (c, b)) 11 (Proc.devRef .tc main_v8) : FVec Ideal S1024x512 .f32) (ix2 k x) = _
    after_reads_simp; pointwise

theorem wfeat_read (k : Fin 1024) (j : Fin 1312) : (V m c main_v14 : FVec Ideal S1312x1024 .bf16) (ix2 j k)
    = if h : j.val < 1304 then (m ((c : Thread nD τ).loc main_arg2) : FVec Ideal S1024x3096 .f32) (ix2 k ⟨1280 + j.val, by omega⟩) else (0 : EReal) := by
  show (StableHlo.after hostOps0 (fun b => m (c, b)) (Proc.devRef .tc main_v14) : FVec Ideal S1312x1024 .bf16) (ix2 j k) = _
  after_reads_simp
  refine (turn _ j k).trans ?_
  refine cat4 _ _ _ _ _ ?_ ?_ ?_ ?_ k j <;> intro k x
  · show (StableHlo.upto hostOps0 (fun b => m (c, b)) 13 (Proc.devRef .tc main_v5) : FVec Ideal S1024x512 .f32) (ix2 k x) = _
    after_reads_simp; pointwise
  · show (StableHlo.upto hostOps0 (fun b => m (c, b)) 13 (Proc.devRef .tc main_v6) : FVec Ideal S1024x768 .f32) (ix2 k x) = _
    after_reads_simp; pointwise
  · show (StableHlo.upto hostOps0 (fun b => m (c, b)) 13 (Proc.devRef .tc main_v7) : FVec Ideal S1024x24 .f32) (ix2 k x) = _
    after_reads_simp; pointwise
  · show (StableHlo.upto hostOps0 (fun b => m (c, b)) 13 (Proc.devRef .tc main_v9) : FVec Ideal S1024x8 .f32) (ix2 k x) = _
    after_reads_simp; pointwise

theorem cos_read (i : Fin 8) (t : Fin 2048) : (V m c main_v40 : FVec Ideal S8x2048 .f32) (ix2 i t) = Ideal.cos (Cert.InProj.angle t i) := by
  show (StableHlo.after hostOps0 (fun b => m (c, b)) (Proc.devRef .tc main_v40) : FVec Ideal S8x2048 .f32) (ix2 i t) = _
  after_reads_simp
  pointwise [Cert.InProj.angle]

theorem sin_read (i : Fin 8) (t : Fin 2048) : (V m c main_v42 : FVec Ideal S8x2048 .f32) (ix2 i t) = Ideal.sin (Cert.InProj.angle t i) := by
  show (StableHlo.after hostOps0 (fun b => m (c, b)) (Proc.devRef .tc main_v42) : FVec Ideal S8x2048 .f32) (ix2 i t) = _
  after_reads_simp
  pointwise [Cert.InProj.angle]

theorem gq_read (i : Fin 1280) (d : Fin 64) (hi : i.val < 512) (hd : i.val % 64 = d.val) : (V m c main_v23 : FVec Ideal S1280x1 .f32) (ix2 i 0)
    = (m ((c : Thread nD τ).loc main_arg3) : FVec Ideal S64 .f32) (ix1 d) := by
  show (StableHlo.after hostOps0 (fun b => m (c, b)) (Proc.devRef .tc main_v23) : FVec Ideal S1280x1 .f32) (ix2 i 0) = _
  after_reads_simp
  pointwise
  rw [dif_pos hi]
  after_reads_simp
  pointwise
  have e : (⟨i.val % 64, by omega⟩ : Fin 64) = d := Fin.ext hd
  rw [e]

theorem gk_read (i : Fin 1280) (b : Fin 3) (d : Fin 64) (hi : 512 ≤ i.val) (hb : (i.val - 512) / 256 = b.val) (hk : (i.val - 512) / 64 % 4 < 2) (hd : i.val % 64 = d.val) :
    (V m c main_v23 : FVec Ideal S1280x1 .f32) (ix2 i 0)
    = (m ((c : Thread nD τ).loc main_arg4) : FVec Ideal S3x64 .f32) (ix2 b d) := by
  show (StableHlo.after hostOps0 (fun b => m (c, b)) (Proc.devRef .tc main_v23) : FVec Ideal S1280x1 .f32) (ix2 i 0) = _
  after_reads_simp
  pointwise
  rw [dif_neg (by omega)]
  after_reads_simp
  pointwise
  rw [dif_pos hk]
  after_reads_simp
  pointwise
  have e : (⟨(i.val - 512) % 64, by omega⟩ : Fin 64) = d := Fin.ext (by simp only; omega)
  have e' : (⟨(i.val - 512) / 256, by omega⟩ : Fin 3) = b := Fin.ext hb
  rw [e, e']

theorem wn_read (i : Fin 1024) : (V m c main_v43 : FVec Ideal S1x1024 .f32) (ix2 0 i) = (m ((c : Thread nD τ).loc main_arg1) : FVec Ideal S1024 .f32) (ix1 i) := by
  show (StableHlo.after hostOps0 (fun b => m (c, b)) (Proc.devRef .tc main_v43) : FVec Ideal S1x1024 .f32) (ix2 0 i) = _
  after_reads_simp
  pointwise
theorem prev5 : V m c main_v44_5 = m ((c : Thread nD τ).loc main_arg5) := by
  show StableHlo.after hostOps0 (fun b => m (c, b)) (Proc.devRef .tc main_v44_5) = _
  after_reads_simp
  rfl
theorem prev6 : V m c main_v44_6 = m ((c : Thread nD τ).loc main_arg6) := by
  show StableHlo.after hostOps0 (fun b => m (c, b)) (Proc.devRef .tc main_v44_6) = _
  after_reads_simp
  rfl
theorem prev7 : V m c main_v44_7 = m ((c : Thread nD τ).loc main_arg7) := by
  show StableHlo.after hostOps0 (fun b => m (c, b)) (Proc.devRef .tc main_v44_7) = _
  after_reads_simp
  rfl

end Cert.ProjIdeal.Spec
end
-- ==== Proof.InProj.Pay.lean ====
module

public import proofs.«01_k».proof.Proof.Gen.ProjIdeal.Skeleton
public import proofs.«01_k».proof.Proof.InProj.Spec

@[expose] public section

set_option maxRecDepth 16384

noncomputable section

/-! What the kernel's body computes from the blocks it loads, entry by entry. -/

namespace Cert.InProj

open Cert.ProjIdeal Cert.ProjIdeal.Gen
open Idealize.ShloMosaic

theorem pay4_at (v0 : FVec Ideal S1x1024x1024 .f32) (v12 : FVec Ideal S1x1024 .f32) (i k : Fin 1024) :
  k0_pay4 (F := Ideal) v0 v12 (ix2 i k) =
  v0 (ix3 0 i k) * Ideal.rsqrt (Ideal.div (∑ l : Fin 1024, v0 (ix3 0 i l) * v0 (ix3 0 i l)) c1024 + eps) * v12 (ix2 0 k) := by
  pointwise [k0_pay4]

theorem pay5_at (v0 : FVec Ideal S1x1024x1024 .f32) (v12 : FVec Ideal S1x1024 .f32) (v17 : FVec Ideal S1024x1792 .bf16) (i : Fin 1024) (j : Fin 1792) :
  k0_pay5 (F := Ideal) v0 v12 v17 (ix2 i j) = ∑ k : Fin 1024, k0_pay4 (F := Ideal) v0 v12 (ix2 i k) * v17 (ix2 k j) := by
  pointwise [k0_pay5]

theorem pay6_at (v0 : FVec Ideal S1x1024x1024 .f32) (v12 : FVec Ideal S1x1024 .f32) (v17 : FVec Ideal S1024x1792 .bf16) (i : Fin 1024) (j : Fin 256) :
  k0_pay6 (F := Ideal) v0 v12 v17 (ix3 0 i j) = k0_pay5 (F := Ideal) v0 v12 v17 (ix2 i ⟨j.val, by omega⟩) * sg (k0_pay5 (F := Ideal) v0 v12 v17 (ix2 i ⟨256 + j.val, by omega⟩)) := by
  pointwise [k0_pay6, sg]
  simp only [zero_sub]

theorem pay7_at (v0 : FVec Ideal S1x1024x1024 .f32) (v12 : FVec Ideal S1x1024 .f32) (v17 : FVec Ideal S1024x1792 .bf16) (i : Fin 1024) (j : Fin 256) :
  k0_pay7 (F := Ideal) v0 v12 v17 (ix3 0 i j) = k0_pay5 (F := Ideal) v0 v12 v17 (ix2 i ⟨512 + j.val, by omega⟩) := by
  pointwise [k0_pay7]

theorem pay8_at (v19 : FVec Ideal S1024x1792 .f32) (i : Fin 1024) (j : Fin 1024) :
  k0_pay8 (F := Ideal) v19 (ix3 0 i j) = v19 (ix2 i ⟨768 + j.val, by omega⟩) * sg (v19 (ix2 i ⟨768 + j.val, by omega⟩)) := by
  pointwise [k0_pay8, sg]
  simp only [zero_sub]

theorem pay9_at (v16 : FVec Ideal S1024x1024 .bf16) (v49 : FVec Ideal S1312x1024 .bf16) (r : Fin 1312) (i : Fin 1024) :
  k0_pay9 (F := Ideal) v16 v49 (ix2 r i) = ∑ k : Fin 1024, v49 (ix2 r k) * v16 (ix2 i k) := by
  pointwise [k0_pay9]

theorem pay10_at (v16 : FVec Ideal S1024x1024 .bf16) (v49 : FVec Ideal S1312x1024 .bf16) (r : Fin 32) (i : Fin 1024) :
  k0_pay10 (F := Ideal) v16 v49 (ix3 0 r i) = sg (k0_pay9 (F := Ideal) v16 v49 (ix2 ⟨1280 + r.val, by omega⟩ i)) := by
  pointwise [k0_pay10, sg]
  simp only [zero_sub]

theorem head0_at (h : FVec Ideal S1024x1024 .bf16) (w : FVec Ideal S1312x1024 .bf16) (co si : FVec Ideal S8x1024 .f32) (g : FVec Ideal S64x1 .f32) (r : Fin 64) (i : Fin 1024) :
    k0_pay15 (F := Ideal) co si (k0_pay13 h w) (k0_pay14 h w) g (ix3 0 r i)
      = rot (fun a => co (ix2 a i)) (fun a => si (ix2 a i)) (unit (fun d => k0_pay9 (F := Ideal) h w (ix2 ⟨0 + d.val, by omega⟩ i)) (fun d => g (ix2 d 0))) r := by
  pointwise [k0_pay15, k0_pay14, k0_pay13]
  unfold rot unit
  rfl

theorem head64_at (f : FVec Ideal S1312x1024 .f32) (co si : FVec Ideal S8x1024 .f32) (g : FVec Ideal S64x1 .f32) (r : Fin 64) (i : Fin 1024) :
    k0_pay17 (F := Ideal) (k0_pay16 f co si g) (ix3 0 r i)
      = rot (fun a => co (ix2 a i)) (fun a => si (ix2 a i)) (unit (fun d => f (ix2 ⟨64 + d.val, by omega⟩ i)) (fun d => g (ix2 d 0))) r := by
  pointwise [k0_pay17, k0_pay16]
  unfold rot unit
  rfl

theorem head128_at (f : FVec Ideal S1312x1024 .f32) (co si : FVec Ideal S8x1024 .f32) (g : FVec Ideal S64x1 .f32) (r : Fin 64) (i : Fin 1024) :
    k0_pay18 (F := Ideal) f co si g (ix3 0 r i)
      = rot (fun a => co (ix2 a i)) (fun a => si (ix2 a i)) (unit (fun d => f (ix2 ⟨128 + d.val, by omega⟩ i)) (fun d => g (ix2 d 0))) r := by
  pointwise [k0_pay18]
  unfold rot unit
  rfl

theorem head192_at (f : FVec Ideal S1312x1024 .f32) (co si : FVec Ideal S8x1024 .f32) (g : FVec Ideal S64x1 .f32) (r : Fin 64) (i : Fin 1024) :
    k0_pay20 (F := Ideal) co si (k0_pay19 f) g (ix3 0 r i)
      = rot (fun a => co (ix2 a i)) (fun a => si (ix2 a i)) (unit (fun d => f (ix2 ⟨192 + d.val, by omega⟩ i)) (fun d => g (ix2 d 0))) r := by
  pointwise [k0_pay20, k0_pay19]
  unfold rot unit
  rfl

theorem head256_at (f : FVec Ideal S1312x1024 .f32) (co si : FVec Ideal S8x1024 .f32) (g : FVec Ideal S64x1 .f32) (r : Fin 64) (i : Fin 1024) :
    k0_pay21 (F := Ideal) f co si g (ix3 0 r i)
      = rot (fun a => co (ix2 a i)) (fun a => si (ix2 a i)) (unit (fun d => f (ix2 ⟨256 + d.val, by omega⟩ i)) (fun d => g (ix2 d 0))) r := by
  pointwise [k0_pay21]
  unfold rot unit
  rfl

theorem head320_at (f : FVec Ideal S1312x1024 .f32) (co si : FVec Ideal S8x1024 .f32) (g : FVec Ideal S64x1 .f32) (r : Fin 64) (i : Fin 1024) :
    k0_pay24 (F := Ideal) co si (k0_pay22 f) (k0_pay23 f) g (ix3 0 r i)
      = rot (fun a => co (ix2 a i)) (fun a => si (ix2 a i)) (unit (fun d => f (ix2 ⟨320 + d.val, by omega⟩ i)) (fun d => g (ix2 d 0))) r := by
  pointwise [k0_pay24, k0_pay22, k0_pay23]
  unfold rot unit
  rfl

theorem head384_at (f : FVec Ideal S1312x1024 .f32) (co si : FVec Ideal S8x1024 .f32) (g : FVec Ideal S64x1 .f32) (r : Fin 64) (i : Fin 1024) :
    k0_pay30 (F := Ideal) si (k0_pay25 f g) (k0_pay26 f g) (k0_pay28 f co si g) (k0_pay29 f co g) (ix3 0 r i)
      = rot (fun a => co (ix2 a i)) (fun a => si (ix2 a i)) (unit (fun d => f (ix2 ⟨384 + d.val, by omega⟩ i)) (fun d => g (ix2 d 0))) r := by
  pointwise [k0_pay30, k0_pay25, k0_pay26, k0_pay27, k0_pay28, k0_pay29]
  unfold rot unit
  rfl

theorem head448_at (f : FVec Ideal S1312x1024 .f32) (co si : FVec Ideal S8x1024 .f32) (g : FVec Ideal S64x1 .f32) (r : Fin 64) (i : Fin 1024) :
    k0_pay31 (F := Ideal) f co si g (ix3 0 r i)
      = rot (fun a => co (ix2 a i)) (fun a => si (ix2 a i)) (unit (fun d => f (ix2 ⟨448 + d.val, by omega⟩ i)) (fun d => g (ix2 d 0))) r := by
  pointwise [k0_pay31]
  unfold rot unit
  rfl

theorem head512_at (f : FVec Ideal S1312x1024 .f32) (co si : FVec Ideal S8x1024 .f32) (g : FVec Ideal S64x1 .f32) (r : Fin 64) (i : Fin 1024) :
    k0_pay34 (F := Ideal) co si (k0_pay32 f) (k0_pay33 f) g (ix4 0 0 r i)
      = rot (fun a => co (ix2 a i)) (fun a => si (ix2 a i)) (unit (fun d => f (ix2 ⟨512 + d.val, by omega⟩ i)) (fun d => g (ix2 d 0))) r := by
  pointwise [k0_pay34, k0_pay33, k0_pay32]
  unfold rot unit
  rfl

theorem head576_at (f : FVec Ideal S1312x1024 .f32) (co si : FVec Ideal S8x1024 .f32) (g : FVec Ideal S64x1 .f32) (r : Fin 64) (i : Fin 1024) :
    k0_pay36 (F := Ideal) (k0_pay35 f co si g) (ix4 0 0 r i)
      = rot (fun a => co (ix2 a i)) (fun a => si (ix2 a i)) (unit (fun d => f (ix2 ⟨576 + d.val, by omega⟩ i)) (fun d => g (ix2 d 0))) r := by
  pointwise [k0_pay36, k0_pay35]
  unfold rot unit
  rfl

theorem head768_at (f : FVec Ideal S1312x1024 .f32) (co si : FVec Ideal S8x1024 .f32) (g : FVec Ideal S64x1 .f32) (r : Fin 64) (i : Fin 1024) :
    k0_pay39 (F := Ideal) f co si g (ix4 0 0 r i)
      = rot (fun a => co (ix2 a i)) (fun a => si (ix2 a i)) (unit (fun d => f (ix2 ⟨768 + d.val, by omega⟩ i)) (fun d => g (ix2 d 0))) r := by
  pointwise [k0_pay39]
  unfold rot unit
  rfl

theorem head832_at (f : FVec Ideal S1312x1024 .f32) (co si : FVec Ideal S8x1024 .f32) (g : FVec Ideal S64x1 .f32) (r : Fin 64) (i : Fin 1024) :
    k0_pay40 (F := Ideal) f co si g (ix4 0 0 r i)
      = rot (fun a => co (ix2 a i)) (fun a => si (ix2 a i)) (unit (fun d => f (ix2 ⟨832 + d.val, by omega⟩ i)) (fun d => g (ix2 d 0))) r := by
  pointwise [k0_pay40]
  unfold rot unit
  rfl

theorem head1024_at (f : FVec Ideal S1312x1024 .f32) (co si : FVec Ideal S8x1024 .f32) (g : FVec Ideal S64x1 .f32) (r : Fin 64) (i : Fin 1024) :
    k0_pay45 (F := Ideal) co si (k0_pay43 f) (k0_pay44 f) g (ix4 0 0 r i)
      = rot (fun a => co (ix2 a i)) (fun a => si (ix2 a i)) (unit (fun d => f (ix2 ⟨1024 + d.val, by omega⟩ i)) (fun d => g (ix2 d 0))) r := by
  pointwise [k0_pay45, k0_pay44, k0_pay43]
  unfold rot unit
  rfl

theorem head1088_at (f : FVec Ideal S1312x1024 .f32) (co si : FVec Ideal S8x1024 .f32) (g : FVec Ideal S64x1 .f32) (r : Fin 64) (i : Fin 1024) :
    k0_pay1 (F := Ideal) si (k0_pay46 f g) (k0_pay47 f g) (k0_pay49 f co si g) (k0_pay50 f co g) (ix4 0 0 r i)
      = rot (fun a => co (ix2 a i)) (fun a => si (ix2 a i)) (unit (fun d => f (ix2 ⟨1088 + d.val, by omega⟩ i)) (fun d => g (ix2 d 0))) r := by
  pointwise [k0_pay1, k0_pay46, k0_pay47, k0_pay48, k0_pay49, k0_pay50]
  unfold rot unit
  rfl

theorem rows640_at (f : FVec Ideal S1312x1024 .f32) (r : Fin 64) (i : Fin 1024) :
    k0_pay37 (F := Ideal) f (ix4 0 0 r i) = f (ix2 ⟨640 + r.val, by omega⟩ i) := by
  pointwise [k0_pay37]

theorem rows704_at (f : FVec Ideal S1312x1024 .f32) (r : Fin 64) (i : Fin 1024) :
    k0_pay38 (F := Ideal) f (ix4 0 0 r i) = f (ix2 ⟨704 + r.val, by omega⟩ i) := by
  pointwise [k0_pay38]

theorem rows896_at (f : FVec Ideal S1312x1024 .f32) (r : Fin 64) (i : Fin 1024) :
    k0_pay41 (F := Ideal) f (ix4 0 0 r i) = f (ix2 ⟨896 + r.val, by omega⟩ i) := by
  pointwise [k0_pay41]

theorem rows960_at (f : FVec Ideal S1312x1024 .f32) (r : Fin 64) (i : Fin 1024) :
    k0_pay42 (F := Ideal) f (ix4 0 0 r i) = f (ix2 ⟨960 + r.val, by omega⟩ i) := by
  pointwise [k0_pay42]

theorem rows1152_at (f : FVec Ideal S1312x1024 .f32) (r : Fin 64) (i : Fin 1024) :
    k0_pay2 (F := Ideal) f (ix4 0 0 r i) = f (ix2 ⟨1152 + r.val, by omega⟩ i) := by
  pointwise [k0_pay2]

theorem rows1216_at (f : FVec Ideal S1312x1024 .f32) (r : Fin 64) (i : Fin 1024) :
    k0_pay3 (F := Ideal) f (ix4 0 0 r i) = f (ix2 ⟨1216 + r.val, by omega⟩ i) := by
  pointwise [k0_pay3]

theorem pay11_at (v : FVec Ideal S8x1024 .f32) : k0_pay11 (F := Ideal) v = v := by
  funext i; pointwise [k0_pay11]

theorem pay12_at (v : FVec Ideal S8x1024 .f32) : k0_pay12 (F := Ideal) v = v := by
  funext i; pointwise [k0_pay12]

end Cert.InProj

end
-- ==== Proof.InProj.Kernel.lean ====
module

public import proofs.«01_k».proof.Proof.InProj.Host
public import proofs.«01_k».proof.Proof.InProj.Pay

@[expose] public section

set_option maxRecDepth 16384

noncomputable section

/-! The arrays the kernel leaves. -/

namespace Cert.ProjIdeal.Spec

open Cert.ProjIdeal Cert.ProjIdeal.Gen Cert.InProj
open Idealize.ShloMosaic Idealize.ShloMosaic.TcCoe
open Idealize.ShloMosaic.Pipeline (Dat)

variable (m : (ℓ : Loc nD τ sig) → Buf (Elt Ideal) ℓ) (c : Dev nD)

/-- The tokens, as the run finds them. -/
abbrev xA : FVec Ideal S8x2048x1024 .f32 := m ((c : Thread nD τ).loc main_arg0)
/-- The gains of the tokens' norm. -/
abbrev wnA : FVec Ideal S1024 .f32 := m ((c : Thread nD τ).loc main_arg1)
/-- The weights. -/
abbrev wA : FVec Ideal S1024x3096 .f32 := m ((c : Thread nD τ).loc main_arg2)
/-- The queries' gains. -/
abbrev gqA : FVec Ideal S64 .f32 := m ((c : Thread nD τ).loc main_arg3)
/-- The keys' gains. -/
abbrev gkA : FVec Ideal S3x64 .f32 := m ((c : Thread nD τ).loc main_arg4)

theorem idx : ∀ t : Fin cfg0.N, win0_0.index t = ![t.val / 2, t.val % 2, 0] ∧ win0_1.index t = ![0, 0] ∧ win0_2.index t = ![0, 0]
    ∧ win0_3.index t = ![0, 0] ∧ win0_4.index t = ![0, 0] ∧ win0_5.index t = ![0, t.val % 2] ∧ win0_6.index t = ![0, t.val % 2]
    ∧ win0_7.index t = ![t.val / 2, t.val % 2, 0] ∧ win0_8.index t = ![t.val / 2, t.val % 2, 0] ∧ win0_9.index t = ![t.val / 2, t.val % 2, 0]
    ∧ win0_10.index t = ![t.val / 2, 0, t.val % 2] ∧ win0_11.index t = ![t.val / 2, 0, t.val % 2]
    ∧ win0_12.index t = ![1, t.val / 2, 0, t.val % 2] ∧ win0_13.index t = ![1, t.val / 2, 0, t.val % 2] ∧ win0_14.index t = ![1, t.val / 2, 0, t.val % 2]
    ∧ t.val < 16 :=
  (by decide +kernel : ∀ t : Fin grid0.N, _)

/-- The sequence of point `t`. -/
def sq (t : Fin cfg0.N) : Fin 8 := ⟨t.val / 2, by have := (idx t).2.2.2.2.2.2.2.2.2.2.2.2.2.2.2; omega⟩
/-- The token that row `i` of point `t`'s block is. -/
def tk (t : Fin cfg0.N) (i : Fin 1024) : Fin 2048 := ⟨t.val % 2 * 1024 + i.val, by omega⟩

theorem sq_val (t : Fin cfg0.N) : (sq t).val = t.val / 2 := rfl
theorem tk_val (t : Fin cfg0.N) (i : Fin 1024) : (tk t i).val = t.val % 2 * 1024 + i.val := rfl

theorem x_read (t : Fin cfg0.N) (i k : Fin 1024) : (iblk m c 0 t : FVec Ideal S1x1024x1024 .f32) (ix3 0 i k) = xA m c (ix3 (sq t) (tk t i) k) := by
  unfold sq tk
  blk_ext [iblk, V, idx t]

theorem wnb_read (t : Fin cfg0.N) (k : Fin 1024) : (iblk m c 1 t : FVec Ideal S1x1024 .f32) (ix2 0 k) = wnA m c (ix1 k) := by
  refine Eq.trans ?_ (wn_read m c k)
  blk_ext [iblk, idx t]

theorem wtokb_read (t : Fin cfg0.N) (k : Fin 1024) (j : Fin 1792) : (iblk m c 2 t : FVec Ideal S1024x1792 .bf16) (ix2 k j) = wcol (wA m c) k (tokcol j.val) := by
  rw [wcol, dif_pos (tokcol_lt j)]
  refine Eq.trans ?_ (wtok_read m c k j)
  blk_ext [iblk, idx t]

theorem wfeatb_read (t : Fin cfg0.N) (j : Fin 1312) (k : Fin 1024) :
    (iblk m c 3 t : FVec Ideal S1312x1024 .bf16) (ix2 j k) = if j.val < 1304 then wcol (wA m c) k (1280 + j.val) else 0 := by
  have e : (iblk m c 3 t : FVec Ideal S1312x1024 .bf16) (ix2 j k) = (V m c main_v14 : FVec Ideal S1312x1024 .bf16) (ix2 j k) := by
    blk_ext [iblk, idx t]
  rw [e, wfeat_read]
  by_cases h : j.val < 1304
  · rw [dif_pos h, if_pos h, wcol, dif_pos (by omega)]
  · rw [dif_neg h, if_neg h]

theorem cosb_read (t : Fin cfg0.N) (a : Fin 8) (i : Fin 1024) :
    (iblk m c 5 t : FVec Ideal S8x1024 .f32) (ix2 a i) = Ideal.cos (angle (tk t i) a) := by
  refine Eq.trans ?_ (cos_read m c a (tk t i))
  unfold tk
  blk_ext [iblk, idx t]

theorem sinb_read (t : Fin cfg0.N) (a : Fin 8) (i : Fin 1024) :
    (iblk m c 6 t : FVec Ideal S8x1024 .f32) (ix2 a i) = Ideal.sin (angle (tk t i) a) := by
  refine Eq.trans ?_ (sin_read m c a (tk t i))
  unfold tk
  blk_ext [iblk, idx t]

/-- The normalised tokens of point `t`. -/
theorem h_at (t : Fin cfg0.N) (i k : Fin 1024) :
    k0_pay4 (F := Ideal) (iblk m c 0 t) (iblk m c 1 t) (ix2 i k) = hrow (xA m c) (wnA m c) (sq t) (tk t i) k := by
  refine (pay4_at _ _ i k).trans ?_
  simp only [x_read, wnb_read, hrow]

/-- The token products of point `t`. -/
theorem a_at (t : Fin cfg0.N) (i : Fin 1024) (j : Fin 1792) :
    k0_pay5 (F := Ideal) (iblk m c 0 t) (iblk m c 1 t) (iblk m c 2 t) (ix2 i j) = proj (xA m c) (wnA m c) (wA m c) (sq t) (tk t i) (tokcol j.val) := by
  refine (pay5_at _ _ _ i j).trans ?_
  simp only [h_at, wtokb_read, proj]

/-- The feature products of point `t`. -/
abbrev fB (t : Fin cfg0.N) : FVec Ideal S1312x1024 .f32 :=
  k0_pay9 (F := Ideal) (k0_pay4 (F := Ideal) (iblk m c 0 t) (iblk m c 1 t)) (iblk m c 3 t)

theorem f_at (t : Fin cfg0.N) (r : Fin 1312) (i : Fin 1024) (hr : r.val < 1304) :
    fB m c t (ix2 r i) = proj (xA m c) (wnA m c) (wA m c) (sq t) (tk t i) (1280 + r.val) := by
  refine (pay9_at _ _ r i).trans ?_
  simp only [h_at, wfeatb_read, proj, if_pos hr]
  exact Finset.sum_congr rfl fun k _ => mul_comm _ _

theorem f_spare (t : Fin cfg0.N) (r : Fin 1312) (i : Fin 1024) (hr : ¬ r.val < 1304) : fB m c t (ix2 r i) = 0 := by
  refine (pay9_at _ _ r i).trans ?_
  simp only [wfeatb_read, if_neg hr, zero_mul, Finset.sum_const_zero]

/-- A head of the feature products is the head of the projection. -/
theorem head_of (t : Fin cfg0.N) (i : Fin 1024) (b : ℕ) (hb : b + 64 ≤ 1280) (g : FVec Ideal S64x1 .f32) (g' : Fin 64 → EReal)
    (hg : ∀ d : Fin 64, g (ix2 d 0) = g' d) (r : Fin 64) :
    rot (fun a => (iblk m c 5 t : FVec Ideal S8x1024 .f32) (ix2 a i)) (fun a => (iblk m c 6 t : FVec Ideal S8x1024 .f32) (ix2 a i))
        (unit (fun d => fB m c t (ix2 ⟨b + d.val, by omega⟩ i)) (fun d => g (ix2 d 0))) r
      = head (xA m c) (wnA m c) (wA m c) g' (sq t) (tk t i) (1280 + b) r := by
  have e1 : (fun d : Fin 64 => fB m c t (ix2 ⟨b + d.val, by omega⟩ i)) = fun d => proj (xA m c) (wnA m c) (wA m c) (sq t) (tk t i) (1280 + b + d.val) := by
    funext d; rw [f_at m c t _ i (by simp only; omega), Nat.add_assoc]
  have e2 : (fun d => g (ix2 d 0)) = g' := funext hg
  simp only [e1, e2, cosb_read, sinb_read, head]

theorem gqb (t : Fin cfg0.N) (b : ℕ) (hb : b + 64 ≤ 512) (h64 : b % 64 = 0) (inb) (d : Fin 64) :
    (View.ld (iblk m c 4 t : FVec Ideal S1280x1 .f32) (Rect.unit (s := S1280x1) ![b, 0] ![64, 1] inb) : FVec Ideal S64x1 .f32) (ix2 d 0) = gqA m c (ix1 d) := by
  refine Eq.trans ?_ (gq_read m c ⟨b + d.val, by omega⟩ d (by simp only; omega) (by simp only; omega))
  pointwise
  blk_ext [iblk, idx t]

theorem gkb (t : Fin cfg0.N) (b : ℕ) (br : Fin 3) (hb : 512 ≤ b ∧ b + 64 ≤ 1280) (h64 : b % 64 = 0) (hbr : (b - 512) / 256 = br.val) (hk : (b - 512) / 64 % 4 < 2) (inb) (d : Fin 64) :
    (View.ld (iblk m c 4 t : FVec Ideal S1280x1 .f32) (Rect.unit (s := S1280x1) ![b, 0] ![64, 1] inb) : FVec Ideal S64x1 .f32) (ix2 d 0) = gkA m c (ix2 br d) := by
  refine Eq.trans ?_ (gk_read m c ⟨b + d.val, by omega⟩ br d (by simp only; omega) (by simp only; omega) (by simp only; omega) (by simp only; omega))
  pointwise
  blk_ext [iblk, idx t]

theorem queries_at (x : FVec Ideal S8x2048x1024 .f32) (wn : FVec Ideal S1024 .f32) (w : FVec Ideal S1024x3096 .f32) (g : FVec Ideal S64 .f32)
    (j : S8x512x2048.Idx) (n : Fin 8) (t : Fin 2048) (p : ℕ) (r : Fin 64)
    (h0 : (j 0 : ℕ) = n.val) (h1 : (j 1 : ℕ) = 64 * p + r.val) (h2 : (j 2 : ℕ) = t.val) :
    queries x wn w g j = head x wn w (fun d => g (ix1 d)) n t (1280 + 64 * p) r := by
  have e0 : j 0 = n := Fin.ext h0
  have e2 : j 2 = t := Fin.ext h2
  have e1 : (j 1 : ℕ) / 64 = p := by omega
  have e3 : (⟨(j 1 : ℕ) % 64, Nat.mod_lt _ (by decide)⟩ : Fin 64) = r := Fin.ext (by simp only; omega)
  rw [queries, e0, e2, e1, e3]

theorem key_at (x : FVec Ideal S8x2048x1024 .f32) (wn : FVec Ideal S1024 .f32) (w : FVec Ideal S1024x3096 .f32) (g : FVec Ideal S3x64 .f32) (b : Fin 3)
    (prev : FVec Ideal S2x8x256x2048 .f32) (j : S2x8x256x2048.Idx) (n : Fin 8) (t : Fin 2048) (p : ℕ) (r : Fin 64) (hp : p < 2)
    (hl : (j 0 : ℕ) = 1) (h0 : (j 1 : ℕ) = n.val) (h1 : (j 2 : ℕ) = 64 * p + r.val) (h2 : (j 3 : ℕ) = t.val) :
    cache x wn w g b prev j = head x wn w (fun d => g (ix2 b d)) n t (1792 + 256 * b.val + 64 * p) r := by
  have e0 : j 1 = n := Fin.ext h0
  have e2 : j 3 = t := Fin.ext h2
  have e1 : (j 2 : ℕ) / 64 = p := by omega
  have e3 : (⟨(j 2 : ℕ) % 64, Nat.mod_lt _ (by decide)⟩ : Fin 64) = r := Fin.ext (by simp only; omega)
  rw [cache, if_pos hl, if_pos (by omega), e0, e2, e1, e3]

theorem value_at (x : FVec Ideal S8x2048x1024 .f32) (wn : FVec Ideal S1024 .f32) (w : FVec Ideal S1024x3096 .f32) (g : FVec Ideal S3x64 .f32) (b : Fin 3)
    (prev : FVec Ideal S2x8x256x2048 .f32) (j : S2x8x256x2048.Idx) (n : Fin 8) (t : Fin 2048) (r : ℕ)
    (hl : (j 0 : ℕ) = 1) (h0 : (j 1 : ℕ) = n.val) (h1 : (j 2 : ℕ) = r) (hr : 128 ≤ r) (h2 : (j 3 : ℕ) = t.val) :
    cache x wn w g b prev j = proj x wn w n t (1792 + 256 * b.val + r) := by
  have e0 : j 1 = n := Fin.ext h0
  have e2 : j 3 = t := Fin.ext h2
  rw [cache, if_pos hl, if_neg (by omega), e0, e2, h1]

end Cert.ProjIdeal.Spec
end
-- ==== Proof.InProj.KernelTok.lean ====
module

public import proofs.«01_k».proof.Proof.InProj.Kernel

@[expose] public section

set_option maxRecDepth 16384

noncomputable section

/-! The gated inputs, gates and pooling inputs the kernel leaves. -/

namespace Cert.ProjIdeal.Spec

open Cert.ProjIdeal Cert.ProjIdeal.Gen Cert.InProj
open Idealize.ShloMosaic Idealize.ShloMosaic.TcCoe
open Idealize.ShloMosaic.Pipeline (Dat)

variable (m : (ℓ : Loc nD τ sig) → Buf (Elt Ideal) ℓ) (c : Dev nD)

theorem tokcol_glu (j : Fin 256) : tokcol j.val = j.val ∧ tokcol (256 + j.val) = 256 + j.val ∧ tokcol (512 + j.val) = 768 + j.val := by
  refine ⟨?_, ?_, ?_⟩ <;> unfold tokcol <;> (repeat' split) <;> omega

theorem tokcol_z (j : Fin 1024) : tokcol (768 + j.val) = zcol j.val := by
  unfold tokcol zcol; (repeat' split) <;> omega

theorem glu_at (x : FVec Ideal S8x2048x1024 .f32) (wn : FVec Ideal S1024 .f32) (w : FVec Ideal S1024x3096 .f32) (i : S8x2048x256.Idx)
    (n : Fin 8) (t : Fin 2048) (j : Fin 256) (h0 : (i 0 : ℕ) = n.val) (h1 : (i 1 : ℕ) = t.val) (h2 : (i 2 : ℕ) = j.val) :
    glu x wn w i = proj x wn w n t j.val * sg (proj x wn w n t (256 + j.val)) := by
  have e0 : i 0 = n := Fin.ext h0
  have e1 : i 1 = t := Fin.ext h1
  rw [glu, e0, e1, h2]

theorem pin_at (x : FVec Ideal S8x2048x1024 .f32) (wn : FVec Ideal S1024 .f32) (w : FVec Ideal S1024x3096 .f32) (i : S8x2048x256.Idx)
    (n : Fin 8) (t : Fin 2048) (j : Fin 256) (h0 : (i 0 : ℕ) = n.val) (h1 : (i 1 : ℕ) = t.val) (h2 : (i 2 : ℕ) = j.val) :
    pin x wn w i = proj x wn w n t (768 + j.val) := by
  have e0 : i 0 = n := Fin.ext h0
  have e1 : i 1 = t := Fin.ext h1
  rw [pin, e0, e1, h2]

theorem sz_at (x : FVec Ideal S8x2048x1024 .f32) (wn : FVec Ideal S1024 .f32) (w : FVec Ideal S1024x3096 .f32) (i : S8x2048x1024.Idx)
    (n : Fin 8) (t : Fin 2048) (j : Fin 1024) (h0 : (i 0 : ℕ) = n.val) (h1 : (i 1 : ℕ) = t.val) (h2 : (i 2 : ℕ) = j.val) :
    sz x wn w i = proj x wn w n t (zcol j.val) * sg (proj x wn w n t (zcol j.val)) := by
  have e0 : i 0 = n := Fin.ext h0
  have e1 : i 1 = t := Fin.ext h1
  rw [sz, e0, e1, h2]

theorem gates_at (x : FVec Ideal S8x2048x1024 .f32) (wn : FVec Ideal S1024 .f32) (w : FVec Ideal S1024x3096 .f32) (i : S8x32x2048.Idx)
    (n : Fin 8) (t : Fin 2048) (j : Fin 32) (h0 : (i 0 : ℕ) = n.val) (h1 : (i 2 : ℕ) = t.val) (h2 : (i 1 : ℕ) = j.val) :
    gates x wn w i = if j.val < 24 then sg (proj x wn w n t (2560 + j.val)) else Ideal.ofBits FTy.f32 0x3F000000#32 := by
  have e0 : i 0 = n := Fin.ext h0
  have e1 : i 2 = t := Fin.ext h1
  rw [gates, e0, e1, h2]

/-- The logistic function of nought is one half. -/
theorem sg_zero : sg 0 = Ideal.ofBits FTy.f32 0x3F000000#32 := by
  have h : Ideal.exp (-(0 : EReal)) = 1 := by
    rw [neg_zero, ← EReal.coe_zero]
    show ((Real.exp 0 : ℝ) : EReal) = 1
    rw [Real.exp_zero]; rfl
  rw [sg, h]
  have e : (1 : EReal) + 1 = ((2 : ℝ) : EReal) := by
    rw [show (1 : EReal) = ((1 : ℝ) : EReal) from rfl, ← EReal.coe_add]; norm_num
  have o : Ideal.ofBits FTy.f32 0x3F000000#32 = (((1 : ℝ) / 2 : ℝ) : EReal) := by
    simp [Ideal.ofBits, Ideal.ieee, -EReal.coe_mul]; norm_num
  rw [e, o]
  have n : ((2 : ℝ) : EReal) ≠ 0 := by norm_num
  rw [Ideal.div, if_neg n, one_mul, ← EReal.coe_inv]
  norm_num

set_option maxHeartbeats 1600000 in
/-- The gated linear units. -/
theorem final7 : (dats m 0 c).arrAt 7 (cfgs 0).N = glu (xA m c) (wnA m c) (wA m c) := by
  refine (dats m 0 c).arrAt_eq_of_covers 7 _ (by decide +kernel) fun t _ y => ?_
  blk_simp
  rw [after0_7]; unfold outsAt0; frame_out
  idx_vars y
  obtain rfl : y0 = 0 := Subsingleton.elim _ _
  refine (pay6_at _ _ _ y1 y2).trans (Eq.trans ?_ (glu_at _ _ _ _ (sq t) (tk t y1) y2 ?_ ?_ ?_).symm)
  · rw [a_at, a_at, (tokcol_glu y2).1, (tokcol_glu y2).2.1]
  all_goals (have z : ((0 : Fin 1) : ℕ) = 0 := rfl; blk_simp [idx t, sq_val, tk_val] <;> try omega)

set_option maxHeartbeats 1600000 in
/-- The pooling inputs. -/
theorem final8 : (dats m 0 c).arrAt 8 (cfgs 0).N = pin (xA m c) (wnA m c) (wA m c) := by
  refine (dats m 0 c).arrAt_eq_of_covers 8 _ (by decide +kernel) fun t _ y => ?_
  blk_simp
  rw [after0_8]; unfold outsAt0; frame_out
  idx_vars y
  obtain rfl : y0 = 0 := Subsingleton.elim _ _
  refine (pay7_at _ _ _ y1 y2).trans (Eq.trans ?_ (pin_at _ _ _ _ (sq t) (tk t y1) y2 ?_ ?_ ?_).symm)
  · rw [a_at, (tokcol_glu y2).2.2]
  all_goals (have z : ((0 : Fin 1) : ℕ) = 0 := rfl; blk_simp [idx t, sq_val, tk_val] <;> try omega)

set_option maxHeartbeats 1600000 in
/-- The output gates. -/
theorem final9 : (dats m 0 c).arrAt 9 (cfgs 0).N = sz (xA m c) (wnA m c) (wA m c) := by
  refine (dats m 0 c).arrAt_eq_of_covers 9 _ (by decide +kernel) fun t _ y => ?_
  blk_simp
  rw [after0_9]; unfold outsAt0; frame_out
  idx_vars y
  obtain rfl : y0 = 0 := Subsingleton.elim _ _
  refine (pay8_at _ y1 y2).trans (Eq.trans ?_ (sz_at _ _ _ _ (sq t) (tk t y1) y2 ?_ ?_ ?_).symm)
  · rw [a_at, tokcol_z y2]
  all_goals (have z : ((0 : Fin 1) : ℕ) = 0 := rfl; blk_simp [idx t, sq_val, tk_val] <;> try omega)

set_option maxHeartbeats 1600000 in
/-- The branch gates. -/
theorem final10 : (dats m 0 c).arrAt 10 (cfgs 0).N = gates (xA m c) (wnA m c) (wA m c) := by
  refine (dats m 0 c).arrAt_eq_of_covers 10 _ (by decide +kernel) fun t _ y => ?_
  blk_simp
  rw [after0_10]; unfold outsAt0; frame_out
  idx_vars y
  obtain rfl : y0 = 0 := Subsingleton.elim _ _
  refine (pay10_at _ _ y1 y2).trans (Eq.trans ?_ (gates_at _ _ _ _ (sq t) (tk t y2) y1 ?_ ?_ ?_).symm)
  · by_cases h : y1.val < 24
    · rw [if_pos h]
      exact congrArg sg ((f_at m c t ⟨1280 + y1.val, by omega⟩ y2 (by simp only; omega)).trans (congrArg _ (by simp only; omega)))
    · rw [if_neg h, ← sg_zero]
      exact congrArg sg (f_spare m c t ⟨1280 + y1.val, by omega⟩ y2 (by simp only; omega))
  all_goals (have z : ((0 : Fin 1) : ℕ) = 0 := rfl; blk_simp [idx t, sq_val, tk_val] <;> try omega)

end Cert.ProjIdeal.Spec
end
-- ==== Proof.InProj.KernelQ.lean ====
module

public import proofs.«01_k».proof.Proof.InProj.Kernel

@[expose] public section

set_option maxRecDepth 16384

noncomputable section

/-! The queries the kernel leaves. -/

namespace Cert.ProjIdeal.Spec

open Cert.ProjIdeal Cert.ProjIdeal.Gen Cert.InProj
open Idealize.ShloMosaic Idealize.ShloMosaic.TcCoe
open Idealize.ShloMosaic.Pipeline (Dat)

variable (m : (ℓ : Loc nD τ sig) → Buf (Elt Ideal) ℓ) (c : Dev nD)

set_option maxHeartbeats 1600000 in
/-- The queries. -/
theorem final11 : (dats m 0 c).arrAt 11 (cfgs 0).N = queries (xA m c) (wnA m c) (wA m c) (gqA m c) := by
  refine (dats m 0 c).arrAt_eq_of_covers 11 _ (by decide +kernel) fun t _ y => ?_
  blk_simp
  rw [after0_11]
  frame_out
  canon_tiles x h
  case piece0 =>
    idx_vars x
    obtain rfl : x0 = 0 := Subsingleton.elim _ _
    rw [pay11_at, pay12_at]
    refine (head448_at _ _ _ _ x1 x2).trans ((head_of m c t x2 448 (by decide) _ _ (gqb m c t 448 (by decide) (by decide) _) x1).trans (queries_at _ _ _ _ _ (sq t) (tk t x2) 7 x1 ?_ ?_ ?_).symm)
    all_goals (have z : ((0 : Fin 1) : ℕ) = 0 := rfl; blk_simp [idx t, sq_val, tk_val] <;> try omega)
  case piece1 =>
    idx_vars x
    obtain rfl : x0 = 0 := Subsingleton.elim _ _
    rw [pay11_at, pay12_at]
    refine (head384_at _ _ _ _ x1 x2).trans ((head_of m c t x2 384 (by decide) _ _ (gqb m c t 384 (by decide) (by decide) _) x1).trans (queries_at _ _ _ _ _ (sq t) (tk t x2) 6 x1 ?_ ?_ ?_).symm)
    all_goals (have z : ((0 : Fin 1) : ℕ) = 0 := rfl; blk_simp [idx t, sq_val, tk_val] <;> try omega)
  case piece2 =>
    idx_vars x
    obtain rfl : x0 = 0 := Subsingleton.elim _ _
    rw [pay11_at, pay12_at]
    refine (head320_at _ _ _ _ x1 x2).trans ((head_of m c t x2 320 (by decide) _ _ (gqb m c t 320 (by decide) (by decide) _) x1).trans (queries_at _ _ _ _ _ (sq t) (tk t x2) 5 x1 ?_ ?_ ?_).symm)
    all_goals (have z : ((0 : Fin 1) : ℕ) = 0 := rfl; blk_simp [idx t, sq_val, tk_val] <;> try omega)
  case piece3 =>
    idx_vars x
    obtain rfl : x0 = 0 := Subsingleton.elim _ _
    rw [pay11_at, pay12_at]
    refine (head256_at _ _ _ _ x1 x2).trans ((head_of m c t x2 256 (by decide) _ _ (gqb m c t 256 (by decide) (by decide) _) x1).trans (queries_at _ _ _ _ _ (sq t) (tk t x2) 4 x1 ?_ ?_ ?_).symm)
    all_goals (have z : ((0 : Fin 1) : ℕ) = 0 := rfl; blk_simp [idx t, sq_val, tk_val] <;> try omega)
  case piece4 =>
    idx_vars x
    obtain rfl : x0 = 0 := Subsingleton.elim _ _
    rw [pay11_at, pay12_at]
    refine (head192_at _ _ _ _ x1 x2).trans ((head_of m c t x2 192 (by decide) _ _ (gqb m c t 192 (by decide) (by decide) _) x1).trans (queries_at _ _ _ _ _ (sq t) (tk t x2) 3 x1 ?_ ?_ ?_).symm)
    all_goals (have z : ((0 : Fin 1) : ℕ) = 0 := rfl; blk_simp [idx t, sq_val, tk_val] <;> try omega)
  case piece5 =>
    idx_vars x
    obtain rfl : x0 = 0 := Subsingleton.elim _ _
    rw [pay11_at, pay12_at]
    refine (head128_at _ _ _ _ x1 x2).trans ((head_of m c t x2 128 (by decide) _ _ (gqb m c t 128 (by decide) (by decide) _) x1).trans (queries_at _ _ _ _ _ (sq t) (tk t x2) 2 x1 ?_ ?_ ?_).symm)
    all_goals (have z : ((0 : Fin 1) : ℕ) = 0 := rfl; blk_simp [idx t, sq_val, tk_val] <;> try omega)
  case piece6 =>
    idx_vars x
    obtain rfl : x0 = 0 := Subsingleton.elim _ _
    rw [pay11_at, pay12_at]
    refine (head64_at _ _ _ _ x1 x2).trans ((head_of m c t x2 64 (by decide) _ _ (gqb m c t 64 (by decide) (by decide) _) x1).trans (queries_at _ _ _ _ _ (sq t) (tk t x2) 1 x1 ?_ ?_ ?_).symm)
    all_goals (have z : ((0 : Fin 1) : ℕ) = 0 := rfl; blk_simp [idx t, sq_val, tk_val] <;> try omega)
  case piece7 =>
    idx_vars x
    obtain rfl : x0 = 0 := Subsingleton.elim _ _
    rw [pay11_at, pay12_at]
    refine (head0_at _ _ _ _ _ x1 x2).trans ((head_of m c t x2 0 (by decide) _ _ (gqb m c t 0 (by decide) (by decide) _) x1).trans (queries_at _ _ _ _ _ (sq t) (tk t x2) 0 x1 ?_ ?_ ?_).symm)
    all_goals (have z : ((0 : Fin 1) : ℕ) = 0 := rfl; blk_simp [idx t, sq_val, tk_val] <;> try omega)

end Cert.ProjIdeal.Spec
end
-- ==== Proof.InProj.KernelKv.lean ====
module

public import proofs.«01_k».proof.Proof.InProj.Kernel

@[expose] public section

set_option maxRecDepth 16384

noncomputable section

/-! The keys and values the kernel leaves. -/

namespace Cert.ProjIdeal.Spec

open Cert.ProjIdeal Cert.ProjIdeal.Gen Cert.InProj
open Idealize.ShloMosaic Idealize.ShloMosaic.TcCoe
open Idealize.ShloMosaic.Pipeline (Dat)

variable (m : (ℓ : Loc nD τ sig) → Buf (Elt Ideal) ℓ) (c : Dev nD)

set_option maxHeartbeats 1600000 in
/-- The keys and values of branch 0. -/
theorem final12 : (dats m 0 c).arrAt 12 (cfgs 0).N
    = cache (xA m c) (wnA m c) (wA m c) (gkA m c) 0 (m ((c : Thread nD τ).loc main_arg5)) := by
  have e : cache (xA m c) (wnA m c) (wA m c) (gkA m c) 0 (m ((c : Thread nD τ).loc main_arg5))
      = fun i => if (i 0 : ℕ) = 1 then cache (xA m c) (wnA m c) (wA m c) (gkA m c) 0 (m ((c : Thread nD τ).loc main_arg5)) i
          else V m c main_v44_5 i := by
    funext i
    by_cases h : (i 0 : ℕ) = 1
    · rw [if_pos h]
    · rw [if_neg h, cache, if_neg h, prev5]
  rw [e]
  refine (dats m 0 c).arrAt_eq_of_coversWhere 12 _ (fun β => β 0 = 1) (by decide +kernel) (fun t hf y => ?_)
    (fun j => by blk_simp [Pipeline.Window.cell_apply]; omega)
  blk_simp
  rw [after0_12]
  frame_out
  canon_tiles x h
  case piece0 =>
    idx_vars x
    obtain rfl : x0 = 0 := Subsingleton.elim _ _
    obtain rfl : x1 = 0 := Subsingleton.elim _ _
    refine (rows704_at _ x2 x3).trans ((f_at m c t ⟨704 + x2.val, by omega⟩ x3 (by simp only; omega)).trans (Eq.trans ?_ (value_at _ _ _ _ 0 _ _ (sq t) (tk t x3) (192 + x2.val) ?_ ?_ ?_ (by omega) ?_).symm))
    · congr 1; simp only; omega
    all_goals (have z : ((0 : Fin 1) : ℕ) = 0 := rfl; blk_simp [idx t, sq_val, tk_val] <;> try omega)
  case piece1 =>
    idx_vars x
    obtain rfl : x0 = 0 := Subsingleton.elim _ _
    obtain rfl : x1 = 0 := Subsingleton.elim _ _
    refine (rows640_at _ x2 x3).trans ((f_at m c t ⟨640 + x2.val, by omega⟩ x3 (by simp only; omega)).trans (Eq.trans ?_ (value_at _ _ _ _ 0 _ _ (sq t) (tk t x3) (128 + x2.val) ?_ ?_ ?_ (by omega) ?_).symm))
    · congr 1; simp only; omega
    all_goals (have z : ((0 : Fin 1) : ℕ) = 0 := rfl; blk_simp [idx t, sq_val, tk_val] <;> try omega)
  case piece2 =>
    idx_vars x
    obtain rfl : x0 = 0 := Subsingleton.elim _ _
    obtain rfl : x1 = 0 := Subsingleton.elim _ _
    rw [pay11_at, pay12_at]
    refine (head576_at _ _ _ _ x2 x3).trans ((head_of m c t x3 576 (by decide) _ _ (gkb m c t 576 0 (by decide) (by decide) (by decide) (by decide) _) x2).trans (key_at _ _ _ _ 0 _ _ (sq t) (tk t x3) 1 x2 (by decide) ?_ ?_ ?_ ?_).symm)
    all_goals (have z : ((0 : Fin 1) : ℕ) = 0 := rfl; blk_simp [idx t, sq_val, tk_val] <;> try omega)
  case piece3 =>
    idx_vars x
    obtain rfl : x0 = 0 := Subsingleton.elim _ _
    obtain rfl : x1 = 0 := Subsingleton.elim _ _
    rw [pay11_at, pay12_at]
    refine (head512_at _ _ _ _ x2 x3).trans ((head_of m c t x3 512 (by decide) _ _ (gkb m c t 512 0 (by decide) (by decide) (by decide) (by decide) _) x2).trans (key_at _ _ _ _ 0 _ _ (sq t) (tk t x3) 0 x2 (by decide) ?_ ?_ ?_ ?_).symm)
    all_goals (have z : ((0 : Fin 1) : ℕ) = 0 := rfl; blk_simp [idx t, sq_val, tk_val] <;> try omega)

set_option maxHeartbeats 1600000 in
/-- The keys and values of branch 1. -/
theorem final13 : (dats m 0 c).arrAt 13 (cfgs 0).N
    = cache (xA m c) (wnA m c) (wA m c) (gkA m c) 1 (m ((c : Thread nD τ).loc main_arg6)) := by
  have e : cache (xA m c) (wnA m c) (wA m c) (gkA m c) 1 (m ((c : Thread nD τ).loc main_arg6))
      = fun i => if (i 0 : ℕ) = 1 then cache (xA m c) (wnA m c) (wA m c) (gkA m c) 1 (m ((c : Thread nD τ).loc main_arg6)) i
          else V m c main_v44_6 i := by
    funext i
    by_cases h : (i 0 : ℕ) = 1
    · rw [if_pos h]
    · rw [if_neg h, cache, if_neg h, prev6]
  rw [e]
  refine (dats m 0 c).arrAt_eq_of_coversWhere 13 _ (fun β => β 0 = 1) (by decide +kernel) (fun t hf y => ?_)
    (fun j => by blk_simp [Pipeline.Window.cell_apply]; omega)
  blk_simp
  rw [after0_13]
  frame_out
  canon_tiles x h
  case piece0 =>
    idx_vars x
    obtain rfl : x0 = 0 := Subsingleton.elim _ _
    obtain rfl : x1 = 0 := Subsingleton.elim _ _
    refine (rows960_at _ x2 x3).trans ((f_at m c t ⟨960 + x2.val, by omega⟩ x3 (by simp only; omega)).trans (Eq.trans ?_ (value_at _ _ _ _ 1 _ _ (sq t) (tk t x3) (192 + x2.val) ?_ ?_ ?_ (by omega) ?_).symm))
    · congr 1; simp only; omega
    all_goals (have z : ((0 : Fin 1) : ℕ) = 0 := rfl; blk_simp [idx t, sq_val, tk_val] <;> try omega)
  case piece1 =>
    idx_vars x
    obtain rfl : x0 = 0 := Subsingleton.elim _ _
    obtain rfl : x1 = 0 := Subsingleton.elim _ _
    refine (rows896_at _ x2 x3).trans ((f_at m c t ⟨896 + x2.val, by omega⟩ x3 (by simp only; omega)).trans (Eq.trans ?_ (value_at _ _ _ _ 1 _ _ (sq t) (tk t x3) (128 + x2.val) ?_ ?_ ?_ (by omega) ?_).symm))
    · congr 1; simp only; omega
    all_goals (have z : ((0 : Fin 1) : ℕ) = 0 := rfl; blk_simp [idx t, sq_val, tk_val] <;> try omega)
  case piece2 =>
    idx_vars x
    obtain rfl : x0 = 0 := Subsingleton.elim _ _
    obtain rfl : x1 = 0 := Subsingleton.elim _ _
    rw [pay11_at, pay12_at]
    refine (head832_at _ _ _ _ x2 x3).trans ((head_of m c t x3 832 (by decide) _ _ (gkb m c t 832 1 (by decide) (by decide) (by decide) (by decide) _) x2).trans (key_at _ _ _ _ 1 _ _ (sq t) (tk t x3) 1 x2 (by decide) ?_ ?_ ?_ ?_).symm)
    all_goals (have z : ((0 : Fin 1) : ℕ) = 0 := rfl; blk_simp [idx t, sq_val, tk_val] <;> try omega)
  case piece3 =>
    idx_vars x
    obtain rfl : x0 = 0 := Subsingleton.elim _ _
    obtain rfl : x1 = 0 := Subsingleton.elim _ _
    rw [pay11_at, pay12_at]
    refine (head768_at _ _ _ _ x2 x3).trans ((head_of m c t x3 768 (by decide) _ _ (gkb m c t 768 1 (by decide) (by decide) (by decide) (by decide) _) x2).trans (key_at _ _ _ _ 1 _ _ (sq t) (tk t x3) 0 x2 (by decide) ?_ ?_ ?_ ?_).symm)
    all_goals (have z : ((0 : Fin 1) : ℕ) = 0 := rfl; blk_simp [idx t, sq_val, tk_val] <;> try omega)

set_option maxHeartbeats 1600000 in
/-- The keys and values of branch 2. -/
theorem final14 : (dats m 0 c).arrAt 14 (cfgs 0).N
    = cache (xA m c) (wnA m c) (wA m c) (gkA m c) 2 (m ((c : Thread nD τ).loc main_arg7)) := by
  have e : cache (xA m c) (wnA m c) (wA m c) (gkA m c) 2 (m ((c : Thread nD τ).loc main_arg7))
      = fun i => if (i 0 : ℕ) = 1 then cache (xA m c) (wnA m c) (wA m c) (gkA m c) 2 (m ((c : Thread nD τ).loc main_arg7)) i
          else V m c main_v44_7 i := by
    funext i
    by_cases h : (i 0 : ℕ) = 1
    · rw [if_pos h]
    · rw [if_neg h, cache, if_neg h, prev7]
  rw [e]
  refine (dats m 0 c).arrAt_eq_of_coversWhere 14 _ (fun β => β 0 = 1) (by decide +kernel) (fun t hf y => ?_)
    (fun j => by blk_simp [Pipeline.Window.cell_apply]; omega)
  blk_simp
  rw [after0_14]
  frame_out
  canon_tiles x h
  case piece0 =>
    idx_vars x
    obtain rfl : x0 = 0 := Subsingleton.elim _ _
    obtain rfl : x1 = 0 := Subsingleton.elim _ _
    refine (rows1216_at _ x2 x3).trans ((f_at m c t ⟨1216 + x2.val, by omega⟩ x3 (by simp only; omega)).trans (Eq.trans ?_ (value_at _ _ _ _ 2 _ _ (sq t) (tk t x3) (192 + x2.val) ?_ ?_ ?_ (by omega) ?_).symm))
    · congr 1; simp only; omega
    all_goals (have z : ((0 : Fin 1) : ℕ) = 0 := rfl; blk_simp [idx t, sq_val, tk_val] <;> try omega)
  case piece1 =>
    idx_vars x
    obtain rfl : x0 = 0 := Subsingleton.elim _ _
    obtain rfl : x1 = 0 := Subsingleton.elim _ _
    refine (rows1152_at _ x2 x3).trans ((f_at m c t ⟨1152 + x2.val, by omega⟩ x3 (by simp only; omega)).trans (Eq.trans ?_ (value_at _ _ _ _ 2 _ _ (sq t) (tk t x3) (128 + x2.val) ?_ ?_ ?_ (by omega) ?_).symm))
    · congr 1; simp only; omega
    all_goals (have z : ((0 : Fin 1) : ℕ) = 0 := rfl; blk_simp [idx t, sq_val, tk_val] <;> try omega)
  case piece2 =>
    idx_vars x
    obtain rfl : x0 = 0 := Subsingleton.elim _ _
    obtain rfl : x1 = 0 := Subsingleton.elim _ _
    rw [pay11_at, pay12_at]
    refine (head1088_at _ _ _ _ x2 x3).trans ((head_of m c t x3 1088 (by decide) _ _ (gkb m c t 1088 2 (by decide) (by decide) (by decide) (by decide) _) x2).trans (key_at _ _ _ _ 2 _ _ (sq t) (tk t x3) 1 x2 (by decide) ?_ ?_ ?_ ?_).symm)
    all_goals (have z : ((0 : Fin 1) : ℕ) = 0 := rfl; blk_simp [idx t, sq_val, tk_val] <;> try omega)
  case piece3 =>
    idx_vars x
    obtain rfl : x0 = 0 := Subsingleton.elim _ _
    obtain rfl : x1 = 0 := Subsingleton.elim _ _
    rw [pay11_at, pay12_at]
    refine (head1024_at _ _ _ _ x2 x3).trans ((head_of m c t x3 1024 (by decide) _ _ (gkb m c t 1024 2 (by decide) (by decide) (by decide) (by decide) _) x2).trans (key_at _ _ _ _ 2 _ _ (sq t) (tk t x3) 0 x2 (by decide) ?_ ?_ ?_ ?_).symm)
    all_goals (have z : ((0 : Fin 1) : ℕ) = 0 := rfl; blk_simp [idx t, sq_val, tk_val] <;> try omega)

end Cert.ProjIdeal.Spec
end
-- ==== Proof.InProj.RefProj.lean ====
module

public import proofs.«01_k».proof.Proof.InProj.Spec
public import proofs.«01_k».proof.Proof.Gen.ProjReferenceIdeal.Run
public import Idealize.ShloMosaic.Lib.Pointwise

@[expose] public section

set_option maxRecDepth 16384

noncomputable section

/-! The reference's results are the layer's input projection, entry by entry. -/

namespace Cert.ProjReferenceIdeal.Spec

open Cert.ProjReferenceIdeal Cert.ProjReferenceIdeal.Gen Cert.ProjReferenceIdeal.Value Cert.InProj
open Idealize.ShloMosaic Idealize.ShloMosaic.TcCoe

variable (V0 : Valuation τ sig (Elt Ideal))

/-- The tokens. -/
abbrev xR : FVec Ideal S8x2048x1024 .f32 := V0 (Proc.devRef .tc main_arg0)
/-- The gains of the tokens' norm. -/
abbrev wnR : FVec Ideal S1024 .f32 := V0 (Proc.devRef .tc main_arg1)
/-- The weights. -/
abbrev wR : FVec Ideal S1024x3096 .f32 := V0 (Proc.devRef .tc main_arg2)
/-- The queries' gains. -/
abbrev gqR : FVec Ideal S64 .f32 := V0 (Proc.devRef .tc main_arg3)
/-- The keys' gains. -/
abbrev gkR : FVec Ideal S3x64 .f32 := V0 (Proc.devRef .tc main_arg4)

theorem v14_at (n : Fin 8) (t : Fin 2048) (j : Fin 3096) :
    (res_main_v14 V0 : FVec Ideal S8x2048x3096 .f32) (ix3 n t j) = proj (xR V0) (wnR V0) (wR V0) n t j.val := by
  have e : ∀ k, wcol (wR V0) k j.val = wR V0 (ix2 k j) := fun k => by rw [wcol, dif_pos j.isLt]
  simp only [proj, e, hrow]
  pointwise [res_main_v14]

end Cert.ProjReferenceIdeal.Spec
end
-- ==== Proof.InProj.RefTok.lean ====
module

public import proofs.«01_k».proof.Proof.InProj.RefProj
public import Idealize.ShloMosaic.Lib.Pointwise

@[expose] public section

set_option maxRecDepth 16384

noncomputable section

/-! The reference's gated inputs, gates and pooling inputs. -/

namespace Cert.ProjReferenceIdeal.Spec

open Cert.ProjReferenceIdeal Cert.ProjReferenceIdeal.Gen Cert.ProjReferenceIdeal.Value Cert.InProj
open Idealize.ShloMosaic Idealize.ShloMosaic.TcCoe

variable (V0 : Valuation τ sig (Elt Ideal))

theorem glu_ref (n : Fin 8) (t : Fin 2048) (j : Fin 256) :
    (val4 V0 (Proc.devRef .tc main_v138) : FVec Ideal S8x2048x256 .f32) (ix3 n t j) = proj (xR V0) (wnR V0) (wR V0) n t j.val * sg (proj (xR V0) (wnR V0) (wR V0) n t (256 + j.val)) := by
  refine (congrFun (val4_main_v138 V0) _).trans ?_
  rw [← v14_at V0 n t ⟨j.val, by omega⟩, ← v14_at V0 n t ⟨256 + j.val, by omega⟩, sg]
  pointwise

theorem pin_ref (n : Fin 8) (t : Fin 2048) (j : Fin 256) :
    (val4 V0 (Proc.devRef .tc main_v18) : FVec Ideal S8x2048x256 .f32) (ix3 n t j) = proj (xR V0) (wnR V0) (wR V0) n t (768 + j.val) := by
  refine (congrFun (val4_main_v18 V0) _).trans ?_
  rw [← v14_at V0 n t ⟨768 + j.val, by omega⟩]
  pointwise

theorem sz_ref (n : Fin 8) (t : Fin 2048) (j : Fin 1024) :
    (val4 V0 (Proc.devRef .tc main_v166) : FVec Ideal S8x2048x1024 .f32) (ix3 n t j) = proj (xR V0) (wnR V0) (wR V0) n t (zcol j.val) * sg (proj (xR V0) (wnR V0) (wR V0) n t (zcol j.val)) := by
  refine (congrFun (val4_main_v166 V0) _).trans ?_
  have hz : zcol j.val < 3096 := by unfold zcol; (repeat' split) <;> omega
  rw [← v14_at V0 n t ⟨zcol j.val, hz⟩, sg]
  pointwise [res_main_v17, res_main_v19, res_main_v23]
  by_cases h : j.val < 256
  · have e : (⟨zcol j.val, hz⟩ : Fin 3096) = ⟨512 + j.val, by omega⟩ := Fin.ext (by simp only [zcol, if_pos h])
    rw [dif_pos h, e]
  by_cases h2 : j.val - 256 < 256
  · have e : (⟨zcol j.val, hz⟩ : Fin 3096) = ⟨1024 + (j.val - 256), by omega⟩ := Fin.ext (by simp only [zcol]; (repeat' split) <;> omega)
    rw [dif_neg h, dif_pos h2, e]
  · have e : (⟨zcol j.val, hz⟩ : Fin 3096) = ⟨2584 + (j.val - 256 - 256), by omega⟩ := Fin.ext (by simp only [zcol]; (repeat' split) <;> omega)
    rw [dif_neg h, dif_neg h2, e]

theorem gates_ref (n : Fin 8) (j : Fin 32) (t : Fin 2048) :
    (val4 V0 (Proc.devRef .tc main_v190) : FVec Ideal S8x32x2048 .f32) (ix3 n j t)
      = if j.val < 24 then sg (proj (xR V0) (wnR V0) (wR V0) n t (2560 + j.val)) else Ideal.ofBits FTy.f32 0x3F000000#32 := by
  refine (congrFun (val4_main_v190 V0) _).trans ?_
  pointwise
  by_cases h : j.val < 24
  · rw [dif_pos h, if_pos h, ← v14_at V0 n t ⟨2560 + j.val, by omega⟩, sg]
  · rw [dif_neg h, if_neg h]

end Cert.ProjReferenceIdeal.Spec
end
-- ==== Proof.InProj.RefHead.lean ====
module

public import proofs.«01_k».proof.Proof.InProj.RefProj
public import Idealize.ShloMosaic.Lib.Pointwise

@[expose] public section

set_option maxRecDepth 16384

noncomputable section

/-! The reference's queries. -/

namespace Cert.ProjReferenceIdeal.Spec

open Cert.ProjReferenceIdeal Cert.ProjReferenceIdeal.Gen Cert.ProjReferenceIdeal.Value Cert.InProj
open Idealize.ShloMosaic Idealize.ShloMosaic.TcCoe

variable (V0 : Valuation τ sig (Elt Ideal))

theorem turn_q (a : FVec Ideal S8x2048x8x64 .f32) (n : Fin 8) (j : Fin 512) (t : Fin 2048) :
    transpose S8x512x2048 [0, 2, 1] (shapeCast S8x2048x512 a shapeCasts_S8x2048x8x64_S8x2048x512) transposes_S8x2048x512_S8x512x2048_0_2_1 (ix3 n j t)
      = a (ix4 n t ⟨j.val / 64, by omega⟩ ⟨j.val % 64, by omega⟩) := by
  pointwise

theorem q_unit (n : Fin 8) (t : Fin 2048) (h : Fin 8) (d : Fin 64) :
    (res_main_v37 V0 : FVec Ideal S8x2048x8x64 .f32) (ix4 n t h d)
      = unit (fun e => proj (xR V0) (wnR V0) (wR V0) n t (1280 + 64 * h.val + e.val)) (fun e => gqR V0 (ix1 e)) d := by
  have e : (fun e : Fin 64 => proj (xR V0) (wnR V0) (wR V0) n t (1280 + 64 * h.val + e.val))
      = fun e => (res_main_v14 V0 : FVec Ideal S8x2048x3096 .f32) (ix3 n t ⟨1280 + (h.val * 64 + e.val), by omega⟩) := by
    funext e; rw [v14_at]; congr 1; simp only; omega
  rw [e, unit]
  pointwise [res_main_v37, res_main_v24]

theorem angle_q (t : Fin 2048) (i : Fin 8) : (res_main_v51 V0 : FVec Ideal S2048x8 .f32) (ix2 t i) = angle t i := by
  pointwise [res_main_v51, res_main_v0, angle]

theorem queries_ref (n : Fin 8) (j : Fin 512) (t : Fin 2048) :
    (val4 V0 (Proc.devRef .tc main_v192) : FVec Ideal S8x512x2048 .f32) (ix3 n j t)
      = head (xR V0) (wnR V0) (wR V0) (fun d => gqR V0 (ix1 d)) n t (1280 + 64 * (j.val / 64)) ⟨j.val % 64, Nat.mod_lt _ (by decide)⟩ := by
  refine (congrFun (val4_main_v192 V0) _).trans ?_
  refine (turn_q _ n j t).trans ?_
  have key : ∀ (h : Fin 8) (d : Fin 64), (val2 V0 (Proc.devRef .tc main_v73) : FVec Ideal S8x2048x8x64 .f32) (ix4 n t h d)
      = head (xR V0) (wnR V0) (wR V0) (fun d => gqR V0 (ix1 d)) n t (1280 + 64 * h.val) d := by
    intro h d
    refine (congrFun (val2_main_v73 V0) _).trans ?_
    pointwise [res_main_v56, res_main_v57, res_main_v53, res_main_v55]
    simp only [q_unit, angle_q]
    unfold head rot
    rfl
  refine Eq.trans ?_ (key ⟨j.val / 64, by omega⟩ ⟨j.val % 64, by omega⟩)
  exact (congrFun (val2_main_v73 V0) _).symm

end Cert.ProjReferenceIdeal.Spec
end
-- ==== Proof.InProj.RefRows.lean ====
module

public import proofs.«01_k».proof.Proof.InProj.RefProj
public import Idealize.ShloMosaic.Lib.Pointwise

@[expose] public section

set_option maxRecDepth 16384

noncomputable section

/-! The reference's keys and values of a token. -/

namespace Cert.ProjReferenceIdeal.Spec

open Cert.ProjReferenceIdeal Cert.ProjReferenceIdeal.Gen Cert.ProjReferenceIdeal.Value Cert.InProj
open Idealize.ShloMosaic Idealize.ShloMosaic.TcCoe

variable (V0 : Valuation τ sig (Elt Ideal))

theorem angle_k (t : Fin 2048) (i : Fin 8) : (res_main_v104 V0 : FVec Ideal S2048x8 .f32) (ix2 t i) = angle t i := by
  pointwise [res_main_v104, res_main_v0, angle]

theorem k_unit (n : Fin 8) (t : Fin 2048) (b : Fin 3) (h : Fin 2) (d : Fin 64) :
    (res_main_v90 V0 : FVec Ideal S8x2048x3x2x64 .f32) (ix5 n t b h d)
      = unit (fun e => proj (xR V0) (wnR V0) (wR V0) n t (1792 + 256 * b.val + 64 * h.val + e.val)) (fun e => gkR V0 (ix2 b e)) d := by
  have e : (fun e : Fin 64 => proj (xR V0) (wnR V0) (wR V0) n t (1792 + 256 * b.val + 64 * h.val + e.val))
      = fun e => (res_main_v14 V0 : FVec Ideal S8x2048x3096 .f32) (ix3 n t ⟨1792 + (b.val * 256 + h.val * 64 + e.val), by omega⟩) := by
    funext e; rw [v14_at]; congr 1; simp only; omega
  rw [e, unit]
  pointwise [res_main_v90, res_main_v76, res_main_v74]

theorem rows_ref (n : Fin 8) (t : Fin 2048) (b : Fin 3) (s h : Fin 2) (d : Fin 64) :
    (res_main_v131 V0 : FVec Ideal S8x2048x3x2x2x64 .f32) (ix6 n t b s h d)
      = if s.val < 1 then head (xR V0) (wnR V0) (wR V0) (fun d => gkR V0 (ix2 b d)) n t (1792 + 256 * b.val + 64 * h.val) d
        else proj (xR V0) (wnR V0) (wR V0) n t (1792 + 256 * b.val + (128 * s.val + 64 * h.val + d.val)) := by
  by_cases hs : s.val < 1
  · rw [if_pos hs]
    pointwise [res_main_v131, res_main_v109, res_main_v110, res_main_v106, res_main_v108]
    rw [dif_pos hs]
    simp only [k_unit, angle_k]
    unfold head rot
    rfl
  · rw [if_neg hs]
    pointwise [res_main_v131, res_main_v74]
    rw [dif_neg hs, v14_at]
    congr 1; simp only; omega

end Cert.ProjReferenceIdeal.Spec
end
-- ==== Proof.InProj.RefCache.lean ====
module

public import proofs.«01_k».proof.Proof.InProj.RefRows
public import Idealize.ShloMosaic.Lib.Pointwise

@[expose] public section

set_option maxRecDepth 16384

noncomputable section

/-! The reference's caches. -/

namespace Cert.ProjReferenceIdeal.Spec

open Cert.ProjReferenceIdeal Cert.ProjReferenceIdeal.Gen Cert.ProjReferenceIdeal.Value Cert.InProj
open Idealize.ShloMosaic Idealize.ShloMosaic.TcCoe

variable (V0 : Valuation τ sig (Elt Ideal))

theorem cache_ix (x : FVec Ideal Cert.ProjIdeal.S8x2048x1024 .f32) (wn : FVec Ideal Cert.ProjIdeal.S1024 .f32) (w : FVec Ideal Cert.ProjIdeal.S1024x3096 .f32)
    (g : FVec Ideal Cert.ProjIdeal.S3x64 .f32) (b : Fin 3) (prev : FVec Ideal Cert.ProjIdeal.S2x8x256x2048 .f32) (l : Fin 2) (n : Fin 8) (j : Fin 256) (t : Fin 2048) :
    cache x wn w g b prev (ix4 l n j t) = if l.val < 1 then prev (ix4 l n j t) else
      if j.val / 128 < 1 then head x wn w (fun d => g (ix2 b d)) n t (1792 + 256 * b.val + 64 * (j.val / 64 % 2)) ⟨j.val % 64, Nat.mod_lt _ (by decide)⟩
      else proj x wn w n t (1792 + 256 * b.val + (128 * (j.val / 128) + 64 * (j.val / 64 % 2) + j.val % 64)) := by
  have e : cache x wn w g b prev (ix4 l n j t) = if l.val = 1 then
      if j.val < 128 then head x wn w (fun d => g (ix2 b d)) n t (1792 + 256 * b.val + 64 * (j.val / 64)) ⟨j.val % 64, Nat.mod_lt _ (by decide)⟩
      else proj x wn w n t (1792 + 256 * b.val + j.val)
    else prev (ix4 l n j t) := rfl
  rw [e]
  have hl := l.isLt
  by_cases h : l.val < 1
  · rw [if_pos h, if_neg (by omega)]
  rw [if_neg h, if_pos (by omega)]
  by_cases hj : j.val < 128
  · rw [if_pos hj, if_pos (by omega)]
    have e2 : j.val / 64 % 2 = j.val / 64 := by omega
    rw [e2]
  · rw [if_neg hj, if_neg (by omega)]
    congr 1; omega

theorem cache0_ref (l : Fin 2) (n : Fin 8) (j : Fin 256) (t : Fin 2048) :
    (val4 V0 (Proc.devRef .tc main_v174) : FVec Ideal S2x8x256x2048 .f32) (ix4 l n j t)
      = cache (xR V0) (wnR V0) (wR V0) (gkR V0) 0 (V0 (Proc.devRef .tc main_arg5)) (ix4 l n j t) := by
  refine (congrFun (val4_main_v174 V0) _).trans (Eq.trans ?_ (cache_ix _ _ _ _ _ _ l n j t).symm)
  pointwise
  by_cases h : l.val < 1
  · rw [dif_pos h, if_pos h]
  rw [dif_neg h, if_neg h]
  exact rows_ref V0 n t 0 ⟨j.val / 128, by omega⟩ ⟨j.val / 64 % 2, by omega⟩ ⟨j.val % 64, by omega⟩

theorem cache1_ref (l : Fin 2) (n : Fin 8) (j : Fin 256) (t : Fin 2048) :
    (val4 V0 (Proc.devRef .tc main_v181) : FVec Ideal S2x8x256x2048 .f32) (ix4 l n j t)
      = cache (xR V0) (wnR V0) (wR V0) (gkR V0) 1 (V0 (Proc.devRef .tc main_arg6)) (ix4 l n j t) := by
  refine (congrFun (val4_main_v181 V0) _).trans (Eq.trans ?_ (cache_ix _ _ _ _ _ _ l n j t).symm)
  pointwise
  by_cases h : l.val < 1
  · rw [dif_pos h, if_pos h]
  rw [dif_neg h, if_neg h]
  exact rows_ref V0 n t 1 ⟨j.val / 128, by omega⟩ ⟨j.val / 64 % 2, by omega⟩ ⟨j.val % 64, by omega⟩

theorem cache2_ref (l : Fin 2) (n : Fin 8) (j : Fin 256) (t : Fin 2048) :
    (val4 V0 (Proc.devRef .tc main_v188) : FVec Ideal S2x8x256x2048 .f32) (ix4 l n j t)
      = cache (xR V0) (wnR V0) (wR V0) (gkR V0) 2 (V0 (Proc.devRef .tc main_arg7)) (ix4 l n j t) := by
  refine (congrFun (val4_main_v188 V0) _).trans (Eq.trans ?_ (cache_ix _ _ _ _ _ _ l n j t).symm)
  pointwise
  by_cases h : l.val < 1
  · rw [dif_pos h, if_pos h]
  rw [dif_neg h, if_neg h]
  exact rows_ref V0 n t 2 ⟨j.val / 128, by omega⟩ ⟨j.val / 64 % 2, by omega⟩ ⟨j.val % 64, by omega⟩

end Cert.ProjReferenceIdeal.Spec
end
-- ==== Proof.InProj.Claim.lean ====
module

public import proofs.«01_k».proof.Defs
public import proofs.«01_k».proof.Proof.InProj.KernelTok
public import proofs.«01_k».proof.Proof.InProj.KernelQ
public import proofs.«01_k».proof.Proof.InProj.KernelKv
public import proofs.«01_k».proof.Proof.InProj.RefTok
public import proofs.«01_k».proof.Proof.InProj.RefHead
public import proofs.«01_k».proof.Proof.InProj.RefCache
public import proofs.«01_k».proof.Proof.Gen.ProjIdeal.Value

@[expose] public section

set_option maxRecDepth 16384

noncomputable section

/-! The kernel and the reference of the input projection leave the same eight arrays. -/

namespace Cert.InProj

open Idealize.ShloMosaic Idealize.ShloMosaic.TcCoe Idealize.SL.Sem Idealize.ShloMosaic.StableHlo
open Cert.ProjReferenceIdeal Cert.ProjReferenceIdeal.Value Cert.ProjReferenceIdeal.Spec

section reference

variable (V0 : Valuation τ sig (Elt Ideal))

theorem r_glu : (val4 V0 (Proc.devRef .tc main_v138) : FVec Ideal S8x2048x256 .f32) = glu (xR V0) (wnR V0) (wR V0) := by
  funext i; idx_vars i; exact glu_ref V0 _ _ _

theorem r_pin : (val4 V0 (Proc.devRef .tc main_v18) : FVec Ideal S8x2048x256 .f32) = pin (xR V0) (wnR V0) (wR V0) := by
  funext i; idx_vars i; exact pin_ref V0 _ _ _

theorem r_sz : (val4 V0 (Proc.devRef .tc main_v166) : FVec Ideal S8x2048x1024 .f32) = sz (xR V0) (wnR V0) (wR V0) := by
  funext i; idx_vars i; exact sz_ref V0 _ _ _

theorem r_gates : (val4 V0 (Proc.devRef .tc main_v190) : FVec Ideal S8x32x2048 .f32) = gates (xR V0) (wnR V0) (wR V0) := by
  funext i; idx_vars i; exact gates_ref V0 _ _ _

theorem r_queries : (val4 V0 (Proc.devRef .tc main_v192) : FVec Ideal S8x512x2048 .f32)
    = queries (xR V0) (wnR V0) (wR V0) (gqR V0) := by
  funext i; idx_vars i; exact queries_ref V0 _ _ _

theorem r_cache0 : (val4 V0 (Proc.devRef .tc main_v174) : FVec Ideal S2x8x256x2048 .f32)
    = cache (xR V0) (wnR V0) (wR V0) (gkR V0) 0 (V0 (Proc.devRef .tc main_arg5)) := by
  funext i; idx_vars i; exact cache0_ref V0 _ _ _ _

theorem r_cache1 : (val4 V0 (Proc.devRef .tc main_v181) : FVec Ideal S2x8x256x2048 .f32)
    = cache (xR V0) (wnR V0) (wR V0) (gkR V0) 1 (V0 (Proc.devRef .tc main_arg6)) := by
  funext i; idx_vars i; exact cache1_ref V0 _ _ _ _

theorem r_cache2 : (val4 V0 (Proc.devRef .tc main_v188) : FVec Ideal S2x8x256x2048 .f32)
    = cache (xR V0) (wnR V0) (wR V0) (gkR V0) 2 (V0 (Proc.devRef .tc main_arg7)) := by
  funext i; idx_vars i; exact cache2_ref V0 _ _ _ _

end reference

open Cert.ProjIdeal.Spec in
theorem algebraic : Cert.algebraic_ProjIdeal_ProjReferenceIdeal (hProjIdeal := Cert.ProjIdeal.Gen.facts)
    (hProjReferenceIdeal := Cert.ProjReferenceIdeal.Gen.facts) := by
  intro m g m' g' _ h
  refine ⟨fun c => glu (xA m c) (wnA m c) (wA m c), fun c => pin (xA m c) (wnA m c) (wA m c),
    fun c => sz (xA m c) (wnA m c) (wA m c), fun c => gates (xA m c) (wnA m c) (wA m c),
    fun c => queries (xA m c) (wnA m c) (wA m c) (gqA m c),
    fun c => cache (xA m c) (wnA m c) (wA m c) (gkA m c) 0 (m ((c.tc : Thread Cert.ProjIdeal.nD Cert.ProjIdeal.τ).loc Cert.ProjIdeal.main_arg5)),
    fun c => cache (xA m c) (wnA m c) (wA m c) (gkA m c) 1 (m ((c.tc : Thread Cert.ProjIdeal.nD Cert.ProjIdeal.τ).loc Cert.ProjIdeal.main_arg6)),
    fun c => cache (xA m c) (wnA m c) (wA m c) (gkA m c) 2 (m ((c.tc : Thread Cert.ProjIdeal.nD Cert.ProjIdeal.τ).loc Cert.ProjIdeal.main_arg7)),
    ?_, ?_⟩
  · refine (θ_run _ _ _).mono (fun r k c => ?_) (Cert.ProjIdeal.Value.run_blocks m g)
    obtain ⟨k0, k1, k2, k3, k4, k5, k6, k7, k'⟩ := k c
    exact ⟨k0.trans (final7 m c), k1.trans (final8 m c), k2.trans (final9 m c), k3.trans (final10 m c),
      k4.trans (final11 m c), k5.trans (final12 m c), k6.trans (final13 m c), k7.trans (final14 m c), k'⟩
  · refine (θ_run _ _ _).mono (fun r k c => ?_) (Cert.ProjReferenceIdeal.Value.run m' g')
    obtain ⟨k0, k1, k2, k3, k4, k5, k6, k7, k'⟩ := k c
    obtain ⟨h0, h1, h2, h3, h4, h5, h6, h7⟩ := h c
    have e0 : xR (launchContents m' c) = xA m c := h0
    have e1 : wnR (launchContents m' c) = wnA m c := h1
    have e2 : wR (launchContents m' c) = wA m c := h2
    have e3 : gqR (launchContents m' c) = gqA m c := h3
    have e4 : gkR (launchContents m' c) = gkA m c := h4
    have q0 := r_glu (launchContents m' c)
    have q1 := r_pin (launchContents m' c)
    have q2 := r_sz (launchContents m' c)
    have q3 := r_gates (launchContents m' c)
    have q4 := r_queries (launchContents m' c)
    have q5 := r_cache0 (launchContents m' c)
    have q6 := r_cache1 (launchContents m' c)
    have q7 := r_cache2 (launchContents m' c)
    rw [e0, e1, e2] at q0 q1 q2 q3
    rw [e0, e1, e2, e3] at q4
    rw [e0, e1, e2, e4] at q5 q6 q7
    exact ⟨k0.trans ((val4_main_v138 (launchContents m' c)).symm.trans q0),
      k1.trans ((val4_main_v18 (launchContents m' c)).symm.trans q1),
      k2.trans ((val4_main_v166 (launchContents m' c)).symm.trans q2),
      k3.trans ((val4_main_v190 (launchContents m' c)).symm.trans q3),
      k4.trans ((val4_main_v192 (launchContents m' c)).symm.trans q4),
      k5.trans (((val4_main_v174 (launchContents m' c)).symm.trans q5).trans (congrArg _ h5)),
      k6.trans (((val4_main_v181 (launchContents m' c)).symm.trans q6).trans (congrArg _ h6)),
      k7.trans (((val4_main_v188 (launchContents m' c)).symm.trans q7).trans (congrArg _ h7)), k'⟩

end Cert.InProj

end
-- ==== Proof.Mixer.Spec.lean ====
module

public import proofs.«01_k».proof.Proof.Gen.MixIdeal
public import Idealize.ShloMosaic.Lib.Pointwise

@[expose] public section

set_option maxRecDepth 16384

noncomputable section

/-! The convolution and pooling mixers of the layer and its output projection, entry by entry, over the extended reals. -/

namespace Cert.Mixer

open Cert.MixIdeal
open Idealize.ShloMosaic

/-- The number 256 the means over a token's channels divide by. -/
abbrev c256 : EReal := Ideal.ofBits FTy.f32 0x43800000#32
/-- The small number added to a variance. -/
abbrev eps : EReal := Ideal.ofBits FTy.f32 0x358637BD#32

/-- The logistic function. -/
def sg (z : EReal) : EReal := Ideal.div 1 (1 + Ideal.exp (-z))

/-- Row `p` of channel `j` of sequence `n`, when `lead` rows of zeros stand before the tokens. -/
def past (a : FVec Ideal S8x2048x256 .f32) (lead : ℕ) (n : Fin 8) (j : Fin 256) (p : ℕ) : EReal :=
  if h : lead ≤ p ∧ p - lead < 2048 then a (ix3 n ⟨p - lead, h.2⟩ j) else 0

/-- Tap `k` of channel `j`. -/
def tap (w : FVec Ideal S31x256 .f32) (j : Fin 256) (k : ℕ) : EReal := if h : k < 31 then w (ix2 ⟨k, h⟩ j) else 0

/-- The causal convolution of channel `j` at token `t`: 31 taps, the last on the token itself. -/
def conv (g : FVec Ideal S8x2048x256 .f32) (w : FVec Ideal S31x256 .f32) (n : Fin 8) (t : Fin 2048) (j : Fin 256) : EReal :=
  ∑ k ∈ Finset.range 31, past g 30 n j (t.val + k) * tap w j k

/-- A row `y` less its mean. -/
def cen (y : Fin 256 → EReal) (j : Fin 256) : EReal := y j - Ideal.div (∑ l : Fin 256, y l) c256

/-- A centred row over its deviation, with gains and offsets. -/
def lnorm (z g b : Fin 256 → EReal) (j : Fin 256) : EReal :=
  z j * Ideal.rsqrt (Ideal.div (∑ l : Fin 256, z l * z l) c256 + eps) * g j + b j

/-- The convolution branch at output channel `e`, from the normalised row `y`. -/
def point (y : Fin 256 → EReal) (w : FVec Ideal S256x256 .f32) (b : FVec Ideal S256 .f32) (e : Fin 256) : EReal :=
  (∑ j : Fin 256, y j * sg (y j) * w (ix2 j e)) + b (ix1 e)

/-- The length of channel group `g`'s pooling window: 2, 4, 8, 16. -/
def win (g : ℕ) : ℕ := 2 ^ (g + 1)

/-- How many tokens the pooling window of group `g` holds at token `t`, as a word. -/
def held (g : ℕ) (t : Fin 2048) : BitVec 32 :=
  let a := BitVec.ofNat 32 (win g); let b := BitVec.ofNat 32 (t.val + 1)
  if a.slt b then a else b

/-- Channel `j` of token `t`: the mean over its trailing window less the token. -/
def pool (x : FVec Ideal S8x2048x256 .f32) (n : Fin 8) (t : Fin 2048) (j : Fin 256) : EReal :=
  Ideal.div (∑ k ∈ Finset.range (win (j.val / 64)), past x 15 n j (15 - k + t.val))
    (FloatOps.sitofp (F := Ideal) FTy.f32 (held (j.val / 64) t)) - x (ix3 n t j)

section result

variable (x : FVec Ideal S8x2048x1024 .f32) (glu pin : FVec Ideal S8x2048x256 .f32) (sz : FVec Ideal S8x2048x1024 .f32)
  (o : FVec Ideal S8x2048x512 .f32) (wdw : FVec Ideal S31x256 .f32) (bdw lng lnb : FVec Ideal S256 .f32) (wpw : FVec Ideal S256x256 .f32)
  (bpw : FVec Ideal S256 .f32) (wpool : FVec Ideal S4x64x64 .f32) (ps : FVec Ideal S256 .f32) (wout : FVec Ideal S1024x1024 .f32)

/-- The convolved row of token `t`. -/
def crow (n : Fin 8) (t : Fin 2048) (j : Fin 256) : EReal := conv glu wdw n t j + bdw (ix1 j)

/-- The normalised convolved row of token `t`. -/
def nrow (n : Fin 8) (t : Fin 2048) (j : Fin 256) : EReal :=
  lnorm (cen (crow glu wdw bdw n t)) (fun j => lng (ix1 j)) (fun j => lnb (ix1 j)) j

/-- The convolution branch. -/
def ya (n : Fin 8) (t : Fin 2048) (e : Fin 256) : EReal := point (nrow glu wdw bdw lng lnb n t) wpw bpw e

/-- The pooling branch: each group of 64 channels by its own matrix. -/
def yb (n : Fin 8) (t : Fin 2048) (e : Fin 256) : EReal :=
  (∑ k : Fin 64, pool pin n t ⟨64 * (e.val / 64) + k.val, by omega⟩ * wpool (ix3 ⟨e.val / 64, by omega⟩ k ⟨e.val % 64, by omega⟩)) * ps (ix1 e)

/-- The gated branches one after the other. -/
def mixed (n : Fin 8) (t : Fin 2048) (k : Fin 1024) : EReal :=
  (if h : k.val < 256 then ya glu wdw bdw lng lnb wpw bpw n t ⟨k.val, h⟩
    else if h2 : k.val - 256 < 256 then yb pin wpool ps n t ⟨k.val - 256, h2⟩
    else o (ix3 n t ⟨k.val - 256 - 256, by omega⟩)) * sz (ix3 n t k)

/-- The layer's output: its input and the gated branches' projection. -/
def out : FVec Ideal S8x2048x1024 .f32 := fun i =>
  x i + ∑ k : Fin 1024, mixed glu pin sz o wdw bdw lng lnb wpw bpw wpool ps (i 0) (i 1) k * wout (ix2 k (i 2))

end result

end Cert.Mixer

end
-- ==== Proof.Mixer.Host.lean ====
module

public import proofs.«01_k».proof.Proof.Gen.MixIdeal.Value
public import proofs.«01_k».proof.Proof.Mixer.Spec
public import Idealize.ShloMosaic.Lib.StableHlo.ReadAt
public import Idealize.ShloMosaic.Lib.Pipeline.ValueKit
public import Idealize.ShloMosaic.Lib.Routing.OpsOne

@[expose] public section

set_option maxRecDepth 16384

noncomputable section

/-! The arrays the host makes for the kernel. -/

namespace Cert.MixIdeal.Spec

open Cert.MixIdeal Cert.MixIdeal.Gen Cert.Mixer
open Idealize.ShloMosaic Idealize.ShloMosaic.TcCoe Idealize.ShloMosaic.Routing

variable (m : (ℓ : Loc nD τ sig) → Buf (Elt Ideal) ℓ) (c : Dev nD)

/-- A square of 64 rows and columns written into the pooling matrix lands at its corner's offset. -/
theorem lands_square (i : IVec S2 32) (k l : Fin 64) (r e : Fin 256) :
    scatter_S256x256_S2_S64x64_01_n_01_0.resultIdx? (ix2 k l) i = some (ix2 r e)
      ↔ (i (ix1 (0 : Fin 2))).toInt + (k.val : Int) = r.val ∧ (i (ix1 (1 : Fin 2))).toInt + (l.val : Int) = e.val := by
  have w0 : scatter_S256x256_S2_S64x64_01_n_01_0.window (ix2 k l) (0 : Fin 2) = k.val := rfl
  have w1 : scatter_S256x256_S2_S64x64_01_n_01_0.window (ix2 k l) (1 : Fin 2) = l.val := rfl
  have s0 : scatter_S256x256_S2_S64x64_01_n_01_0.start (ix2 k l) i (0 : Fin 2) = (i (ix1 (0 : Fin 2))).toInt :=
    start_pair (R := 256) (C := 256) scatter_S256x256_S2_S64x64_01_n_01_0 rfl rfl i (ix2 k l) 0
  have s1 : scatter_S256x256_S2_S64x64_01_n_01_0.start (ix2 k l) i (1 : Fin 2) = (i (ix1 (1 : Fin 2))).toInt :=
    start_pair (R := 256) (C := 256) scatter_S256x256_S2_S64x64_01_n_01_0 rfl rfl i (ix2 k l) 1
  refine (resultIdx?_ix2 (R := 256) (C := 256) scatter_S256x256_S2_S64x64_01_n_01_0 (ix2 k l) i r e).trans ?_
  rw [s0, s1, w0, w1]

/-- Writing a square of 64 rows and columns with its corner at `(o, o)`. -/
theorem square_at (x : FVec Ideal S256x256 .f32) (i : IVec S2 32) (u : FVec Ideal S64x64 .f32) (o : ℕ)
    (h0 : (i (ix1 (0 : Fin 2))).toInt = o) (h1 : (i (ix1 (1 : Fin 2))).toInt = o) (r e : Fin 256) :
    Host.scatter scatter_S256x256_S2_S64x64_01_n_01_0 (fun _ b => b) x i u (ix2 r e)
      = if h : (o ≤ r.val ∧ r.val - o < 64) ∧ (o ≤ e.val ∧ e.val - o < 64) then u (ix2 ⟨r.val - o, h.1.2⟩ ⟨e.val - o, h.2.2⟩) else x (ix2 r e) := by
  have lands : ∀ k' : S64x64.Idx, scatter_S256x256_S2_S64x64_01_n_01_0.resultIdx? k' i = some (ix2 r e) →
      o + (k' 0).val = r.val ∧ o + (k' 1).val = e.val := fun k' q => by
    have q' := (lands_square i (k' 0) (k' 1) r e).1 ((congrArg (fun z => scatter_S256x256_S2_S64x64_01_n_01_0.resultIdx? z i) (eq_ix2 k').symm).trans q)
    rw [h0, h1] at q'; omega
  by_cases h : (o ≤ r.val ∧ r.val - o < 64) ∧ (o ≤ e.val ∧ e.val - o < 64)
  · rw [dif_pos h]
    refine scatter_set_hit _ x i u _ _ (fun k' q => ?_) (ix2 ⟨r.val - o, h.1.2⟩ ⟨e.val - o, h.2.2⟩) ((lands_square i _ _ r e).2 ⟨?_, ?_⟩)
    · obtain ⟨a, b⟩ := lands k' q
      rw [eq_ix2 k']
      exact congrArg₂ (fun a b => u (ix2 a b)) (Fin.ext (by simp only; omega)) (Fin.ext (by simp only; omega))
    · rw [h0]; simp only; omega
    · rw [h1]; simp only; omega
  · rw [dif_neg h]
    refine scatter_set_miss _ x i u _ fun k' q => h ?_
    obtain ⟨a, b⟩ := lands k' q
    have l0 : (k' 0).val < 64 := (k' 0).isLt
    have l1 : (k' 1).val < 64 := (k' 1).isLt
    omega

/-- The pooling matrices down the diagonal. -/
def diag (w : FVec Ideal S4x64x64 .f32) (r e : Fin 256) : EReal :=
  if r.val / 64 = e.val / 64 then w (ix3 ⟨e.val / 64, by omega⟩ ⟨r.val % 64, by omega⟩ ⟨e.val % 64, by omega⟩) else 0

theorem diag_at (w : FVec Ideal S4x64x64 .f32) (x : FVec Ideal S256x256 .f32) (i0 i1 i2 i3 : IVec S2 32) (u0 u1 u2 u3 : FVec Ideal S64x64 .f32)
    (hx : ∀ r e : Fin 256, x (ix2 r e) = 0) (h0 : ∀ a : Fin 2, (i0 (ix1 a)).toInt = (0 : ℕ)) (h1 : ∀ a : Fin 2, (i1 (ix1 a)).toInt = (64 : ℕ))
    (h2 : ∀ a : Fin 2, (i2 (ix1 a)).toInt = (128 : ℕ)) (h3 : ∀ a : Fin 2, (i3 (ix1 a)).toInt = (192 : ℕ))
    (e0 : ∀ k l : Fin 64, u0 (ix2 k l) = w (ix3 0 k l)) (e1 : ∀ k l : Fin 64, u1 (ix2 k l) = w (ix3 1 k l))
    (e2 : ∀ k l : Fin 64, u2 (ix2 k l) = w (ix3 2 k l)) (e3 : ∀ k l : Fin 64, u3 (ix2 k l) = w (ix3 3 k l)) (r e : Fin 256) :
    (truncf .bf16 (Host.scatter scatter_S256x256_S2_S64x64_01_n_01_0 (fun _ b => b)
        (Host.scatter scatter_S256x256_S2_S64x64_01_n_01_0 (fun _ b => b)
          (Host.scatter scatter_S256x256_S2_S64x64_01_n_01_0 (fun _ b => b)
            (Host.scatter scatter_S256x256_S2_S64x64_01_n_01_0 (fun _ b => b) x i0 u0) i1 u1) i2 u2) i3 u3) bitsLt_bf16_f32 : FVec Ideal S256x256 .bf16) (ix2 r e)
      = diag w r e := by
  pointwise
  rw [square_at _ _ _ 192 (h3 0) (h3 1), square_at _ _ _ 128 (h2 0) (h2 1), square_at _ _ _ 64 (h1 0) (h1 1), square_at _ _ _ 0 (h0 0) (h0 1), hx]
  simp only [e0, e1, e2, e3]
  have hr := r.isLt
  have he := e.isLt
  unfold diag
  split_ifs with a1 a2 a3 a4 a5 a6 a7 a8
  all_goals first
    | rfl
    | (exfalso; omega)
    | (congr 2 <;> apply Fin.ext <;> simp only <;> omega)
    | (congr 1; congr 1 <;> apply Fin.ext <;> simp <;> omega)

theorem row6 (k : Fin 256) : (V m c main_v25 : FVec Ideal S1x256 .f32) (ix2 0 k) = (m ((c : Thread nD τ).loc main_arg6) : FVec Ideal S256 .f32) (ix1 k) := by
  show (StableHlo.after hostOps0 (fun b => m (c, b)) (Proc.devRef .tc main_v25) : FVec Ideal S1x256 .f32) (ix2 0 k) = _
  after_reads_simp
  pointwise

theorem row7 (k : Fin 256) : (V m c main_v26 : FVec Ideal S1x256 .f32) (ix2 0 k) = (m ((c : Thread nD τ).loc main_arg7) : FVec Ideal S256 .f32) (ix1 k) := by
  show (StableHlo.after hostOps0 (fun b => m (c, b)) (Proc.devRef .tc main_v26) : FVec Ideal S1x256 .f32) (ix2 0 k) = _
  after_reads_simp
  pointwise

theorem row8 (k : Fin 256) : (V m c main_v27 : FVec Ideal S1x256 .f32) (ix2 0 k) = (m ((c : Thread nD τ).loc main_arg8) : FVec Ideal S256 .f32) (ix1 k) := by
  show (StableHlo.after hostOps0 (fun b => m (c, b)) (Proc.devRef .tc main_v27) : FVec Ideal S1x256 .f32) (ix2 0 k) = _
  after_reads_simp
  pointwise

theorem row10 (k : Fin 256) : (V m c main_v29 : FVec Ideal S1x256 .f32) (ix2 0 k) = (m ((c : Thread nD τ).loc main_arg10) : FVec Ideal S256 .f32) (ix1 k) := by
  show (StableHlo.after hostOps0 (fun b => m (c, b)) (Proc.devRef .tc main_v29) : FVec Ideal S1x256 .f32) (ix2 0 k) = _
  after_reads_simp
  pointwise

theorem row12 (k : Fin 256) : (V m c main_v31 : FVec Ideal S1x256 .f32) (ix2 0 k) = (m ((c : Thread nD τ).loc main_arg12) : FVec Ideal S256 .f32) (ix1 k) := by
  show (StableHlo.after hostOps0 (fun b => m (c, b)) (Proc.devRef .tc main_v31) : FVec Ideal S1x256 .f32) (ix2 0 k) = _
  after_reads_simp
  pointwise

theorem mat9 (k e : Fin 256) : (V m c main_v28 : FVec Ideal S256x256 .bf16) (ix2 k e) = (m ((c : Thread nD τ).loc main_arg9) : FVec Ideal S256x256 .f32) (ix2 k e) := by
  show (StableHlo.after hostOps0 (fun b => m (c, b)) (Proc.devRef .tc main_v28) : FVec Ideal S256x256 .bf16) (ix2 k e) = _
  after_reads_simp
  pointwise

theorem mat13 (k e : Fin 1024) : (V m c main_v32 : FVec Ideal S1024x1024 .bf16) (ix2 k e) = (m ((c : Thread nD τ).loc main_arg13) : FVec Ideal S1024x1024 .f32) (ix2 k e) := by
  show (StableHlo.after hostOps0 (fun b => m (c, b)) (Proc.devRef .tc main_v32) : FVec Ideal S1024x1024 .bf16) (ix2 k e) = _
  after_reads_simp
  pointwise

theorem pool_read (k e : Fin 256) : (V m c main_v30 : FVec Ideal S256x256 .bf16) (ix2 k e) = diag (m ((c : Thread nD τ).loc main_arg11)) k e := by
  show (StableHlo.after hostOps0 (fun b => m (c, b)) (Proc.devRef .tc main_v30) : FVec Ideal S256x256 .bf16) (ix2 k e) = _
  after_reads_simp
  refine diag_at _ _ _ _ _ _ _ _ _ _ ?_ ?_ ?_ ?_ ?_ ?_ ?_ ?_ ?_ k e
  · intro r e; pointwise
  · intro a; fin_cases a <;> pointwise <;> after_reads_simp <;> pointwise <;> rfl
  · intro a; fin_cases a <;> pointwise <;> after_reads_simp <;> pointwise <;> rfl
  · intro a; fin_cases a <;> pointwise <;> after_reads_simp <;> pointwise <;> rfl
  · intro a; fin_cases a <;> pointwise <;> after_reads_simp <;> pointwise <;> rfl
  · intro k l; pointwise
  · intro k l; pointwise
  · intro k l; pointwise
  · intro k l; pointwise

end Cert.MixIdeal.Spec

end
-- ==== Proof.Mixer.Tile.lean ====
module

public import proofs.«01_k».proof.Proof.Mixer.Host

@[expose] public section

set_option maxRecDepth 16384

noncomputable section

/-! The blocks the kernel's body finds at a point of its grid, and the rows its two buffers hold. -/

namespace Cert.MixIdeal.Spec

open Cert.MixIdeal Cert.MixIdeal.Gen Cert.Mixer
open Idealize.ShloMosaic Idealize.ShloMosaic.TcCoe
open Idealize.ShloMosaic.Pipeline (Dat)

variable (m : (ℓ : Loc nD τ sig) → Buf (Elt Ideal) ℓ) (c : Dev nD)

abbrev xA : FVec Ideal S8x2048x1024 .f32 := m ((c : Thread nD τ).loc main_arg0)
abbrev gluA : FVec Ideal S8x2048x256 .f32 := m ((c : Thread nD τ).loc main_arg1)
abbrev pinA : FVec Ideal S8x2048x256 .f32 := m ((c : Thread nD τ).loc main_arg2)
abbrev szA : FVec Ideal S8x2048x1024 .f32 := m ((c : Thread nD τ).loc main_arg3)
abbrev oA : FVec Ideal S8x2048x512 .f32 := m ((c : Thread nD τ).loc main_arg4)
abbrev wdwA : FVec Ideal S31x256 .f32 := m ((c : Thread nD τ).loc main_arg5)
abbrev bdwA : FVec Ideal S256 .f32 := m ((c : Thread nD τ).loc main_arg6)
abbrev lngA : FVec Ideal S256 .f32 := m ((c : Thread nD τ).loc main_arg7)
abbrev lnbA : FVec Ideal S256 .f32 := m ((c : Thread nD τ).loc main_arg8)
abbrev wpwA : FVec Ideal S256x256 .f32 := m ((c : Thread nD τ).loc main_arg9)
abbrev bpwA : FVec Ideal S256 .f32 := m ((c : Thread nD τ).loc main_arg10)
abbrev wpoolA : FVec Ideal S4x64x64 .f32 := m ((c : Thread nD τ).loc main_arg11)
abbrev psA : FVec Ideal S256 .f32 := m ((c : Thread nD τ).loc main_arg12)
abbrev woutA : FVec Ideal S1024x1024 .f32 := m ((c : Thread nD τ).loc main_arg13)

theorem idx : ∀ t : Fin cfg0.N, win0_0.index t = ![t.val / 4, t.val % 4, 0] ∧ win0_1.index t = ![t.val / 4, t.val % 4, 0]
    ∧ win0_2.index t = ![t.val / 4, t.val % 4 * 16 - 1, 0] ∧ win0_3.index t = ![t.val / 4, t.val % 4, 0]
    ∧ win0_4.index t = ![t.val / 4, t.val % 4 * 32 - 1, 0] ∧ win0_5.index t = ![t.val / 4, t.val % 4, 0] ∧ win0_6.index t = ![t.val / 4, t.val % 4, 0]
    ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0] ∧ win0_14.index t = ![0, 0]
    ∧ win0_15.index t = ![0, 0] ∧ win0_16.index t = ![t.val / 4, t.val % 4, 0] ∧ t.val < 32 ∧ (grid0.coords t 1).val = t.val % 4 :=
  (by decide +kernel : ∀ t : Fin grid0.N, _)

/-- The sequence of point `t`. -/
def sq (t : Fin cfg0.N) : Fin 8 := ⟨t.val / 4, by have := (idx t).2.2.2.2.2.2.2.2.2.2.2.2.2.2.2.2.2.1; omega⟩
/-- The token that row `i` of point `t`'s block is. -/
def tk (t : Fin cfg0.N) (i : Fin 512) : Fin 2048 := ⟨t.val % 4 * 512 + i.val, by omega⟩

theorem sq_val (t : Fin cfg0.N) : (sq t).val = t.val / 4 := rfl
theorem tk_val (t : Fin cfg0.N) (i : Fin 512) : (tk t i).val = t.val % 4 * 512 + i.val := rfl

theorem x_read (t : Fin cfg0.N) (i : Fin 512) (k : Fin 1024) : (iblk m c 0 t : FVec Ideal S1x512x1024 .f32) (ix3 0 i k) = xA m c (ix3 (sq t) (tk t i) k) := by
  unfold sq tk; blk_ext [iblk, V, idx t]
theorem glu_read (t : Fin cfg0.N) (i : Fin 512) (k : Fin 256) : (iblk m c 1 t : FVec Ideal S1x512x256 .f32) (ix3 0 i k) = gluA m c (ix3 (sq t) (tk t i) k) := by
  unfold sq tk; blk_ext [iblk, V, idx t]
theorem pin_read (t : Fin cfg0.N) (i : Fin 512) (k : Fin 256) : (iblk m c 3 t : FVec Ideal S1x512x256 .f32) (ix3 0 i k) = pinA m c (ix3 (sq t) (tk t i) k) := by
  unfold sq tk; blk_ext [iblk, V, idx t]
theorem sz_read (t : Fin cfg0.N) (i : Fin 512) (k : Fin 1024) : (iblk m c 5 t : FVec Ideal S1x512x1024 .f32) (ix3 0 i k) = szA m c (ix3 (sq t) (tk t i) k) := by
  unfold sq tk; blk_ext [iblk, V, idx t]
theorem o_read (t : Fin cfg0.N) (i : Fin 512) (k : Fin 512) : (iblk m c 6 t : FVec Ideal S1x512x512 .f32) (ix3 0 i k) = oA m c (ix3 (sq t) (tk t i) k) := by
  unfold sq tk; blk_ext [iblk, V, idx t]
theorem gprev_read (t : Fin cfg0.N) (i : Fin 32) (k : Fin 256) :
    (iblk m c 2 t : FVec Ideal S1x32x256 .f32) (ix3 0 i k) = gluA m c (ix3 (sq t) ⟨(t.val % 4 * 16 - 1) * 32 + i.val, by omega⟩ k) := by
  unfold sq; blk_ext [iblk, V, idx t]
theorem pprev_read (t : Fin cfg0.N) (i : Fin 16) (k : Fin 256) :
    (iblk m c 4 t : FVec Ideal S1x16x256 .f32) (ix3 0 i k) = pinA m c (ix3 (sq t) ⟨(t.val % 4 * 32 - 1) * 16 + i.val, by omega⟩ k) := by
  unfold sq; blk_ext [iblk, V, idx t]
theorem wdw_read (t : Fin cfg0.N) (i : Fin 31) (k : Fin 256) : (iblk m c 7 t : FVec Ideal S31x256 .f32) (ix2 i k) = wdwA m c (ix2 i k) := by
  blk_ext [iblk, V, idx t]
theorem bdw_read (t : Fin cfg0.N) (k : Fin 256) : (iblk m c 8 t : FVec Ideal S1x256 .f32) (ix2 0 k) = bdwA m c (ix1 k) := by
  refine Eq.trans ?_ (row6 m c k); blk_ext [iblk, idx t]
theorem lng_read (t : Fin cfg0.N) (k : Fin 256) : (iblk m c 9 t : FVec Ideal S1x256 .f32) (ix2 0 k) = lngA m c (ix1 k) := by
  refine Eq.trans ?_ (row7 m c k); blk_ext [iblk, idx t]
theorem lnb_read (t : Fin cfg0.N) (k : Fin 256) : (iblk m c 10 t : FVec Ideal S1x256 .f32) (ix2 0 k) = lnbA m c (ix1 k) := by
  refine Eq.trans ?_ (row8 m c k); blk_ext [iblk, idx t]
theorem wpw_read (t : Fin cfg0.N) (k e : Fin 256) : (iblk m c 11 t : FVec Ideal S256x256 .bf16) (ix2 k e) = wpwA m c (ix2 k e) := by
  refine Eq.trans ?_ (mat9 m c k e); blk_ext [iblk, idx t]
theorem bpw_read (t : Fin cfg0.N) (k : Fin 256) : (iblk m c 12 t : FVec Ideal S1x256 .f32) (ix2 0 k) = bpwA m c (ix1 k) := by
  refine Eq.trans ?_ (row10 m c k); blk_ext [iblk, idx t]
theorem wpool_read (t : Fin cfg0.N) (k e : Fin 256) : (iblk m c 13 t : FVec Ideal S256x256 .bf16) (ix2 k e) = diag (wpoolA m c) k e := by
  refine Eq.trans ?_ (pool_read m c k e); blk_ext [iblk, idx t]
theorem ps_read (t : Fin cfg0.N) (k : Fin 256) : (iblk m c 14 t : FVec Ideal S1x256 .f32) (ix2 0 k) = psA m c (ix1 k) := by
  refine Eq.trans ?_ (row12 m c k); blk_ext [iblk, idx t]
theorem wout_read (t : Fin cfg0.N) (k e : Fin 1024) : (iblk m c 15 t : FVec Ideal S1024x1024 .bf16) (ix2 k e) = woutA m c (ix2 k e) := by
  refine Eq.trans ?_ (mat13 m c k e); blk_ext [iblk, idx t]

/-- Row `r` of the buffer of the convolution's inputs: 32 tokens before the block, the block, 8 rows of zeros. -/
def gbuf (t : Fin cfg0.N) (r : ℕ) (j : Fin 256) : EReal := if r < 544 then past (gluA m c) 32 (sq t) j (t.val % 4 * 512 + r) else 0
/-- Row `r` of the buffer of the pooling's inputs: 16 tokens before the block, then the block. -/
def pbuf (t : Fin cfg0.N) (r : ℕ) (j : Fin 256) : EReal := past (pinA m c) 16 (sq t) j (t.val % 4 * 512 + r)

/-- Before the first block of a sequence the earlier rows count for nothing. -/
theorem keep_at (t : Fin cfg0.N) : k0_pay4 (F := Ideal) (grid0.coords t) = if t.val % 4 = 0 then (0 : EReal) else 1 := by
  have h0 : ∀ w : BitVec 32, (Scalar.sitofp FTy.f32 w : Ideal .f32) = ((w.toInt : ℝ) : EReal) := fun _ => rfl
  have h : ∀ b : ℕ, b < 4 → (Scalar.sitofp FTy.f32 (Scalar.extui (Scalar.cmpi .sgt (BitVec.ofNat 32 b) 0#32) : BitVec 32) : Ideal .f32) = if b = 0 then (0 : EReal) else 1 := by
    intro b hb
    have h1 : (Scalar.extui (Scalar.cmpi .sgt (BitVec.ofNat 32 b) 0#32) : BitVec 32).toInt = if b = 0 then 0 else 1 := by
      interval_cases b <;> decide
    rw [h0, h1]
    split_ifs <;> simp
  unfold k0_pay4
  simp only [(idx t).2.2.2.2.2.2.2.2.2.2.2.2.2.2.2.2.2.2]
  exact h _ (Nat.mod_lt _ (by decide))

theorem pay5_at (i : grid0.Coords) (b : FVec Ideal S1x32x256 .f32) (r : Fin 32) (j : Fin 256) :
    k0_pay5 (F := Ideal) i b (ix2 r j) = b (ix3 0 r j) * k0_pay4 (F := Ideal) i := by
  pointwise [k0_pay5]
theorem pay6_at (b : FVec Ideal S1x512x256 .f32) (r : Fin 512) (j : Fin 256) : k0_pay6 (F := Ideal) b (ix2 r j) = b (ix3 0 r j) := by
  pointwise [k0_pay6]
theorem pay7_at (r : Fin 8) (j : Fin 256) : k0_pay7 (F := Ideal) (ix2 r j) = (0 : EReal) := by
  pointwise [k0_pay7]
theorem pay8_at (i : grid0.Coords) (b : FVec Ideal S1x16x256 .f32) (r : Fin 16) (j : Fin 256) :
    k0_pay8 (F := Ideal) i b (ix2 r j) = b (ix3 0 r j) * k0_pay4 (F := Ideal) i := by
  pointwise [k0_pay8]
theorem pay9_at (b : FVec Ideal S1x512x256 .f32) (r : Fin 512) (j : Fin 256) : k0_pay10 (F := Ideal) (k0_pay9 b) (ix2 r j) = b (ix3 0 r j) := by
  pointwise [k0_pay9, k0_pay10]

/-- The rows before a block, kept or dropped, are the rows `lead` zeros and the sequence have there. -/
theorem past_halo (a : FVec Ideal S8x2048x256 .f32) (lead : ℕ) (n : Fin 8) (j : Fin 256) (b r q : ℕ) (hb : b < 4) (hr : r < lead) (hl : lead ≤ 512) (hq : q < 2048)
    (e : b ≠ 0 → q = b * 512 - lead + r) :
    a (ix3 n ⟨q, hq⟩ j) * (if b = 0 then (0 : EReal) else 1) = past a lead n j (b * 512 + r) := by
  unfold past
  rcases Nat.eq_zero_or_pos b with h | h
  · subst h
    rw [if_pos rfl, mul_zero, dif_neg (by omega)]
  · have := e (by omega)
    rw [if_neg (by omega), mul_one, dif_pos (by omega)]
    congr 2; exact Fin.ext (by show q = b * 512 + r - lead; omega)

theorem past_tok (a : FVec Ideal S8x2048x256 .f32) (lead : ℕ) (n : Fin 8) (j : Fin 256) (p : Fin 2048) (q : ℕ) (e : q = p.val + lead) :
    past a lead n j q = a (ix3 n p j) := by
  have := p.isLt
  unfold past
  rw [dif_pos (by omega)]
  congr 2; exact Fin.ext (by show q - lead = _; omega)

theorem gload (t : Fin cfg0.N) (o : ℕ) (inb) (i1 i2 i3) :
    ((View.whole cc0_scratch0).readCov
      ([⟨Rect.unit (s := S552x256) ![544, 0] ![8, 256] i1, k0_pay7 (F := Ideal)⟩, ⟨Rect.unit (s := S552x256) ![32, 0] ![512, 256] i2, k0_pay6 (F := Ideal) (iblk m c 1 t)⟩,
        ⟨Rect.unit (s := S552x256) ![0, 0] ![32, 256] i3, k0_pay5 (F := Ideal) (grid0.coords t) (iblk m c 2 t)⟩] : List (View.Piece (Elt Ideal) S552x256 .f32))
      (Rect.unit (s := S552x256) ![o, 0] ![264, 256] inb).toLoadRect : FVec Ideal S264x256 .f32) = fun y => gbuf m c t (o + (y 0).val) (y 1) := by
  funext y
  rw [View.readCov_eq_canon']
  have hc := View.cover_of_tiledBy ([⟨Rect.unit (s := S552x256) ![544, 0] ![8, 256] i1, k0_pay7 (F := Ideal)⟩, ⟨Rect.unit (s := S552x256) ![32, 0] ![512, 256] i2, k0_pay6 (F := Ideal) (iblk m c 1 t)⟩,
        ⟨Rect.unit (s := S552x256) ![0, 0] ![32, 256] i3, k0_pay5 (F := Ideal) (grid0.coords t) (iblk m c 2 t)⟩] : List (View.Piece (Elt Ideal) S552x256 .f32)) ![8, 256]
    (by sl_kernel_rfl) ((Rect.unit (s := S552x256) ![o, 0] ![264, 256] inb).toLoadRect.idx y)
  have e0 : ((Rect.unit (s := S552x256) ![o, 0] ![264, 256] inb).idx y 0).val = o + (y 0).val := by
    show o + 1 * (y 0).val = _; omega
  have e1 : ((Rect.unit (s := S552x256) ![o, 0] ![264, 256] inb).idx y 1).val = (y 1).val := by
    show 0 + 1 * (y 1).val = _; omega
  canon_tiles x h using hc
  all_goals clear hc
  all_goals rw [e0] at h0
  all_goals rw [e1] at h1
  all_goals rw [h0, show (y 1 : Fin 256) = x 1 from Fin.ext h1]
  all_goals clear h0 h1 e0 e1
  all_goals idx_vars x
  · exact (pay7_at _ _).trans (if_neg (by show ¬ 544 + _ < 544; omega)).symm
  · refine (pay6_at _ _ _).trans ((glu_read m c t _ _).trans ?_)
    refine Eq.trans ?_ (if_pos (by show 32 + x0.val < 544; omega)).symm
    refine (past_tok (gluA m c) 32 (sq t) _ (tk t x0) _ ?_).symm
    show _ + (32 + x0.val) = _; rw [tk_val]; omega
  · refine (pay5_at _ _ _ _).trans ?_
    rw [keep_at, gprev_read]
    refine Eq.trans ?_ (if_pos (by show x0.val < 544; omega)).symm
    exact past_halo (gluA m c) 32 (sq t) _ (t.val % 4) x0.val _ (by omega) x0.isLt (by omega) _ (by omega)

theorem pload (t : Fin cfg0.N) (o : ℕ) (inb) (i2 i3) :
    ((View.whole cc0_scratch1).readCov
      ([⟨Rect.unit (s := S528x256) ![16, 0] ![512, 256] i2, k0_pay10 (F := Ideal) (k0_pay9 (iblk m c 3 t))⟩,
        ⟨Rect.unit (s := S528x256) ![0, 0] ![16, 256] i3, k0_pay8 (F := Ideal) (grid0.coords t) (iblk m c 4 t)⟩] : List (View.Piece (Elt Ideal) S528x256 .f32))
      (Rect.unit (s := S528x256) ![o, 0] ![256, 256] inb).toLoadRect : FVec Ideal S256x256 .f32) = fun y => pbuf m c t (o + (y 0).val) (y 1) := by
  funext y
  rw [View.readCov_eq_canon']
  have hc := View.cover_of_tiledBy ([⟨Rect.unit (s := S528x256) ![16, 0] ![512, 256] i2, k0_pay10 (F := Ideal) (k0_pay9 (iblk m c 3 t))⟩,
        ⟨Rect.unit (s := S528x256) ![0, 0] ![16, 256] i3, k0_pay8 (F := Ideal) (grid0.coords t) (iblk m c 4 t)⟩] : List (View.Piece (Elt Ideal) S528x256 .f32)) ![16, 256]
    (by sl_kernel_rfl) ((Rect.unit (s := S528x256) ![o, 0] ![256, 256] inb).toLoadRect.idx y)
  have e0 : ((Rect.unit (s := S528x256) ![o, 0] ![256, 256] inb).idx y 0).val = o + (y 0).val := by
    show o + 1 * (y 0).val = _; omega
  have e1 : ((Rect.unit (s := S528x256) ![o, 0] ![256, 256] inb).idx y 1).val = (y 1).val := by
    show 0 + 1 * (y 1).val = _; omega
  canon_tiles x h using hc
  all_goals clear hc
  all_goals rw [e0] at h0
  all_goals rw [e1] at h1
  all_goals rw [h0, show (y 1 : Fin 256) = x 1 from Fin.ext h1]
  all_goals clear h0 h1 e0 e1
  all_goals idx_vars x
  · refine (pay9_at _ _ _).trans ((pin_read m c t _ _).trans ?_)
    refine (past_tok (pinA m c) 16 (sq t) _ (tk t x0) _ ?_).symm
    show _ + (16 + x0.val) = _; rw [tk_val]; omega
  · refine (pay8_at _ _ _ _).trans ?_
    rw [keep_at, pprev_read]
    exact past_halo (pinA m c) 16 (sq t) _ (t.val % 4) x0.val _ (by omega) x0.isLt (by omega) _ (by omega)

theorem ld_row (b : FVec Ideal S31x256 .f32) (k : ℕ) (hk : k < 31) (inb) (j : Fin 256) :
    (View.ld (Val := Elt Ideal) (e' := .f32) b (Rect.unit (s := S31x256) ![k, 0] ![1, 256] inb) : FVec Ideal S1x256 .f32) (ix2 0 j) = b (ix2 ⟨k, hk⟩ j) := by
  show b _ = b _
  congr 1
  funext a
  apply Fin.ext
  match a with
  | 0 => show k + 1 * 0 = k; omega
  | 1 => show 0 + 1 * j.val = j.val; omega

/-- Tap `k`'s row, as the body loads it. -/
theorem wload (t : Fin cfg0.N) (k : ℕ) (hk : k < 31) (inb) (j : Fin 256) :
    (View.ld (iblk m c 7 t : FVec Ideal S31x256 .f32) (Rect.unit (s := S31x256) ![k, 0] ![1, 256] inb) : FVec Ideal S1x256 .f32) (ix2 0 j) = tap (wdwA m c) j k := by
  exact (ld_row _ k hk inb j).trans ((wdw_read m c t ⟨k, hk⟩ j).trans (by unfold tap; rw [dif_pos hk] : _ = tap (wdwA m c) j k))

end Cert.MixIdeal.Spec

end
-- ==== Proof.Mixer.Sums.lean ====
module

public import proofs.«01_k».proof.Proof.Mixer.Spec

@[expose] public section

namespace Cert.Mixer

theorem sum31 (f : ℕ → EReal) : ∑ k ∈ Finset.range 31, f k
    = f 0 + f 1 + f 2 + f 3 + f 4 + f 5 + f 6 + f 7 + f 8 + f 9 + f 10 + f 11 + f 12 + f 13 + f 14 + f 15 + f 16 + f 17 + f 18 + f 19
      + f 20 + f 21 + f 22 + f 23 + f 24 + f 25 + f 26 + f 27 + f 28 + f 29 + f 30 := by
  simp only [Finset.sum_range_succ, Finset.sum_range_zero, zero_add]

theorem sum31' (f : ℕ → EReal) : ∑ k ∈ Finset.range 31, f k
    = f 6 + f 14 + f 22 + f 30 + (f 7 + f 15 + f 23) + (f 0 + f 8 + f 16 + f 24) + (f 1 + f 9 + f 17 + f 25) + (f 2 + f 10 + f 18 + f 26)
      + (f 3 + f 11 + f 19 + f 27) + (f 4 + f 12 + f 20 + f 28) + (f 5 + f 13 + f 21 + f 29) := by
  rw [sum31]; abel

end Cert.Mixer
-- ==== Proof.Mixer.Pay.lean ====
module

public import proofs.«01_k».proof.Proof.Mixer.Sums
public import proofs.«01_k».proof.Proof.Gen.MixIdeal.Value

@[expose] public section

set_option maxRecDepth 16384

noncomputable section

/-! What the body's operations compute, entry by entry. -/

namespace Cert.MixIdeal.Spec

open Cert.MixIdeal Cert.MixIdeal.Gen Cert.Mixer
open Idealize.ShloMosaic Idealize.ShloMosaic.TcCoe

section conv

variable (tp : Fin 256 → ℕ → EReal) (buf : ℕ → Fin 256 → EReal)

/-- Tap `k`, a row over the channels. -/
def wr (k : ℕ) : FVec Ideal S1x256 .f32 := fun y => tp (y 1) k
/-- Rows `o`, `o + 1`, … of the buffer. -/
def br (o : ℕ) : FVec Ideal S264x256 .f32 := fun y => buf (o + (y 0).val) (y 1)

theorem term (b o r k : ℕ) (hr : r < 264) (j : Fin 256) (e : o + r = b + k) : wr tp k (ix2 0 j) * br buf o (ix2 ⟨r, hr⟩ j) = buf (b + k) j * tp j k := by
  show tp j k * buf (o + r) j = _
  rw [e, mul_comm]

set_option maxHeartbeats 4000000 in
/-- The first half's convolution. -/
theorem conv_lo (i j : Fin 256) : k0_pay20 (F := Ideal)
    (k0_pay18 (k0_pay16 (k0_pay14 (k0_pay12 (wr tp 6) (br buf 8) (wr tp 14) (br buf 16) (wr tp 22) (br buf 24) (wr tp 30) (br buf 32))
        (k0_pay13 (wr tp 7) (br buf 8) (wr tp 15) (br buf 16)) (wr tp 23) (br buf 24) (wr tp 0) (br buf 0) (wr tp 8) (br buf 8) (wr tp 16) (br buf 16) (wr tp 24) (br buf 24))
        (k0_pay15 (wr tp 1) (br buf 0)) (wr tp 9) (br buf 8) (wr tp 17) (br buf 16) (wr tp 25) (br buf 24))
      (k0_pay17 (wr tp 2) (br buf 0) (wr tp 10) (br buf 8) (wr tp 18) (br buf 16) (wr tp 26) (br buf 24))
      (wr tp 3) (br buf 0) (wr tp 11) (br buf 8) (wr tp 19) (br buf 16) (wr tp 27) (br buf 24))
    (k0_pay19 (wr tp 4) (br buf 0) (wr tp 12) (br buf 8)) (wr tp 20) (br buf 16) (wr tp 28) (br buf 24)
    (wr tp 5) (br buf 0) (wr tp 13) (br buf 8) (wr tp 21) (br buf 16) (wr tp 29) (br buf 24) (ix2 i j)
    = ∑ k ∈ Finset.range 31, buf (2 + i.val + k) j * tp j k := by
  rw [sum31']
  pointwise [k0_pay20, k0_pay19, k0_pay18, k0_pay17, k0_pay16, k0_pay15, k0_pay14, k0_pay13, k0_pay12]
  repeat' refine congrArg₂ HAdd.hAdd ?_ ?_
  all_goals exact term tp buf (2 + i.val) _ _ _ _ _ (by omega)

set_option maxHeartbeats 4000000 in
/-- The second half's convolution. -/
theorem conv_hi (i j : Fin 256) (bias : FVec Ideal S1x256 .f32) : k0_pay49 (F := Ideal)
    (k0_pay43 (k0_pay41 (k0_pay38 (k0_pay36 (k0_pay34 (wr tp 6) (br buf 264)) (br buf 272) (k0_pay35 (wr tp 14)) (wr tp 22) (br buf 280) (wr tp 30) (br buf 288)
          (wr tp 7) (br buf 264) (wr tp 15) (br buf 272) (wr tp 23) (br buf 280))
          (k0_pay37 (wr tp 0) (br buf 256)) (wr tp 8) (br buf 264) (wr tp 16) (br buf 272) (wr tp 24) (br buf 280))
        (k0_pay39 (wr tp 1) (br buf 256) (wr tp 9) (br buf 264) (wr tp 17) (br buf 272)) (k0_pay40 (wr tp 25) (br buf 280))
        (wr tp 2) (br buf 256) (wr tp 10) (br buf 264) (wr tp 18) (br buf 272) (wr tp 26) (br buf 280))
      (k0_pay42 (wr tp 3) (br buf 256) (wr tp 11) (br buf 264)) (wr tp 19) (br buf 272) (wr tp 27) (br buf 280)
      (wr tp 4) (br buf 256) (wr tp 12) (br buf 264) (wr tp 20) (br buf 272) (wr tp 28) (br buf 280))
    (wr tp 5) (br buf 256) (wr tp 13) (br buf 264) (wr tp 21) (br buf 272) (wr tp 29) (br buf 280) bias (ix2 i j)
    = (∑ k ∈ Finset.range 31, buf (258 + i.val + k) j * tp j k) + bias (ix2 0 j) := by
  rw [sum31']
  pointwise [k0_pay49, k0_pay43, k0_pay42, k0_pay41, k0_pay40, k0_pay39, k0_pay38, k0_pay37, k0_pay36, k0_pay35, k0_pay34]
  refine congrArg₂ HAdd.hAdd ?_ rfl
  repeat' refine congrArg₂ HAdd.hAdd ?_ ?_
  all_goals exact term tp buf (258 + i.val) _ _ _ _ _ (by omega)

end conv

theorem tail_lo (v sz : FVec Ideal S256x256 .f32) (bias g b pb : FVec Ideal S1x256 .f32) (w : FVec Ideal S256x256 .bf16) (i e : Fin 256) :
    k0_pay24 (F := Ideal) (k0_pay23 v sz (k0_pay22 bias) g b w pb) (ix2 i e)
      = ((∑ j : Fin 256, lnorm (cen fun l => v (ix2 i l) + bias (ix2 0 l)) (fun j => g (ix2 0 j)) (fun j => b (ix2 0 j)) j
            * sg (lnorm (cen fun l => v (ix2 i l) + bias (ix2 0 l)) (fun j => g (ix2 0 j)) (fun j => b (ix2 0 j)) j) * w (ix2 j e)) + pb (ix2 0 e))
          * sz (ix2 i e) := by
  pointwise [k0_pay24, k0_pay23, k0_pay22]
  simp only [zero_sub]
  unfold lnorm cen sg
  rfl

/-- The mean over the channels, as the second half computes it. -/
theorem mean_hi (v479 : FVec Ideal S256x256 .f32) (v480 : FVec Ideal S1x256 .f32) (v481 : FVec Ideal S264x256 .f32) (v484 : FVec Ideal S1x256 .f32)
    (v485 : FVec Ideal S264x256 .f32) (v489 : FVec Ideal S1x256 .f32) (v490 : FVec Ideal S264x256 .f32) (v494 : FVec Ideal S1x256 .f32)
    (v495 : FVec Ideal S264x256 .f32) (v502 : FVec Ideal S1x256 .f32) (i : Fin 256) :
    k0_pay50 (F := Ideal) v479 v480 v481 v484 v485 v489 v490 v494 v495 v502 (ix2 i 0)
      = Ideal.div (∑ l : Fin 256, k0_pay49 (F := Ideal) v479 v480 v481 v484 v485 v489 v490 v494 v495 v502 (ix2 i l)) c256 := by
  unfold k0_pay50
  generalize k0_pay49 (F := Ideal) v479 v480 v481 v484 v485 v489 v490 v494 v495 v502 = z
  pointwise

theorem tail_hi (v sz : FVec Ideal S256x256 .f32) (mu : FVec Ideal S256x1 .f32) (g b pb : FVec Ideal S1x256 .f32) (w : FVec Ideal S256x256 .bf16) (i e : Fin 256)
    (hmu : mu (ix2 i 0) = Ideal.div (∑ l : Fin 256, v (ix2 i l)) c256) :
    k0_pay51 (F := Ideal) sz (k0_pay45 g) (k0_pay46 b) (k0_pay47 w) (k0_pay48 pb) v mu (ix2 i e)
      = ((∑ j : Fin 256, lnorm (cen fun l => v (ix2 i l)) (fun j => g (ix2 0 j)) (fun j => b (ix2 0 j)) j
            * sg (lnorm (cen fun l => v (ix2 i l)) (fun j => g (ix2 0 j)) (fun j => b (ix2 0 j)) j) * w (ix2 j e)) + pb (ix2 0 e))
          * sz (ix2 i e) := by
  pointwise [k0_pay51, k0_pay45, k0_pay46, k0_pay47, k0_pay48]
  simp only [zero_sub, hmu]
  unfold lnorm cen sg
  rfl

section pool

variable (buf : ℕ → Fin 256 → EReal)

/-- Rows `o`, `o + 1`, … of the pooling's buffer. -/
def pr (o : ℕ) : FVec Ideal S256x256 .f32 := fun y => buf (o + (y 0).val) (y 1)

theorem ge64 (j : Fin 256) : IntOp.cmpi .sge (BitVec.ofNat 32 j.val) 64#32 = if 64 ≤ j.val then 1#1 else 0#1 := by revert j; decide +kernel
theorem ge128 (j : Fin 256) : IntOp.cmpi .sge (BitVec.ofNat 32 j.val) 128#32 = if 128 ≤ j.val then 1#1 else 0#1 := by revert j; decide +kernel
theorem ge192 (j : Fin 256) : IntOp.cmpi .sge (BitVec.ofNat 32 j.val) 192#32 = if 192 ≤ j.val then 1#1 else 0#1 := by revert j; decide +kernel

/-- A choice by channel group, as the body makes it. -/
theorem pick {α : Type} (j : Fin 256) (w : ℕ → α) :
    Scalar.select (IntOp.cmpi .sge (BitVec.ofNat 32 j.val) 192#32) (w 3) (Scalar.select (IntOp.cmpi .sge (BitVec.ofNat 32 j.val) 128#32) (w 2)
      (Scalar.select (IntOp.cmpi .sge (BitVec.ofNat 32 j.val) 64#32) (w 1) (w 0))) = w (j.val / 64) := by
  rw [ge64, ge128, ge192]
  have := j.isLt
  rcases (by omega : j.val / 64 = 0 ∨ j.val / 64 = 1 ∨ j.val / 64 = 2 ∨ j.val / 64 = 3) with h | h | h | h <;> rw [h]
  · rw [if_neg (by omega), if_neg (by omega), if_neg (by omega)]; rfl
  · rw [if_neg (by omega), if_neg (by omega), if_pos (by omega)]; rfl
  · rw [if_neg (by omega), if_pos (by omega)]; rfl
  · rw [if_pos (by omega)]; rfl

/-- The sum of the last `2 ^ (g + 1)` rows, written from the latest. -/
def wsum (o : ℕ) (i j : Fin 256) (g : ℕ) : EReal := ∑ k ∈ Finset.range (win g), pr buf (o - k) (ix2 i j)

set_option maxHeartbeats 4000000 in
/-- The first half's window sums. -/
theorem tot_lo (i j : Fin 256) : k0_pay29 (F := Ideal) (k0_pay25 (pr buf 16) (pr buf 15)) (k0_pay26 (pr buf 16) (pr buf 15) (pr buf 14) (pr buf 13))
      (k0_pay27 (pr buf 16) (pr buf 15) (pr buf 14) (pr buf 13) (pr buf 12) (pr buf 11) (pr buf 10) (pr buf 9))
      (k0_pay28 (pr buf 16) (pr buf 15) (pr buf 14) (pr buf 13) (pr buf 12) (pr buf 11) (pr buf 10) (pr buf 9) (pr buf 8) (pr buf 7) (pr buf 6) (pr buf 5) (pr buf 4))
      (pr buf 3) (pr buf 2) (pr buf 1) (ix2 i j)
    = wsum buf 16 i j (j.val / 64) := by
  rw [← pick j (wsum buf 16 i j)]
  simp only [wsum, win, Nat.reduceAdd, Nat.reducePow, Nat.reduceSub, Finset.sum_range_succ, Finset.sum_range_zero, zero_add]
  pointwise [k0_pay29, k0_pay28, k0_pay27, k0_pay26, k0_pay25]

set_option maxHeartbeats 4000000 in
/-- The second half's window sums. -/
theorem tot_hi (i j : Fin 256) : Scalar.select (IntOp.cmpi .sge (BitVec.ofNat 32 j.val) 192#32)
      (k0_pay56 (F := Ideal) (k0_pay53 (pr buf 272) (pr buf 271) (pr buf 270)) (pr buf 269) (pr buf 268) (pr buf 267) (pr buf 266) (pr buf 265) (pr buf 264) (pr buf 263)
        (pr buf 262) (pr buf 261) (pr buf 260) (pr buf 259) (pr buf 258) (pr buf 257) (ix2 i j))
      (k0_pay57 (F := Ideal) (k0_pay52 (pr buf 272) (pr buf 271)) (k0_pay53 (pr buf 272) (pr buf 271) (pr buf 270)) (pr buf 269) (pr buf 268) (pr buf 267) (pr buf 266) (pr buf 265) (ix2 i j))
    = wsum buf 272 i j (j.val / 64) := by
  rw [← pick j (wsum buf 272 i j)]
  simp only [wsum, win, Nat.reduceAdd, Nat.reducePow, Nat.reduceSub, Finset.sum_range_succ, Finset.sum_range_zero, zero_add]
  pointwise [k0_pay52, k0_pay53, k0_pay54, k0_pay55, k0_pay56, k0_pay57]

theorem held_word (b o : ℕ) (hb : b < 4) (i j : Fin 256) (h : b * 512 + (o + i.val) < 2048) :
    IntOp.minsi
        (Scalar.select (IntOp.cmpi CmpIPredicate.sge (BitVec.ofNat 32 j.val) 192#32) (16#32)
          (Scalar.select (IntOp.cmpi CmpIPredicate.sge (BitVec.ofNat 32 j.val) 128#32) (8#32)
            (Scalar.select (IntOp.cmpi CmpIPredicate.sge (BitVec.ofNat 32 j.val) 64#32) 4#32 2#32)))
        (IntOp.addi (IntOp.addi (Scalar.addi (Scalar.muli (BitVec.ofNat 32 b) 512#32) (BitVec.ofNat 32 o)) (BitVec.ofNat 32 i.val)) 1#32)
      = held (j.val / 64) ⟨b * 512 + (o + i.val), h⟩ := by
  have e : (IntOp.addi (IntOp.addi (Scalar.addi (Scalar.muli (BitVec.ofNat 32 b) 512#32) (BitVec.ofNat 32 o)) (BitVec.ofNat 32 i.val)) 1#32)
      = BitVec.ofNat 32 (b * 512 + (o + i.val) + 1) := by
    show BitVec.ofNat 32 b * BitVec.ofNat 32 512 + BitVec.ofNat 32 o + BitVec.ofNat 32 i.val + BitVec.ofNat 32 1 = _
    simp only [← BitVec.ofNat_add, ← BitVec.ofNat_mul]
    congr 1
    omega
  rw [e]
  have p := pick j fun g => BitVec.ofNat 32 (win g)
  exact (congrArg (fun a => IntOp.minsi a _) p).trans rfl

/-- The word `held_word` reads. -/
abbrev raw (b o : ℕ) (i j : Fin 256) : BitVec 32 := IntOp.minsi
        (Scalar.select (IntOp.cmpi CmpIPredicate.sge (BitVec.ofNat 32 j.val) 192#32) (16#32)
          (Scalar.select (IntOp.cmpi CmpIPredicate.sge (BitVec.ofNat 32 j.val) 128#32) (8#32)
            (Scalar.select (IntOp.cmpi CmpIPredicate.sge (BitVec.ofNat 32 j.val) 64#32) 4#32 2#32)))
        (IntOp.addi (IntOp.addi (Scalar.addi (Scalar.muli (BitVec.ofNat 32 b) 512#32) (BitVec.ofNat 32 o)) (BitVec.ofNat 32 i.val)) 1#32)

theorem pool_lo' (sz : FVec Ideal S256x1024 .f32) (tot : FVec Ideal S256x256 .f32) (b : ℕ) (x : FVec Ideal S1x256x256 .f32)
    (w : FVec Ideal S256x256 .bf16) (ps : FVec Ideal S1x256 .f32) (i e : Fin 256) :
    k0_pay31 (F := Ideal) sz tot (k0_pay30 (BitVec.ofNat 32 b)) x w ps (ix2 i e)
      = (∑ j : Fin 256, (Ideal.div (tot (ix2 i j)) (FloatOps.sitofp (F := Ideal) FTy.f32 (raw b 0 i j)) - x (ix3 0 i j)) * w (ix2 j e))
          * ps (ix2 0 e) * sz (ix2 i ⟨256 + e.val, by omega⟩) := by
  pointwise [k0_pay31, k0_pay30]

theorem pool_hi' (sz : FVec Ideal S256x1024 .f32) (t1 t2 : FVec Ideal S256x256 .f32) (b : ℕ) (x : FVec Ideal S1x256x256 .f32)
    (w : FVec Ideal S256x256 .bf16) (ps : FVec Ideal S1x256 .f32) (i e : Fin 256) :
    k0_pay1 (F := Ideal) (k0_pay59 (BitVec.ofNat 32 b) sz t1 (iota .tc S256x256 32 [1] iota_S256x256_d1_w32) t2 k0_pay58 x w ps) (ix2 i e)
      = (∑ j : Fin 256, (Ideal.div (Scalar.select (IntOp.cmpi .sge (BitVec.ofNat 32 j.val) 192#32) (t1 (ix2 i j)) (t2 (ix2 i j)))
            (FloatOps.sitofp (F := Ideal) FTy.f32 (raw b 256 i j)) - x (ix3 0 i j)) * w (ix2 j e))
          * ps (ix2 0 e) * sz (ix2 i ⟨256 + e.val, by omega⟩) := by
  pointwise [k0_pay59, k0_pay58, k0_pay1]

/-- The first half's branch. -/
theorem pool_lo (sz : FVec Ideal S256x1024 .f32) (tot : FVec Ideal S256x256 .f32) (b : ℕ) (hb : b < 4) (x : FVec Ideal S1x256x256 .f32)
    (w : FVec Ideal S256x256 .bf16) (ps : FVec Ideal S1x256 .f32) (i e : Fin 256) :
    k0_pay31 (F := Ideal) sz tot (k0_pay30 (BitVec.ofNat 32 b)) x w ps (ix2 i e)
      = (∑ j : Fin 256, (Ideal.div (tot (ix2 i j)) (FloatOps.sitofp (F := Ideal) FTy.f32 (held (j.val / 64) ⟨b * 512 + (0 + i.val), by omega⟩)) - x (ix3 0 i j)) * w (ix2 j e))
          * ps (ix2 0 e) * sz (ix2 i ⟨256 + e.val, by omega⟩) := by
  rw [pool_lo']
  simp only [raw, held_word b 0 hb i _ (show b * 512 + (0 + i.val) < 2048 by omega)]

/-- The second half's branch. -/
theorem pool_hi (sz : FVec Ideal S256x1024 .f32) (t1 t2 : FVec Ideal S256x256 .f32) (b : ℕ) (hb : b < 4) (x : FVec Ideal S1x256x256 .f32)
    (w : FVec Ideal S256x256 .bf16) (ps : FVec Ideal S1x256 .f32) (i e : Fin 256) :
    k0_pay1 (F := Ideal) (k0_pay59 (BitVec.ofNat 32 b) sz t1 (iota .tc S256x256 32 [1] iota_S256x256_d1_w32) t2 k0_pay58 x w ps) (ix2 i e)
      = (∑ j : Fin 256, (Ideal.div (Scalar.select (IntOp.cmpi .sge (BitVec.ofNat 32 j.val) 192#32) (t1 (ix2 i j)) (t2 (ix2 i j)))
            (FloatOps.sitofp (F := Ideal) FTy.f32 (held (j.val / 64) ⟨b * 512 + (256 + i.val), by omega⟩)) - x (ix3 0 i j)) * w (ix2 j e))
          * ps (ix2 0 e) * sz (ix2 i ⟨256 + e.val, by omega⟩) := by
  rw [pool_hi']
  simp only [raw, held_word b 256 hb i _ (show b * 512 + (256 + i.val) < 2048 by omega)]

end pool

theorem sz_lo (s : FVec Ideal S1x256x1024 .f32) (i e : Fin 256) : k0_pay21 (F := Ideal) (k0_pay11 s) (ix2 i e) = s (ix3 0 i ⟨e.val, by omega⟩) := by
  pointwise [k0_pay21, k0_pay11]
theorem sz_hi (s : FVec Ideal S1x256x1024 .f32) (i e : Fin 256) : k0_pay44 (F := Ideal) (k0_pay33 s) (ix2 i e) = s (ix3 0 i ⟨e.val, by omega⟩) := by
  pointwise [k0_pay44, k0_pay33]
theorem sz_lo' (s : FVec Ideal S1x256x1024 .f32) (i : Fin 256) (k : Fin 1024) : k0_pay11 (F := Ideal) s (ix2 i k) = s (ix3 0 i k) := by
  pointwise [k0_pay11]
theorem sz_hi' (s : FVec Ideal S1x256x1024 .f32) (i : Fin 256) (k : Fin 1024) : k0_pay33 (F := Ideal) s (ix2 i k) = s (ix3 0 i k) := by
  pointwise [k0_pay33]

theorem attn_lo (s : FVec Ideal S1x256x1024 .f32) (o : FVec Ideal S1x256x512 .f32) (i : Fin 256) (e : Fin 512) :
    k0_pay32 (F := Ideal) (k0_pay11 s) o (ix2 i e) = o (ix3 0 i e) * s (ix3 0 i ⟨512 + e.val, by omega⟩) := by
  pointwise [k0_pay32, k0_pay11]
theorem attn_hi (s : FVec Ideal S1x256x1024 .f32) (o : FVec Ideal S1x256x512 .f32) (i : Fin 256) (e : Fin 512) :
    k0_pay2 (F := Ideal) (k0_pay33 s) o (ix2 i e) = o (ix3 0 i e) * s (ix3 0 i ⟨512 + e.val, by omega⟩) := by
  pointwise [k0_pay2, k0_pay33]

theorem out_at (x : FVec Ideal S1x512x1024 .f32) (u : FVec Ideal S512x1024 .bf16) (w : FVec Ideal S1024x1024 .bf16) (i : Fin 512) (e : Fin 1024) :
    k0_pay3 (F := Ideal) x u w (ix3 0 i e) = x (ix3 0 i e) + ∑ k : Fin 1024, u (ix2 i k) * w (ix2 k e) := by
  pointwise [k0_pay3]

end Cert.MixIdeal.Spec

end
-- ==== Proof.Mixer.Branch.lean ====
module

public import proofs.«01_k».proof.Proof.Mixer.Tile
public import proofs.«01_k».proof.Proof.Mixer.Pay

@[expose] public section

set_option maxRecDepth 16384

noncomputable section

/-! The body's loads as the entries of the arguments, and its branches as the layer's. -/

namespace Cert.MixIdeal.Spec

open Cert.MixIdeal Cert.MixIdeal.Gen Cert.Mixer
open Idealize.ShloMosaic Idealize.ShloMosaic.TcCoe
open Idealize.ShloMosaic.Pipeline (Dat)

variable (m : (ℓ : Loc nD τ sig) → Buf (Elt Ideal) ℓ) (c : Dev nD)

theorem gl (t : Fin cfg0.N) (o : ℕ) (inb) (i1 i2 i3) :
    ((View.whole cc0_scratch0).readCov
      ([⟨Rect.unit (s := S552x256) ![544, 0] ![8, 256] i1, k0_pay7 (F := Ideal)⟩, ⟨Rect.unit (s := S552x256) ![32, 0] ![512, 256] i2, k0_pay6 (F := Ideal) (iblk m c 1 t)⟩,
        ⟨Rect.unit (s := S552x256) ![0, 0] ![32, 256] i3, k0_pay5 (F := Ideal) (grid0.coords t) (iblk m c 2 t)⟩] : List (View.Piece (Elt Ideal) S552x256 .f32))
      (Rect.unit (s := S552x256) ![o, 0] ![264, 256] inb).toLoadRect : FVec Ideal S264x256 .f32) = br (gbuf m c t) o := gload m c t o inb i1 i2 i3

theorem pl (t : Fin cfg0.N) (o : ℕ) (inb) (i2 i3) :
    ((View.whole cc0_scratch1).readCov
      ([⟨Rect.unit (s := S528x256) ![16, 0] ![512, 256] i2, k0_pay10 (F := Ideal) (k0_pay9 (iblk m c 3 t))⟩,
        ⟨Rect.unit (s := S528x256) ![0, 0] ![16, 256] i3, k0_pay8 (F := Ideal) (grid0.coords t) (iblk m c 4 t)⟩] : List (View.Piece (Elt Ideal) S528x256 .f32))
      (Rect.unit (s := S528x256) ![o, 0] ![256, 256] inb).toLoadRect : FVec Ideal S256x256 .f32) = pr (pbuf m c t) o := pload m c t o inb i2 i3

theorem wl (t : Fin cfg0.N) (k : ℕ) (hk : k < 31) (inb) :
    (View.ld (iblk m c 7 t : FVec Ideal S31x256 .f32) (Rect.unit (s := S31x256) ![k, 0] ![1, 256] inb) : FVec Ideal S1x256 .f32) = wr (tap (wdwA m c)) k := by
  funext y
  idx_vars y
  obtain rfl : y0 = 0 := Subsingleton.elim _ _
  exact wload m c t k hk inb y1

theorem half1024 (b : FVec Ideal S1x512x1024 .f32) (r : ℕ) (inb) (i : Fin 256) (p : Fin 512) (e : p.val = r + i.val) (k : Fin 1024) :
    (View.ld (Val := Elt Ideal) (e' := .f32) b (Rect.unit (s := S1x512x1024) ![0, r, 0] ![1, 256, 1024] inb) : FVec Ideal S1x256x1024 .f32) (ix3 0 i k) = b (ix3 0 p k) := by
  show b _ = b _
  congr 1
  funext a
  apply Fin.ext
  match a with
  | 0 => show 0 + 1 * 0 = 0; omega
  | 1 => show r + 1 * i.val = p.val; omega
  | 2 => show 0 + 1 * k.val = k.val; omega
theorem half512 (b : FVec Ideal S1x512x512 .f32) (r : ℕ) (inb) (i : Fin 256) (p : Fin 512) (e : p.val = r + i.val) (k : Fin 512) :
    (View.ld (Val := Elt Ideal) (e' := .f32) b (Rect.unit (s := S1x512x512) ![0, r, 0] ![1, 256, 512] inb) : FVec Ideal S1x256x512 .f32) (ix3 0 i k) = b (ix3 0 p k) := by
  show b _ = b _
  congr 1
  funext a
  apply Fin.ext
  match a with
  | 0 => show 0 + 1 * 0 = 0; omega
  | 1 => show r + 1 * i.val = p.val; omega
  | 2 => show 0 + 1 * k.val = k.val; omega
theorem half256 (b : FVec Ideal S1x512x256 .f32) (r : ℕ) (inb) (i : Fin 256) (p : Fin 512) (e : p.val = r + i.val) (k : Fin 256) :
    (View.ld (Val := Elt Ideal) (e' := .f32) b (Rect.unit (s := S1x512x256) ![0, r, 0] ![1, 256, 256] inb) : FVec Ideal S1x256x256 .f32) (ix3 0 i k) = b (ix3 0 p k) := by
  show b _ = b _
  congr 1
  funext a
  apply Fin.ext
  match a with
  | 0 => show 0 + 1 * 0 = 0; omega
  | 1 => show r + 1 * i.val = p.val; omega
  | 2 => show 0 + 1 * k.val = k.val; omega

theorem past_shift (a : FVec Ideal S8x2048x256 .f32) (lead d : ℕ) (n : Fin 8) (j : Fin 256) (p q : ℕ) (e : q = p + d) :
    past a (lead + d) n j q = past a lead n j p := by
  subst e
  unfold past
  by_cases h : lead ≤ p ∧ p - lead < 2048
  · rw [dif_pos h, dif_pos (by omega)]
    congr 2; exact Fin.ext (by show p + d - (lead + d) = p - lead; omega)
  · rw [dif_neg h, dif_neg (by omega)]

/-- The sum over the taps of the buffered rows is the convolution. -/
theorem conv_row (t : Fin cfg0.N) (b : ℕ) (p : Fin 512) (h : b = 2 + p.val) (j : Fin 256) :
    ∑ k ∈ Finset.range 31, gbuf m c t (b + k) j * tap (wdwA m c) j k = conv (gluA m c) (wdwA m c) (sq t) (tk t p) j := by
  refine Finset.sum_congr rfl fun k hk => ?_
  have hk := Finset.mem_range.mp hk
  congr 1
  unfold gbuf
  rw [if_pos (by omega)]
  exact past_shift (gluA m c) 30 2 (sq t) j _ _ (by rw [tk_val]; omega)

/-- The window sum of the buffered rows, over the tokens in the window, less the token. -/
theorem pool_row (t : Fin cfg0.N) (o : ℕ) (i : Fin 256) (p : Fin 512) (h : p.val = o + i.val) (j : Fin 256) (w : Fin 2048) (hw : w = tk t p) :
    Ideal.div (wsum (pbuf m c t) (o + 16) i j (j.val / 64)) (FloatOps.sitofp (F := Ideal) FTy.f32 (held (j.val / 64) w)) - pinA m c (ix3 (sq t) (tk t p) j)
      = Cert.Mixer.pool (pinA m c) (sq t) (tk t p) j := by
  subst hw
  unfold Cert.Mixer.pool
  congr 2
  refine Finset.sum_congr rfl fun k hk => ?_
  have hk := Finset.mem_range.mp hk
  have hw : win (j.val / 64) ≤ 16 := by
    have := j.isLt
    rcases (by omega : j.val / 64 = 0 ∨ j.val / 64 = 1 ∨ j.val / 64 = 2 ∨ j.val / 64 = 3) with h | h | h | h <;> rw [h] <;> decide
  show pbuf m c t (o + 16 - k + i.val) j = _
  exact past_shift (pinA m c) 15 1 (sq t) j _ _ (by rw [tk_val]; omega)

/-- A row times the block diagonal is the group's row times the group's matrix. -/
theorem sum_diag (w : FVec Ideal S4x64x64 .f32) (y : Fin 256 → EReal) (e : Fin 256) :
    ∑ j : Fin 256, y j * diag w j e
      = ∑ k : Fin 64, y ⟨64 * (e.val / 64) + k.val, by omega⟩ * w (ix3 ⟨e.val / 64, by omega⟩ k ⟨e.val % 64, by omega⟩) := by
  rw [← Equiv.sum_comp (finProdFinEquiv (m := 4) (n := 64)) (fun j : Fin 256 => y j * diag w j e), Fintype.sum_prod_type]
  rw [Finset.sum_eq_single (⟨e.val / 64, by omega⟩ : Fin 4)]
  · refine Finset.sum_congr rfl fun k _ => ?_
    have hv : (finProdFinEquiv (m := 4) (n := 64) (⟨e.val / 64, by omega⟩, k) : Fin 256) = ⟨64 * (e.val / 64) + k.val, by omega⟩ := Fin.ext (by
      show k.val + 64 * (e.val / 64) = 64 * (e.val / 64) + k.val; omega)
    rw [hv]
    congr 1
    unfold diag
    rw [if_pos (by show (64 * (e.val / 64) + k.val) / 64 = _; omega)]
    congr 2
    exact Fin.ext (by show (64 * (e.val / 64) + k.val) % 64 = k.val; omega)
  · intro g _ hg
    refine Finset.sum_eq_zero fun k _ => ?_
    unfold diag
    rw [if_neg, mul_zero]
    intro hh
    refine hg (Fin.ext ?_)
    have : (k.val + 64 * g.val) / 64 = e.val / 64 := hh
    show g.val = e.val / 64
    omega
  · intro h; exact absurd (Finset.mem_univ _) h

section result

variable (x : FVec Ideal S8x2048x1024 .f32) (glu pin : FVec Ideal S8x2048x256 .f32) (sz : FVec Ideal S8x2048x1024 .f32)
  (o : FVec Ideal S8x2048x512 .f32) (wdw : FVec Ideal S31x256 .f32) (bdw lng lnb : FVec Ideal S256 .f32) (wpw : FVec Ideal S256x256 .f32)
  (bpw : FVec Ideal S256 .f32) (wpool : FVec Ideal S4x64x64 .f32) (ps : FVec Ideal S256 .f32) (wout : FVec Ideal S1024x1024 .f32)

theorem mixed_a (n : Fin 8) (t : Fin 2048) (k : Fin 1024) (e : Fin 256) (h : k.val = e.val) :
    mixed glu pin sz o wdw bdw lng lnb wpw bpw wpool ps n t k = ya glu wdw bdw lng lnb wpw bpw n t e * sz (ix3 n t k) := by
  unfold mixed
  rw [dif_pos (by omega), show (⟨k.val, by omega⟩ : Fin 256) = e from Fin.ext h]
theorem mixed_b (n : Fin 8) (t : Fin 2048) (k : Fin 1024) (e : Fin 256) (h : k.val = 256 + e.val) :
    mixed glu pin sz o wdw bdw lng lnb wpw bpw wpool ps n t k = yb pin wpool ps n t e * sz (ix3 n t k) := by
  unfold mixed
  rw [dif_neg (by omega), dif_pos (by omega), show (⟨k.val - 256, by omega⟩ : Fin 256) = e from Fin.ext (by show k.val - 256 = _; omega)]
theorem mixed_c (n : Fin 8) (t : Fin 2048) (k : Fin 1024) (e : Fin 512) (h : k.val = 512 + e.val) :
    mixed glu pin sz o wdw bdw lng lnb wpw bpw wpool ps n t k = o (ix3 n t e) * sz (ix3 n t k) := by
  unfold mixed
  rw [dif_neg (by omega), dif_neg (by omega), show (⟨k.val - 256 - 256, by omega⟩ : Fin 512) = e from Fin.ext (by show k.val - 256 - 256 = _; omega)]

end result

theorem branch_lo (v sz : FVec Ideal S256x256 .f32) (bias g b pb : FVec Ideal S1x256 .f32) (w : FVec Ideal S256x256 .bf16) (i e : Fin 256)
    (y gg bb : Fin 256 → EReal) (hv : ∀ l, v (ix2 i l) + bias (ix2 0 l) = y l) (hg : ∀ l, g (ix2 0 l) = gg l) (hb : ∀ l, b (ix2 0 l) = bb l) :
    k0_pay24 (F := Ideal) (k0_pay23 v sz (k0_pay22 bias) g b w pb) (ix2 i e)
      = ((∑ j : Fin 256, lnorm (cen y) gg bb j * sg (lnorm (cen y) gg bb j) * w (ix2 j e)) + pb (ix2 0 e)) * sz (ix2 i e) := by
  rw [tail_lo]; simp only [hv, hg, hb]

theorem branch_hi (v sz : FVec Ideal S256x256 .f32) (mu : FVec Ideal S256x1 .f32) (g b pb : FVec Ideal S1x256 .f32) (w : FVec Ideal S256x256 .bf16) (i e : Fin 256)
    (hmu : mu (ix2 i 0) = Ideal.div (∑ l : Fin 256, v (ix2 i l)) c256)
    (y gg bb : Fin 256 → EReal) (hv : ∀ l, v (ix2 i l) = y l) (hg : ∀ l, g (ix2 0 l) = gg l) (hb : ∀ l, b (ix2 0 l) = bb l) :
    k0_pay51 (F := Ideal) sz (k0_pay45 g) (k0_pay46 b) (k0_pay47 w) (k0_pay48 pb) v mu (ix2 i e)
      = ((∑ j : Fin 256, lnorm (cen y) gg bb j * sg (lnorm (cen y) gg bb j) * w (ix2 j e)) + pb (ix2 0 e)) * sz (ix2 i e) := by
  rw [tail_hi _ _ _ _ _ _ _ _ _ hmu]; simp only [hv, hg, hb]

end Cert.MixIdeal.Spec

end
-- ==== Proof.Mixer.Kernel.lean ====
module

public import proofs.«01_k».proof.Proof.Mixer.Branch

@[expose] public section

set_option maxRecDepth 16384

noncomputable section

/-! The array the call leaves. -/

namespace Cert.MixIdeal.Spec

open Cert.MixIdeal Cert.MixIdeal.Gen Cert.Mixer
open Idealize.ShloMosaic Idealize.ShloMosaic.TcCoe
open Idealize.ShloMosaic.Pipeline (Dat)

variable (m : (ℓ : Loc nD τ sig) → Buf (Elt Ideal) ℓ) (c : Dev nD)

/-- The layer's output, of the call's arguments. -/
abbrev res : FVec Ideal S8x2048x1024 .f32 :=
  out (xA m c) (gluA m c) (pinA m c) (szA m c) (oA m c) (wdwA m c) (bdwA m c) (lngA m c) (lnbA m c) (wpwA m c) (bpwA m c) (wpoolA m c) (psA m c) (woutA m c)

/-- The gated branches of a token, of the call's arguments. -/
abbrev mixA (n : Fin 8) (t : Fin 2048) (k : Fin 1024) : EReal :=
  mixed (gluA m c) (pinA m c) (szA m c) (oA m c) (wdwA m c) (bdwA m c) (lngA m c) (lnbA m c) (wpwA m c) (bpwA m c) (wpoolA m c) (psA m c) n t k

theorem res_at (t : Fin cfg0.N) (i : Fin 512) (e : Fin 1024) (j : S8x2048x1024.Idx) (h : j = ix3 (sq t) (tk t i) e) :
    res m c j = xA m c (ix3 (sq t) (tk t i) e) + ∑ k : Fin 1024, mixA m c (sq t) (tk t i) k * woutA m c (ix2 k e) := by
  subst h; rfl

set_option maxHeartbeats 1600000 in
theorem arr : (dats m 0 c).arrAt 16 cfg0.N = res m c := by
  refine (dats m 0 c).arrAt_eq_of_covers 16 _ (by decide +kernel) fun t _ y => ?_
  blk_simp
  rw [after0_16]
  unfold outsAt0
  frame_out
  idx_vars y
  obtain rfl : y0 = 0 := Subsingleton.elim _ _
  simp only [gl, pl]
  simp (discharger := decide) only [wl]
  refine (out_at _ _ _ y1 y2).trans (Eq.trans ?_ (res_at m c t y1 y2 _ ?_).symm)
  rotate_left
  · funext a
    apply Fin.ext
    have z : ((0 : Fin 1) : ℕ) = 0 := rfl
    match a with
    | 0 => blk_simp [idx t, sq_val, tk_val] <;> try omega
    | 1 => blk_simp [idx t, sq_val, tk_val] <;> try omega
    | 2 => blk_simp [idx t, sq_val, tk_val] <;> try omega
  refine congrArg₂ HAdd.hAdd (x_read m c t y1 y2) (Finset.sum_congr rfl fun k _ => congrArg₂ HMul.hMul ?_ (wout_read m c t k y2))
  rw [View.readCov_eq_canon']
  canon_tiles x h using (View.cover_of_tiledBy _ ![256, 256] (by sl_kernel_rfl) _)
  all_goals idx_vars x
  · change 0 + 1 * y1.val = 256 + x0.val at h0
    change 0 + 1 * k.val = 512 + x1.val at h1
    refine (attn_hi _ _ x0 x1).trans (Eq.trans ?_ (mixed_c _ _ _ _ _ _ _ _ _ _ _ _ _ _ k x1 (by omega)).symm)
    rw [half512 _ _ _ x0 y1 (by omega), half1024 _ _ _ x0 y1 (by omega), o_read, sz_read]
    congr 3; exact Fin.ext (by show 512 + x1.val = k.val; omega)
  · change 0 + 1 * y1.val = 256 + x0.val at h0
    change 0 + 1 * k.val = 256 + x1.val at h1
    have hb := (idx t).2.2.2.2.2.2.2.2.2.2.2.2.2.2.2.2.2.2
    rw [hb]
    refine (pool_hi _ _ _ (t.val % 4) (by omega) _ _ _ x0 x1).trans (Eq.trans ?_ (mixed_b _ _ _ _ _ _ _ _ _ _ _ _ _ _ k x1 (by omega)).symm)
    unfold yb
    rw [← sum_diag]
    refine congrArg₂ HMul.hMul (congrArg₂ HMul.hMul (Finset.sum_congr rfl fun j _ => ?_) (ps_read m c t x1)) ?_
    · refine congrArg₂ HMul.hMul ?_ (wpool_read m c t j x1)
      rw [half256 _ _ _ x0 y1 (by omega), pin_read, tot_hi]
      exact pool_row m c t 256 x0 y1 (by omega) j _ (Fin.ext (by rw [tk_val]; show _ + (256 + x0.val) = _; omega))
    · rw [sz_hi', half1024 _ _ _ x0 y1 (by omega), sz_read]
      congr 2; exact Fin.ext (by show 256 + x1.val = k.val; omega)
  · change 0 + 1 * y1.val = 256 + x0.val at h0
    change 0 + 1 * k.val = x1.val at h1
    refine (branch_hi _ _ _ _ _ _ _ x0 x1 (mean_hi _ _ _ _ _ _ _ _ _ _ x0) (crow (gluA m c) (wdwA m c) (bdwA m c) (sq t) (tk t y1)) _ _
      (fun l => (conv_hi _ _ x0 l _).trans (congrArg₂ HAdd.hAdd (conv_row m c t (258 + x0.val) y1 (by omega) l) (bdw_read m c t l)))
      (lng_read m c t) (lnb_read m c t)).trans (Eq.trans ?_ (mixed_a _ _ _ _ _ _ _ _ _ _ _ _ _ _ k x1 (by omega)).symm)
    refine congrArg₂ HMul.hMul (congrArg₂ HAdd.hAdd (Finset.sum_congr rfl fun j _ => ?_) (bpw_read m c t x1)) ?_
    · exact congrArg₂ HMul.hMul rfl (wpw_read m c t j x1)
    · rw [sz_hi, half1024 _ _ _ x0 y1 (by omega), sz_read]
      congr 2; exact Fin.ext (by show x1.val = k.val; omega)
  · change 0 + 1 * y1.val = x0.val at h0
    change 0 + 1 * k.val = 512 + x1.val at h1
    refine (attn_lo _ _ x0 x1).trans (Eq.trans ?_ (mixed_c _ _ _ _ _ _ _ _ _ _ _ _ _ _ k x1 (by omega)).symm)
    rw [half512 _ _ _ x0 y1 (by omega), half1024 _ _ _ x0 y1 (by omega), o_read, sz_read]
    congr 3; exact Fin.ext (by show 512 + x1.val = k.val; omega)
  · change 0 + 1 * y1.val = x0.val at h0
    change 0 + 1 * k.val = 256 + x1.val at h1
    have hb := (idx t).2.2.2.2.2.2.2.2.2.2.2.2.2.2.2.2.2.2
    rw [hb]
    refine (pool_lo _ _ (t.val % 4) (by omega) _ _ _ x0 x1).trans (Eq.trans ?_ (mixed_b _ _ _ _ _ _ _ _ _ _ _ _ _ _ k x1 (by omega)).symm)
    unfold yb
    rw [← sum_diag]
    refine congrArg₂ HMul.hMul (congrArg₂ HMul.hMul (Finset.sum_congr rfl fun j _ => ?_) (ps_read m c t x1)) ?_
    · refine congrArg₂ HMul.hMul ?_ (wpool_read m c t j x1)
      rw [half256 _ _ _ x0 y1 (by omega), pin_read, tot_lo]
      exact pool_row m c t 0 x0 y1 (by omega) j _ (Fin.ext (by rw [tk_val]; show _ + (0 + x0.val) = _; omega))
    · rw [sz_lo', half1024 _ _ _ x0 y1 (by omega), sz_read]
      congr 2; exact Fin.ext (by show 256 + x1.val = k.val; omega)
  · change 0 + 1 * y1.val = x0.val at h0
    change 0 + 1 * k.val = x1.val at h1
    refine (branch_lo _ _ _ _ _ _ _ x0 x1 (crow (gluA m c) (wdwA m c) (bdwA m c) (sq t) (tk t y1)) _ _
      (fun l => congrArg₂ HAdd.hAdd ((conv_lo _ _ x0 l).trans (conv_row m c t (2 + x0.val) y1 (by omega) l)) (bdw_read m c t l))
      (lng_read m c t) (lnb_read m c t)).trans (Eq.trans ?_ (mixed_a _ _ _ _ _ _ _ _ _ _ _ _ _ _ k x1 (by omega)).symm)
    refine congrArg₂ HMul.hMul (congrArg₂ HAdd.hAdd (Finset.sum_congr rfl fun j _ => ?_) (bpw_read m c t x1)) ?_
    · exact congrArg₂ HMul.hMul rfl (wpw_read m c t j x1)
    · rw [sz_lo, half1024 _ _ _ x0 y1 (by omega), sz_read]
      congr 2; exact Fin.ext (by show x1.val = k.val; omega)

end Cert.MixIdeal.Spec

end
-- ==== Proof.Mixer.Ref.lean ====
module

public import proofs.«01_k».proof.Proof.Mixer.Spec
public import proofs.«01_k».proof.Proof.Mixer.Sums
public import proofs.«01_k».proof.Proof.Gen.MixReferenceIdeal.Run
public import Idealize.ShloMosaic.Lib.Pointwise

@[expose] public section

set_option maxRecDepth 16384

noncomputable section

/-! The reference's two branches, entry by entry. -/

namespace Cert.MixReferenceIdeal.Spec

open Cert.MixReferenceIdeal Cert.MixReferenceIdeal.Gen Cert.MixReferenceIdeal.Value Cert.Mixer
open Idealize.ShloMosaic Idealize.ShloMosaic.TcCoe

variable (V0 : Valuation τ sig (Elt Ideal))

/-- The tokens. -/
abbrev xR : FVec Ideal S8x2048x1024 .f32 := V0 (Proc.devRef .tc main_arg0)
/-- The convolution's gated inputs. -/
abbrev gR : FVec Ideal S8x2048x256 .f32 := V0 (Proc.devRef .tc main_arg1)
/-- The pooling's inputs. -/
abbrev pR : FVec Ideal S8x2048x256 .f32 := V0 (Proc.devRef .tc main_arg2)
/-- The gates. -/
abbrev szR : FVec Ideal S8x2048x1024 .f32 := V0 (Proc.devRef .tc main_arg3)
/-- The attention's output. -/
abbrev oR : FVec Ideal S8x2048x512 .f32 := V0 (Proc.devRef .tc main_arg4)
/-- The convolution's taps. -/
abbrev wdwR : FVec Ideal S31x256 .f32 := V0 (Proc.devRef .tc main_arg5)
/-- The convolution's offsets. -/
abbrev bdwR : FVec Ideal S256 .f32 := V0 (Proc.devRef .tc main_arg6)
/-- The norm's gains. -/
abbrev lngR : FVec Ideal S256 .f32 := V0 (Proc.devRef .tc main_arg7)
/-- The norm's offsets. -/
abbrev lnbR : FVec Ideal S256 .f32 := V0 (Proc.devRef .tc main_arg8)
/-- The convolution branch's matrix. -/
abbrev wpwR : FVec Ideal S256x256 .f32 := V0 (Proc.devRef .tc main_arg9)
/-- The convolution branch's offsets. -/
abbrev bpwR : FVec Ideal S256 .f32 := V0 (Proc.devRef .tc main_arg10)
/-- The pooling groups' matrices. -/
abbrev wpoolR : FVec Ideal S4x64x64 .f32 := V0 (Proc.devRef .tc main_arg11)
/-- The pooling branch's scales. -/
abbrev psR : FVec Ideal S256 .f32 := V0 (Proc.devRef .tc main_arg12)
/-- The output matrix. -/
abbrev woutR : FVec Ideal S1024x1024 .f32 := V0 (Proc.devRef .tc main_arg13)

/-- The convolution's inputs after thirty rows of zeros. -/
abbrev gpad : FVec Ideal S8x2078x256 .f32 := res_main_v2 V0
/-- The pooling's inputs after fifteen rows of zeros. -/
abbrev ppad : FVec Ideal S8x2063x256 .f32 := res_main_v258 V0
/-- The convolution's first eleven taps. -/
abbrev part1 : FVec Ideal S8x2048x256 .f32 := res_main_v80 V0
/-- The convolution's first twenty-two taps. -/
abbrev part2 : FVec Ideal S8x2048x256 .f32 := res_main_v157 V0

theorem v2_at (n : Fin 8) (p : Fin 2078) (j : Fin 256) :
    gpad V0 (ix3 n p j) = past (gR V0) 30 n j p.val := by
  unfold past
  pointwise [res_main_v2]
  have hp := p.isLt
  by_cases h : p.val < 30
  · rw [dif_pos h, dif_neg (by omega)]
  · rw [dif_neg h, dif_pos (by omega)]

theorem v258_at (n : Fin 8) (p : Fin 2063) (j : Fin 256) :
    ppad V0 (ix3 n p j) = past (pR V0) 15 n j p.val := by
  unfold past
  pointwise [res_main_v258]
  have hp := p.isLt
  by_cases h : p.val < 15
  · rw [dif_pos h, dif_neg (by omega)]
  · rw [dif_neg h, dif_pos (by omega)]

theorem v80_raw (n : Fin 8) (t : Fin 2048) (j : Fin 256) :
    part1 V0 (ix3 n t j) = gpad V0 (ix3 n ⟨t.val, by omega⟩ j) * wdwR V0 (ix2 0 j) + gpad V0 (ix3 n ⟨1 + t.val, by omega⟩ j) * wdwR V0 (ix2 1 j) + gpad V0 (ix3 n ⟨2 + t.val, by omega⟩ j) * wdwR V0 (ix2 2 j) + gpad V0 (ix3 n ⟨3 + t.val, by omega⟩ j) * wdwR V0 (ix2 3 j) + gpad V0 (ix3 n ⟨4 + t.val, by omega⟩ j) * wdwR V0 (ix2 4 j) + gpad V0 (ix3 n ⟨5 + t.val, by omega⟩ j) * wdwR V0 (ix2 5 j) + gpad V0 (ix3 n ⟨6 + t.val, by omega⟩ j) * wdwR V0 (ix2 6 j) + gpad V0 (ix3 n ⟨7 + t.val, by omega⟩ j) * wdwR V0 (ix2 7 j) + gpad V0 (ix3 n ⟨8 + t.val, by omega⟩ j) * wdwR V0 (ix2 8 j) + gpad V0 (ix3 n ⟨9 + t.val, by omega⟩ j) * wdwR V0 (ix2 9 j) + gpad V0 (ix3 n ⟨10 + t.val, by omega⟩ j) * wdwR V0 (ix2 10 j) := by
  pointwise [res_main_v80]

theorem v157_raw (n : Fin 8) (t : Fin 2048) (j : Fin 256) :
    part2 V0 (ix3 n t j) = part1 V0 (ix3 n t j) + gpad V0 (ix3 n ⟨11 + t.val, by omega⟩ j) * wdwR V0 (ix2 11 j) + gpad V0 (ix3 n ⟨12 + t.val, by omega⟩ j) * wdwR V0 (ix2 12 j) + gpad V0 (ix3 n ⟨13 + t.val, by omega⟩ j) * wdwR V0 (ix2 13 j) + gpad V0 (ix3 n ⟨14 + t.val, by omega⟩ j) * wdwR V0 (ix2 14 j) + gpad V0 (ix3 n ⟨15 + t.val, by omega⟩ j) * wdwR V0 (ix2 15 j) + gpad V0 (ix3 n ⟨16 + t.val, by omega⟩ j) * wdwR V0 (ix2 16 j) + gpad V0 (ix3 n ⟨17 + t.val, by omega⟩ j) * wdwR V0 (ix2 17 j) + gpad V0 (ix3 n ⟨18 + t.val, by omega⟩ j) * wdwR V0 (ix2 18 j) + gpad V0 (ix3 n ⟨19 + t.val, by omega⟩ j) * wdwR V0 (ix2 19 j) + gpad V0 (ix3 n ⟨20 + t.val, by omega⟩ j) * wdwR V0 (ix2 20 j) + gpad V0 (ix3 n ⟨21 + t.val, by omega⟩ j) * wdwR V0 (ix2 21 j) := by
  pointwise [res_main_v157]

theorem v223_raw (n : Fin 8) (t : Fin 2048) (j : Fin 256) :
    (res_main_v223 V0 : FVec Ideal S8x2048x256 .f32) (ix3 n t j) = part2 V0 (ix3 n t j) + gpad V0 (ix3 n ⟨22 + t.val, by omega⟩ j) * wdwR V0 (ix2 22 j) + gpad V0 (ix3 n ⟨23 + t.val, by omega⟩ j) * wdwR V0 (ix2 23 j) + gpad V0 (ix3 n ⟨24 + t.val, by omega⟩ j) * wdwR V0 (ix2 24 j) + gpad V0 (ix3 n ⟨25 + t.val, by omega⟩ j) * wdwR V0 (ix2 25 j) + gpad V0 (ix3 n ⟨26 + t.val, by omega⟩ j) * wdwR V0 (ix2 26 j) + gpad V0 (ix3 n ⟨27 + t.val, by omega⟩ j) * wdwR V0 (ix2 27 j) + gpad V0 (ix3 n ⟨28 + t.val, by omega⟩ j) * wdwR V0 (ix2 28 j) + gpad V0 (ix3 n ⟨29 + t.val, by omega⟩ j) * wdwR V0 (ix2 29 j) + gpad V0 (ix3 n ⟨30 + t.val, by omega⟩ j) * wdwR V0 (ix2 30 j) + bdwR V0 (ix1 j) := by
  pointwise [res_main_v223]

/-- A row and its tap. -/
theorem tap_at (w : FVec Ideal S31x256 .f32) (k : ℕ) (hk : k < 31) (j : Fin 256) : w (ix2 ⟨k, hk⟩ j) = tap w j k := by rw [tap, dif_pos hk]

theorem v223_at (n : Fin 8) (t : Fin 2048) (j : Fin 256) :
    (res_main_v223 V0 : FVec Ideal S8x2048x256 .f32) (ix3 n t j) = crow (gR V0) (wdwR V0) (bdwR V0) n t j := by
  rw [v223_raw, v157_raw, v80_raw, crow, conv, sum31]
  simp only [v2_at, Nat.add_comm _ t.val, Nat.add_zero]
  rfl

theorem v229_at (n : Fin 8) (t : Fin 2048) (j : Fin 256) :
    (res_main_v229 V0 : FVec Ideal S8x2048x256 .f32) (ix3 n t j) = cen (crow (gR V0) (wdwR V0) (bdwR V0) n t) j := by
  unfold cen
  simp only [← v223_at]
  pointwise [res_main_v229]

theorem v245_at (n : Fin 8) (t : Fin 2048) (j : Fin 256) :
    (res_main_v245 V0 : FVec Ideal S8x2048x256 .f32) (ix3 n t j) = nrow (gR V0) (wdwR V0) (bdwR V0) (lngR V0) (lnbR V0) n t j := by
  unfold nrow lnorm
  simp only [← v229_at]
  pointwise [res_main_v245]

/-- The reference's convolution branch. -/
abbrev aR : FVec Ideal S8x2048x256 .f32 := addf (Host.dotGeneral dot_S8x2048x256_S256x256_S8x2048x256_2_0_01_1_n_n none (mulf (res_main_v245 V0) (Host.divf (broadcastInDim S8x2048x256 ![] bcast_S_S8x2048x256 (constant S_ .f32 0x3F800000#32)) (addf (broadcastInDim S8x2048x256 ![] bcast_S_S8x2048x256 (constant S_ .f32 0x3F800000#32)) (Host.exp (Host.negf (res_main_v245 V0)))))) (wpwR V0)) (broadcastInDim S8x2048x256 ![0, 1, 2] bcast_S1x1x256_S8x2048x256_0_1_2 (broadcastInDim S1x1x256 ![2] bcast_S256_S1x1x256_2 (bpwR V0)))

theorem ya_ref (n : Fin 8) (t : Fin 2048) (e : Fin 256) :
    aR V0 (ix3 n t e) = ya (gR V0) (wdwR V0) (bdwR V0) (lngR V0) (lnbR V0) (wpwR V0) (bpwR V0) n t e := by
  unfold ya point sg
  simp only [← v245_at]
  pointwise

/-- A window's length as a word and as a number of tokens. -/
theorem held_ref (g : ℕ) (t : Fin 2048) : IntOp.minsi (BitVec.ofNat 32 (win g)) (IntOp.addi (BitVec.ofNat 32 t.val) 1#32) = held g t := by
  have e : IntOp.addi (BitVec.ofNat 32 t.val) 1#32 = BitVec.ofNat 32 (t.val + 1) := by
    show BitVec.ofNat 32 t.val + BitVec.ofNat 32 1 = _
    rw [← BitVec.ofNat_add]
  rw [e]; rfl

theorem diff0_raw (n : Fin 8) (t : Fin 2048) (k : Fin 64) : (res_main_v367 V0 : FVec Ideal S8x2048x4x64 .f32) (ix4 n t 0 k)
    = Ideal.div (ppad V0 (ix3 n ⟨15 + t.val, by omega⟩ ⟨k.val, by omega⟩) + ppad V0 (ix3 n ⟨14 + t.val, by omega⟩ ⟨k.val, by omega⟩))
        (FloatOps.sitofp (F := Ideal) FTy.f32 (IntOp.minsi 2#32 (IntOp.addi (BitVec.ofNat 32 t.val) 1#32))) - pR V0 (ix3 n t ⟨k.val, by omega⟩) := by
  pointwise [res_main_v367, res_main_v0]

theorem diff0_at (n : Fin 8) (t : Fin 2048) (k : Fin 64) :
    (res_main_v367 V0 : FVec Ideal S8x2048x4x64 .f32) (ix4 n t 0 k) = Cert.Mixer.pool (pR V0) n t ⟨k.val, by omega⟩ := by
  have hk : (⟨k.val, by omega⟩ : Fin 256).val / 64 = 0 := by simp only; omega
  have hw := held_ref 0 t
  rw [diff0_raw, Cert.Mixer.pool, hk, ← hw]
  simp only [win, Nat.reduceAdd, Nat.reducePow, Nat.reduceSub, Finset.sum_range_succ, Finset.sum_range_zero, zero_add, v258_at]

theorem diff1_raw (n : Fin 8) (t : Fin 2048) (k : Fin 64) : (res_main_v367 V0 : FVec Ideal S8x2048x4x64 .f32) (ix4 n t 1 k)
    = Ideal.div (ppad V0 (ix3 n ⟨15 + t.val, by omega⟩ ⟨64 + k.val, by omega⟩) + ppad V0 (ix3 n ⟨14 + t.val, by omega⟩ ⟨64 + k.val, by omega⟩) + ppad V0 (ix3 n ⟨13 + t.val, by omega⟩ ⟨64 + k.val, by omega⟩) + ppad V0 (ix3 n ⟨12 + t.val, by omega⟩ ⟨64 + k.val, by omega⟩))
        (FloatOps.sitofp (F := Ideal) FTy.f32 (IntOp.minsi 4#32 (IntOp.addi (BitVec.ofNat 32 t.val) 1#32))) - pR V0 (ix3 n t ⟨64 + k.val, by omega⟩) := by
  pointwise [res_main_v367, res_main_v0]

theorem diff1_at (n : Fin 8) (t : Fin 2048) (k : Fin 64) :
    (res_main_v367 V0 : FVec Ideal S8x2048x4x64 .f32) (ix4 n t 1 k) = Cert.Mixer.pool (pR V0) n t ⟨64 + k.val, by omega⟩ := by
  have hk : (⟨64 + k.val, by omega⟩ : Fin 256).val / 64 = 1 := by simp only; omega
  have hw := held_ref 1 t
  rw [diff1_raw, Cert.Mixer.pool, hk, ← hw]
  simp only [win, Nat.reduceAdd, Nat.reducePow, Nat.reduceSub, Finset.sum_range_succ, Finset.sum_range_zero, zero_add, v258_at]

theorem diff2_raw (n : Fin 8) (t : Fin 2048) (k : Fin 64) : (res_main_v367 V0 : FVec Ideal S8x2048x4x64 .f32) (ix4 n t 2 k)
    = Ideal.div (ppad V0 (ix3 n ⟨15 + t.val, by omega⟩ ⟨128 + k.val, by omega⟩) + ppad V0 (ix3 n ⟨14 + t.val, by omega⟩ ⟨128 + k.val, by omega⟩) + ppad V0 (ix3 n ⟨13 + t.val, by omega⟩ ⟨128 + k.val, by omega⟩) + ppad V0 (ix3 n ⟨12 + t.val, by omega⟩ ⟨128 + k.val, by omega⟩) + ppad V0 (ix3 n ⟨11 + t.val, by omega⟩ ⟨128 + k.val, by omega⟩) + ppad V0 (ix3 n ⟨10 + t.val, by omega⟩ ⟨128 + k.val, by omega⟩) + ppad V0 (ix3 n ⟨9 + t.val, by omega⟩ ⟨128 + k.val, by omega⟩) + ppad V0 (ix3 n ⟨8 + t.val, by omega⟩ ⟨128 + k.val, by omega⟩))
        (FloatOps.sitofp (F := Ideal) FTy.f32 (IntOp.minsi 8#32 (IntOp.addi (BitVec.ofNat 32 t.val) 1#32))) - pR V0 (ix3 n t ⟨128 + k.val, by omega⟩) := by
  pointwise [res_main_v367, res_main_v0]

theorem diff2_at (n : Fin 8) (t : Fin 2048) (k : Fin 64) :
    (res_main_v367 V0 : FVec Ideal S8x2048x4x64 .f32) (ix4 n t 2 k) = Cert.Mixer.pool (pR V0) n t ⟨128 + k.val, by omega⟩ := by
  have hk : (⟨128 + k.val, by omega⟩ : Fin 256).val / 64 = 2 := by simp only; omega
  have hw := held_ref 2 t
  rw [diff2_raw, Cert.Mixer.pool, hk, ← hw]
  simp only [win, Nat.reduceAdd, Nat.reducePow, Nat.reduceSub, Finset.sum_range_succ, Finset.sum_range_zero, zero_add, v258_at]

theorem diff3_raw (n : Fin 8) (t : Fin 2048) (k : Fin 64) : (res_main_v367 V0 : FVec Ideal S8x2048x4x64 .f32) (ix4 n t 3 k)
    = Ideal.div (ppad V0 (ix3 n ⟨15 + t.val, by omega⟩ ⟨192 + k.val, by omega⟩) + ppad V0 (ix3 n ⟨14 + t.val, by omega⟩ ⟨192 + k.val, by omega⟩) + ppad V0 (ix3 n ⟨13 + t.val, by omega⟩ ⟨192 + k.val, by omega⟩) + ppad V0 (ix3 n ⟨12 + t.val, by omega⟩ ⟨192 + k.val, by omega⟩) + ppad V0 (ix3 n ⟨11 + t.val, by omega⟩ ⟨192 + k.val, by omega⟩) + ppad V0 (ix3 n ⟨10 + t.val, by omega⟩ ⟨192 + k.val, by omega⟩) + ppad V0 (ix3 n ⟨9 + t.val, by omega⟩ ⟨192 + k.val, by omega⟩) + ppad V0 (ix3 n ⟨8 + t.val, by omega⟩ ⟨192 + k.val, by omega⟩) + ppad V0 (ix3 n ⟨7 + t.val, by omega⟩ ⟨192 + k.val, by omega⟩) + ppad V0 (ix3 n ⟨6 + t.val, by omega⟩ ⟨192 + k.val, by omega⟩) + ppad V0 (ix3 n ⟨5 + t.val, by omega⟩ ⟨192 + k.val, by omega⟩) + ppad V0 (ix3 n ⟨4 + t.val, by omega⟩ ⟨192 + k.val, by omega⟩) + ppad V0 (ix3 n ⟨3 + t.val, by omega⟩ ⟨192 + k.val, by omega⟩) + ppad V0 (ix3 n ⟨2 + t.val, by omega⟩ ⟨192 + k.val, by omega⟩) + ppad V0 (ix3 n ⟨1 + t.val, by omega⟩ ⟨192 + k.val, by omega⟩) + ppad V0 (ix3 n ⟨t.val, by omega⟩ ⟨192 + k.val, by omega⟩))
        (FloatOps.sitofp (F := Ideal) FTy.f32 (IntOp.minsi 16#32 (IntOp.addi (BitVec.ofNat 32 t.val) 1#32))) - pR V0 (ix3 n t ⟨192 + k.val, by omega⟩) := by
  pointwise [res_main_v367, res_main_v0]

theorem diff3_at (n : Fin 8) (t : Fin 2048) (k : Fin 64) :
    (res_main_v367 V0 : FVec Ideal S8x2048x4x64 .f32) (ix4 n t 3 k) = Cert.Mixer.pool (pR V0) n t ⟨192 + k.val, by omega⟩ := by
  have hk : (⟨192 + k.val, by omega⟩ : Fin 256).val / 64 = 3 := by simp only; omega
  have hw := held_ref 3 t
  rw [diff3_raw, Cert.Mixer.pool, hk, ← hw]
  simp only [win, Nat.reduceAdd, Nat.reducePow, Nat.reduceSub, Finset.sum_range_succ, Finset.sum_range_zero, zero_add, v258_at]

theorem diff_ref (n : Fin 8) (t : Fin 2048) (g : Fin 4) (k : Fin 64) (j : Fin 256) (h : j.val = 64 * g.val + k.val) :
    (res_main_v367 V0 : FVec Ideal S8x2048x4x64 .f32) (ix4 n t g k) = Cert.Mixer.pool (pR V0) n t j := by
  match g, h with
  | 0, h => exact (diff0_at V0 n t k).trans (congrArg _ (Fin.ext (by simp only; have : j.val = 64 * 0 + k.val := h; omega)))
  | 1, h => exact (diff1_at V0 n t k).trans (congrArg _ (Fin.ext (by simp only; have : j.val = 64 * 1 + k.val := h; omega)))
  | 2, h => exact (diff2_at V0 n t k).trans (congrArg _ (Fin.ext (by simp only; have : j.val = 64 * 2 + k.val := h; omega)))
  | 3, h => exact (diff3_at V0 n t k).trans (congrArg _ (Fin.ext (by simp only; have : j.val = 64 * 3 + k.val := h; omega)))

/-- The means less the tokens, by groups. -/
abbrev dR : FVec Ideal S8x2048x4x64 .f32 := res_main_v367 V0

/-- The reference's pooling branch. -/
abbrev bR : FVec Ideal S8x2048x256 .f32 := mulf (shapeCast S8x2048x256 (transpose S8x2048x4x64 [2, 3, 0, 1] (Host.dotGeneral dot_S4x64x64_S8x2048x4x64_S4x64x8x2048_1_3_2_01_0_2 none (wpoolR V0) (dR V0)) transposes_S4x64x8x2048_S8x2048x4x64_2_3_0_1) shapeCasts_S8x2048x4x64_S8x2048x256) (broadcastInDim S8x2048x256 ![0, 1, 2] bcast_S1x1x256_S8x2048x256_0_1_2 (broadcastInDim S1x1x256 ![2] bcast_S256_S1x1x256_2 (psR V0)))

theorem yb_ref (n : Fin 8) (t : Fin 2048) (e : Fin 256) : bR V0 (ix3 n t e) = yb (pR V0) (wpoolR V0) (psR V0) n t e := by
  unfold yb
  have d : ∀ k : Fin 64, Cert.Mixer.pool (pR V0) n t ⟨64 * (e.val / 64) + k.val, by omega⟩ = dR V0 (ix4 n t ⟨e.val / 64, by omega⟩ k) :=
    fun k => (diff_ref V0 n t ⟨e.val / 64, by omega⟩ k ⟨64 * (e.val / 64) + k.val, by omega⟩ rfl).symm
  simp only [d, mul_comm (dR V0 _)]
  pointwise

/-- The gated branches' projection. -/
theorem proj_ref (x sz : FVec Ideal S8x2048x1024 .f32) (a b : FVec Ideal S8x2048x256 .f32) (o : FVec Ideal S8x2048x512 .f32) (w : FVec Ideal S1024x1024 .f32)
    (n : Fin 8) (t : Fin 2048) (e : Fin 1024) :
    (addf x (Host.dotGeneral dot_S8x2048x1024_S1024x1024_S8x2048x1024_2_0_01_1_n_n none (mulf (concatenate S8x2048x1024 2 [⟨S8x2048x256, a⟩, ⟨S8x2048x256, b⟩, ⟨S8x2048x512, o⟩] concatenates_S8x2048x256_S8x2048x256_S8x2048x512_S8x2048x1024_d2) sz) w) : FVec Ideal S8x2048x1024 .f32) (ix3 n t e)
      = x (ix3 n t e) + ∑ k : Fin 1024, (if h : k.val < 256 then a (ix3 n t ⟨k.val, h⟩)
          else if h2 : k.val - 256 < 256 then b (ix3 n t ⟨k.val - 256, h2⟩) else o (ix3 n t ⟨k.val - 256 - 256, by omega⟩)) * sz (ix3 n t k) * w (ix2 k e) := by
  pointwise

/-- The reference's result. -/
theorem out_ref : (addf (xR V0) (Host.dotGeneral dot_S8x2048x1024_S1024x1024_S8x2048x1024_2_0_01_1_n_n none (mulf (concatenate S8x2048x1024 2 [⟨S8x2048x256, aR V0⟩, ⟨S8x2048x256, bR V0⟩, ⟨S8x2048x512, oR V0⟩] concatenates_S8x2048x256_S8x2048x256_S8x2048x512_S8x2048x1024_d2) (szR V0)) (woutR V0)) : FVec Ideal S8x2048x1024 .f32)
      = out (xR V0) (gR V0) (pR V0) (szR V0) (oR V0) (wdwR V0) (bdwR V0) (lngR V0) (lnbR V0) (wpwR V0) (bpwR V0) (wpoolR V0) (psR V0) (woutR V0) := by
  funext i; idx_vars i
  refine (proj_ref _ _ _ _ _ _ _ _ _).trans ?_
  show _ = xR V0 (ix3 i0 i1 i2) + ∑ k : Fin 1024, mixed (gR V0) (pR V0) (szR V0) (oR V0) (wdwR V0) (bdwR V0) (lngR V0) (lnbR V0) (wpwR V0) (bpwR V0) (wpoolR V0) (psR V0) i0 i1 k * woutR V0 (ix2 k i2)
  unfold mixed
  simp only [← ya_ref, ← yb_ref]

end Cert.MixReferenceIdeal.Spec
end
-- ==== Proof.Mixer.Claim.lean ====
module

public import proofs.«01_k».proof.Defs
public import proofs.«01_k».proof.Proof.Mixer.Kernel
public import proofs.«01_k».proof.Proof.Mixer.Ref
public import proofs.«01_k».proof.Proof.Gen.MixIdeal.Value

@[expose] public section

set_option maxRecDepth 16384

noncomputable section

/-! The kernel and the reference of the mixers and the output projection leave the same array. -/

namespace Cert.Mixer

open Idealize.ShloMosaic Idealize.ShloMosaic.TcCoe Idealize.SL.Sem Idealize.ShloMosaic.StableHlo
open Cert.MixReferenceIdeal Cert.MixReferenceIdeal.Value Cert.MixReferenceIdeal.Spec

open Cert.MixIdeal.Spec in
theorem algebraic : Cert.algebraic_MixIdeal_MixReferenceIdeal (hMixIdeal := Cert.MixIdeal.Gen.facts)
    (hMixReferenceIdeal := Cert.MixReferenceIdeal.Gen.facts) := by
  intro m g m' g' _ h
  refine ⟨fun c => res m c, ?_, ?_⟩
  · refine (θ_run _ _ _).mono (fun r k c => ?_) (Cert.MixIdeal.Value.run_blocks m g)
    obtain ⟨k0, k'⟩ := k c
    exact ⟨k0.trans (arr m c), k'⟩
  · refine (θ_run _ _ _).mono (fun r k c => ?_) (Cert.MixReferenceIdeal.Value.run m' g')
    obtain ⟨k0, k'⟩ := k c
    obtain ⟨h0, h1, h2, h3, h4, h5, h6, h7, h8, h9, h10, h11, h12, h13⟩ := h c
    have e0 : xR (launchContents m' c) = xA m c := h0
    have e1 : gR (launchContents m' c) = gluA m c := h1
    have e2 : pR (launchContents m' c) = pinA m c := h2
    have e3 : szR (launchContents m' c) = szA m c := h3
    have e4 : oR (launchContents m' c) = oA m c := h4
    have e5 : wdwR (launchContents m' c) = wdwA m c := h5
    have e6 : bdwR (launchContents m' c) = bdwA m c := h6
    have e7 : lngR (launchContents m' c) = lngA m c := h7
    have e8 : lnbR (launchContents m' c) = lnbA m c := h8
    have e9 : wpwR (launchContents m' c) = wpwA m c := h9
    have e10 : bpwR (launchContents m' c) = bpwA m c := h10
    have e11 : wpoolR (launchContents m' c) = wpoolA m c := h11
    have e12 : psR (launchContents m' c) = psA m c := h12
    have e13 : woutR (launchContents m' c) = woutA m c := h13
    have q := out_ref (launchContents m' c)
    have q2 : out (xR (launchContents m' c)) (gR (launchContents m' c)) (pR (launchContents m' c)) (szR (launchContents m' c)) (oR (launchContents m' c))
        (wdwR (launchContents m' c)) (bdwR (launchContents m' c)) (lngR (launchContents m' c)) (lnbR (launchContents m' c)) (wpwR (launchContents m' c))
        (bpwR (launchContents m' c)) (wpoolR (launchContents m' c)) (psR (launchContents m' c)) (woutR (launchContents m' c)) = res m c := by
      rw [e0, e1, e2, e3, e4, e5, e6, e7, e8, e9, e10, e11, e12, e13]
    exact ⟨k0.trans (q.trans q2), k'⟩

end Cert.Mixer

end
-- ==== Proof.Step.Spec.lean ====
module

public import proofs.«01_k».proof.Proof.Gen.StepIdeal
public import proofs.«01_k».proof.Proof.Mixer.Spec

@[expose] public section

set_option maxRecDepth 16384

noncomputable section

/-! The convolution and pooling mixers of one sampled token of each sequence, entry by entry, over the extended reals. -/

namespace Cert.Step

open Cert.StepIdeal
open Cert.Mixer (cen lnorm sg win)
open Idealize.ShloMosaic

section result

variable (glu pin : FVec Ideal S128x256 .f32) (sz : FVec Ideal S128x1024 .f32) (sc : FVec Ideal S128x30x256 .f32) (sp : FVec Ideal S128x15x256 .f32)
  (wdw : FVec Ideal S31x256 .f32) (bdw lng lnb : FVec Ideal S256 .f32) (wpw : FVec Ideal S256x256 .f32)
  (bpw : FVec Ideal S256 .f32) (wpool : FVec Ideal S4x64x64 .f32) (ps : FVec Ideal S256 .f32)

/-- Row `k` of sequence `n` of the convolution's inputs: the 30 rows of the state, then the token. -/
def hist (n : Fin 128) (j : Fin 256) (k : ℕ) : EReal := if h : k < 30 then sc (ix3 n ⟨k, h⟩ j) else glu (ix2 n j)

/-- Row `k` of sequence `n` of the pooling's inputs: the 15 rows of the state, then the token. -/
def phist (n : Fin 128) (j : Fin 256) (k : ℕ) : EReal := if h : k < 15 then sp (ix3 n ⟨k, h⟩ j) else pin (ix2 n j)

/-- Tap `k` of channel `j`. -/
def tap (j : Fin 256) (k : ℕ) : EReal := if h : k < 31 then wdw (ix2 ⟨k, h⟩ j) else 0

/-- The convolved row of sequence `n`. -/
def crow (n : Fin 128) (j : Fin 256) : EReal := (∑ k ∈ Finset.range 31, hist glu sc n j k * tap wdw j k) + bdw (ix1 j)

/-- The normalised convolved row. -/
def nrow (n : Fin 128) (j : Fin 256) : EReal :=
  lnorm (cen (crow glu sc wdw bdw n)) (fun j => lng (ix1 j)) (fun j => lnb (ix1 j)) j

/-- The convolution branch. -/
def ya (n : Fin 128) (e : Fin 256) : EReal :=
  (∑ j : Fin 256, nrow glu sc wdw bdw lng lnb n j * sg (nrow glu sc wdw bdw lng lnb n j) * wpw (ix2 j e)) + bpw (ix1 e)

/-- The mean over the trailing window less the token. -/
def pool (n : Fin 128) (j : Fin 256) : EReal :=
  Ideal.div (∑ k ∈ Finset.range (win (j.val / 64)), phist pin sp n j (15 - k)) ((win (j.val / 64) : ℝ) : EReal) - pin (ix2 n j)

/-- The pooling branch: each group of 64 channels by its own matrix. -/
def yb (n : Fin 128) (e : Fin 256) : EReal :=
  (∑ k : Fin 64, pool pin sp n ⟨64 * (e.val / 64) + k.val, by omega⟩ * wpool (ix3 ⟨e.val / 64, by omega⟩ k ⟨e.val % 64, by omega⟩)) * ps (ix1 e)

/-- Channel `k` of the two gated branches. -/
def mixed (n : Fin 128) (k : Fin 512) : EReal :=
  (if h : k.val < 256 then ya glu sc wdw bdw lng lnb wpw bpw n ⟨k.val, h⟩ else yb pin sp wpool ps n ⟨k.val - 256, by omega⟩)
    * sz (ix2 n ⟨k.val, by omega⟩)

/-- The two gated branches. -/
def out : FVec Ideal S128x512 .f32 := fun i => mixed glu pin sz sc sp wdw bdw lng lnb wpw bpw wpool ps (i 0) (i 1)

/-- The convolution's state after the token: its rows but the first, then the token. -/
def scOut : FVec Ideal S30x128x256 .f32 := fun i => hist glu sc (i 1) (i 2) ((i 0).val + 1)

/-- The pooling's state after the token: its rows but the first, then the token. -/
def spOut : FVec Ideal S15x128x256 .f32 := fun i => phist pin sp (i 1) (i 2) ((i 0).val + 1)

end result

end Cert.Step

end
-- ==== Proof.Step.Host.lean ====
module

public import proofs.«01_k».proof.Proof.Gen.StepIdeal.Value
public import proofs.«01_k».proof.Proof.Step.Spec
public import proofs.«01_k».proof.Proof.Mixer.Host

@[expose] public section

set_option maxRecDepth 16384

noncomputable section

/-! The arrays the host makes for the kernel, and the blocks its body finds. -/

namespace Cert.StepIdeal.Spec

open Cert.StepIdeal Cert.StepIdeal.Gen Cert.Step
open Cert.MixIdeal.Spec (diag diag_at)
open Idealize.ShloMosaic Idealize.ShloMosaic.TcCoe
open Idealize.ShloMosaic.Pipeline (Dat)

variable (m : (ℓ : Loc nD τ sig) → Buf (Elt Ideal) ℓ) (c : Dev nD)

abbrev gluA : FVec Ideal S128x256 .f32 := m ((c : Thread nD τ).loc main_arg0)
abbrev pinA : FVec Ideal S128x256 .f32 := m ((c : Thread nD τ).loc main_arg1)
abbrev szA : FVec Ideal S128x1024 .f32 := m ((c : Thread nD τ).loc main_arg2)
abbrev scA : FVec Ideal S128x30x256 .f32 := m ((c : Thread nD τ).loc main_arg3)
abbrev spA : FVec Ideal S128x15x256 .f32 := m ((c : Thread nD τ).loc main_arg4)
abbrev wdwA : FVec Ideal S31x256 .f32 := m ((c : Thread nD τ).loc main_arg5)
abbrev bdwA : FVec Ideal S256 .f32 := m ((c : Thread nD τ).loc main_arg6)
abbrev lngA : FVec Ideal S256 .f32 := m ((c : Thread nD τ).loc main_arg7)
abbrev lnbA : FVec Ideal S256 .f32 := m ((c : Thread nD τ).loc main_arg8)
abbrev wpwA : FVec Ideal S256x256 .f32 := m ((c : Thread nD τ).loc main_arg9)
abbrev bpwA : FVec Ideal S256 .f32 := m ((c : Thread nD τ).loc main_arg10)
abbrev wpoolA : FVec Ideal S4x64x64 .f32 := m ((c : Thread nD τ).loc main_arg11)
abbrev psA : FVec Ideal S256 .f32 := m ((c : Thread nD τ).loc main_arg12)

theorem row6 (k : Fin 256) : (V m c main_v27 : FVec Ideal S1x256 .f32) (ix2 0 k) = bdwA m c (ix1 k) := by
  show (StableHlo.after hostOps0 (fun b => m (c, b)) (Proc.devRef .tc main_v27) : FVec Ideal S1x256 .f32) (ix2 0 k) = _
  after_reads_simp
  pointwise

theorem row7 (k : Fin 256) : (V m c main_v28 : FVec Ideal S1x256 .f32) (ix2 0 k) = lngA m c (ix1 k) := by
  show (StableHlo.after hostOps0 (fun b => m (c, b)) (Proc.devRef .tc main_v28) : FVec Ideal S1x256 .f32) (ix2 0 k) = _
  after_reads_simp
  pointwise

theorem row8 (k : Fin 256) : (V m c main_v29 : FVec Ideal S1x256 .f32) (ix2 0 k) = lnbA m c (ix1 k) := by
  show (StableHlo.after hostOps0 (fun b => m (c, b)) (Proc.devRef .tc main_v29) : FVec Ideal S1x256 .f32) (ix2 0 k) = _
  after_reads_simp
  pointwise

theorem row10 (k : Fin 256) : (V m c main_v31 : FVec Ideal S1x256 .f32) (ix2 0 k) = bpwA m c (ix1 k) := by
  show (StableHlo.after hostOps0 (fun b => m (c, b)) (Proc.devRef .tc main_v31) : FVec Ideal S1x256 .f32) (ix2 0 k) = _
  after_reads_simp
  pointwise

theorem row12 (k : Fin 256) : (V m c main_v33 : FVec Ideal S1x256 .f32) (ix2 0 k) = psA m c (ix1 k) := by
  show (StableHlo.after hostOps0 (fun b => m (c, b)) (Proc.devRef .tc main_v33) : FVec Ideal S1x256 .f32) (ix2 0 k) = _
  after_reads_simp
  pointwise

theorem mat9 (k e : Fin 256) : (V m c main_v30 : FVec Ideal S256x256 .bf16) (ix2 k e) = wpwA m c (ix2 k e) := by
  show (StableHlo.after hostOps0 (fun b => m (c, b)) (Proc.devRef .tc main_v30) : FVec Ideal S256x256 .bf16) (ix2 k e) = _
  after_reads_simp
  pointwise

theorem sc_host (k : Fin 30) (n : Fin 128) (j : Fin 256) : (V m c main_v25 : FVec Ideal S30x128x256 .f32) (ix3 k n j) = scA m c (ix3 n k j) := by
  show (StableHlo.after hostOps0 (fun b => m (c, b)) (Proc.devRef .tc main_v25) : FVec Ideal S30x128x256 .f32) (ix3 k n j) = _
  after_reads_simp
  pointwise

theorem sp_host (k : Fin 15) (n : Fin 128) (j : Fin 256) : (V m c main_v26 : FVec Ideal S15x128x256 .f32) (ix3 k n j) = spA m c (ix3 n k j) := by
  show (StableHlo.after hostOps0 (fun b => m (c, b)) (Proc.devRef .tc main_v26) : FVec Ideal S15x128x256 .f32) (ix3 k n j) = _
  after_reads_simp
  pointwise

theorem sz_host (n : Fin 128) (k : Fin 512) : (V m c main_v34 : FVec Ideal S128x512 .f32) (ix2 n k) = szA m c (ix2 n ⟨k.val, by omega⟩) := by
  show (StableHlo.after hostOps0 (fun b => m (c, b)) (Proc.devRef .tc main_v34) : FVec Ideal S128x512 .f32) (ix2 n k) = _
  after_reads_simp
  pointwise

theorem pool_host (k e : Fin 256) : (V m c main_v32 : FVec Ideal S256x256 .bf16) (ix2 k e) = diag (wpoolA m c) k e := by
  show (StableHlo.after hostOps0 (fun b => m (c, b)) (Proc.devRef .tc main_v32) : FVec Ideal S256x256 .bf16) (ix2 k e) = _
  after_reads_simp
  refine diag_at _ _ _ _ _ _ _ _ _ _ ?_ ?_ ?_ ?_ ?_ ?_ ?_ ?_ ?_ k e
  · intro r e; pointwise
  · intro a; fin_cases a <;> pointwise <;> after_reads_simp <;> pointwise <;> rfl
  · intro a; fin_cases a <;> pointwise <;> after_reads_simp <;> pointwise <;> rfl
  · intro a; fin_cases a <;> pointwise <;> after_reads_simp <;> pointwise <;> rfl
  · intro a; fin_cases a <;> pointwise <;> after_reads_simp <;> pointwise <;> rfl
  · intro k l; pointwise
  · intro k l; pointwise
  · intro k l; pointwise
  · intro k l; pointwise

theorem idx : ∀ t : Fin cfg0.N, win0_0.index t = ![0, 0, 0] ∧ win0_1.index t = ![0, 0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0, 0] ∧ win0_15.index t = ![0, 0, 0] :=
  (by decide +kernel : ∀ t : Fin grid0.N, _)

theorem sc_read (t : Fin cfg0.N) (k : Fin 30) (n : Fin 128) (j : Fin 256) : (iblk m c 0 t : FVec Ideal S30x128x256 .f32) (ix3 k n j) = scA m c (ix3 n k j) := by
  refine Eq.trans ?_ (sc_host m c k n j); blk_ext [iblk, idx t]
theorem sp_read (t : Fin cfg0.N) (k : Fin 15) (n : Fin 128) (j : Fin 256) : (iblk m c 1 t : FVec Ideal S15x128x256 .f32) (ix3 k n j) = spA m c (ix3 n k j) := by
  refine Eq.trans ?_ (sp_host m c k n j); blk_ext [iblk, idx t]
theorem glu_read (t : Fin cfg0.N) (n : Fin 128) (j : Fin 256) : (iblk m c 2 t : FVec Ideal S128x256 .f32) (ix2 n j) = gluA m c (ix2 n j) := by
  blk_ext [iblk, V, idx t]
theorem pin_read (t : Fin cfg0.N) (n : Fin 128) (j : Fin 256) : (iblk m c 3 t : FVec Ideal S128x256 .f32) (ix2 n j) = pinA m c (ix2 n j) := by
  blk_ext [iblk, V, idx t]
theorem sz_read (t : Fin cfg0.N) (n : Fin 128) (k : Fin 512) : (iblk m c 4 t : FVec Ideal S128x512 .f32) (ix2 n k) = szA m c (ix2 n ⟨k.val, by omega⟩) := by
  refine Eq.trans ?_ (sz_host m c n k); blk_ext [iblk, idx t]
theorem wdw_read (t : Fin cfg0.N) (i : Fin 31) (k : Fin 256) : (iblk m c 5 t : FVec Ideal S31x256 .f32) (ix2 i k) = wdwA m c (ix2 i k) := by
  blk_ext [iblk, V, idx t]
theorem bdw_read (t : Fin cfg0.N) (k : Fin 256) : (iblk m c 6 t : FVec Ideal S1x256 .f32) (ix2 0 k) = bdwA m c (ix1 k) := by
  refine Eq.trans ?_ (row6 m c k); blk_ext [iblk, idx t]
theorem lng_read (t : Fin cfg0.N) (k : Fin 256) : (iblk m c 7 t : FVec Ideal S1x256 .f32) (ix2 0 k) = lngA m c (ix1 k) := by
  refine Eq.trans ?_ (row7 m c k); blk_ext [iblk, idx t]
theorem lnb_read (t : Fin cfg0.N) (k : Fin 256) : (iblk m c 8 t : FVec Ideal S1x256 .f32) (ix2 0 k) = lnbA m c (ix1 k) := by
  refine Eq.trans ?_ (row8 m c k); blk_ext [iblk, idx t]
theorem bpw_read (t : Fin cfg0.N) (k : Fin 256) : (iblk m c 10 t : FVec Ideal S1x256 .f32) (ix2 0 k) = bpwA m c (ix1 k) := by
  refine Eq.trans ?_ (row10 m c k); blk_ext [iblk, idx t]
theorem ps_read (t : Fin cfg0.N) (k : Fin 256) : (iblk m c 12 t : FVec Ideal S1x256 .f32) (ix2 0 k) = psA m c (ix1 k) := by
  refine Eq.trans ?_ (row12 m c k); blk_ext [iblk, idx t]
theorem wpw_read (t : Fin cfg0.N) (k e : Fin 256) : (iblk m c 9 t : FVec Ideal S256x256 .bf16) (ix2 k e) = wpwA m c (ix2 k e) := by
  refine Eq.trans ?_ (mat9 m c k e); blk_ext [iblk, idx t]
theorem wpool_read (t : Fin cfg0.N) (k e : Fin 256) : (iblk m c 11 t : FVec Ideal S256x256 .bf16) (ix2 k e) = diag (wpoolA m c) k e := by
  refine Eq.trans ?_ (pool_host m c k e); blk_ext [iblk, idx t]

end Cert.StepIdeal.Spec

end
-- ==== Proof.Step.Pay.lean ====
module

public import proofs.«01_k».proof.Proof.Step.Host
public import proofs.«01_k».proof.Proof.Mixer.Branch

@[expose] public section

set_option maxRecDepth 16384

noncomputable section

/-! What the body's operations compute, entry by entry. -/

namespace Cert.StepIdeal.Spec

open Cert.StepIdeal Cert.StepIdeal.Gen Cert.Step
open Cert.Mixer (cen lnorm sg win c256 sum31)
open Cert.MixIdeal.Spec (pick)
open Idealize.ShloMosaic Idealize.ShloMosaic.TcCoe

section rows

variable (tp : Fin 256 → ℕ → EReal) (hs : Fin 128 → Fin 256 → ℕ → EReal)

/-- Tap `k`, a row over the channels. -/
def wr (k : ℕ) : FVec Ideal S1x256 .f32 := fun y => tp (y 1) k
/-- Row `k` of each sequence's history. -/
def sr (k : ℕ) : FVec Ideal S1x128x256 .f32 := fun y => hs (y 1) (y 2) k
/-- The last row of the convolution's history: the token. -/
def g0 : FVec Ideal S128x256 .f32 := fun y => hs (y 0) (y 1) 30
/-- The last row of the pooling's history: the token. -/
def p0 : FVec Ideal S128x256 .f32 := fun y => hs (y 0) (y 1) 15

theorem sum31s (f : ℕ → EReal) : ∑ k ∈ Finset.range 31, f k = f 30 + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 := by
  rw [sum31]; abel

theorem term (k : ℕ) (n : Fin 128) (j : Fin 256) : wr tp k (ix2 0 j) * sr hs k (ix3 0 n j) = hs n j k * tp j k := mul_comm _ _
theorem term0 (n : Fin 128) (j : Fin 256) : wr tp 30 (ix2 0 j) * g0 hs (ix2 n j) = hs n j 30 * tp j 30 := mul_comm _ _

set_option maxHeartbeats 4000000 in
/-- The convolution. -/
theorem conv_at (G : FVec Ideal S128x256 .f32) (hG : G = g0 hs) (n : Fin 128) (j : Fin 256) : (
    (k0_pay9 (k0_pay8 (k0_pay7 (k0_pay6 (k0_pay5 (k0_pay3 G (wr tp 30) (wr tp 0) (sr hs 0) (wr tp 1) (sr hs 1) (wr tp 2) (sr hs 2) (wr tp 3) (sr hs 3)) (wr tp 4) (k0_pay4 (sr hs 4)) (wr tp 5) (sr hs 5) (wr tp 6) (sr hs 6) (wr tp 7) (sr hs 7) (wr tp 8) (sr hs 8) (wr tp 9) (sr hs 9)) (wr tp 10) (sr hs 10) (wr tp 11) (sr hs 11) (wr tp 12) (sr hs 12) (wr tp 13) (sr hs 13) (wr tp 14) (sr hs 14)) (wr tp 15) (sr hs 15) (wr tp 16) (sr hs 16) (wr tp 17) (sr hs 17) (wr tp 18) (sr hs 18) (wr tp 19) (sr hs 19) (wr tp 20) (sr hs 20)) (wr tp 21) (sr hs 21) (wr tp 22) (sr hs 22) (wr tp 23) (sr hs 23) (wr tp 24) (sr hs 24) (wr tp 25) (sr hs 25)) (wr tp 26) (sr hs 26) (wr tp 27) (sr hs 27) (wr tp 28) (sr hs 28) (wr tp 29) (sr hs 29)) : FVec Ideal S128x256 .f32) (ix2 n j)
    = ∑ k ∈ Finset.range 31, hs n j k * tp j k := by
  subst hG
  rw [sum31s]
  simp only [← term, ← term0]
  pointwise [k0_pay3, k0_pay4, k0_pay5, k0_pay6, k0_pay7, k0_pay8, k0_pay9]
  rfl

/-- The sum of the last `2 ^ (g + 1)` rows, written from the latest. -/
def wsum (n : Fin 128) (j : Fin 256) (g : ℕ) : EReal := ∑ k ∈ Finset.range (win g), hs n j (15 - k)

set_option maxHeartbeats 4000000 in
/-- The window sums. -/
theorem tot_at (G : FVec Ideal S128x256 .f32) (hG : G = p0 hs) (n : Fin 128) (j : Fin 256) : k0_pay59 (F := Ideal) (k0_pay53 G (sr hs 14))
      (k0_pay55 (k0_pay53 G (sr hs 14)) (k0_pay54 (sr hs 13)) (sr hs 12))
      (k0_pay56 (k0_pay53 G (sr hs 14)) (k0_pay54 (sr hs 13)) (sr hs 12) (sr hs 11) (sr hs 10) (sr hs 9) (sr hs 8))
      (k0_pay57 (k0_pay53 G (sr hs 14)) (k0_pay54 (sr hs 13)) (sr hs 12) (sr hs 11) (sr hs 10) (sr hs 9) (sr hs 8) (sr hs 7) (sr hs 6) (sr hs 5) (sr hs 4))
      (k0_pay58 (sr hs 3)) (sr hs 2) (sr hs 1) (sr hs 0) (ix2 n j)
    = wsum hs n j (j.val / 64) := by
  subst hG
  rw [← pick j (wsum hs n j)]
  simp only [wsum, win, Nat.reduceAdd, Nat.reducePow, Nat.reduceSub, Finset.sum_range_succ, Finset.sum_range_zero, zero_add]
  pointwise [k0_pay53, k0_pay54, k0_pay55, k0_pay56, k0_pay57, k0_pay58, k0_pay59]
  rfl

set_option maxHeartbeats 1600000 in
/-- The convolution, of rows as the body loads them. -/
theorem conv_gen (n : Fin 128) (j : Fin 256) (G : FVec Ideal S128x256 .f32) (w0 w1 w2 w3 w4 w5 w6 w7 w8 w9 w10 w11 w12 w13 w14 w15 w16 w17 w18 w19 w20 w21 w22 w23 w24 w25 w26 w27 w28 w29 w30 : FVec Ideal S1x256 .f32) (s0 s1 s2 s3 s4 s5 s6 s7 s8 s9 s10 s11 s12 s13 s14 s15 s16 s17 s18 s19 s20 s21 s22 s23 s24 s25 s26 s27 s28 s29 : FVec Ideal S1x128x256 .f32)
    (hG : G = g0 hs) (hw0 : w0 = wr tp 0) (hw1 : w1 = wr tp 1) (hw2 : w2 = wr tp 2) (hw3 : w3 = wr tp 3) (hw4 : w4 = wr tp 4) (hw5 : w5 = wr tp 5) (hw6 : w6 = wr tp 6) (hw7 : w7 = wr tp 7) (hw8 : w8 = wr tp 8) (hw9 : w9 = wr tp 9) (hw10 : w10 = wr tp 10) (hw11 : w11 = wr tp 11) (hw12 : w12 = wr tp 12) (hw13 : w13 = wr tp 13) (hw14 : w14 = wr tp 14) (hw15 : w15 = wr tp 15) (hw16 : w16 = wr tp 16) (hw17 : w17 = wr tp 17) (hw18 : w18 = wr tp 18) (hw19 : w19 = wr tp 19) (hw20 : w20 = wr tp 20) (hw21 : w21 = wr tp 21) (hw22 : w22 = wr tp 22) (hw23 : w23 = wr tp 23) (hw24 : w24 = wr tp 24) (hw25 : w25 = wr tp 25) (hw26 : w26 = wr tp 26) (hw27 : w27 = wr tp 27) (hw28 : w28 = wr tp 28) (hw29 : w29 = wr tp 29) (hw30 : w30 = wr tp 30)
    (hs0 : s0 = sr hs 0) (hs1 : s1 = sr hs 1) (hs2 : s2 = sr hs 2) (hs3 : s3 = sr hs 3) (hs4 : s4 = sr hs 4) (hs5 : s5 = sr hs 5) (hs6 : s6 = sr hs 6) (hs7 : s7 = sr hs 7) (hs8 : s8 = sr hs 8) (hs9 : s9 = sr hs 9) (hs10 : s10 = sr hs 10) (hs11 : s11 = sr hs 11) (hs12 : s12 = sr hs 12) (hs13 : s13 = sr hs 13) (hs14 : s14 = sr hs 14) (hs15 : s15 = sr hs 15) (hs16 : s16 = sr hs 16) (hs17 : s17 = sr hs 17) (hs18 : s18 = sr hs 18) (hs19 : s19 = sr hs 19) (hs20 : s20 = sr hs 20) (hs21 : s21 = sr hs 21) (hs22 : s22 = sr hs 22) (hs23 : s23 = sr hs 23) (hs24 : s24 = sr hs 24) (hs25 : s25 = sr hs 25) (hs26 : s26 = sr hs 26) (hs27 : s27 = sr hs 27) (hs28 : s28 = sr hs 28) (hs29 : s29 = sr hs 29) : (
    (k0_pay9 (k0_pay8 (k0_pay7 (k0_pay6 (k0_pay5 (k0_pay3 G w30 w0 s0 w1 s1 w2 s2 w3 s3) w4 (k0_pay4 s4) w5 s5 w6 s6 w7 s7 w8 s8 w9 s9) w10 s10 w11 s11 w12 s12 w13 s13 w14 s14) w15 s15 w16 s16 w17 s17 w18 s18 w19 s19 w20 s20) w21 s21 w22 s22 w23 s23 w24 s24 w25 s25) w26 s26 w27 s27 w28 s28 w29 s29) : FVec Ideal S128x256 .f32) (ix2 n j)
    = ∑ k ∈ Finset.range 31, hs n j k * tp j k := by
  subst hw0 hw1 hw2 hw3 hw4 hw5 hw6 hw7 hw8 hw9 hw10 hw11 hw12 hw13 hw14 hw15 hw16 hw17 hw18 hw19 hw20 hw21 hw22 hw23 hw24 hw25 hw26 hw27 hw28 hw29 hw30 hs0 hs1 hs2 hs3 hs4 hs5 hs6 hs7 hs8 hs9 hs10 hs11 hs12 hs13 hs14 hs15 hs16 hs17 hs18 hs19 hs20 hs21 hs22 hs23 hs24 hs25 hs26 hs27 hs28 hs29
  exact conv_at tp hs G hG n j

set_option maxHeartbeats 1600000 in
/-- The window sums, of rows as the body loads them. -/
theorem tot_gen (n : Fin 128) (j : Fin 256) (G : FVec Ideal S128x256 .f32) (s0 s1 s2 s3 s4 s5 s6 s7 s8 s9 s10 s11 s12 s13 s14 : FVec Ideal S1x128x256 .f32)
    (hG : G = p0 hs) (hs0 : s0 = sr hs 0) (hs1 : s1 = sr hs 1) (hs2 : s2 = sr hs 2) (hs3 : s3 = sr hs 3) (hs4 : s4 = sr hs 4) (hs5 : s5 = sr hs 5) (hs6 : s6 = sr hs 6) (hs7 : s7 = sr hs 7) (hs8 : s8 = sr hs 8) (hs9 : s9 = sr hs 9) (hs10 : s10 = sr hs 10) (hs11 : s11 = sr hs 11) (hs12 : s12 = sr hs 12) (hs13 : s13 = sr hs 13) (hs14 : s14 = sr hs 14) : k0_pay59 (F := Ideal) (k0_pay53 G s14)
      (k0_pay55 (k0_pay53 G s14) (k0_pay54 s13) s12)
      (k0_pay56 (k0_pay53 G s14) (k0_pay54 s13) s12 s11 s10 s9 s8)
      (k0_pay57 (k0_pay53 G s14) (k0_pay54 s13) s12 s11 s10 s9 s8 s7 s6 s5 s4)
      (k0_pay58 s3) s2 s1 s0 (ix2 n j)
    = wsum hs n j (j.val / 64) := by
  subst hs0 hs1 hs2 hs3 hs4 hs5 hs6 hs7 hs8 hs9 hs10 hs11 hs12 hs13 hs14
  exact tot_at hs G hG n j

end rows

/-- The word that divides channel `j`. -/
abbrev raw (j : Fin 256) : BitVec 32 := IntOp.minsi
        (Scalar.select (IntOp.cmpi CmpIPredicate.sge (BitVec.ofNat 32 j.val) 192#32) (16#32)
          (Scalar.select (IntOp.cmpi CmpIPredicate.sge (BitVec.ofNat 32 j.val) 128#32) (8#32)
            (Scalar.select (IntOp.cmpi CmpIPredicate.sge (BitVec.ofNat 32 j.val) 64#32) 4#32 2#32))) 2049#32

theorem cnt_raw (n : Fin 128) (j : Fin 256) : k0_pay60 (F := Ideal) (ix2 n j) = FloatOps.sitofp (F := Ideal) FTy.f32 (raw j) := by
  pointwise [k0_pay60]

/-- The window's length divides. -/
theorem cnt_at (n : Fin 128) (j : Fin 256) : k0_pay60 (F := Ideal) (ix2 n j) = ((win (j.val / 64) : ℝ) : EReal) := by
  rw [cnt_raw]
  have e : (raw j).toInt = ((win (j.val / 64) : ℕ) : ℤ) := by revert j; decide +kernel
  show (((raw j).toInt : ℝ) : EReal) = _
  rw [e]
  norm_cast

theorem tail_at (v : FVec Ideal S128x256 .f32) (s : FVec Ideal S128x512 .f32) (bias g b pb : FVec Ideal S1x256 .f32) (w : FVec Ideal S256x256 .bf16) (n : Fin 128) (e : Fin 256)
    (y gg bb : Fin 256 → EReal) (hv : ∀ l, v (ix2 n l) + bias (ix2 0 l) = y l) (hg : ∀ l, g (ix2 0 l) = gg l) (hb : ∀ l, b (ix2 0 l) = bb l) :
    k0_pay16 (F := Ideal) v (k0_pay11 s) (k0_pay12 bias) (k0_pay13 g) (k0_pay14 b) (k0_pay15 w) pb (ix2 n e)
      = ((∑ j : Fin 256, lnorm (cen y) gg bb j * sg (lnorm (cen y) gg bb j) * w (ix2 j e)) + pb (ix2 0 e)) * s (ix2 n ⟨e.val, by omega⟩) := by
  have r : k0_pay16 (F := Ideal) v (k0_pay11 s) (k0_pay12 bias) (k0_pay13 g) (k0_pay14 b) (k0_pay15 w) pb (ix2 n e)
      = ((∑ j : Fin 256, lnorm (cen fun l => v (ix2 n l) + bias (ix2 0 l)) (fun j => g (ix2 0 j)) (fun j => b (ix2 0 j)) j
            * sg (lnorm (cen fun l => v (ix2 n l) + bias (ix2 0 l)) (fun j => g (ix2 0 j)) (fun j => b (ix2 0 j)) j) * w (ix2 j e)) + pb (ix2 0 e))
          * s (ix2 n ⟨e.val, by omega⟩) := by
    pointwise [k0_pay16, k0_pay15, k0_pay14, k0_pay13, k0_pay12, k0_pay11, k0_pay10]
    simp only [zero_sub]
    unfold lnorm cen sg
    rfl
  rw [r]; simp only [hv, hg, hb]

theorem pool_at (x tot cnt : FVec Ideal S128x256 .f32) (s : FVec Ideal S128x512 .f32) (w : FVec Ideal S256x256 .bf16) (ps : FVec Ideal S1x256 .f32) (n : Fin 128) (e : Fin 256) :
    k0_pay62 (F := Ideal) x tot cnt (k0_pay61 (k0_pay10 s)) w ps (ix2 n e)
      = (∑ j : Fin 256, (Ideal.div (tot (ix2 n j)) (cnt (ix2 n j)) - x (ix2 n j)) * w (ix2 j e)) * ps (ix2 0 e) * s (ix2 n ⟨256 + e.val, by omega⟩) := by
  pointwise [k0_pay62, k0_pay61, k0_pay10]

end Cert.StepIdeal.Spec

end
-- ==== Proof.Step.Kernel.lean ====
module

public import proofs.«01_k».proof.Proof.Step.Pay

@[expose] public section

set_option maxRecDepth 16384

noncomputable section

/-! The three arrays the call leaves. -/

namespace Cert.StepIdeal.Spec

open Cert.StepIdeal Cert.StepIdeal.Gen Cert.Step
open Cert.Mixer (cen lnorm sg win)
open Cert.MixIdeal.Spec (diag sum_diag)
open Idealize.ShloMosaic Idealize.ShloMosaic.TcCoe
open Idealize.ShloMosaic.Pipeline (Dat)

variable (m : (ℓ : Loc nD τ sig) → Buf (Elt Ideal) ℓ) (c : Dev nD)

/-- The gated branches, of the call's arguments. -/
abbrev res : FVec Ideal S128x512 .f32 :=
  out (gluA m c) (pinA m c) (szA m c) (scA m c) (spA m c) (wdwA m c) (bdwA m c) (lngA m c) (lnbA m c) (wpwA m c) (bpwA m c) (wpoolA m c) (psA m c)
/-- The convolution's state, of the call's arguments. -/
abbrev resC : FVec Ideal S30x128x256 .f32 := scOut (gluA m c) (scA m c)
/-- The pooling's state, of the call's arguments. -/
abbrev resP : FVec Ideal S15x128x256 .f32 := spOut (pinA m c) (spA m c)

/-- The convolution's rows. -/
abbrev hA : Fin 128 → Fin 256 → ℕ → EReal := hist (gluA m c) (scA m c)
/-- The pooling's rows. -/
abbrev qA : Fin 128 → Fin 256 → ℕ → EReal := phist (pinA m c) (spA m c)

theorem gl (t : Fin cfg0.N) : (iblk m c 2 t : FVec Ideal S128x256 .f32) = g0 (hA m c) := by
  funext y; idx_vars y
  refine (glu_read m c t y0 y1).trans ?_
  show _ = hist (gluA m c) (scA m c) y0 y1 30
  rw [hist, dif_neg (by omega)]

theorem pl (t : Fin cfg0.N) : (iblk m c 3 t : FVec Ideal S128x256 .f32) = p0 (qA m c) := by
  funext y; idx_vars y
  refine (pin_read m c t y0 y1).trans ?_
  show _ = phist (pinA m c) (spA m c) y0 y1 15
  rw [phist, dif_neg (by omega)]

theorem p0_at (n : Fin 128) (j : Fin 256) : p0 (qA m c) (ix2 n j) = pinA m c (ix2 n j) := by
  show phist (pinA m c) (spA m c) n j 15 = _
  rw [phist, dif_neg (by omega)]

theorem row30 (b : FVec Ideal S30x128x256 .f32) (k : ℕ) (hk : k < 30) (inb) (n : Fin 128) (j : Fin 256) :
    (View.ld (Val := Elt Ideal) (e' := .f32) b (Rect.unit (s := S30x128x256) ![k, 0, 0] ![1, 128, 256] inb) : FVec Ideal S1x128x256 .f32) (ix3 0 n j) = b (ix3 ⟨k, hk⟩ n j) := by
  show b _ = b _
  congr 1
  funext a
  apply Fin.ext
  match a with
  | 0 => show k + 1 * 0 = k; omega
  | 1 => show 0 + 1 * n.val = n.val; omega
  | 2 => show 0 + 1 * j.val = j.val; omega

theorem row15 (b : FVec Ideal S15x128x256 .f32) (k : ℕ) (hk : k < 15) (inb) (n : Fin 128) (j : Fin 256) :
    (View.ld (Val := Elt Ideal) (e' := .f32) b (Rect.unit (s := S15x128x256) ![k, 0, 0] ![1, 128, 256] inb) : FVec Ideal S1x128x256 .f32) (ix3 0 n j) = b (ix3 ⟨k, hk⟩ n j) := by
  show b _ = b _
  congr 1
  funext a
  apply Fin.ext
  match a with
  | 0 => show k + 1 * 0 = k; omega
  | 1 => show 0 + 1 * n.val = n.val; omega
  | 2 => show 0 + 1 * j.val = j.val; omega

/-- A row of the convolution's state, as the body loads it. -/
theorem sl (t : Fin cfg0.N) (k : ℕ) (hk : k < 30) (inb) :
    (View.ld (iblk m c 0 t : FVec Ideal S30x128x256 .f32) (Rect.unit (s := S30x128x256) ![k, 0, 0] ![1, 128, 256] inb) : FVec Ideal S1x128x256 .f32) = sr (hA m c) k := by
  funext y; idx_vars y
  obtain rfl : y0 = 0 := Subsingleton.elim _ _
  refine (row30 _ k hk inb y1 y2).trans ((sc_read m c t ⟨k, hk⟩ y1 y2).trans ?_)
  show _ = hist (gluA m c) (scA m c) y1 y2 k
  rw [hist, dif_pos hk]

/-- A row of the pooling's state, as the body loads it. -/
theorem tl (t : Fin cfg0.N) (k : ℕ) (hk : k < 15) (inb) :
    (View.ld (iblk m c 1 t : FVec Ideal S15x128x256 .f32) (Rect.unit (s := S15x128x256) ![k, 0, 0] ![1, 128, 256] inb) : FVec Ideal S1x128x256 .f32) = sr (qA m c) k := by
  funext y; idx_vars y
  obtain rfl : y0 = 0 := Subsingleton.elim _ _
  refine (row15 _ k hk inb y1 y2).trans ((sp_read m c t ⟨k, hk⟩ y1 y2).trans ?_)
  show _ = phist (pinA m c) (spA m c) y1 y2 k
  rw [phist, dif_pos hk]

/-- A tap's row, as the body loads it. -/
theorem wl (t : Fin cfg0.N) (k : ℕ) (hk : k < 31) (inb) :
    (View.ld (iblk m c 5 t : FVec Ideal S31x256 .f32) (Rect.unit (s := S31x256) ![k, 0] ![1, 256] inb) : FVec Ideal S1x256 .f32) = wr (tap (wdwA m c)) k := by
  funext y; idx_vars y
  obtain rfl : y0 = 0 := Subsingleton.elim _ _
  refine (Cert.MixIdeal.Spec.ld_row _ k hk inb y1).trans ((wdw_read m c t ⟨k, hk⟩ y1).trans ?_)
  show _ = tap (wdwA m c) y1 k
  rw [tap, dif_pos hk]

theorem mixed_a (n : Fin 128) (k : Fin 512) (e : Fin 256) (h : k.val = e.val) (j : S128x512.Idx) (hj : j = ix2 n k) :
    res m c j = ya (gluA m c) (scA m c) (wdwA m c) (bdwA m c) (lngA m c) (lnbA m c) (wpwA m c) (bpwA m c) n e * szA m c (ix2 n ⟨e.val, by omega⟩) := by
  subst hj
  show mixed (gluA m c) (pinA m c) (szA m c) (scA m c) (spA m c) (wdwA m c) (bdwA m c) (lngA m c) (lnbA m c) (wpwA m c) (bpwA m c) (wpoolA m c) (psA m c) n k = _
  unfold mixed
  rw [dif_pos (by omega), show (⟨k.val, by omega⟩ : Fin 256) = e from Fin.ext h]
  congr 3; exact Fin.ext h

theorem mixed_b (n : Fin 128) (k : Fin 512) (e : Fin 256) (h : k.val = 256 + e.val) (j : S128x512.Idx) (hj : j = ix2 n k) :
    res m c j = yb (pinA m c) (spA m c) (wpoolA m c) (psA m c) n e * szA m c (ix2 n ⟨256 + e.val, by omega⟩) := by
  subst hj
  show mixed (gluA m c) (pinA m c) (szA m c) (scA m c) (spA m c) (wdwA m c) (bdwA m c) (lngA m c) (lnbA m c) (wpwA m c) (bpwA m c) (wpoolA m c) (psA m c) n k = _
  unfold mixed
  rw [dif_neg (by omega), show (⟨k.val - 256, by omega⟩ : Fin 256) = e from Fin.ext (by show k.val - 256 = _; omega)]
  congr 3; exact Fin.ext h

/-- A row laid flat and back. -/
theorem moved (b : FVec Ideal S1x128x256 .f32) (n : Fin 128) (j : Fin 256) :
    (shapeCast S1x128x256 (shapeCast S128x256 b shapeCasts_S1x128x256_S128x256) shapeCasts_S128x256_S1x128x256 : FVec Ideal S1x128x256 .f32) (ix3 0 n j) = b (ix3 0 n j) := by
  pointwise

/-- The token as the state's last row. -/
theorem laid (b : FVec Ideal S128x256 .f32) (n : Fin 128) (j : Fin 256) :
    (shapeCast S1x128x256 b shapeCasts_S128x256_S1x128x256 : FVec Ideal S1x128x256 .f32) (ix3 0 n j) = b (ix2 n j) := by
  pointwise

set_option maxHeartbeats 4000000 in
theorem arr : (dats m 0 c).arrAt 13 cfg0.N = res m c := by
  refine (dats m 0 c).arrAt_eq_of_covers 13 _ (by decide +kernel) fun t _ y => ?_
  blk_simp
  rw [after0_13]
  unfold_out out0_13
  frame_out
  canon_tiles x h using (View.cover_of_tiledBy _ ![128, 256] (by sl_kernel_rfl) _)
  all_goals idx_vars x
  · refine (pool_at _ _ _ _ _ _ x0 x1).trans (Eq.trans ?_ (mixed_b m c x0 ⟨256 + x1.val, by omega⟩ x1 rfl _ ?_).symm)
    rotate_left
    · funext a; apply Fin.ext
      match a with
      | 0 => blk_simp [idx t] <;> try omega
      | 1 => blk_simp [idx t] <;> try omega
    refine congrArg₂ HMul.hMul ?_ (sz_read m c t x0 _)
    unfold yb
    rw [← sum_diag]
    refine congrArg₂ HMul.hMul (Finset.sum_congr rfl fun j _ => congrArg₂ HMul.hMul ?_ (wpool_read m c t j x1)) (ps_read m c t x1)
    unfold Cert.Step.pool
    refine congrArg₂ HSub.hSub (congrArg₂ Ideal.div ?_ (cnt_at x0 j)) (pin_read m c t x0 j)
    exact tot_gen (qA m c) x0 j _ _ _ _ _ _ _ _ _ _ _ _ _ _ _ _ (pl m c t) (tl m c t 0 (by decide) _) (tl m c t 1 (by decide) _) (tl m c t 2 (by decide) _) (tl m c t 3 (by decide) _) (tl m c t 4 (by decide) _) (tl m c t 5 (by decide) _) (tl m c t 6 (by decide) _) (tl m c t 7 (by decide) _) (tl m c t 8 (by decide) _) (tl m c t 9 (by decide) _) (tl m c t 10 (by decide) _) (tl m c t 11 (by decide) _) (tl m c t 12 (by decide) _) (tl m c t 13 (by decide) _) (tl m c t 14 (by decide) _)
  · refine (tail_at _ _ _ _ _ _ _ x0 x1 (crow (gluA m c) (scA m c) (wdwA m c) (bdwA m c) x0) (fun j => lngA m c (ix1 j)) (fun j => lnbA m c (ix1 j)) (fun l => ?_)
      (lng_read m c t) (lnb_read m c t)).trans (Eq.trans ?_ (mixed_a m c x0 ⟨x1.val, by omega⟩ x1 rfl _ ?_).symm)
    · refine congrArg₂ HAdd.hAdd ?_ (bdw_read m c t l)
      exact conv_gen (tap (wdwA m c)) (hA m c) x0 l _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (gl m c t) (wl m c t 0 (by decide) _) (wl m c t 1 (by decide) _) (wl m c t 2 (by decide) _) (wl m c t 3 (by decide) _) (wl m c t 4 (by decide) _) (wl m c t 5 (by decide) _) (wl m c t 6 (by decide) _) (wl m c t 7 (by decide) _) (wl m c t 8 (by decide) _) (wl m c t 9 (by decide) _) (wl m c t 10 (by decide) _) (wl m c t 11 (by decide) _) (wl m c t 12 (by decide) _) (wl m c t 13 (by decide) _) (wl m c t 14 (by decide) _) (wl m c t 15 (by decide) _) (wl m c t 16 (by decide) _) (wl m c t 17 (by decide) _) (wl m c t 18 (by decide) _) (wl m c t 19 (by decide) _) (wl m c t 20 (by decide) _) (wl m c t 21 (by decide) _) (wl m c t 22 (by decide) _) (wl m c t 23 (by decide) _) (wl m c t 24 (by decide) _) (wl m c t 25 (by decide) _) (wl m c t 26 (by decide) _) (wl m c t 27 (by decide) _) (wl m c t 28 (by decide) _) (wl m c t 29 (by decide) _) (wl m c t 30 (by decide) _) (sl m c t 0 (by decide) _) (sl m c t 1 (by decide) _) (sl m c t 2 (by decide) _) (sl m c t 3 (by decide) _) (sl m c t 4 (by decide) _) (sl m c t 5 (by decide) _) (sl m c t 6 (by decide) _) (sl m c t 7 (by decide) _) (sl m c t 8 (by decide) _) (sl m c t 9 (by decide) _) (sl m c t 10 (by decide) _) (sl m c t 11 (by decide) _) (sl m c t 12 (by decide) _) (sl m c t 13 (by decide) _) (sl m c t 14 (by decide) _) (sl m c t 15 (by decide) _) (sl m c t 16 (by decide) _) (sl m c t 17 (by decide) _) (sl m c t 18 (by decide) _) (sl m c t 19 (by decide) _) (sl m c t 20 (by decide) _) (sl m c t 21 (by decide) _) (sl m c t 22 (by decide) _) (sl m c t 23 (by decide) _) (sl m c t 24 (by decide) _) (sl m c t 25 (by decide) _) (sl m c t 26 (by decide) _) (sl m c t 27 (by decide) _) (sl m c t 28 (by decide) _) (sl m c t 29 (by decide) _)
    · refine congrArg₂ HMul.hMul (congrArg₂ HAdd.hAdd (Finset.sum_congr rfl fun j _ => congrArg₂ HMul.hMul rfl (wpw_read m c t j x1)) (bpw_read m c t x1)) (sz_read m c t x0 _)
    · funext a; apply Fin.ext
      match a with
      | 0 => blk_simp [idx t] <;> try omega
      | 1 => blk_simp [idx t] <;> try omega

theorem sc_at (k : ℕ) (n : Fin 128) (j : Fin 256) (i : S30x128x256.Idx) (h0 : (i 0).val + 1 = k) (h1 : (i 1).val = n.val) (h2 : (i 2).val = j.val) :
    resC m c i = hist (gluA m c) (scA m c) n j k := by
  show hist (gluA m c) (scA m c) (i 1) (i 2) ((i 0).val + 1) = _
  rw [h0, show (i 1 : Fin 128) = n from Fin.ext h1, show (i 2 : Fin 256) = j from Fin.ext h2]

/-- A row of the state moved up by one. -/
theorem sc_row (t : Fin cfg0.N) (k : ℕ) (hk : k < 30) (inb) (n : Fin 128) (j : Fin 256) (i : S30x128x256.Idx) (h0 : (i 0).val + 1 = k) (h1 : (i 1).val = n.val) (h2 : (i 2).val = j.val) :
    (shapeCast S1x128x256 (shapeCast S128x256 (View.ld (iblk m c 0 t : FVec Ideal S30x128x256 .f32) (Rect.unit (s := S30x128x256) ![k, 0, 0] ![1, 128, 256] inb) : FVec Ideal S1x128x256 .f32) shapeCasts_S1x128x256_S128x256) shapeCasts_S128x256_S1x128x256 : FVec Ideal S1x128x256 .f32) (ix3 0 n j)
      = resC m c i := by
  refine (moved _ n j).trans ((row30 _ k hk inb n j).trans ((sc_read m c t ⟨k, hk⟩ n j).trans (Eq.trans ?_ (sc_at m c k n j i h0 h1 h2).symm)))
  rw [hist, dif_pos hk]

set_option maxHeartbeats 4000000 in
theorem arrC : (dats m 0 c).arrAt 14 cfg0.N = resC m c := by
  refine (dats m 0 c).arrAt_eq_of_covers 14 _ (by decide +kernel) fun t _ y => ?_
  blk_simp
  rw [after0_14]
  unfold_out out0_14
  frame_out
  canon_tiles x h using (View.cover_of_tiledBy _ ![1, 128, 256] (by sl_kernel_rfl) _)
  all_goals idx_vars x
  all_goals obtain rfl : x0 = 0 := Subsingleton.elim _ _
  all_goals have z : ((0 : Fin 1) : ℕ) = 0 := rfl
  · refine (laid _ x1 x2).trans ((glu_read m c t x1 x2).trans (Eq.trans ?_ (sc_at m c 30 x1 x2 _ (by blk_simp [idx t] <;> omega) (by blk_simp [idx t] <;> omega) (by blk_simp [idx t] <;> omega)).symm))
    rw [hist, dif_neg (by omega)]
  · exact sc_row m c t 29 (by decide) _ x1 x2 _ (by blk_simp [idx t] <;> omega) (by blk_simp [idx t] <;> omega) (by blk_simp [idx t] <;> omega)
  · exact sc_row m c t 28 (by decide) _ x1 x2 _ (by blk_simp [idx t] <;> omega) (by blk_simp [idx t] <;> omega) (by blk_simp [idx t] <;> omega)
  · exact sc_row m c t 27 (by decide) _ x1 x2 _ (by blk_simp [idx t] <;> omega) (by blk_simp [idx t] <;> omega) (by blk_simp [idx t] <;> omega)
  · exact sc_row m c t 26 (by decide) _ x1 x2 _ (by blk_simp [idx t] <;> omega) (by blk_simp [idx t] <;> omega) (by blk_simp [idx t] <;> omega)
  · exact sc_row m c t 25 (by decide) _ x1 x2 _ (by blk_simp [idx t] <;> omega) (by blk_simp [idx t] <;> omega) (by blk_simp [idx t] <;> omega)
  · exact sc_row m c t 24 (by decide) _ x1 x2 _ (by blk_simp [idx t] <;> omega) (by blk_simp [idx t] <;> omega) (by blk_simp [idx t] <;> omega)
  · exact sc_row m c t 23 (by decide) _ x1 x2 _ (by blk_simp [idx t] <;> omega) (by blk_simp [idx t] <;> omega) (by blk_simp [idx t] <;> omega)
  · exact sc_row m c t 22 (by decide) _ x1 x2 _ (by blk_simp [idx t] <;> omega) (by blk_simp [idx t] <;> omega) (by blk_simp [idx t] <;> omega)
  · exact sc_row m c t 21 (by decide) _ x1 x2 _ (by blk_simp [idx t] <;> omega) (by blk_simp [idx t] <;> omega) (by blk_simp [idx t] <;> omega)
  · exact sc_row m c t 20 (by decide) _ x1 x2 _ (by blk_simp [idx t] <;> omega) (by blk_simp [idx t] <;> omega) (by blk_simp [idx t] <;> omega)
  · exact sc_row m c t 19 (by decide) _ x1 x2 _ (by blk_simp [idx t] <;> omega) (by blk_simp [idx t] <;> omega) (by blk_simp [idx t] <;> omega)
  · exact sc_row m c t 18 (by decide) _ x1 x2 _ (by blk_simp [idx t] <;> omega) (by blk_simp [idx t] <;> omega) (by blk_simp [idx t] <;> omega)
  · exact sc_row m c t 17 (by decide) _ x1 x2 _ (by blk_simp [idx t] <;> omega) (by blk_simp [idx t] <;> omega) (by blk_simp [idx t] <;> omega)
  · exact sc_row m c t 16 (by decide) _ x1 x2 _ (by blk_simp [idx t] <;> omega) (by blk_simp [idx t] <;> omega) (by blk_simp [idx t] <;> omega)
  · exact sc_row m c t 15 (by decide) _ x1 x2 _ (by blk_simp [idx t] <;> omega) (by blk_simp [idx t] <;> omega) (by blk_simp [idx t] <;> omega)
  · exact sc_row m c t 14 (by decide) _ x1 x2 _ (by blk_simp [idx t] <;> omega) (by blk_simp [idx t] <;> omega) (by blk_simp [idx t] <;> omega)
  · exact sc_row m c t 13 (by decide) _ x1 x2 _ (by blk_simp [idx t] <;> omega) (by blk_simp [idx t] <;> omega) (by blk_simp [idx t] <;> omega)
  · exact sc_row m c t 12 (by decide) _ x1 x2 _ (by blk_simp [idx t] <;> omega) (by blk_simp [idx t] <;> omega) (by blk_simp [idx t] <;> omega)
  · exact sc_row m c t 11 (by decide) _ x1 x2 _ (by blk_simp [idx t] <;> omega) (by blk_simp [idx t] <;> omega) (by blk_simp [idx t] <;> omega)
  · exact sc_row m c t 10 (by decide) _ x1 x2 _ (by blk_simp [idx t] <;> omega) (by blk_simp [idx t] <;> omega) (by blk_simp [idx t] <;> omega)
  · exact sc_row m c t 9 (by decide) _ x1 x2 _ (by blk_simp [idx t] <;> omega) (by blk_simp [idx t] <;> omega) (by blk_simp [idx t] <;> omega)
  · exact sc_row m c t 8 (by decide) _ x1 x2 _ (by blk_simp [idx t] <;> omega) (by blk_simp [idx t] <;> omega) (by blk_simp [idx t] <;> omega)
  · exact sc_row m c t 7 (by decide) _ x1 x2 _ (by blk_simp [idx t] <;> omega) (by blk_simp [idx t] <;> omega) (by blk_simp [idx t] <;> omega)
  · exact sc_row m c t 6 (by decide) _ x1 x2 _ (by blk_simp [idx t] <;> omega) (by blk_simp [idx t] <;> omega) (by blk_simp [idx t] <;> omega)
  · exact sc_row m c t 5 (by decide) _ x1 x2 _ (by blk_simp [idx t] <;> omega) (by blk_simp [idx t] <;> omega) (by blk_simp [idx t] <;> omega)
  · exact sc_row m c t 4 (by decide) _ x1 x2 _ (by blk_simp [idx t] <;> omega) (by blk_simp [idx t] <;> omega) (by blk_simp [idx t] <;> omega)
  · exact sc_row m c t 3 (by decide) _ x1 x2 _ (by blk_simp [idx t] <;> omega) (by blk_simp [idx t] <;> omega) (by blk_simp [idx t] <;> omega)
  · exact sc_row m c t 2 (by decide) _ x1 x2 _ (by blk_simp [idx t] <;> omega) (by blk_simp [idx t] <;> omega) (by blk_simp [idx t] <;> omega)
  · exact sc_row m c t 1 (by decide) _ x1 x2 _ (by blk_simp [idx t] <;> omega) (by blk_simp [idx t] <;> omega) (by blk_simp [idx t] <;> omega)

theorem sp_at (k : ℕ) (n : Fin 128) (j : Fin 256) (i : S15x128x256.Idx) (h0 : (i 0).val + 1 = k) (h1 : (i 1).val = n.val) (h2 : (i 2).val = j.val) :
    resP m c i = phist (pinA m c) (spA m c) n j k := by
  show phist (pinA m c) (spA m c) (i 1) (i 2) ((i 0).val + 1) = _
  rw [h0, show (i 1 : Fin 128) = n from Fin.ext h1, show (i 2 : Fin 256) = j from Fin.ext h2]

/-- A row of the state moved up by one. -/
theorem sp_row (t : Fin cfg0.N) (k : ℕ) (hk : k < 15) (inb) (n : Fin 128) (j : Fin 256) (i : S15x128x256.Idx) (h0 : (i 0).val + 1 = k) (h1 : (i 1).val = n.val) (h2 : (i 2).val = j.val) :
    (shapeCast S1x128x256 (shapeCast S128x256 (View.ld (iblk m c 1 t : FVec Ideal S15x128x256 .f32) (Rect.unit (s := S15x128x256) ![k, 0, 0] ![1, 128, 256] inb) : FVec Ideal S1x128x256 .f32) shapeCasts_S1x128x256_S128x256) shapeCasts_S128x256_S1x128x256 : FVec Ideal S1x128x256 .f32) (ix3 0 n j)
      = resP m c i := by
  refine (moved _ n j).trans ((row15 _ k hk inb n j).trans ((sp_read m c t ⟨k, hk⟩ n j).trans (Eq.trans ?_ (sp_at m c k n j i h0 h1 h2).symm)))
  rw [phist, dif_pos hk]

set_option maxHeartbeats 4000000 in
theorem arrP : (dats m 0 c).arrAt 15 cfg0.N = resP m c := by
  refine (dats m 0 c).arrAt_eq_of_covers 15 _ (by decide +kernel) fun t _ y => ?_
  blk_simp
  rw [after0_15]
  unfold_out out0_15
  frame_out
  canon_tiles x h using (View.cover_of_tiledBy _ ![1, 128, 256] (by sl_kernel_rfl) _)
  all_goals idx_vars x
  all_goals obtain rfl : x0 = 0 := Subsingleton.elim _ _
  all_goals have z : ((0 : Fin 1) : ℕ) = 0 := rfl
  · refine (laid _ x1 x2).trans ((pin_read m c t x1 x2).trans (Eq.trans ?_ (sp_at m c 15 x1 x2 _ (by blk_simp [idx t] <;> omega) (by blk_simp [idx t] <;> omega) (by blk_simp [idx t] <;> omega)).symm))
    rw [phist, dif_neg (by omega)]
  · exact sp_row m c t 14 (by decide) _ x1 x2 _ (by blk_simp [idx t] <;> omega) (by blk_simp [idx t] <;> omega) (by blk_simp [idx t] <;> omega)
  · exact sp_row m c t 13 (by decide) _ x1 x2 _ (by blk_simp [idx t] <;> omega) (by blk_simp [idx t] <;> omega) (by blk_simp [idx t] <;> omega)
  · exact sp_row m c t 12 (by decide) _ x1 x2 _ (by blk_simp [idx t] <;> omega) (by blk_simp [idx t] <;> omega) (by blk_simp [idx t] <;> omega)
  · exact sp_row m c t 11 (by decide) _ x1 x2 _ (by blk_simp [idx t] <;> omega) (by blk_simp [idx t] <;> omega) (by blk_simp [idx t] <;> omega)
  · exact sp_row m c t 10 (by decide) _ x1 x2 _ (by blk_simp [idx t] <;> omega) (by blk_simp [idx t] <;> omega) (by blk_simp [idx t] <;> omega)
  · exact sp_row m c t 9 (by decide) _ x1 x2 _ (by blk_simp [idx t] <;> omega) (by blk_simp [idx t] <;> omega) (by blk_simp [idx t] <;> omega)
  · exact sp_row m c t 8 (by decide) _ x1 x2 _ (by blk_simp [idx t] <;> omega) (by blk_simp [idx t] <;> omega) (by blk_simp [idx t] <;> omega)
  · exact sp_row m c t 7 (by decide) _ x1 x2 _ (by blk_simp [idx t] <;> omega) (by blk_simp [idx t] <;> omega) (by blk_simp [idx t] <;> omega)
  · exact sp_row m c t 6 (by decide) _ x1 x2 _ (by blk_simp [idx t] <;> omega) (by blk_simp [idx t] <;> omega) (by blk_simp [idx t] <;> omega)
  · exact sp_row m c t 5 (by decide) _ x1 x2 _ (by blk_simp [idx t] <;> omega) (by blk_simp [idx t] <;> omega) (by blk_simp [idx t] <;> omega)
  · exact sp_row m c t 4 (by decide) _ x1 x2 _ (by blk_simp [idx t] <;> omega) (by blk_simp [idx t] <;> omega) (by blk_simp [idx t] <;> omega)
  · exact sp_row m c t 3 (by decide) _ x1 x2 _ (by blk_simp [idx t] <;> omega) (by blk_simp [idx t] <;> omega) (by blk_simp [idx t] <;> omega)
  · exact sp_row m c t 2 (by decide) _ x1 x2 _ (by blk_simp [idx t] <;> omega) (by blk_simp [idx t] <;> omega) (by blk_simp [idx t] <;> omega)
  · exact sp_row m c t 1 (by decide) _ x1 x2 _ (by blk_simp [idx t] <;> omega) (by blk_simp [idx t] <;> omega) (by blk_simp [idx t] <;> omega)

end Cert.StepIdeal.Spec

end
-- ==== Proof.Step.Ref.lean ====
module

public import proofs.«01_k».proof.Proof.Gen.StepReferenceIdeal.Run
public import proofs.«01_k».proof.Proof.Step.Spec
public import proofs.«01_k».proof.Proof.Mixer.Sums
public import Idealize.ShloMosaic.Lib.Pointwise

@[expose] public section

set_option maxRecDepth 16384

noncomputable section

/-! What the reference's operations compute, entry by entry. -/

namespace Cert.StepReferenceIdeal.Spec

open Cert.StepReferenceIdeal Cert.StepReferenceIdeal.Gen Cert.StepReferenceIdeal.Value Cert.Step
open Cert.Mixer (cen lnorm sg win sum31)
open Idealize.ShloMosaic Idealize.ShloMosaic.TcCoe

variable (V0 : Valuation τ sig (Elt Ideal))

abbrev gR : FVec Ideal S128x256 .f32 := V0 (Proc.devRef .tc main_arg0)
abbrev pR : FVec Ideal S128x256 .f32 := V0 (Proc.devRef .tc main_arg1)
abbrev szR : FVec Ideal S128x1024 .f32 := V0 (Proc.devRef .tc main_arg2)
abbrev scR : FVec Ideal S128x30x256 .f32 := V0 (Proc.devRef .tc main_arg3)
abbrev spR : FVec Ideal S128x15x256 .f32 := V0 (Proc.devRef .tc main_arg4)
abbrev wdwR : FVec Ideal S31x256 .f32 := V0 (Proc.devRef .tc main_arg5)
abbrev bdwR : FVec Ideal S256 .f32 := V0 (Proc.devRef .tc main_arg6)
abbrev lngR : FVec Ideal S256 .f32 := V0 (Proc.devRef .tc main_arg7)
abbrev lnbR : FVec Ideal S256 .f32 := V0 (Proc.devRef .tc main_arg8)
abbrev wpwR : FVec Ideal S256x256 .f32 := V0 (Proc.devRef .tc main_arg9)
abbrev bpwR : FVec Ideal S256 .f32 := V0 (Proc.devRef .tc main_arg10)
abbrev wpoolR : FVec Ideal S4x64x64 .f32 := V0 (Proc.devRef .tc main_arg11)
abbrev psR : FVec Ideal S256 .f32 := V0 (Proc.devRef .tc main_arg12)

/-- The convolution's rows: the state, then the token. -/
abbrev hR : FVec Ideal S128x31x256 .f32 := res_main_v1 V0
/-- The pooling's rows: the state, then the token. -/
abbrev qR : FVec Ideal S128x16x256 .f32 := res_main_v288 V0
/-- The convolution's first ten taps. -/
abbrev c1 : FVec Ideal S128x256 .f32 := res_main_v82 V0
/-- The convolution's first twenty taps. -/
abbrev c2 : FVec Ideal S128x256 .f32 := res_main_v162 V0
/-- The convolution's first thirty taps. -/
abbrev c3 : FVec Ideal S128x256 .f32 := res_main_v242 V0
/-- The convolved row. -/
abbrev c4 : FVec Ideal S128x256 .f32 := res_main_v253 V0
/-- The convolved row less its mean. -/
abbrev c5 : FVec Ideal S128x256 .f32 := res_main_v259 V0
/-- The normalised row. -/
abbrev c6 : FVec Ideal S128x256 .f32 := res_main_v275 V0
/-- The means less the tokens, by groups. -/
abbrev dR : FVec Ideal S128x4x64 .f32 := res_main_v403 V0

theorem v1_at (n : Fin 128) (p : Fin 31) (j : Fin 256) : hR V0 (ix3 n p j) = hist (gR V0) (scR V0) n j p.val := by
  unfold hist
  pointwise [res_main_v1]

theorem v288_at (n : Fin 128) (p : Fin 16) (j : Fin 256) : qR V0 (ix3 n p j) = phist (pR V0) (spR V0) n j p.val := by
  unfold phist
  pointwise [res_main_v288]

set_option maxHeartbeats 1600000 in
theorem c1_raw (n : Fin 128) (j : Fin 256) : c1 V0 (ix2 n j) = hR V0 (ix3 n 0 j) * wdwR V0 (ix2 0 j) + hR V0 (ix3 n 1 j) * wdwR V0 (ix2 1 j) + hR V0 (ix3 n 2 j) * wdwR V0 (ix2 2 j) + hR V0 (ix3 n 3 j) * wdwR V0 (ix2 3 j) + hR V0 (ix3 n 4 j) * wdwR V0 (ix2 4 j) + hR V0 (ix3 n 5 j) * wdwR V0 (ix2 5 j) + hR V0 (ix3 n 6 j) * wdwR V0 (ix2 6 j) + hR V0 (ix3 n 7 j) * wdwR V0 (ix2 7 j) + hR V0 (ix3 n 8 j) * wdwR V0 (ix2 8 j) + hR V0 (ix3 n 9 j) * wdwR V0 (ix2 9 j) := by
  pointwise [res_main_v82]

set_option maxHeartbeats 1600000 in
theorem c2_raw (n : Fin 128) (j : Fin 256) : c2 V0 (ix2 n j) = c1 V0 (ix2 n j) + hR V0 (ix3 n 10 j) * wdwR V0 (ix2 10 j) + hR V0 (ix3 n 11 j) * wdwR V0 (ix2 11 j) + hR V0 (ix3 n 12 j) * wdwR V0 (ix2 12 j) + hR V0 (ix3 n 13 j) * wdwR V0 (ix2 13 j) + hR V0 (ix3 n 14 j) * wdwR V0 (ix2 14 j) + hR V0 (ix3 n 15 j) * wdwR V0 (ix2 15 j) + hR V0 (ix3 n 16 j) * wdwR V0 (ix2 16 j) + hR V0 (ix3 n 17 j) * wdwR V0 (ix2 17 j) + hR V0 (ix3 n 18 j) * wdwR V0 (ix2 18 j) + hR V0 (ix3 n 19 j) * wdwR V0 (ix2 19 j) := by
  pointwise [res_main_v162]

set_option maxHeartbeats 1600000 in
theorem c3_raw (n : Fin 128) (j : Fin 256) : c3 V0 (ix2 n j) = c2 V0 (ix2 n j) + hR V0 (ix3 n 20 j) * wdwR V0 (ix2 20 j) + hR V0 (ix3 n 21 j) * wdwR V0 (ix2 21 j) + hR V0 (ix3 n 22 j) * wdwR V0 (ix2 22 j) + hR V0 (ix3 n 23 j) * wdwR V0 (ix2 23 j) + hR V0 (ix3 n 24 j) * wdwR V0 (ix2 24 j) + hR V0 (ix3 n 25 j) * wdwR V0 (ix2 25 j) + hR V0 (ix3 n 26 j) * wdwR V0 (ix2 26 j) + hR V0 (ix3 n 27 j) * wdwR V0 (ix2 27 j) + hR V0 (ix3 n 28 j) * wdwR V0 (ix2 28 j) + hR V0 (ix3 n 29 j) * wdwR V0 (ix2 29 j) := by
  pointwise [res_main_v242]

theorem c4_raw (n : Fin 128) (j : Fin 256) : c4 V0 (ix2 n j) = c3 V0 (ix2 n j) + hR V0 (ix3 n 30 j) * wdwR V0 (ix2 30 j) + bdwR V0 (ix1 j) := by
  pointwise [res_main_v253]

theorem c4_at (n : Fin 128) (j : Fin 256) : c4 V0 (ix2 n j) = crow (gR V0) (scR V0) (wdwR V0) (bdwR V0) n j := by
  rw [c4_raw, c3_raw, c2_raw, c1_raw, crow, sum31]
  simp only [v1_at]
  rfl

theorem c5_at (n : Fin 128) (j : Fin 256) : c5 V0 (ix2 n j) = cen (crow (gR V0) (scR V0) (wdwR V0) (bdwR V0) n) j := by
  unfold cen
  simp only [← c4_at]
  pointwise [res_main_v259]

theorem c6_at (n : Fin 128) (j : Fin 256) : c6 V0 (ix2 n j) = nrow (gR V0) (scR V0) (wdwR V0) (bdwR V0) (lngR V0) (lnbR V0) n j := by
  unfold nrow lnorm
  simp only [← c5_at]
  pointwise [res_main_v275]

/-- The reference's convolution branch. -/
abbrev aR : FVec Ideal S128x256 .f32 := addf (Host.dotGeneral dot_S128x256_S256x256_S128x256_1_0_0_1_n_n none (mulf (c6 V0) (Host.divf (broadcastInDim S128x256 ![] bcast_S_S128x256 (constant S_ .f32 0x3F800000#32)) (addf (broadcastInDim S128x256 ![] bcast_S_S128x256 (constant S_ .f32 0x3F800000#32)) (Host.exp (Host.negf (c6 V0)))))) (wpwR V0)) (broadcastInDim S128x256 ![0, 1] bcast_S1x256_S128x256_0_1 (broadcastInDim S1x256 ![1] bcast_S256_S1x256_1 (bpwR V0)))

theorem ya_ref (n : Fin 128) (e : Fin 256) : aR V0 (ix2 n e) = ya (gR V0) (scR V0) (wdwR V0) (bdwR V0) (lngR V0) (lnbR V0) (wpwR V0) (bpwR V0) n e := by
  unfold ya sg
  simp only [← c6_at]
  pointwise

theorem diff0_raw (n : Fin 128) (k : Fin 64) : dR V0 (ix3 n 0 k)
    = Ideal.div (qR V0 (ix3 n 15 ⟨k.val, by omega⟩) + qR V0 (ix3 n 14 ⟨k.val, by omega⟩)) (Ideal.ofBits .f32 0x40000000#32) - pR V0 (ix2 n ⟨k.val, by omega⟩) := by
  pointwise [res_main_v403]

theorem diff0_at (n : Fin 128) (k : Fin 64) : dR V0 (ix3 n 0 k) = Cert.Step.pool (pR V0) (spR V0) n ⟨k.val, by omega⟩ := by
  have hk : (⟨k.val, by omega⟩ : Fin 256).val / 64 = 0 := by simp only; omega
  have l : Ideal.ofBits .f32 0x40000000#32 = ((win 0 : ℝ) : EReal) := by
    simp [Ideal.ofBits, Ideal.ieee, -EReal.coe_mul, win]; norm_num
  rw [diff0_raw, l, Cert.Step.pool, hk]
  simp only [win, Nat.reduceAdd, Nat.reducePow, Nat.reduceSub, Nat.sub_zero, Finset.sum_range_succ, Finset.sum_range_zero, zero_add, v288_at]
  rfl

theorem diff1_raw (n : Fin 128) (k : Fin 64) : dR V0 (ix3 n 1 k)
    = Ideal.div (qR V0 (ix3 n 15 ⟨64+k.val, by omega⟩) + qR V0 (ix3 n 14 ⟨64+k.val, by omega⟩) + qR V0 (ix3 n 13 ⟨64+k.val, by omega⟩) + qR V0 (ix3 n 12 ⟨64+k.val, by omega⟩)) (Ideal.ofBits .f32 0x40800000#32) - pR V0 (ix2 n ⟨64 + k.val, by omega⟩) := by
  pointwise [res_main_v403]

theorem diff1_at (n : Fin 128) (k : Fin 64) : dR V0 (ix3 n 1 k) = Cert.Step.pool (pR V0) (spR V0) n ⟨64 + k.val, by omega⟩ := by
  have hk : (⟨64 + k.val, by omega⟩ : Fin 256).val / 64 = 1 := by simp only; omega
  have l : Ideal.ofBits .f32 0x40800000#32 = ((win 1 : ℝ) : EReal) := by
    simp [Ideal.ofBits, Ideal.ieee, -EReal.coe_mul, win]; norm_num
  rw [diff1_raw, l, Cert.Step.pool, hk]
  simp only [win, Nat.reduceAdd, Nat.reducePow, Nat.reduceSub, Nat.sub_zero, Finset.sum_range_succ, Finset.sum_range_zero, zero_add, v288_at]
  rfl

theorem diff2_raw (n : Fin 128) (k : Fin 64) : dR V0 (ix3 n 2 k)
    = Ideal.div (qR V0 (ix3 n 15 ⟨128+k.val, by omega⟩) + qR V0 (ix3 n 14 ⟨128+k.val, by omega⟩) + qR V0 (ix3 n 13 ⟨128+k.val, by omega⟩) + qR V0 (ix3 n 12 ⟨128+k.val, by omega⟩) + qR V0 (ix3 n 11 ⟨128+k.val, by omega⟩) + qR V0 (ix3 n 10 ⟨128+k.val, by omega⟩) + qR V0 (ix3 n 9 ⟨128+k.val, by omega⟩) + qR V0 (ix3 n 8 ⟨128+k.val, by omega⟩)) (Ideal.ofBits .f32 0x41000000#32) - pR V0 (ix2 n ⟨128 + k.val, by omega⟩) := by
  pointwise [res_main_v403]

theorem diff2_at (n : Fin 128) (k : Fin 64) : dR V0 (ix3 n 2 k) = Cert.Step.pool (pR V0) (spR V0) n ⟨128 + k.val, by omega⟩ := by
  have hk : (⟨128 + k.val, by omega⟩ : Fin 256).val / 64 = 2 := by simp only; omega
  have l : Ideal.ofBits .f32 0x41000000#32 = ((win 2 : ℝ) : EReal) := by
    simp [Ideal.ofBits, Ideal.ieee, -EReal.coe_mul, win]; norm_num
  rw [diff2_raw, l, Cert.Step.pool, hk]
  simp only [win, Nat.reduceAdd, Nat.reducePow, Nat.reduceSub, Nat.sub_zero, Finset.sum_range_succ, Finset.sum_range_zero, zero_add, v288_at]
  rfl

theorem diff3_raw (n : Fin 128) (k : Fin 64) : dR V0 (ix3 n 3 k)
    = Ideal.div (qR V0 (ix3 n 15 ⟨192+k.val, by omega⟩) + qR V0 (ix3 n 14 ⟨192+k.val, by omega⟩) + qR V0 (ix3 n 13 ⟨192+k.val, by omega⟩) + qR V0 (ix3 n 12 ⟨192+k.val, by omega⟩) + qR V0 (ix3 n 11 ⟨192+k.val, by omega⟩) + qR V0 (ix3 n 10 ⟨192+k.val, by omega⟩) + qR V0 (ix3 n 9 ⟨192+k.val, by omega⟩) + qR V0 (ix3 n 8 ⟨192+k.val, by omega⟩) + qR V0 (ix3 n 7 ⟨192+k.val, by omega⟩) + qR V0 (ix3 n 6 ⟨192+k.val, by omega⟩) + qR V0 (ix3 n 5 ⟨192+k.val, by omega⟩) + qR V0 (ix3 n 4 ⟨192+k.val, by omega⟩) + qR V0 (ix3 n 3 ⟨192+k.val, by omega⟩) + qR V0 (ix3 n 2 ⟨192+k.val, by omega⟩) + qR V0 (ix3 n 1 ⟨192+k.val, by omega⟩) + qR V0 (ix3 n 0 ⟨192+k.val, by omega⟩)) (Ideal.ofBits .f32 0x41800000#32) - pR V0 (ix2 n ⟨192 + k.val, by omega⟩) := by
  pointwise [res_main_v403]

theorem diff3_at (n : Fin 128) (k : Fin 64) : dR V0 (ix3 n 3 k) = Cert.Step.pool (pR V0) (spR V0) n ⟨192 + k.val, by omega⟩ := by
  have hk : (⟨192 + k.val, by omega⟩ : Fin 256).val / 64 = 3 := by simp only; omega
  have l : Ideal.ofBits .f32 0x41800000#32 = ((win 3 : ℝ) : EReal) := by
    simp [Ideal.ofBits, Ideal.ieee, -EReal.coe_mul, win]; norm_num
  rw [diff3_raw, l, Cert.Step.pool, hk]
  simp only [win, Nat.reduceAdd, Nat.reducePow, Nat.reduceSub, Nat.sub_zero, Finset.sum_range_succ, Finset.sum_range_zero, zero_add, v288_at]
  rfl

theorem diff_ref (n : Fin 128) (g : Fin 4) (k : Fin 64) (j : Fin 256) (h : j.val = 64 * g.val + k.val) :
    dR V0 (ix3 n g k) = Cert.Step.pool (pR V0) (spR V0) n j := by
  match g, h with
  | 0, h => exact (diff0_at V0 n k).trans (congrArg _ (Fin.ext (by simp only; have : j.val = 64 * 0 + k.val := h; omega)))
  | 1, h => exact (diff1_at V0 n k).trans (congrArg _ (Fin.ext (by simp only; have : j.val = 64 * 1 + k.val := h; omega)))
  | 2, h => exact (diff2_at V0 n k).trans (congrArg _ (Fin.ext (by simp only; have : j.val = 64 * 2 + k.val := h; omega)))
  | 3, h => exact (diff3_at V0 n k).trans (congrArg _ (Fin.ext (by simp only; have : j.val = 64 * 3 + k.val := h; omega)))

/-- The reference's pooling branch. -/
abbrev bR : FVec Ideal S128x256 .f32 := mulf (shapeCast S128x256 (transpose S128x4x64 [2, 0, 1] (Host.dotGeneral dot_S4x64x64_S128x4x64_S4x64x128_1_2_2_0_0_1 none (wpoolR V0) (dR V0)) transposes_S4x64x128_S128x4x64_2_0_1) shapeCasts_S128x4x64_S128x256) (broadcastInDim S128x256 ![0, 1] bcast_S1x256_S128x256_0_1 (broadcastInDim S1x256 ![1] bcast_S256_S1x256_1 (psR V0)))

theorem yb_ref (n : Fin 128) (e : Fin 256) : bR V0 (ix2 n e) = yb (pR V0) (spR V0) (wpoolR V0) (psR V0) n e := by
  unfold yb
  have d : ∀ k : Fin 64, Cert.Step.pool (pR V0) (spR V0) n ⟨64 * (e.val / 64) + k.val, by omega⟩ = dR V0 (ix3 n ⟨e.val / 64, by omega⟩ k) :=
    fun k => (diff_ref V0 n ⟨e.val / 64, by omega⟩ k ⟨64 * (e.val / 64) + k.val, by omega⟩ rfl).symm
  simp only [d, mul_comm (dR V0 _)]
  pointwise

theorem gate_ref (a b : FVec Ideal S128x256 .f32) (sz : FVec Ideal S128x1024 .f32) (n : Fin 128) (k : Fin 512) :
    (mulf (concatenate S128x512 1 [⟨S128x256, a⟩, ⟨S128x256, b⟩] concatenates_S128x256_S128x256_S128x512_d1) (extractStridedSlice S128x512 ![0, 0] sz slices_S128x1024_S128x512_0_0) : FVec Ideal S128x512 .f32) (ix2 n k)
      = (if h : k.val < 256 then a (ix2 n ⟨k.val, h⟩) else b (ix2 n ⟨k.val - 256, by omega⟩)) * sz (ix2 n ⟨k.val, by omega⟩) := by
  pointwise

/-- The reference's first result. -/
theorem out_ref : (mulf (concatenate S128x512 1 [⟨S128x256, aR V0⟩, ⟨S128x256, bR V0⟩] concatenates_S128x256_S128x256_S128x512_d1) (extractStridedSlice S128x512 ![0, 0] (szR V0) slices_S128x1024_S128x512_0_0) : FVec Ideal S128x512 .f32)
      = out (gR V0) (pR V0) (szR V0) (scR V0) (spR V0) (wdwR V0) (bdwR V0) (lngR V0) (lnbR V0) (wpwR V0) (bpwR V0) (wpoolR V0) (psR V0) := by
  funext i; idx_vars i
  refine (gate_ref _ _ _ _ _).trans ?_
  show _ = mixed (gR V0) (pR V0) (szR V0) (scR V0) (spR V0) (wdwR V0) (bdwR V0) (lngR V0) (lnbR V0) (wpwR V0) (bpwR V0) (wpoolR V0) (psR V0) i0 i1
  unfold mixed
  simp only [← ya_ref, ← yb_ref]

theorem shift_sc (a : FVec Ideal S128x31x256 .f32) (k : Fin 30) (n : Fin 128) (j : Fin 256) :
    (transpose S30x128x256 [1, 0, 2] (extractStridedSlice S128x30x256 ![0, 1, 0] a slices_S128x31x256_S128x30x256_0_1_0) transposes_S128x30x256_S30x128x256_1_0_2 : FVec Ideal S30x128x256 .f32) (ix3 k n j)
      = a (ix3 n ⟨1 + k.val, by omega⟩ j) := by
  pointwise

theorem shift_sp (a : FVec Ideal S128x16x256 .f32) (k : Fin 15) (n : Fin 128) (j : Fin 256) :
    (transpose S15x128x256 [1, 0, 2] (extractStridedSlice S128x15x256 ![0, 1, 0] a slices_S128x16x256_S128x15x256_0_1_0) transposes_S128x15x256_S15x128x256_1_0_2 : FVec Ideal S15x128x256 .f32) (ix3 k n j)
      = a (ix3 n ⟨1 + k.val, by omega⟩ j) := by
  pointwise

/-- The reference's second result. -/
theorem sc_ref : (transpose S30x128x256 [1, 0, 2] (extractStridedSlice S128x30x256 ![0, 1, 0] (hR V0) slices_S128x31x256_S128x30x256_0_1_0) transposes_S128x30x256_S30x128x256_1_0_2 : FVec Ideal S30x128x256 .f32)
      = scOut (gR V0) (scR V0) := by
  funext i; idx_vars i
  refine (shift_sc _ i0 i1 i2).trans ((v1_at V0 i1 _ i2).trans ?_)
  show _ = hist (gR V0) (scR V0) i1 i2 (i0.val + 1)
  rw [Nat.add_comm i0.val 1]

/-- The reference's third result. -/
theorem sp_ref : (transpose S15x128x256 [1, 0, 2] (extractStridedSlice S128x15x256 ![0, 1, 0] (qR V0) slices_S128x16x256_S128x15x256_0_1_0) transposes_S128x15x256_S15x128x256_1_0_2 : FVec Ideal S15x128x256 .f32)
      = spOut (pR V0) (spR V0) := by
  funext i; idx_vars i
  refine (shift_sp _ i0 i1 i2).trans ((v288_at V0 i1 _ i2).trans ?_)
  show _ = phist (pR V0) (spR V0) i1 i2 (i0.val + 1)
  rw [Nat.add_comm i0.val 1]

end Cert.StepReferenceIdeal.Spec
end
-- ==== Proof.Step.Claim.lean ====
module

public import proofs.«01_k».proof.Defs
public import proofs.«01_k».proof.Proof.Step.Kernel
public import proofs.«01_k».proof.Proof.Step.Ref
public import proofs.«01_k».proof.Proof.Gen.StepIdeal.Value

@[expose] public section

set_option maxRecDepth 16384

noncomputable section

/-! The kernel and the reference of the sampled tokens' mixers leave the same arrays. -/

namespace Cert.Step

open Idealize.ShloMosaic Idealize.ShloMosaic.TcCoe Idealize.SL.Sem Idealize.ShloMosaic.StableHlo
open Cert.StepReferenceIdeal Cert.StepReferenceIdeal.Value Cert.StepReferenceIdeal.Spec

open Cert.StepIdeal.Spec in
theorem algebraic : Cert.algebraic_StepIdeal_StepReferenceIdeal (hStepIdeal := Cert.StepIdeal.Gen.facts)
    (hStepReferenceIdeal := Cert.StepReferenceIdeal.Gen.facts) := by
  intro m g m' g' _ h
  refine ⟨fun c => res m c, fun c => resC m c, fun c => resP m c, ?_, ?_⟩
  · refine (θ_run _ _ _).mono (fun r k c => ?_) (Cert.StepIdeal.Value.run_blocks m g)
    obtain ⟨k0, k1, k2, k'⟩ := k c
    exact ⟨k0.trans (arr m c), k1.trans (arrC m c), k2.trans (arrP m c), k'⟩
  · refine (θ_run _ _ _).mono (fun r k c => ?_) (Cert.StepReferenceIdeal.Value.run m' g')
    obtain ⟨k0, k1, k2, k'⟩ := k c
    obtain ⟨h0, h1, h2, h3, h4, h5, h6, h7, h8, h9, h10, h11, h12⟩ := h c
    have e0 : gR (launchContents m' c) = gluA m c := h0
    have e1 : pR (launchContents m' c) = pinA m c := h1
    have e2 : szR (launchContents m' c) = szA m c := h2
    have e3 : scR (launchContents m' c) = scA m c := h3
    have e4 : spR (launchContents m' c) = spA m c := h4
    have e5 : wdwR (launchContents m' c) = wdwA m c := h5
    have e6 : bdwR (launchContents m' c) = bdwA m c := h6
    have e7 : lngR (launchContents m' c) = lngA m c := h7
    have e8 : lnbR (launchContents m' c) = lnbA m c := h8
    have e9 : wpwR (launchContents m' c) = wpwA m c := h9
    have e10 : bpwR (launchContents m' c) = bpwA m c := h10
    have e11 : wpoolR (launchContents m' c) = wpoolA m c := h11
    have e12 : psR (launchContents m' c) = psA m c := h12
    have q0 := out_ref (launchContents m' c)
    have q1 := sc_ref (launchContents m' c)
    have q2 := sp_ref (launchContents m' c)
    have r0 : out (gR (launchContents m' c)) (pR (launchContents m' c)) (szR (launchContents m' c)) (scR (launchContents m' c)) (spR (launchContents m' c))
        (wdwR (launchContents m' c)) (bdwR (launchContents m' c)) (lngR (launchContents m' c)) (lnbR (launchContents m' c)) (wpwR (launchContents m' c))
        (bpwR (launchContents m' c)) (wpoolR (launchContents m' c)) (psR (launchContents m' c)) = res m c := by
      rw [e0, e1, e2, e3, e4, e5, e6, e7, e8, e9, e10, e11, e12]
    have r1 : scOut (gR (launchContents m' c)) (scR (launchContents m' c)) = resC m c := by rw [e0, e3]
    have r2 : spOut (pR (launchContents m' c)) (spR (launchContents m' c)) = resP m c := by rw [e1, e4]
    exact ⟨k0.trans (q0.trans r0), k1.trans (q1.trans r1), k2.trans (q2.trans r2), k'⟩

end Cert.Step

end
-- ==== Proof.FreshIn.Spec.lean ====
module

public import proofs.«01_k».proof.Proof.Gen.FreshIdeal
public import Idealize.ShloMosaic.Lib.Pointwise

@[expose] public section

set_option maxRecDepth 16384

noncomputable section

/-! The input projection of the sampled tokens, one row of 128, entry by entry, over the extended reals. -/

namespace Cert.FreshIn

open Cert.FreshIdeal
open Idealize.ShloMosaic

/-- The number 1024 the mean over a token's features divides by. -/
abbrev c1024 : EReal := Ideal.ofBits FTy.f32 0x44800000#32
/-- The number 64 the mean over a head's features divides by. -/
abbrev c64 : EReal := Ideal.ofBits FTy.f32 0x42800000#32
/-- The small number added to a mean square. -/
abbrev eps : EReal := Ideal.ofBits FTy.f32 0x358637BD#32

/-- The logistic function. -/
def sg (z : EReal) : EReal := Ideal.div 1 (1 + Ideal.exp (-z))

/-- Feature `k` of the normalised token `t` of sequence `n`. -/
def hrow (x : FVec Ideal S1x128x1024 .f32) (wn : FVec Ideal S1024 .f32) (n : Fin 1) (t : Fin 128) (k : Fin 1024) : EReal :=
  x (ix3 n t k) * Ideal.rsqrt (Ideal.div (∑ l : Fin 1024, x (ix3 n t l) * x (ix3 n t l)) c1024 + eps) * wn (ix1 k)

/-- Entry `k` of the weights' column `j`, zero past the last column. -/
def wcol (w : FVec Ideal S1024x3096 .f32) (k : Fin 1024) (j : ℕ) : EReal :=
  if h : j < 3096 then w (ix2 k ⟨j, h⟩) else 0

/-- Column `j` of the projected token `t` of sequence `n`. -/
def proj (x : FVec Ideal S1x128x1024 .f32) (wn : FVec Ideal S1024 .f32) (w : FVec Ideal S1024x3096 .f32)
    (n : Fin 1) (t : Fin 128) (j : ℕ) : EReal :=
  ∑ k : Fin 1024, hrow x wn n t k * wcol w k j

/-- A head's 64 features divided by their root mean square and scaled by the gains `g`. -/
def unit (p : Fin 64 → EReal) (g : Fin 64 → EReal) (d : Fin 64) : EReal :=
  p d * Ideal.rsqrt (Ideal.div (∑ e : Fin 64, p e * p e) c64 + eps) * g d

/-- The angle of rotary pair `i` at position 2048, where every token stands. -/
def angle (i : Fin 8) : EReal :=
  FloatOps.sitofp (F := Ideal) FTy.f32 2048#32 * Ideal.pow (Ideal.ofBits FTy.f32 1223959552#32)
    (Ideal.div (-(FloatOps.sitofp (F := Ideal) FTy.f32 (BitVec.ofNat 32 i.val) : EReal) * Ideal.ofBits FTy.f32 1073741824#32) (Ideal.ofBits FTy.f32 1098907648#32))

/-- Rotary embedding of a head `p` by the pairs' cosines and sines: the first eight features are turned against the next eight. -/
def rot (co si : Fin 8 → EReal) (p : Fin 64 → EReal) (d : Fin 64) : EReal :=
  if h : d.val < 8 then p ⟨d.val, by omega⟩ * co ⟨d.val, h⟩ - p ⟨8 + d.val, by omega⟩ * si ⟨d.val, h⟩
  else if h2 : d.val - 8 < 8 then p ⟨8 + (d.val - 8), by omega⟩ * co ⟨d.val - 8, h2⟩ + p ⟨d.val - 8, by omega⟩ * si ⟨d.val - 8, h2⟩
  else p ⟨16 + (d.val - 8 - 8), by omega⟩

/-- A normalised and turned head: the 64 columns from `b` on, with the gains `g`. -/
def head (x : FVec Ideal S1x128x1024 .f32) (wn : FVec Ideal S1024 .f32) (w : FVec Ideal S1024x3096 .f32)
    (g : Fin 64 → EReal) (n : Fin 1) (t : Fin 128) (b : ℕ) (d : Fin 64) : EReal :=
  rot (fun a => Ideal.cos (angle a)) (fun a => Ideal.sin (angle a)) (unit (fun e => proj x wn w n t (b + e.val)) g) d

section results

variable (x : FVec Ideal S1x128x1024 .f32) (wn : FVec Ideal S1024 .f32) (w : FVec Ideal S1024x3096 .f32)

/-- The gated linear unit of the convolution branch. -/
def glu : FVec Ideal S1x128x256 .f32 := fun i =>
  proj x wn w (i 0) (i 1) (i 2 : ℕ) * sg (proj x wn w (i 0) (i 1) (256 + (i 2 : ℕ)))

/-- The input of the pooling branch. -/
def pin : FVec Ideal S1x128x256 .f32 := fun i => proj x wn w (i 0) (i 1) (768 + (i 2 : ℕ))

/-- The weights' column of output gate `j`: the three branches' gates one after the other. -/
def zcol (j : ℕ) : ℕ := if j < 256 then 512 + j else if j < 512 then 1024 + (j - 256) else 2584 + (j - 512)

/-- The output gates of the three branches. -/
def sz : FVec Ideal S1x128x1024 .f32 := fun i =>
  proj x wn w (i 0) (i 1) (zcol (i 2 : ℕ)) * sg (proj x wn w (i 0) (i 1) (zcol (i 2 : ℕ)))

/-- The heads' branch gates, feature by token; the eight spare rows hold one half. -/
def gates : FVec Ideal S1x32x128 .f32 := fun i =>
  if (i 1 : ℕ) < 24 then sg (proj x wn w (i 0) (i 2) (2560 + (i 1 : ℕ))) else Ideal.ofBits FTy.f32 0x3F000000#32

/-- The queries, feature by token. -/
def queries (g : FVec Ideal S64 .f32) : FVec Ideal S1x512x128 .f32 := fun i =>
  head x wn w (fun d => g (ix1 d)) (i 0) (i 2) (1280 + 64 * ((i 1 : ℕ) / 64)) ⟨(i 1 : ℕ) % 64, Nat.mod_lt _ (by decide)⟩

/-- The keys (rows 0 to 127) and values of attention branch `b`, feature by token, in layer 1 of a cache whose layer 0 stays. -/
def cache (g : FVec Ideal S3x64 .f32) (b : Fin 3) (prev : FVec Ideal S2x1x256x128 .f32) : FVec Ideal S2x1x256x128 .f32 := fun i =>
  if (i 0 : ℕ) = 1 then
    if (i 2 : ℕ) < 128 then head x wn w (fun d => g (ix2 b d)) (i 1) (i 3) (1792 + 256 * b.val + 64 * ((i 2 : ℕ) / 64)) ⟨(i 2 : ℕ) % 64, Nat.mod_lt _ (by decide)⟩
    else proj x wn w (i 1) (i 3) (1792 + 256 * b.val + (i 2 : ℕ))
  else prev i

end results

end Cert.FreshIn

end
-- ==== Proof.FreshIn.Host.lean ====
module

public import proofs.«01_k».proof.Proof.Gen.FreshIdeal.Value
public import proofs.«01_k».proof.Proof.FreshIn.Spec
public import Idealize.ShloMosaic.Lib.Pointwise
public import Idealize.ShloMosaic.Lib.StableHlo.ReadAt
public import Idealize.ShloMosaic.Lib.Pipeline.ValueKit

@[expose] public section

set_option maxRecDepth 16384

noncomputable section

namespace Cert.FreshIdeal.Spec

open Cert.FreshIdeal Cert.FreshIdeal.Gen
open Idealize.ShloMosaic Idealize.ShloMosaic.TcCoe

variable (m : (ℓ : Loc nD τ sig) → Buf (Elt Ideal) ℓ) (c : Dev nD)

/-- The column of the input weights that column `j` of the token weights is. -/
def tokcol (j : ℕ) : ℕ := if j < 512 then j else if j < 768 then j + 256 else if j < 1024 then j - 256 else if j < 1280 then j else 1304 + j

theorem tokcol_lt (j : Fin 1792) : tokcol j.val < 3096 := by
  have := j.isLt
  unfold tokcol; repeat' split
  all_goals omega

theorem cat6 (w : FVec Ideal S1024x3096 .f32) (a b d e f : FVec Ideal S1024x256 .f32) (g : FVec Ideal S1024x512 .f32)
    (ha : ∀ (k : Fin 1024) (x : Fin 256), a (ix2 k x) = w (ix2 k ⟨x.val, by omega⟩))
    (hb : ∀ (k : Fin 1024) (x : Fin 256), b (ix2 k x) = w (ix2 k ⟨256 + x.val, by omega⟩))
    (hd : ∀ (k : Fin 1024) (x : Fin 256), d (ix2 k x) = w (ix2 k ⟨768 + x.val, by omega⟩))
    (he : ∀ (k : Fin 1024) (x : Fin 256), e (ix2 k x) = w (ix2 k ⟨512 + x.val, by omega⟩))
    (hf : ∀ (k : Fin 1024) (x : Fin 256), f (ix2 k x) = w (ix2 k ⟨1024 + x.val, by omega⟩))
    (hg : ∀ (k : Fin 1024) (x : Fin 512), g (ix2 k x) = w (ix2 k ⟨2584 + x.val, by omega⟩))
    (k : Fin 1024) (j : Fin 1792) :
    (truncf .bf16 (concatenate S1024x1792 1 [⟨S1024x256, a⟩, ⟨S1024x256, b⟩, ⟨S1024x256, d⟩, ⟨S1024x256, e⟩, ⟨S1024x256, f⟩, ⟨S1024x512, g⟩] concatenates_S1024x256_S1024x256_S1024x256_S1024x256_S1024x256_S1024x512_S1024x1792_d1) bitsLt_bf16_f32 : FVec Ideal S1024x1792 .bf16) (ix2 k j)
      = w (ix2 k ⟨tokcol j.val, tokcol_lt j⟩) := by
  pointwise
  have hj := j.isLt
  by_cases h0 : j.val < 256
  · rw [dif_pos h0, ha]; congr 2; apply Fin.ext; simp only [tokcol]; repeat' split
    all_goals omega
  rw [dif_neg h0]
  by_cases h1 : j.val - 256 < 256
  · rw [dif_pos h1, hb]; congr 2; apply Fin.ext; simp only [tokcol]; repeat' split
    all_goals omega
  rw [dif_neg h1]
  by_cases h2 : j.val - 256 - 256 < 256
  · rw [dif_pos h2, hd]; congr 2; apply Fin.ext; simp only [tokcol]; repeat' split
    all_goals omega
  rw [dif_neg h2]
  by_cases h3 : j.val - 256 - 256 - 256 < 256
  · rw [dif_pos h3, he]; congr 2; apply Fin.ext; simp only [tokcol]; repeat' split
    all_goals omega
  rw [dif_neg h3]
  by_cases h4 : j.val - 256 - 256 - 256 - 256 < 256
  · rw [dif_pos h4, hf]; congr 2; apply Fin.ext; simp only [tokcol]; repeat' split
    all_goals omega
  rw [dif_neg h4, hg]; congr 2; apply Fin.ext; simp only [tokcol]; repeat' split
  all_goals omega

theorem cat4 (w : FVec Ideal S1024x3096 .f32) (a : FVec Ideal S1024x512 .f32) (b : FVec Ideal S1024x768 .f32) (d : FVec Ideal S1024x24 .f32) (e : FVec Ideal S1024x8 .f32)
    (ha : ∀ (k : Fin 1024) (x : Fin 512), a (ix2 k x) = w (ix2 k ⟨1280 + x.val, by omega⟩))
    (hb : ∀ (k : Fin 1024) (x : Fin 768), b (ix2 k x) = w (ix2 k ⟨1792 + x.val, by omega⟩))
    (hd : ∀ (k : Fin 1024) (x : Fin 24), d (ix2 k x) = w (ix2 k ⟨2560 + x.val, by omega⟩))
    (he : ∀ (k : Fin 1024) (x : Fin 8), e (ix2 k x) = 0)
    (k : Fin 1024) (j : Fin 1312) :
    (concatenate S1024x1312 1 [⟨S1024x512, a⟩, ⟨S1024x768, b⟩, ⟨S1024x24, d⟩, ⟨S1024x8, e⟩] concatenates_S1024x512_S1024x768_S1024x24_S1024x8_S1024x1312_d1 : FVec Ideal S1024x1312 .f32) (ix2 k j)
      = if h : j.val < 1304 then w (ix2 k ⟨1280 + j.val, by omega⟩) else (0 : EReal) := by
  pointwise
  have hj := j.isLt
  by_cases h0 : j.val < 512
  · rw [dif_pos h0, ha, dif_pos (by omega)]
  rw [dif_neg h0]
  by_cases h1 : j.val - 512 < 768
  · rw [dif_pos h1, hb, dif_pos (by omega)]; congr 2; apply Fin.ext; simp only; omega
  rw [dif_neg h1]
  by_cases h2 : j.val - 512 - 768 < 24
  · rw [dif_pos h2, hd, dif_pos (by omega)]; congr 2; apply Fin.ext; simp only; omega
  rw [dif_neg h2, he, dif_neg (by omega)]

theorem turn (a : FVec Ideal S1024x1312 .f32) (j : Fin 1312) (k : Fin 1024) :
    (truncf .bf16 (transpose S1312x1024 [1, 0] a transposes_S1024x1312_S1312x1024_1_0) bitsLt_bf16_f32 : FVec Ideal S1312x1024 .bf16) (ix2 j k) = a (ix2 k j) := by
  pointwise

theorem wtok_read (k : Fin 1024) (j : Fin 1792) : (V m c main_v11 : FVec Ideal S1024x1792 .bf16) (ix2 k j) = (m ((c : Thread nD τ).loc main_arg2) : FVec Ideal S1024x3096 .f32) (ix2 k ⟨tokcol j.val, tokcol_lt j⟩) := by
  show (StableHlo.after hostOps0 (fun b => m (c, b)) (Proc.devRef .tc main_v11) : FVec Ideal S1024x1792 .bf16) (ix2 k j) = _
  after_reads_simp
  refine cat6 _ _ _ _ _ _ _ ?_ ?_ ?_ ?_ ?_ ?_ k j <;> intro k x
  · show (StableHlo.upto hostOps0 (fun b => m (c, b)) 11 (Proc.devRef .tc main_v0) : FVec Ideal S1024x256 .f32) (ix2 k x) = _
    after_reads_simp; pointwise
  · show (StableHlo.upto hostOps0 (fun b => m (c, b)) 11 (Proc.devRef .tc main_v1) : FVec Ideal S1024x256 .f32) (ix2 k x) = _
    after_reads_simp; pointwise
  · show (StableHlo.upto hostOps0 (fun b => m (c, b)) 11 (Proc.devRef .tc main_v3) : FVec Ideal S1024x256 .f32) (ix2 k x) = _
    after_reads_simp; pointwise
  · show (StableHlo.upto hostOps0 (fun b => m (c, b)) 11 (Proc.devRef .tc main_v2) : FVec Ideal S1024x256 .f32) (ix2 k x) = _
    after_reads_simp; pointwise
  · show (StableHlo.upto hostOps0 (fun b => m (c, b)) 11 (Proc.devRef .tc main_v4) : FVec Ideal S1024x256 .f32) (ix2 k x) = _
    after_reads_simp; pointwise
  · show (StableHlo.upto hostOps0 (fun b => m (c, b)) 11 (Proc.devRef .tc main_v8) : FVec Ideal S1024x512 .f32) (ix2 k x) = _
    after_reads_simp; pointwise

theorem wfeat_read (k : Fin 1024) (j : Fin 1312) : (V m c main_v14 : FVec Ideal S1312x1024 .bf16) (ix2 j k)
    = if h : j.val < 1304 then (m ((c : Thread nD τ).loc main_arg2) : FVec Ideal S1024x3096 .f32) (ix2 k ⟨1280 + j.val, by omega⟩) else (0 : EReal) := by
  show (StableHlo.after hostOps0 (fun b => m (c, b)) (Proc.devRef .tc main_v14) : FVec Ideal S1312x1024 .bf16) (ix2 j k) = _
  after_reads_simp
  refine (turn _ j k).trans ?_
  refine cat4 _ _ _ _ _ ?_ ?_ ?_ ?_ k j <;> intro k x
  · show (StableHlo.upto hostOps0 (fun b => m (c, b)) 13 (Proc.devRef .tc main_v5) : FVec Ideal S1024x512 .f32) (ix2 k x) = _
    after_reads_simp; pointwise
  · show (StableHlo.upto hostOps0 (fun b => m (c, b)) 13 (Proc.devRef .tc main_v6) : FVec Ideal S1024x768 .f32) (ix2 k x) = _
    after_reads_simp; pointwise
  · show (StableHlo.upto hostOps0 (fun b => m (c, b)) 13 (Proc.devRef .tc main_v7) : FVec Ideal S1024x24 .f32) (ix2 k x) = _
    after_reads_simp; pointwise
  · show (StableHlo.upto hostOps0 (fun b => m (c, b)) 13 (Proc.devRef .tc main_v9) : FVec Ideal S1024x8 .f32) (ix2 k x) = _
    after_reads_simp; pointwise

theorem cos_read (i : Fin 8) (t : Fin 128) : (V m c main_v40 : FVec Ideal S8x128 .f32) (ix2 i t) = Ideal.cos (Cert.FreshIn.angle i) := by
  show (StableHlo.after hostOps0 (fun b => m (c, b)) (Proc.devRef .tc main_v40) : FVec Ideal S8x128 .f32) (ix2 i t) = _
  after_reads_simp
  pointwise [Cert.FreshIn.angle]

theorem sin_read (i : Fin 8) (t : Fin 128) : (V m c main_v42 : FVec Ideal S8x128 .f32) (ix2 i t) = Ideal.sin (Cert.FreshIn.angle i) := by
  show (StableHlo.after hostOps0 (fun b => m (c, b)) (Proc.devRef .tc main_v42) : FVec Ideal S8x128 .f32) (ix2 i t) = _
  after_reads_simp
  pointwise [Cert.FreshIn.angle]

theorem gq_read (i : Fin 1280) (d : Fin 64) (hi : i.val < 512) (hd : i.val % 64 = d.val) : (V m c main_v23 : FVec Ideal S1280x1 .f32) (ix2 i 0)
    = (m ((c : Thread nD τ).loc main_arg3) : FVec Ideal S64 .f32) (ix1 d) := by
  show (StableHlo.after hostOps0 (fun b => m (c, b)) (Proc.devRef .tc main_v23) : FVec Ideal S1280x1 .f32) (ix2 i 0) = _
  after_reads_simp
  pointwise
  rw [dif_pos hi]
  after_reads_simp
  pointwise
  have e : (⟨i.val % 64, by omega⟩ : Fin 64) = d := Fin.ext hd
  rw [e]

theorem gk_read (i : Fin 1280) (b : Fin 3) (d : Fin 64) (hi : 512 ≤ i.val) (hb : (i.val - 512) / 256 = b.val) (hk : (i.val - 512) / 64 % 4 < 2) (hd : i.val % 64 = d.val) :
    (V m c main_v23 : FVec Ideal S1280x1 .f32) (ix2 i 0)
    = (m ((c : Thread nD τ).loc main_arg4) : FVec Ideal S3x64 .f32) (ix2 b d) := by
  show (StableHlo.after hostOps0 (fun b => m (c, b)) (Proc.devRef .tc main_v23) : FVec Ideal S1280x1 .f32) (ix2 i 0) = _
  after_reads_simp
  pointwise
  rw [dif_neg (by omega)]
  after_reads_simp
  pointwise
  rw [dif_pos hk]
  after_reads_simp
  pointwise
  have e : (⟨(i.val - 512) % 64, by omega⟩ : Fin 64) = d := Fin.ext (by simp only; omega)
  have e' : (⟨(i.val - 512) / 256, by omega⟩ : Fin 3) = b := Fin.ext hb
  rw [e, e']

theorem wn_read (i : Fin 1024) : (V m c main_v43 : FVec Ideal S1x1024 .f32) (ix2 0 i) = (m ((c : Thread nD τ).loc main_arg1) : FVec Ideal S1024 .f32) (ix1 i) := by
  show (StableHlo.after hostOps0 (fun b => m (c, b)) (Proc.devRef .tc main_v43) : FVec Ideal S1x1024 .f32) (ix2 0 i) = _
  after_reads_simp
  pointwise
theorem prev5 : V m c main_v44_5 = m ((c : Thread nD τ).loc main_arg5) := by
  show StableHlo.after hostOps0 (fun b => m (c, b)) (Proc.devRef .tc main_v44_5) = _
  after_reads_simp
  rfl
theorem prev6 : V m c main_v44_6 = m ((c : Thread nD τ).loc main_arg6) := by
  show StableHlo.after hostOps0 (fun b => m (c, b)) (Proc.devRef .tc main_v44_6) = _
  after_reads_simp
  rfl
theorem prev7 : V m c main_v44_7 = m ((c : Thread nD τ).loc main_arg7) := by
  show StableHlo.after hostOps0 (fun b => m (c, b)) (Proc.devRef .tc main_v44_7) = _
  after_reads_simp
  rfl

end Cert.FreshIdeal.Spec
end
-- ==== Proof.FreshIn.Pay.lean ====
module

public import proofs.«01_k».proof.Proof.Gen.FreshIdeal.Skeleton
public import proofs.«01_k».proof.Proof.FreshIn.Spec

@[expose] public section

set_option maxRecDepth 16384

noncomputable section

/-! What the kernel's body computes from the blocks it loads, entry by entry. -/

namespace Cert.FreshIn

open Cert.FreshIdeal Cert.FreshIdeal.Gen
open Idealize.ShloMosaic

theorem pay4_at (v0 : FVec Ideal S1x128x1024 .f32) (v12 : FVec Ideal S1x1024 .f32) (i : Fin 128) (k : Fin 1024) :
  k0_pay4 (F := Ideal) v0 v12 (ix2 i k) =
  v0 (ix3 0 i k) * Ideal.rsqrt (Ideal.div (∑ l : Fin 1024, v0 (ix3 0 i l) * v0 (ix3 0 i l)) c1024 + eps) * v12 (ix2 0 k) := by
  pointwise [k0_pay4]

theorem pay5_at (v0 : FVec Ideal S1x128x1024 .f32) (v12 : FVec Ideal S1x1024 .f32) (v17 : FVec Ideal S1024x1792 .bf16) (i : Fin 128) (j : Fin 1792) :
  k0_pay5 (F := Ideal) v0 v12 v17 (ix2 i j) = ∑ k : Fin 1024, k0_pay4 (F := Ideal) v0 v12 (ix2 i k) * v17 (ix2 k j) := by
  pointwise [k0_pay5]

theorem pay6_at (v0 : FVec Ideal S1x128x1024 .f32) (v12 : FVec Ideal S1x1024 .f32) (v17 : FVec Ideal S1024x1792 .bf16) (i : Fin 128) (j : Fin 256) :
  k0_pay6 (F := Ideal) v0 v12 v17 (ix3 0 i j) = k0_pay5 (F := Ideal) v0 v12 v17 (ix2 i ⟨j.val, by omega⟩) * sg (k0_pay5 (F := Ideal) v0 v12 v17 (ix2 i ⟨256 + j.val, by omega⟩)) := by
  pointwise [k0_pay6, sg]
  simp only [zero_sub]

theorem pay7_at (v0 : FVec Ideal S1x128x1024 .f32) (v12 : FVec Ideal S1x1024 .f32) (v17 : FVec Ideal S1024x1792 .bf16) (i : Fin 128) (j : Fin 256) :
  k0_pay7 (F := Ideal) v0 v12 v17 (ix3 0 i j) = k0_pay5 (F := Ideal) v0 v12 v17 (ix2 i ⟨512 + j.val, by omega⟩) := by
  pointwise [k0_pay7]

theorem pay8_at (v19 : FVec Ideal S128x1792 .f32) (i : Fin 128) (j : Fin 1024) :
  k0_pay8 (F := Ideal) v19 (ix3 0 i j) = v19 (ix2 i ⟨768 + j.val, by omega⟩) * sg (v19 (ix2 i ⟨768 + j.val, by omega⟩)) := by
  pointwise [k0_pay8, sg]
  simp only [zero_sub]

theorem pay9_at (v16 : FVec Ideal S128x1024 .bf16) (v49 : FVec Ideal S1312x1024 .bf16) (r : Fin 1312) (i : Fin 128) :
  k0_pay9 (F := Ideal) v16 v49 (ix2 r i) = ∑ k : Fin 1024, v49 (ix2 r k) * v16 (ix2 i k) := by
  pointwise [k0_pay9]

theorem pay10_at (v16 : FVec Ideal S128x1024 .bf16) (v49 : FVec Ideal S1312x1024 .bf16) (r : Fin 32) (i : Fin 128) :
  k0_pay10 (F := Ideal) v16 v49 (ix3 0 r i) = sg (k0_pay9 (F := Ideal) v16 v49 (ix2 ⟨1280 + r.val, by omega⟩ i)) := by
  pointwise [k0_pay10, sg]
  simp only [zero_sub]

theorem head0_at (h : FVec Ideal S128x1024 .bf16) (w : FVec Ideal S1312x1024 .bf16) (co si : FVec Ideal S8x128 .f32) (g : FVec Ideal S64x1 .f32) (r : Fin 64) (i : Fin 128) :
    k0_pay15 (F := Ideal) co si (k0_pay13 h w) (k0_pay14 h w) g (ix3 0 r i)
      = rot (fun a => co (ix2 a i)) (fun a => si (ix2 a i)) (unit (fun d => k0_pay9 (F := Ideal) h w (ix2 ⟨0 + d.val, by omega⟩ i)) (fun d => g (ix2 d 0))) r := by
  pointwise [k0_pay15, k0_pay14, k0_pay13]
  unfold rot unit
  rfl

theorem head64_at (f : FVec Ideal S1312x128 .f32) (co si : FVec Ideal S8x128 .f32) (g : FVec Ideal S64x1 .f32) (r : Fin 64) (i : Fin 128) :
    k0_pay17 (F := Ideal) (k0_pay16 f co si g) (ix3 0 r i)
      = rot (fun a => co (ix2 a i)) (fun a => si (ix2 a i)) (unit (fun d => f (ix2 ⟨64 + d.val, by omega⟩ i)) (fun d => g (ix2 d 0))) r := by
  pointwise [k0_pay17, k0_pay16]
  unfold rot unit
  rfl

theorem head128_at (f : FVec Ideal S1312x128 .f32) (co si : FVec Ideal S8x128 .f32) (g : FVec Ideal S64x1 .f32) (r : Fin 64) (i : Fin 128) :
    k0_pay18 (F := Ideal) f co si g (ix3 0 r i)
      = rot (fun a => co (ix2 a i)) (fun a => si (ix2 a i)) (unit (fun d => f (ix2 ⟨128 + d.val, by omega⟩ i)) (fun d => g (ix2 d 0))) r := by
  pointwise [k0_pay18]
  unfold rot unit
  rfl

theorem head192_at (f : FVec Ideal S1312x128 .f32) (co si : FVec Ideal S8x128 .f32) (g : FVec Ideal S64x1 .f32) (r : Fin 64) (i : Fin 128) :
    k0_pay20 (F := Ideal) co si (k0_pay19 f) g (ix3 0 r i)
      = rot (fun a => co (ix2 a i)) (fun a => si (ix2 a i)) (unit (fun d => f (ix2 ⟨192 + d.val, by omega⟩ i)) (fun d => g (ix2 d 0))) r := by
  pointwise [k0_pay20, k0_pay19]
  unfold rot unit
  rfl

theorem head256_at (f : FVec Ideal S1312x128 .f32) (co si : FVec Ideal S8x128 .f32) (g : FVec Ideal S64x1 .f32) (r : Fin 64) (i : Fin 128) :
    k0_pay21 (F := Ideal) f co si g (ix3 0 r i)
      = rot (fun a => co (ix2 a i)) (fun a => si (ix2 a i)) (unit (fun d => f (ix2 ⟨256 + d.val, by omega⟩ i)) (fun d => g (ix2 d 0))) r := by
  pointwise [k0_pay21]
  unfold rot unit
  rfl

theorem head320_at (f : FVec Ideal S1312x128 .f32) (co si : FVec Ideal S8x128 .f32) (g : FVec Ideal S64x1 .f32) (r : Fin 64) (i : Fin 128) :
    k0_pay24 (F := Ideal) co si (k0_pay22 f) (k0_pay23 f) g (ix3 0 r i)
      = rot (fun a => co (ix2 a i)) (fun a => si (ix2 a i)) (unit (fun d => f (ix2 ⟨320 + d.val, by omega⟩ i)) (fun d => g (ix2 d 0))) r := by
  pointwise [k0_pay24, k0_pay22, k0_pay23]
  unfold rot unit
  rfl

theorem head384_at (f : FVec Ideal S1312x128 .f32) (co si : FVec Ideal S8x128 .f32) (g : FVec Ideal S64x1 .f32) (r : Fin 64) (i : Fin 128) :
    k0_pay30 (F := Ideal) si (k0_pay25 f g) (k0_pay26 f g) (k0_pay28 f co si g) (k0_pay29 f co g) (ix3 0 r i)
      = rot (fun a => co (ix2 a i)) (fun a => si (ix2 a i)) (unit (fun d => f (ix2 ⟨384 + d.val, by omega⟩ i)) (fun d => g (ix2 d 0))) r := by
  pointwise [k0_pay30, k0_pay25, k0_pay26, k0_pay27, k0_pay28, k0_pay29]
  unfold rot unit
  rfl

theorem head448_at (f : FVec Ideal S1312x128 .f32) (co si : FVec Ideal S8x128 .f32) (g : FVec Ideal S64x1 .f32) (r : Fin 64) (i : Fin 128) :
    k0_pay31 (F := Ideal) f co si g (ix3 0 r i)
      = rot (fun a => co (ix2 a i)) (fun a => si (ix2 a i)) (unit (fun d => f (ix2 ⟨448 + d.val, by omega⟩ i)) (fun d => g (ix2 d 0))) r := by
  pointwise [k0_pay31]
  unfold rot unit
  rfl

theorem head512_at (f : FVec Ideal S1312x128 .f32) (co si : FVec Ideal S8x128 .f32) (g : FVec Ideal S64x1 .f32) (r : Fin 64) (i : Fin 128) :
    k0_pay34 (F := Ideal) co si (k0_pay32 f) (k0_pay33 f) g (ix4 0 0 r i)
      = rot (fun a => co (ix2 a i)) (fun a => si (ix2 a i)) (unit (fun d => f (ix2 ⟨512 + d.val, by omega⟩ i)) (fun d => g (ix2 d 0))) r := by
  pointwise [k0_pay34, k0_pay33, k0_pay32]
  unfold rot unit
  rfl

theorem head576_at (f : FVec Ideal S1312x128 .f32) (co si : FVec Ideal S8x128 .f32) (g : FVec Ideal S64x1 .f32) (r : Fin 64) (i : Fin 128) :
    k0_pay36 (F := Ideal) (k0_pay35 f co si g) (ix4 0 0 r i)
      = rot (fun a => co (ix2 a i)) (fun a => si (ix2 a i)) (unit (fun d => f (ix2 ⟨576 + d.val, by omega⟩ i)) (fun d => g (ix2 d 0))) r := by
  pointwise [k0_pay36, k0_pay35]
  unfold rot unit
  rfl

theorem head768_at (f : FVec Ideal S1312x128 .f32) (co si : FVec Ideal S8x128 .f32) (g : FVec Ideal S64x1 .f32) (r : Fin 64) (i : Fin 128) :
    k0_pay39 (F := Ideal) f co si g (ix4 0 0 r i)
      = rot (fun a => co (ix2 a i)) (fun a => si (ix2 a i)) (unit (fun d => f (ix2 ⟨768 + d.val, by omega⟩ i)) (fun d => g (ix2 d 0))) r := by
  pointwise [k0_pay39]
  unfold rot unit
  rfl

theorem head832_at (f : FVec Ideal S1312x128 .f32) (co si : FVec Ideal S8x128 .f32) (g : FVec Ideal S64x1 .f32) (r : Fin 64) (i : Fin 128) :
    k0_pay40 (F := Ideal) f co si g (ix4 0 0 r i)
      = rot (fun a => co (ix2 a i)) (fun a => si (ix2 a i)) (unit (fun d => f (ix2 ⟨832 + d.val, by omega⟩ i)) (fun d => g (ix2 d 0))) r := by
  pointwise [k0_pay40]
  unfold rot unit
  rfl

theorem head1024_at (f : FVec Ideal S1312x128 .f32) (co si : FVec Ideal S8x128 .f32) (g : FVec Ideal S64x1 .f32) (r : Fin 64) (i : Fin 128) :
    k0_pay45 (F := Ideal) co si (k0_pay43 f) (k0_pay44 f) g (ix4 0 0 r i)
      = rot (fun a => co (ix2 a i)) (fun a => si (ix2 a i)) (unit (fun d => f (ix2 ⟨1024 + d.val, by omega⟩ i)) (fun d => g (ix2 d 0))) r := by
  pointwise [k0_pay45, k0_pay44, k0_pay43]
  unfold rot unit
  rfl

theorem head1088_at (f : FVec Ideal S1312x128 .f32) (co si : FVec Ideal S8x128 .f32) (g : FVec Ideal S64x1 .f32) (r : Fin 64) (i : Fin 128) :
    k0_pay1 (F := Ideal) si (k0_pay46 f g) (k0_pay47 f g) (k0_pay49 f co si g) (k0_pay50 f co g) (ix4 0 0 r i)
      = rot (fun a => co (ix2 a i)) (fun a => si (ix2 a i)) (unit (fun d => f (ix2 ⟨1088 + d.val, by omega⟩ i)) (fun d => g (ix2 d 0))) r := by
  pointwise [k0_pay1, k0_pay46, k0_pay47, k0_pay48, k0_pay49, k0_pay50]
  unfold rot unit
  rfl

theorem rows640_at (f : FVec Ideal S1312x128 .f32) (r : Fin 64) (i : Fin 128) :
    k0_pay37 (F := Ideal) f (ix4 0 0 r i) = f (ix2 ⟨640 + r.val, by omega⟩ i) := by
  pointwise [k0_pay37]

theorem rows704_at (f : FVec Ideal S1312x128 .f32) (r : Fin 64) (i : Fin 128) :
    k0_pay38 (F := Ideal) f (ix4 0 0 r i) = f (ix2 ⟨704 + r.val, by omega⟩ i) := by
  pointwise [k0_pay38]

theorem rows896_at (f : FVec Ideal S1312x128 .f32) (r : Fin 64) (i : Fin 128) :
    k0_pay41 (F := Ideal) f (ix4 0 0 r i) = f (ix2 ⟨896 + r.val, by omega⟩ i) := by
  pointwise [k0_pay41]

theorem rows960_at (f : FVec Ideal S1312x128 .f32) (r : Fin 64) (i : Fin 128) :
    k0_pay42 (F := Ideal) f (ix4 0 0 r i) = f (ix2 ⟨960 + r.val, by omega⟩ i) := by
  pointwise [k0_pay42]

theorem rows1152_at (f : FVec Ideal S1312x128 .f32) (r : Fin 64) (i : Fin 128) :
    k0_pay2 (F := Ideal) f (ix4 0 0 r i) = f (ix2 ⟨1152 + r.val, by omega⟩ i) := by
  pointwise [k0_pay2]

theorem rows1216_at (f : FVec Ideal S1312x128 .f32) (r : Fin 64) (i : Fin 128) :
    k0_pay3 (F := Ideal) f (ix4 0 0 r i) = f (ix2 ⟨1216 + r.val, by omega⟩ i) := by
  pointwise [k0_pay3]

theorem pay11_at (v : FVec Ideal S8x128 .f32) : k0_pay11 (F := Ideal) v = v := by
  funext i; pointwise [k0_pay11]

theorem pay12_at (v : FVec Ideal S8x128 .f32) : k0_pay12 (F := Ideal) v = v := by
  funext i; pointwise [k0_pay12]

end Cert.FreshIn

end
-- ==== Proof.FreshIn.Kernel.lean ====
module

public import proofs.«01_k».proof.Proof.FreshIn.Host
public import proofs.«01_k».proof.Proof.FreshIn.Pay

@[expose] public section

set_option maxRecDepth 16384

noncomputable section

/-! The arrays the kernel leaves. -/

namespace Cert.FreshIdeal.Spec

open Cert.FreshIdeal Cert.FreshIdeal.Gen Cert.FreshIn
open Idealize.ShloMosaic Idealize.ShloMosaic.TcCoe
open Idealize.ShloMosaic.Pipeline (Dat)

variable (m : (ℓ : Loc nD τ sig) → Buf (Elt Ideal) ℓ) (c : Dev nD)

/-- The tokens, as the run finds them. -/
abbrev xA : FVec Ideal S1x128x1024 .f32 := m ((c : Thread nD τ).loc main_arg0)
/-- The gains of the tokens' norm. -/
abbrev wnA : FVec Ideal S1024 .f32 := m ((c : Thread nD τ).loc main_arg1)
/-- The weights. -/
abbrev wA : FVec Ideal S1024x3096 .f32 := m ((c : Thread nD τ).loc main_arg2)
/-- The queries' gains. -/
abbrev gqA : FVec Ideal S64 .f32 := m ((c : Thread nD τ).loc main_arg3)
/-- The keys' gains. -/
abbrev gkA : FVec Ideal S3x64 .f32 := m ((c : Thread nD τ).loc main_arg4)

theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0, 0] ∧ win0_8.index t = ![0, 0, 0] ∧ win0_9.index t = ![0, 0, 0]
    ∧ win0_10.index t = ![0, 0, 0] ∧ win0_11.index t = ![0, 0, 0]
    ∧ win0_12.index t = ![1, 0, 0, 0] ∧ win0_13.index t = ![1, 0, 0, 0] ∧ win0_14.index t = ![1, 0, 0, 0] :=
  (by decide +kernel : ∀ t : Fin grid0.N, _)

/-- The sequence of point `t`: the only one. -/
def sq (t : Fin cfg0.N) : Fin 1 := 0
/-- The token that row `i` of point `t`'s block is. -/
def tk (t : Fin cfg0.N) (i : Fin 128) : Fin 128 := i

theorem sq_val (t : Fin cfg0.N) : (sq t).val = 0 := rfl
theorem tk_val (t : Fin cfg0.N) (i : Fin 128) : (tk t i).val = i.val := rfl

theorem x_read (t : Fin cfg0.N) (i : Fin 128) (k : Fin 1024) : (iblk m c 0 t : FVec Ideal S1x128x1024 .f32) (ix3 0 i k) = xA m c (ix3 (sq t) (tk t i) k) := by
  unfold sq tk
  blk_ext [iblk, V, idx t]

theorem wnb_read (t : Fin cfg0.N) (k : Fin 1024) : (iblk m c 1 t : FVec Ideal S1x1024 .f32) (ix2 0 k) = wnA m c (ix1 k) := by
  refine Eq.trans ?_ (wn_read m c k)
  blk_ext [iblk, idx t]

theorem wtokb_read (t : Fin cfg0.N) (k : Fin 1024) (j : Fin 1792) : (iblk m c 2 t : FVec Ideal S1024x1792 .bf16) (ix2 k j) = wcol (wA m c) k (tokcol j.val) := by
  rw [wcol, dif_pos (tokcol_lt j)]
  refine Eq.trans ?_ (wtok_read m c k j)
  blk_ext [iblk, idx t]

theorem wfeatb_read (t : Fin cfg0.N) (j : Fin 1312) (k : Fin 1024) :
    (iblk m c 3 t : FVec Ideal S1312x1024 .bf16) (ix2 j k) = if j.val < 1304 then wcol (wA m c) k (1280 + j.val) else 0 := by
  have e : (iblk m c 3 t : FVec Ideal S1312x1024 .bf16) (ix2 j k) = (V m c main_v14 : FVec Ideal S1312x1024 .bf16) (ix2 j k) := by
    blk_ext [iblk, idx t]
  rw [e, wfeat_read]
  by_cases h : j.val < 1304
  · rw [dif_pos h, if_pos h, wcol, dif_pos (by omega)]
  · rw [dif_neg h, if_neg h]

theorem cosb_read (t : Fin cfg0.N) (a : Fin 8) (i : Fin 128) :
    (iblk m c 5 t : FVec Ideal S8x128 .f32) (ix2 a i) = Ideal.cos (angle a) := by
  refine Eq.trans ?_ (cos_read m c a i)
  blk_ext [iblk, idx t]

theorem sinb_read (t : Fin cfg0.N) (a : Fin 8) (i : Fin 128) :
    (iblk m c 6 t : FVec Ideal S8x128 .f32) (ix2 a i) = Ideal.sin (angle a) := by
  refine Eq.trans ?_ (sin_read m c a i)
  blk_ext [iblk, idx t]

/-- The normalised tokens of point `t`. -/
theorem h_at (t : Fin cfg0.N) (i : Fin 128) (k : Fin 1024) :
    k0_pay4 (F := Ideal) (iblk m c 0 t) (iblk m c 1 t) (ix2 i k) = hrow (xA m c) (wnA m c) (sq t) (tk t i) k := by
  refine (pay4_at _ _ i k).trans ?_
  simp only [x_read, wnb_read, hrow]

/-- The token products of point `t`. -/
theorem a_at (t : Fin cfg0.N) (i : Fin 128) (j : Fin 1792) :
    k0_pay5 (F := Ideal) (iblk m c 0 t) (iblk m c 1 t) (iblk m c 2 t) (ix2 i j) = proj (xA m c) (wnA m c) (wA m c) (sq t) (tk t i) (tokcol j.val) := by
  refine (pay5_at _ _ _ i j).trans ?_
  simp only [h_at, wtokb_read, proj]

/-- The feature products of point `t`. -/
abbrev fB (t : Fin cfg0.N) : FVec Ideal S1312x128 .f32 :=
  k0_pay9 (F := Ideal) (k0_pay4 (F := Ideal) (iblk m c 0 t) (iblk m c 1 t)) (iblk m c 3 t)

theorem f_at (t : Fin cfg0.N) (r : Fin 1312) (i : Fin 128) (hr : r.val < 1304) :
    fB m c t (ix2 r i) = proj (xA m c) (wnA m c) (wA m c) (sq t) (tk t i) (1280 + r.val) := by
  refine (pay9_at _ _ r i).trans ?_
  simp only [h_at, wfeatb_read, proj, if_pos hr]
  exact Finset.sum_congr rfl fun k _ => mul_comm _ _

theorem f_spare (t : Fin cfg0.N) (r : Fin 1312) (i : Fin 128) (hr : ¬ r.val < 1304) : fB m c t (ix2 r i) = 0 := by
  refine (pay9_at _ _ r i).trans ?_
  simp only [wfeatb_read, if_neg hr, zero_mul, Finset.sum_const_zero]

/-- A head of the feature products is the head of the projection. -/
theorem head_of (t : Fin cfg0.N) (i : Fin 128) (b : ℕ) (hb : b + 64 ≤ 1280) (g : FVec Ideal S64x1 .f32) (g' : Fin 64 → EReal)
    (hg : ∀ d : Fin 64, g (ix2 d 0) = g' d) (r : Fin 64) :
    rot (fun a => (iblk m c 5 t : FVec Ideal S8x128 .f32) (ix2 a i)) (fun a => (iblk m c 6 t : FVec Ideal S8x128 .f32) (ix2 a i))
        (unit (fun d => fB m c t (ix2 ⟨b + d.val, by omega⟩ i)) (fun d => g (ix2 d 0))) r
      = head (xA m c) (wnA m c) (wA m c) g' (sq t) (tk t i) (1280 + b) r := by
  have e1 : (fun d : Fin 64 => fB m c t (ix2 ⟨b + d.val, by omega⟩ i)) = fun d => proj (xA m c) (wnA m c) (wA m c) (sq t) (tk t i) (1280 + b + d.val) := by
    funext d; rw [f_at m c t _ i (by simp only; omega), Nat.add_assoc]
  have e2 : (fun d => g (ix2 d 0)) = g' := funext hg
  simp only [e1, e2, cosb_read, sinb_read, head]

theorem gqb (t : Fin cfg0.N) (b : ℕ) (hb : b + 64 ≤ 512) (h64 : b % 64 = 0) (inb) (d : Fin 64) :
    (View.ld (iblk m c 4 t : FVec Ideal S1280x1 .f32) (Rect.unit (s := S1280x1) ![b, 0] ![64, 1] inb) : FVec Ideal S64x1 .f32) (ix2 d 0) = gqA m c (ix1 d) := by
  refine Eq.trans ?_ (gq_read m c ⟨b + d.val, by omega⟩ d (by simp only; omega) (by simp only; omega))
  pointwise
  blk_ext [iblk, idx t]

theorem gkb (t : Fin cfg0.N) (b : ℕ) (br : Fin 3) (hb : 512 ≤ b ∧ b + 64 ≤ 1280) (h64 : b % 64 = 0) (hbr : (b - 512) / 256 = br.val) (hk : (b - 512) / 64 % 4 < 2) (inb) (d : Fin 64) :
    (View.ld (iblk m c 4 t : FVec Ideal S1280x1 .f32) (Rect.unit (s := S1280x1) ![b, 0] ![64, 1] inb) : FVec Ideal S64x1 .f32) (ix2 d 0) = gkA m c (ix2 br d) := by
  refine Eq.trans ?_ (gk_read m c ⟨b + d.val, by omega⟩ br d (by simp only; omega) (by simp only; omega) (by simp only; omega) (by simp only; omega))
  pointwise
  blk_ext [iblk, idx t]

theorem queries_at (x : FVec Ideal S1x128x1024 .f32) (wn : FVec Ideal S1024 .f32) (w : FVec Ideal S1024x3096 .f32) (g : FVec Ideal S64 .f32)
    (j : S1x512x128.Idx) (n : Fin 1) (t : Fin 128) (p : ℕ) (r : Fin 64)
    (h0 : (j 0 : ℕ) = n.val) (h1 : (j 1 : ℕ) = 64 * p + r.val) (h2 : (j 2 : ℕ) = t.val) :
    queries x wn w g j = head x wn w (fun d => g (ix1 d)) n t (1280 + 64 * p) r := by
  have e0 : j 0 = n := Fin.ext h0
  have e2 : j 2 = t := Fin.ext h2
  have e1 : (j 1 : ℕ) / 64 = p := by omega
  have e3 : (⟨(j 1 : ℕ) % 64, Nat.mod_lt _ (by decide)⟩ : Fin 64) = r := Fin.ext (by simp only; omega)
  rw [queries, e0, e2, e1, e3]

theorem key_at (x : FVec Ideal S1x128x1024 .f32) (wn : FVec Ideal S1024 .f32) (w : FVec Ideal S1024x3096 .f32) (g : FVec Ideal S3x64 .f32) (b : Fin 3)
    (prev : FVec Ideal S2x1x256x128 .f32) (j : S2x1x256x128.Idx) (n : Fin 1) (t : Fin 128) (p : ℕ) (r : Fin 64) (hp : p < 2)
    (hl : (j 0 : ℕ) = 1) (h0 : (j 1 : ℕ) = n.val) (h1 : (j 2 : ℕ) = 64 * p + r.val) (h2 : (j 3 : ℕ) = t.val) :
    cache x wn w g b prev j = head x wn w (fun d => g (ix2 b d)) n t (1792 + 256 * b.val + 64 * p) r := by
  have e0 : j 1 = n := Fin.ext h0
  have e2 : j 3 = t := Fin.ext h2
  have e1 : (j 2 : ℕ) / 64 = p := by omega
  have e3 : (⟨(j 2 : ℕ) % 64, Nat.mod_lt _ (by decide)⟩ : Fin 64) = r := Fin.ext (by simp only; omega)
  rw [cache, if_pos hl, if_pos (by omega), e0, e2, e1, e3]

theorem value_at (x : FVec Ideal S1x128x1024 .f32) (wn : FVec Ideal S1024 .f32) (w : FVec Ideal S1024x3096 .f32) (g : FVec Ideal S3x64 .f32) (b : Fin 3)
    (prev : FVec Ideal S2x1x256x128 .f32) (j : S2x1x256x128.Idx) (n : Fin 1) (t : Fin 128) (r : ℕ)
    (hl : (j 0 : ℕ) = 1) (h0 : (j 1 : ℕ) = n.val) (h1 : (j 2 : ℕ) = r) (hr : 128 ≤ r) (h2 : (j 3 : ℕ) = t.val) :
    cache x wn w g b prev j = proj x wn w n t (1792 + 256 * b.val + r) := by
  have e0 : j 1 = n := Fin.ext h0
  have e2 : j 3 = t := Fin.ext h2
  rw [cache, if_pos hl, if_neg (by omega), e0, e2, h1]

end Cert.FreshIdeal.Spec
end
-- ==== Proof.FreshIn.KernelTok.lean ====
module

public import proofs.«01_k».proof.Proof.FreshIn.Kernel

@[expose] public section

set_option maxRecDepth 16384

noncomputable section

/-! The gated inputs, gates and pooling inputs the kernel leaves. -/

namespace Cert.FreshIdeal.Spec

open Cert.FreshIdeal Cert.FreshIdeal.Gen Cert.FreshIn
open Idealize.ShloMosaic Idealize.ShloMosaic.TcCoe
open Idealize.ShloMosaic.Pipeline (Dat)

variable (m : (ℓ : Loc nD τ sig) → Buf (Elt Ideal) ℓ) (c : Dev nD)

theorem tokcol_glu (j : Fin 256) : tokcol j.val = j.val ∧ tokcol (256 + j.val) = 256 + j.val ∧ tokcol (512 + j.val) = 768 + j.val := by
  refine ⟨?_, ?_, ?_⟩ <;> unfold tokcol <;> (repeat' split) <;> omega

theorem tokcol_z (j : Fin 1024) : tokcol (768 + j.val) = zcol j.val := by
  unfold tokcol zcol; (repeat' split) <;> omega

theorem glu_at (x : FVec Ideal S1x128x1024 .f32) (wn : FVec Ideal S1024 .f32) (w : FVec Ideal S1024x3096 .f32) (i : S1x128x256.Idx)
    (n : Fin 1) (t : Fin 128) (j : Fin 256) (h0 : (i 0 : ℕ) = n.val) (h1 : (i 1 : ℕ) = t.val) (h2 : (i 2 : ℕ) = j.val) :
    glu x wn w i = proj x wn w n t j.val * sg (proj x wn w n t (256 + j.val)) := by
  have e0 : i 0 = n := Fin.ext h0
  have e1 : i 1 = t := Fin.ext h1
  rw [glu, e0, e1, h2]

theorem pin_at (x : FVec Ideal S1x128x1024 .f32) (wn : FVec Ideal S1024 .f32) (w : FVec Ideal S1024x3096 .f32) (i : S1x128x256.Idx)
    (n : Fin 1) (t : Fin 128) (j : Fin 256) (h0 : (i 0 : ℕ) = n.val) (h1 : (i 1 : ℕ) = t.val) (h2 : (i 2 : ℕ) = j.val) :
    pin x wn w i = proj x wn w n t (768 + j.val) := by
  have e0 : i 0 = n := Fin.ext h0
  have e1 : i 1 = t := Fin.ext h1
  rw [pin, e0, e1, h2]

theorem sz_at (x : FVec Ideal S1x128x1024 .f32) (wn : FVec Ideal S1024 .f32) (w : FVec Ideal S1024x3096 .f32) (i : S1x128x1024.Idx)
    (n : Fin 1) (t : Fin 128) (j : Fin 1024) (h0 : (i 0 : ℕ) = n.val) (h1 : (i 1 : ℕ) = t.val) (h2 : (i 2 : ℕ) = j.val) :
    sz x wn w i = proj x wn w n t (zcol j.val) * sg (proj x wn w n t (zcol j.val)) := by
  have e0 : i 0 = n := Fin.ext h0
  have e1 : i 1 = t := Fin.ext h1
  rw [sz, e0, e1, h2]

theorem gates_at (x : FVec Ideal S1x128x1024 .f32) (wn : FVec Ideal S1024 .f32) (w : FVec Ideal S1024x3096 .f32) (i : S1x32x128.Idx)
    (n : Fin 1) (t : Fin 128) (j : Fin 32) (h0 : (i 0 : ℕ) = n.val) (h1 : (i 2 : ℕ) = t.val) (h2 : (i 1 : ℕ) = j.val) :
    gates x wn w i = if j.val < 24 then sg (proj x wn w n t (2560 + j.val)) else Ideal.ofBits FTy.f32 0x3F000000#32 := by
  have e0 : i 0 = n := Fin.ext h0
  have e1 : i 2 = t := Fin.ext h1
  rw [gates, e0, e1, h2]

/-- The logistic function of nought is one half. -/
theorem sg_zero : sg 0 = Ideal.ofBits FTy.f32 0x3F000000#32 := by
  have h : Ideal.exp (-(0 : EReal)) = 1 := by
    rw [neg_zero, ← EReal.coe_zero]
    show ((Real.exp 0 : ℝ) : EReal) = 1
    rw [Real.exp_zero]; rfl
  rw [sg, h]
  have e : (1 : EReal) + 1 = ((2 : ℝ) : EReal) := by
    rw [show (1 : EReal) = ((1 : ℝ) : EReal) from rfl, ← EReal.coe_add]; norm_num
  have o : Ideal.ofBits FTy.f32 0x3F000000#32 = (((1 : ℝ) / 2 : ℝ) : EReal) := by
    simp [Ideal.ofBits, Ideal.ieee, -EReal.coe_mul]; norm_num
  rw [e, o]
  have n : ((2 : ℝ) : EReal) ≠ 0 := by norm_num
  rw [Ideal.div, if_neg n, one_mul, ← EReal.coe_inv]
  norm_num

set_option maxHeartbeats 1600000 in
/-- The gated linear units. -/
theorem final7 : (dats m 0 c).arrAt 7 (cfgs 0).N = glu (xA m c) (wnA m c) (wA m c) := by
  refine (dats m 0 c).arrAt_eq_of_covers 7 _ (by decide +kernel) fun t _ y => ?_
  blk_simp
  rw [after0_7]; unfold outsAt0; frame_out
  idx_vars y
  obtain rfl : y0 = 0 := Subsingleton.elim _ _
  refine (pay6_at _ _ _ y1 y2).trans (Eq.trans ?_ (glu_at _ _ _ _ (sq t) (tk t y1) y2 ?_ ?_ ?_).symm)
  · rw [a_at, a_at, (tokcol_glu y2).1, (tokcol_glu y2).2.1]
  all_goals (have z : ((0 : Fin 1) : ℕ) = 0 := rfl; blk_simp [idx t, sq_val, tk_val] <;> try omega)

set_option maxHeartbeats 1600000 in
/-- The pooling inputs. -/
theorem final8 : (dats m 0 c).arrAt 8 (cfgs 0).N = pin (xA m c) (wnA m c) (wA m c) := by
  refine (dats m 0 c).arrAt_eq_of_covers 8 _ (by decide +kernel) fun t _ y => ?_
  blk_simp
  rw [after0_8]; unfold outsAt0; frame_out
  idx_vars y
  obtain rfl : y0 = 0 := Subsingleton.elim _ _
  refine (pay7_at _ _ _ y1 y2).trans (Eq.trans ?_ (pin_at _ _ _ _ (sq t) (tk t y1) y2 ?_ ?_ ?_).symm)
  · rw [a_at, (tokcol_glu y2).2.2]
  all_goals (have z : ((0 : Fin 1) : ℕ) = 0 := rfl; blk_simp [idx t, sq_val, tk_val] <;> try omega)

set_option maxHeartbeats 1600000 in
/-- The output gates. -/
theorem final9 : (dats m 0 c).arrAt 9 (cfgs 0).N = sz (xA m c) (wnA m c) (wA m c) := by
  refine (dats m 0 c).arrAt_eq_of_covers 9 _ (by decide +kernel) fun t _ y => ?_
  blk_simp
  rw [after0_9]; unfold outsAt0; frame_out
  idx_vars y
  obtain rfl : y0 = 0 := Subsingleton.elim _ _
  refine (pay8_at _ y1 y2).trans (Eq.trans ?_ (sz_at _ _ _ _ (sq t) (tk t y1) y2 ?_ ?_ ?_).symm)
  · rw [a_at, tokcol_z y2]
  all_goals (have z : ((0 : Fin 1) : ℕ) = 0 := rfl; blk_simp [idx t, sq_val, tk_val] <;> try omega)

set_option maxHeartbeats 1600000 in
/-- The branch gates. -/
theorem final10 : (dats m 0 c).arrAt 10 (cfgs 0).N = gates (xA m c) (wnA m c) (wA m c) := by
  refine (dats m 0 c).arrAt_eq_of_covers 10 _ (by decide +kernel) fun t _ y => ?_
  blk_simp
  rw [after0_10]; unfold outsAt0; frame_out
  idx_vars y
  obtain rfl : y0 = 0 := Subsingleton.elim _ _
  refine (pay10_at _ _ y1 y2).trans (Eq.trans ?_ (gates_at _ _ _ _ (sq t) (tk t y2) y1 ?_ ?_ ?_).symm)
  · by_cases h : y1.val < 24
    · rw [if_pos h]
      exact congrArg sg ((f_at m c t ⟨1280 + y1.val, by omega⟩ y2 (by simp only; omega)).trans (congrArg _ (by simp only; omega)))
    · rw [if_neg h, ← sg_zero]
      exact congrArg sg (f_spare m c t ⟨1280 + y1.val, by omega⟩ y2 (by simp only; omega))
  all_goals (have z : ((0 : Fin 1) : ℕ) = 0 := rfl; blk_simp [idx t, sq_val, tk_val] <;> try omega)

end Cert.FreshIdeal.Spec
end
-- ==== Proof.FreshIn.KernelQ.lean ====
module

public import proofs.«01_k».proof.Proof.FreshIn.Kernel

@[expose] public section

set_option maxRecDepth 16384

noncomputable section

/-! The queries the kernel leaves. -/

namespace Cert.FreshIdeal.Spec

open Cert.FreshIdeal Cert.FreshIdeal.Gen Cert.FreshIn
open Idealize.ShloMosaic Idealize.ShloMosaic.TcCoe
open Idealize.ShloMosaic.Pipeline (Dat)

variable (m : (ℓ : Loc nD τ sig) → Buf (Elt Ideal) ℓ) (c : Dev nD)

set_option maxHeartbeats 1600000 in
/-- The queries. -/
theorem final11 : (dats m 0 c).arrAt 11 (cfgs 0).N = queries (xA m c) (wnA m c) (wA m c) (gqA m c) := by
  refine (dats m 0 c).arrAt_eq_of_covers 11 _ (by decide +kernel) fun t _ y => ?_
  blk_simp
  rw [after0_11]
  frame_out
  canon_tiles x h
  case piece0 =>
    idx_vars x
    obtain rfl : x0 = 0 := Subsingleton.elim _ _
    rw [pay11_at, pay12_at]
    refine (head448_at _ _ _ _ x1 x2).trans ((head_of m c t x2 448 (by decide) _ _ (gqb m c t 448 (by decide) (by decide) _) x1).trans (queries_at _ _ _ _ _ (sq t) (tk t x2) 7 x1 ?_ ?_ ?_).symm)
    all_goals (have z : ((0 : Fin 1) : ℕ) = 0 := rfl; blk_simp [idx t, sq_val, tk_val] <;> try omega)
  case piece1 =>
    idx_vars x
    obtain rfl : x0 = 0 := Subsingleton.elim _ _
    rw [pay11_at, pay12_at]
    refine (head384_at _ _ _ _ x1 x2).trans ((head_of m c t x2 384 (by decide) _ _ (gqb m c t 384 (by decide) (by decide) _) x1).trans (queries_at _ _ _ _ _ (sq t) (tk t x2) 6 x1 ?_ ?_ ?_).symm)
    all_goals (have z : ((0 : Fin 1) : ℕ) = 0 := rfl; blk_simp [idx t, sq_val, tk_val] <;> try omega)
  case piece2 =>
    idx_vars x
    obtain rfl : x0 = 0 := Subsingleton.elim _ _
    rw [pay11_at, pay12_at]
    refine (head320_at _ _ _ _ x1 x2).trans ((head_of m c t x2 320 (by decide) _ _ (gqb m c t 320 (by decide) (by decide) _) x1).trans (queries_at _ _ _ _ _ (sq t) (tk t x2) 5 x1 ?_ ?_ ?_).symm)
    all_goals (have z : ((0 : Fin 1) : ℕ) = 0 := rfl; blk_simp [idx t, sq_val, tk_val] <;> try omega)
  case piece3 =>
    idx_vars x
    obtain rfl : x0 = 0 := Subsingleton.elim _ _
    rw [pay11_at, pay12_at]
    refine (head256_at _ _ _ _ x1 x2).trans ((head_of m c t x2 256 (by decide) _ _ (gqb m c t 256 (by decide) (by decide) _) x1).trans (queries_at _ _ _ _ _ (sq t) (tk t x2) 4 x1 ?_ ?_ ?_).symm)
    all_goals (have z : ((0 : Fin 1) : ℕ) = 0 := rfl; blk_simp [idx t, sq_val, tk_val] <;> try omega)
  case piece4 =>
    idx_vars x
    obtain rfl : x0 = 0 := Subsingleton.elim _ _
    rw [pay11_at, pay12_at]
    refine (head192_at _ _ _ _ x1 x2).trans ((head_of m c t x2 192 (by decide) _ _ (gqb m c t 192 (by decide) (by decide) _) x1).trans (queries_at _ _ _ _ _ (sq t) (tk t x2) 3 x1 ?_ ?_ ?_).symm)
    all_goals (have z : ((0 : Fin 1) : ℕ) = 0 := rfl; blk_simp [idx t, sq_val, tk_val] <;> try omega)
  case piece5 =>
    idx_vars x
    obtain rfl : x0 = 0 := Subsingleton.elim _ _
    rw [pay11_at, pay12_at]
    refine (head128_at _ _ _ _ x1 x2).trans ((head_of m c t x2 128 (by decide) _ _ (gqb m c t 128 (by decide) (by decide) _) x1).trans (queries_at _ _ _ _ _ (sq t) (tk t x2) 2 x1 ?_ ?_ ?_).symm)
    all_goals (have z : ((0 : Fin 1) : ℕ) = 0 := rfl; blk_simp [idx t, sq_val, tk_val] <;> try omega)
  case piece6 =>
    idx_vars x
    obtain rfl : x0 = 0 := Subsingleton.elim _ _
    rw [pay11_at, pay12_at]
    refine (head64_at _ _ _ _ x1 x2).trans ((head_of m c t x2 64 (by decide) _ _ (gqb m c t 64 (by decide) (by decide) _) x1).trans (queries_at _ _ _ _ _ (sq t) (tk t x2) 1 x1 ?_ ?_ ?_).symm)
    all_goals (have z : ((0 : Fin 1) : ℕ) = 0 := rfl; blk_simp [idx t, sq_val, tk_val] <;> try omega)
  case piece7 =>
    idx_vars x
    obtain rfl : x0 = 0 := Subsingleton.elim _ _
    rw [pay11_at, pay12_at]
    refine (head0_at _ _ _ _ _ x1 x2).trans ((head_of m c t x2 0 (by decide) _ _ (gqb m c t 0 (by decide) (by decide) _) x1).trans (queries_at _ _ _ _ _ (sq t) (tk t x2) 0 x1 ?_ ?_ ?_).symm)
    all_goals (have z : ((0 : Fin 1) : ℕ) = 0 := rfl; blk_simp [idx t, sq_val, tk_val] <;> try omega)

end Cert.FreshIdeal.Spec
end
-- ==== Proof.FreshIn.KernelKv.lean ====
module

public import proofs.«01_k».proof.Proof.FreshIn.Kernel

@[expose] public section

set_option maxRecDepth 16384

noncomputable section

/-! The keys and values the kernel leaves. -/

namespace Cert.FreshIdeal.Spec

open Cert.FreshIdeal Cert.FreshIdeal.Gen Cert.FreshIn
open Idealize.ShloMosaic Idealize.ShloMosaic.TcCoe
open Idealize.ShloMosaic.Pipeline (Dat)

variable (m : (ℓ : Loc nD τ sig) → Buf (Elt Ideal) ℓ) (c : Dev nD)

set_option maxHeartbeats 1600000 in
/-- The keys and values of branch 0. -/
theorem final12 : (dats m 0 c).arrAt 12 (cfgs 0).N
    = cache (xA m c) (wnA m c) (wA m c) (gkA m c) 0 (m ((c : Thread nD τ).loc main_arg5)) := by
  have e : cache (xA m c) (wnA m c) (wA m c) (gkA m c) 0 (m ((c : Thread nD τ).loc main_arg5))
      = fun i => if (i 0 : ℕ) = 1 then cache (xA m c) (wnA m c) (wA m c) (gkA m c) 0 (m ((c : Thread nD τ).loc main_arg5)) i
          else V m c main_v44_5 i := by
    funext i
    by_cases h : (i 0 : ℕ) = 1
    · rw [if_pos h]
    · rw [if_neg h, cache, if_neg h, prev5]
  rw [e]
  refine (dats m 0 c).arrAt_eq_of_coversWhere 12 _ (fun β => β 0 = 1) (by decide +kernel) (fun t hf y => ?_)
    (fun j => by blk_simp [Pipeline.Window.cell_apply]; omega)
  blk_simp
  rw [after0_12]
  frame_out
  canon_tiles x h
  case piece0 =>
    idx_vars x
    obtain rfl : x0 = 0 := Subsingleton.elim _ _
    obtain rfl : x1 = 0 := Subsingleton.elim _ _
    refine (rows704_at _ x2 x3).trans ((f_at m c t ⟨704 + x2.val, by omega⟩ x3 (by simp only; omega)).trans (Eq.trans ?_ (value_at _ _ _ _ 0 _ _ (sq t) (tk t x3) (192 + x2.val) ?_ ?_ ?_ (by omega) ?_).symm))
    · congr 1; simp only; omega
    all_goals (have z : ((0 : Fin 1) : ℕ) = 0 := rfl; blk_simp [idx t, sq_val, tk_val] <;> try omega)
  case piece1 =>
    idx_vars x
    obtain rfl : x0 = 0 := Subsingleton.elim _ _
    obtain rfl : x1 = 0 := Subsingleton.elim _ _
    refine (rows640_at _ x2 x3).trans ((f_at m c t ⟨640 + x2.val, by omega⟩ x3 (by simp only; omega)).trans (Eq.trans ?_ (value_at _ _ _ _ 0 _ _ (sq t) (tk t x3) (128 + x2.val) ?_ ?_ ?_ (by omega) ?_).symm))
    · congr 1; simp only; omega
    all_goals (have z : ((0 : Fin 1) : ℕ) = 0 := rfl; blk_simp [idx t, sq_val, tk_val] <;> try omega)
  case piece2 =>
    idx_vars x
    obtain rfl : x0 = 0 := Subsingleton.elim _ _
    obtain rfl : x1 = 0 := Subsingleton.elim _ _
    rw [pay11_at, pay12_at]
    refine (head576_at _ _ _ _ x2 x3).trans ((head_of m c t x3 576 (by decide) _ _ (gkb m c t 576 0 (by decide) (by decide) (by decide) (by decide) _) x2).trans (key_at _ _ _ _ 0 _ _ (sq t) (tk t x3) 1 x2 (by decide) ?_ ?_ ?_ ?_).symm)
    all_goals (have z : ((0 : Fin 1) : ℕ) = 0 := rfl; blk_simp [idx t, sq_val, tk_val] <;> try omega)
  case piece3 =>
    idx_vars x
    obtain rfl : x0 = 0 := Subsingleton.elim _ _
    obtain rfl : x1 = 0 := Subsingleton.elim _ _
    rw [pay11_at, pay12_at]
    refine (head512_at _ _ _ _ x2 x3).trans ((head_of m c t x3 512 (by decide) _ _ (gkb m c t 512 0 (by decide) (by decide) (by decide) (by decide) _) x2).trans (key_at _ _ _ _ 0 _ _ (sq t) (tk t x3) 0 x2 (by decide) ?_ ?_ ?_ ?_).symm)
    all_goals (have z : ((0 : Fin 1) : ℕ) = 0 := rfl; blk_simp [idx t, sq_val, tk_val] <;> try omega)

set_option maxHeartbeats 1600000 in
/-- The keys and values of branch 1. -/
theorem final13 : (dats m 0 c).arrAt 13 (cfgs 0).N
    = cache (xA m c) (wnA m c) (wA m c) (gkA m c) 1 (m ((c : Thread nD τ).loc main_arg6)) := by
  have e : cache (xA m c) (wnA m c) (wA m c) (gkA m c) 1 (m ((c : Thread nD τ).loc main_arg6))
      = fun i => if (i 0 : ℕ) = 1 then cache (xA m c) (wnA m c) (wA m c) (gkA m c) 1 (m ((c : Thread nD τ).loc main_arg6)) i
          else V m c main_v44_6 i := by
    funext i
    by_cases h : (i 0 : ℕ) = 1
    · rw [if_pos h]
    · rw [if_neg h, cache, if_neg h, prev6]
  rw [e]
  refine (dats m 0 c).arrAt_eq_of_coversWhere 13 _ (fun β => β 0 = 1) (by decide +kernel) (fun t hf y => ?_)
    (fun j => by blk_simp [Pipeline.Window.cell_apply]; omega)
  blk_simp
  rw [after0_13]
  frame_out
  canon_tiles x h
  case piece0 =>
    idx_vars x
    obtain rfl : x0 = 0 := Subsingleton.elim _ _
    obtain rfl : x1 = 0 := Subsingleton.elim _ _
    refine (rows960_at _ x2 x3).trans ((f_at m c t ⟨960 + x2.val, by omega⟩ x3 (by simp only; omega)).trans (Eq.trans ?_ (value_at _ _ _ _ 1 _ _ (sq t) (tk t x3) (192 + x2.val) ?_ ?_ ?_ (by omega) ?_).symm))
    · congr 1; simp only; omega
    all_goals (have z : ((0 : Fin 1) : ℕ) = 0 := rfl; blk_simp [idx t, sq_val, tk_val] <;> try omega)
  case piece1 =>
    idx_vars x
    obtain rfl : x0 = 0 := Subsingleton.elim _ _
    obtain rfl : x1 = 0 := Subsingleton.elim _ _
    refine (rows896_at _ x2 x3).trans ((f_at m c t ⟨896 + x2.val, by omega⟩ x3 (by simp only; omega)).trans (Eq.trans ?_ (value_at _ _ _ _ 1 _ _ (sq t) (tk t x3) (128 + x2.val) ?_ ?_ ?_ (by omega) ?_).symm))
    · congr 1; simp only; omega
    all_goals (have z : ((0 : Fin 1) : ℕ) = 0 := rfl; blk_simp [idx t, sq_val, tk_val] <;> try omega)
  case piece2 =>
    idx_vars x
    obtain rfl : x0 = 0 := Subsingleton.elim _ _
    obtain rfl : x1 = 0 := Subsingleton.elim _ _
    rw [pay11_at, pay12_at]
    refine (head832_at _ _ _ _ x2 x3).trans ((head_of m c t x3 832 (by decide) _ _ (gkb m c t 832 1 (by decide) (by decide) (by decide) (by decide) _) x2).trans (key_at _ _ _ _ 1 _ _ (sq t) (tk t x3) 1 x2 (by decide) ?_ ?_ ?_ ?_).symm)
    all_goals (have z : ((0 : Fin 1) : ℕ) = 0 := rfl; blk_simp [idx t, sq_val, tk_val] <;> try omega)
  case piece3 =>
    idx_vars x
    obtain rfl : x0 = 0 := Subsingleton.elim _ _
    obtain rfl : x1 = 0 := Subsingleton.elim _ _
    rw [pay11_at, pay12_at]
    refine (head768_at _ _ _ _ x2 x3).trans ((head_of m c t x3 768 (by decide) _ _ (gkb m c t 768 1 (by decide) (by decide) (by decide) (by decide) _) x2).trans (key_at _ _ _ _ 1 _ _ (sq t) (tk t x3) 0 x2 (by decide) ?_ ?_ ?_ ?_).symm)
    all_goals (have z : ((0 : Fin 1) : ℕ) = 0 := rfl; blk_simp [idx t, sq_val, tk_val] <;> try omega)

set_option maxHeartbeats 1600000 in
/-- The keys and values of branch 2. -/
theorem final14 : (dats m 0 c).arrAt 14 (cfgs 0).N
    = cache (xA m c) (wnA m c) (wA m c) (gkA m c) 2 (m ((c : Thread nD τ).loc main_arg7)) := by
  have e : cache (xA m c) (wnA m c) (wA m c) (gkA m c) 2 (m ((c : Thread nD τ).loc main_arg7))
      = fun i => if (i 0 : ℕ) = 1 then cache (xA m c) (wnA m c) (wA m c) (gkA m c) 2 (m ((c : Thread nD τ).loc main_arg7)) i
          else V m c main_v44_7 i := by
    funext i
    by_cases h : (i 0 : ℕ) = 1
    · rw [if_pos h]
    · rw [if_neg h, cache, if_neg h, prev7]
  rw [e]
  refine (dats m 0 c).arrAt_eq_of_coversWhere 14 _ (fun β => β 0 = 1) (by decide +kernel) (fun t hf y => ?_)
    (fun j => by blk_simp [Pipeline.Window.cell_apply]; omega)
  blk_simp
  rw [after0_14]
  frame_out
  canon_tiles x h
  case piece0 =>
    idx_vars x
    obtain rfl : x0 = 0 := Subsingleton.elim _ _
    obtain rfl : x1 = 0 := Subsingleton.elim _ _
    refine (rows1216_at _ x2 x3).trans ((f_at m c t ⟨1216 + x2.val, by omega⟩ x3 (by simp only; omega)).trans (Eq.trans ?_ (value_at _ _ _ _ 2 _ _ (sq t) (tk t x3) (192 + x2.val) ?_ ?_ ?_ (by omega) ?_).symm))
    · congr 1; simp only; omega
    all_goals (have z : ((0 : Fin 1) : ℕ) = 0 := rfl; blk_simp [idx t, sq_val, tk_val] <;> try omega)
  case piece1 =>
    idx_vars x
    obtain rfl : x0 = 0 := Subsingleton.elim _ _
    obtain rfl : x1 = 0 := Subsingleton.elim _ _
    refine (rows1152_at _ x2 x3).trans ((f_at m c t ⟨1152 + x2.val, by omega⟩ x3 (by simp only; omega)).trans (Eq.trans ?_ (value_at _ _ _ _ 2 _ _ (sq t) (tk t x3) (128 + x2.val) ?_ ?_ ?_ (by omega) ?_).symm))
    · congr 1; simp only; omega
    all_goals (have z : ((0 : Fin 1) : ℕ) = 0 := rfl; blk_simp [idx t, sq_val, tk_val] <;> try omega)
  case piece2 =>
    idx_vars x
    obtain rfl : x0 = 0 := Subsingleton.elim _ _
    obtain rfl : x1 = 0 := Subsingleton.elim _ _
    rw [pay11_at, pay12_at]
    refine (head1088_at _ _ _ _ x2 x3).trans ((head_of m c t x3 1088 (by decide) _ _ (gkb m c t 1088 2 (by decide) (by decide) (by decide) (by decide) _) x2).trans (key_at _ _ _ _ 2 _ _ (sq t) (tk t x3) 1 x2 (by decide) ?_ ?_ ?_ ?_).symm)
    all_goals (have z : ((0 : Fin 1) : ℕ) = 0 := rfl; blk_simp [idx t, sq_val, tk_val] <;> try omega)
  case piece3 =>
    idx_vars x
    obtain rfl : x0 = 0 := Subsingleton.elim _ _
    obtain rfl : x1 = 0 := Subsingleton.elim _ _
    rw [pay11_at, pay12_at]
    refine (head1024_at _ _ _ _ x2 x3).trans ((head_of m c t x3 1024 (by decide) _ _ (gkb m c t 1024 2 (by decide) (by decide) (by decide) (by decide) _) x2).trans (key_at _ _ _ _ 2 _ _ (sq t) (tk t x3) 0 x2 (by decide) ?_ ?_ ?_ ?_).symm)
    all_goals (have z : ((0 : Fin 1) : ℕ) = 0 := rfl; blk_simp [idx t, sq_val, tk_val] <;> try omega)

end Cert.FreshIdeal.Spec
end
-- ==== Proof.FreshIn.RefProj.lean ====
module

public import proofs.«01_k».proof.Proof.FreshIn.Spec
public import proofs.«01_k».proof.Proof.Gen.FreshReferenceIdeal.Run
public import Idealize.ShloMosaic.Lib.Pointwise

@[expose] public section

set_option maxRecDepth 16384

noncomputable section

/-! The reference's results are the layer's input projection, entry by entry. -/

namespace Cert.FreshReferenceIdeal.Spec

open Cert.FreshReferenceIdeal Cert.FreshReferenceIdeal.Gen Cert.FreshReferenceIdeal.Value Cert.FreshIn
open Idealize.ShloMosaic Idealize.ShloMosaic.TcCoe

variable (V0 : Valuation τ sig (Elt Ideal))

/-- The tokens. -/
abbrev xR : FVec Ideal S1x128x1024 .f32 := V0 (Proc.devRef .tc main_arg0)
/-- The gains of the tokens' norm. -/
abbrev wnR : FVec Ideal S1024 .f32 := V0 (Proc.devRef .tc main_arg1)
/-- The weights. -/
abbrev wR : FVec Ideal S1024x3096 .f32 := V0 (Proc.devRef .tc main_arg2)
/-- The queries' gains. -/
abbrev gqR : FVec Ideal S64 .f32 := V0 (Proc.devRef .tc main_arg3)
/-- The keys' gains. -/
abbrev gkR : FVec Ideal S3x64 .f32 := V0 (Proc.devRef .tc main_arg4)

theorem v14_at (n : Fin 1) (t : Fin 128) (j : Fin 3096) :
    (res_main_v14 V0 : FVec Ideal S1x128x3096 .f32) (ix3 n t j) = proj (xR V0) (wnR V0) (wR V0) n t j.val := by
  obtain rfl : n = 0 := Subsingleton.elim _ _
  have e : ∀ k, wcol (wR V0) k j.val = wR V0 (ix2 k j) := fun k => by rw [wcol, dif_pos j.isLt]
  simp only [proj, e, hrow]
  pointwise [res_main_v14]

end Cert.FreshReferenceIdeal.Spec
end
-- ==== Proof.FreshIn.RefTok.lean ====
module

public import proofs.«01_k».proof.Proof.FreshIn.RefProj
public import Idealize.ShloMosaic.Lib.Pointwise

@[expose] public section

set_option maxRecDepth 16384

noncomputable section

/-! The reference's gated inputs, gates and pooling inputs. -/

namespace Cert.FreshReferenceIdeal.Spec

open Cert.FreshReferenceIdeal Cert.FreshReferenceIdeal.Gen Cert.FreshReferenceIdeal.Value Cert.FreshIn
open Idealize.ShloMosaic Idealize.ShloMosaic.TcCoe

variable (V0 : Valuation τ sig (Elt Ideal))

theorem glu_ref (n : Fin 1) (t : Fin 128) (j : Fin 256) :
    (val4 V0 (Proc.devRef .tc main_v138) : FVec Ideal S1x128x256 .f32) (ix3 n t j) = proj (xR V0) (wnR V0) (wR V0) n t j.val * sg (proj (xR V0) (wnR V0) (wR V0) n t (256 + j.val)) := by
  obtain rfl : n = 0 := Subsingleton.elim _ _
  refine (congrFun (val4_main_v138 V0) _).trans ?_
  rw [← v14_at V0 0 t ⟨j.val, by omega⟩, ← v14_at V0 0 t ⟨256 + j.val, by omega⟩, sg]
  pointwise

theorem pin_ref (n : Fin 1) (t : Fin 128) (j : Fin 256) :
    (val4 V0 (Proc.devRef .tc main_v18) : FVec Ideal S1x128x256 .f32) (ix3 n t j) = proj (xR V0) (wnR V0) (wR V0) n t (768 + j.val) := by
  obtain rfl : n = 0 := Subsingleton.elim _ _
  refine (congrFun (val4_main_v18 V0) _).trans ?_
  rw [← v14_at V0 0 t ⟨768 + j.val, by omega⟩]
  pointwise

theorem sz_ref (n : Fin 1) (t : Fin 128) (j : Fin 1024) :
    (val4 V0 (Proc.devRef .tc main_v166) : FVec Ideal S1x128x1024 .f32) (ix3 n t j) = proj (xR V0) (wnR V0) (wR V0) n t (zcol j.val) * sg (proj (xR V0) (wnR V0) (wR V0) n t (zcol j.val)) := by
  obtain rfl : n = 0 := Subsingleton.elim _ _
  refine (congrFun (val4_main_v166 V0) _).trans ?_
  have hz : zcol j.val < 3096 := by unfold zcol; (repeat' split) <;> omega
  rw [← v14_at V0 0 t ⟨zcol j.val, hz⟩, sg]
  pointwise [res_main_v17, res_main_v19, res_main_v23]
  by_cases h : j.val < 256
  · have e : (⟨zcol j.val, hz⟩ : Fin 3096) = ⟨512 + j.val, by omega⟩ := Fin.ext (by simp only [zcol, if_pos h])
    rw [dif_pos h, e]
  by_cases h2 : j.val - 256 < 256
  · have e : (⟨zcol j.val, hz⟩ : Fin 3096) = ⟨1024 + (j.val - 256), by omega⟩ := Fin.ext (by simp only [zcol]; (repeat' split) <;> omega)
    rw [dif_neg h, dif_pos h2, e]
  · have e : (⟨zcol j.val, hz⟩ : Fin 3096) = ⟨2584 + (j.val - 256 - 256), by omega⟩ := Fin.ext (by simp only [zcol]; (repeat' split) <;> omega)
    rw [dif_neg h, dif_neg h2, e]

theorem gates_ref (n : Fin 1) (j : Fin 32) (t : Fin 128) :
    (val4 V0 (Proc.devRef .tc main_v190) : FVec Ideal S1x32x128 .f32) (ix3 n j t)
      = if j.val < 24 then sg (proj (xR V0) (wnR V0) (wR V0) n t (2560 + j.val)) else Ideal.ofBits FTy.f32 0x3F000000#32 := by
  obtain rfl : n = 0 := Subsingleton.elim _ _
  refine (congrFun (val4_main_v190 V0) _).trans ?_
  pointwise
  by_cases h : j.val < 24
  · rw [dif_pos h, if_pos h, ← v14_at V0 0 t ⟨2560 + j.val, by omega⟩, sg]
  · rw [dif_neg h, if_neg h]

end Cert.FreshReferenceIdeal.Spec
end
-- ==== Proof.FreshIn.RefHead.lean ====
module

public import proofs.«01_k».proof.Proof.FreshIn.RefProj
public import Idealize.ShloMosaic.Lib.Pointwise

@[expose] public section

set_option maxRecDepth 16384

noncomputable section

/-! The reference's queries. -/

namespace Cert.FreshReferenceIdeal.Spec

open Cert.FreshReferenceIdeal Cert.FreshReferenceIdeal.Gen Cert.FreshReferenceIdeal.Value Cert.FreshIn
open Idealize.ShloMosaic Idealize.ShloMosaic.TcCoe

variable (V0 : Valuation τ sig (Elt Ideal))

theorem turn_q (a : FVec Ideal S1x128x8x64 .f32) (n : Fin 1) (j : Fin 512) (t : Fin 128) :
    transpose S1x512x128 [0, 2, 1] (shapeCast S1x128x512 a shapeCasts_S1x128x8x64_S1x128x512) transposes_S1x128x512_S1x512x128_0_2_1 (ix3 n j t)
      = a (ix4 n t ⟨j.val / 64, by omega⟩ ⟨j.val % 64, by omega⟩) := by
  obtain rfl : n = 0 := Subsingleton.elim _ _
  pointwise

theorem q_unit (n : Fin 1) (t : Fin 128) (h : Fin 8) (d : Fin 64) :
    (res_main_v37 V0 : FVec Ideal S1x128x8x64 .f32) (ix4 n t h d)
      = unit (fun e => proj (xR V0) (wnR V0) (wR V0) n t (1280 + 64 * h.val + e.val)) (fun e => gqR V0 (ix1 e)) d := by
  obtain rfl : n = 0 := Subsingleton.elim _ _
  have e : (fun e : Fin 64 => proj (xR V0) (wnR V0) (wR V0) 0 t (1280 + 64 * h.val + e.val))
      = fun e => (res_main_v14 V0 : FVec Ideal S1x128x3096 .f32) (ix3 0 t ⟨1280 + (h.val * 64 + e.val), by omega⟩) := by
    funext e; rw [v14_at]; congr 1; simp only; omega
  rw [e, unit]
  pointwise [res_main_v37, res_main_v24]

theorem angle_q (t : Fin 128) (i : Fin 8) : (res_main_v51 V0 : FVec Ideal S128x8 .f32) (ix2 t i) = angle i := by
  pointwise [res_main_v51, res_main_v0, angle]

theorem queries_ref (n : Fin 1) (j : Fin 512) (t : Fin 128) :
    (val4 V0 (Proc.devRef .tc main_v192) : FVec Ideal S1x512x128 .f32) (ix3 n j t)
      = head (xR V0) (wnR V0) (wR V0) (fun d => gqR V0 (ix1 d)) n t (1280 + 64 * (j.val / 64)) ⟨j.val % 64, Nat.mod_lt _ (by decide)⟩ := by
  obtain rfl : n = 0 := Subsingleton.elim _ _
  refine (congrFun (val4_main_v192 V0) _).trans ?_
  refine (turn_q _ 0 j t).trans ?_
  have key : ∀ (h : Fin 8) (d : Fin 64), (val2 V0 (Proc.devRef .tc main_v73) : FVec Ideal S1x128x8x64 .f32) (ix4 0 t h d)
      = head (xR V0) (wnR V0) (wR V0) (fun d => gqR V0 (ix1 d)) 0 t (1280 + 64 * h.val) d := by
    intro h d
    refine (congrFun (val2_main_v73 V0) _).trans ?_
    pointwise [res_main_v56, res_main_v57, res_main_v53, res_main_v55]
    simp only [q_unit, angle_q]
    unfold head rot
    rfl
  refine Eq.trans ?_ (key ⟨j.val / 64, by omega⟩ ⟨j.val % 64, by omega⟩)
  exact (congrFun (val2_main_v73 V0) _).symm

end Cert.FreshReferenceIdeal.Spec
end
-- ==== Proof.FreshIn.RefRows.lean ====
module

public import proofs.«01_k».proof.Proof.FreshIn.RefProj
public import Idealize.ShloMosaic.Lib.Pointwise

@[expose] public section

set_option maxRecDepth 16384

noncomputable section

/-! The reference's keys and values of a token. -/

namespace Cert.FreshReferenceIdeal.Spec

open Cert.FreshReferenceIdeal Cert.FreshReferenceIdeal.Gen Cert.FreshReferenceIdeal.Value Cert.FreshIn
open Idealize.ShloMosaic Idealize.ShloMosaic.TcCoe

variable (V0 : Valuation τ sig (Elt Ideal))

theorem angle_k (t : Fin 128) (i : Fin 8) : (res_main_v104 V0 : FVec Ideal S128x8 .f32) (ix2 t i) = angle i := by
  pointwise [res_main_v104, res_main_v0, angle]

theorem k_unit (n : Fin 1) (t : Fin 128) (b : Fin 3) (h : Fin 2) (d : Fin 64) :
    (res_main_v90 V0 : FVec Ideal S1x128x3x2x64 .f32) (ix5 n t b h d)
      = unit (fun e => proj (xR V0) (wnR V0) (wR V0) n t (1792 + 256 * b.val + 64 * h.val + e.val)) (fun e => gkR V0 (ix2 b e)) d := by
  obtain rfl : n = 0 := Subsingleton.elim _ _
  have e : (fun e : Fin 64 => proj (xR V0) (wnR V0) (wR V0) 0 t (1792 + 256 * b.val + 64 * h.val + e.val))
      = fun e => (res_main_v14 V0 : FVec Ideal S1x128x3096 .f32) (ix3 0 t ⟨1792 + (b.val * 256 + h.val * 64 + e.val), by omega⟩) := by
    funext e; rw [v14_at]; congr 1; simp only; omega
  rw [e, unit]
  pointwise [res_main_v90, res_main_v76, res_main_v74]

theorem rows_ref (n : Fin 1) (t : Fin 128) (b : Fin 3) (s h : Fin 2) (d : Fin 64) :
    (res_main_v131 V0 : FVec Ideal S1x128x3x2x2x64 .f32) (ix6 n t b s h d)
      = if s.val < 1 then head (xR V0) (wnR V0) (wR V0) (fun d => gkR V0 (ix2 b d)) n t (1792 + 256 * b.val + 64 * h.val) d
        else proj (xR V0) (wnR V0) (wR V0) n t (1792 + 256 * b.val + (128 * s.val + 64 * h.val + d.val)) := by
  obtain rfl : n = 0 := Subsingleton.elim _ _
  by_cases hs : s.val < 1
  · rw [if_pos hs]
    pointwise [res_main_v131, res_main_v109, res_main_v110, res_main_v106, res_main_v108]
    rw [dif_pos hs]
    simp only [k_unit, angle_k]
    unfold head rot
    rfl
  · rw [if_neg hs]
    pointwise [res_main_v131, res_main_v74]
    rw [dif_neg hs, v14_at]
    congr 1; simp only; omega

end Cert.FreshReferenceIdeal.Spec
end
-- ==== Proof.FreshIn.RefCache.lean ====
module

public import proofs.«01_k».proof.Proof.FreshIn.RefRows
public import Idealize.ShloMosaic.Lib.Pointwise

@[expose] public section

set_option maxRecDepth 16384

noncomputable section

/-! The reference's caches. -/

namespace Cert.FreshReferenceIdeal.Spec

open Cert.FreshReferenceIdeal Cert.FreshReferenceIdeal.Gen Cert.FreshReferenceIdeal.Value Cert.FreshIn
open Idealize.ShloMosaic Idealize.ShloMosaic.TcCoe

variable (V0 : Valuation τ sig (Elt Ideal))

theorem cache_ix (x : FVec Ideal Cert.FreshIdeal.S1x128x1024 .f32) (wn : FVec Ideal Cert.FreshIdeal.S1024 .f32) (w : FVec Ideal Cert.FreshIdeal.S1024x3096 .f32)
    (g : FVec Ideal Cert.FreshIdeal.S3x64 .f32) (b : Fin 3) (prev : FVec Ideal Cert.FreshIdeal.S2x1x256x128 .f32) (l : Fin 2) (n : Fin 1) (j : Fin 256) (t : Fin 128) :
    cache x wn w g b prev (ix4 l n j t) = if l.val < 1 then prev (ix4 l n j t) else
      if j.val / 128 < 1 then head x wn w (fun d => g (ix2 b d)) n t (1792 + 256 * b.val + 64 * (j.val / 64 % 2)) ⟨j.val % 64, Nat.mod_lt _ (by decide)⟩
      else proj x wn w n t (1792 + 256 * b.val + (128 * (j.val / 128) + 64 * (j.val / 64 % 2) + j.val % 64)) := by
  have e : cache x wn w g b prev (ix4 l n j t) = if l.val = 1 then
      if j.val < 128 then head x wn w (fun d => g (ix2 b d)) n t (1792 + 256 * b.val + 64 * (j.val / 64)) ⟨j.val % 64, Nat.mod_lt _ (by decide)⟩
      else proj x wn w n t (1792 + 256 * b.val + j.val)
    else prev (ix4 l n j t) := rfl
  rw [e]
  have hl := l.isLt
  by_cases h : l.val < 1
  · rw [if_pos h, if_neg (by omega)]
  rw [if_neg h, if_pos (by omega)]
  by_cases hj : j.val < 128
  · rw [if_pos hj, if_pos (by omega)]
    have e2 : j.val / 64 % 2 = j.val / 64 := by omega
    rw [e2]
  · rw [if_neg hj, if_neg (by omega)]
    congr 1; omega

theorem cache0_ref (l : Fin 2) (n : Fin 1) (j : Fin 256) (t : Fin 128) :
    (val4 V0 (Proc.devRef .tc main_v174) : FVec Ideal S2x1x256x128 .f32) (ix4 l n j t)
      = cache (xR V0) (wnR V0) (wR V0) (gkR V0) 0 (V0 (Proc.devRef .tc main_arg5)) (ix4 l n j t) := by
  obtain rfl : n = 0 := Subsingleton.elim _ _
  refine (congrFun (val4_main_v174 V0) _).trans (Eq.trans ?_ (cache_ix _ _ _ _ _ _ l 0 j t).symm)
  pointwise
  by_cases h : l.val < 1
  · rw [dif_pos h, if_pos h]
  rw [dif_neg h, if_neg h]
  exact rows_ref V0 0 t 0 ⟨j.val / 128, by omega⟩ ⟨j.val / 64 % 2, by omega⟩ ⟨j.val % 64, by omega⟩

theorem cache1_ref (l : Fin 2) (n : Fin 1) (j : Fin 256) (t : Fin 128) :
    (val4 V0 (Proc.devRef .tc main_v181) : FVec Ideal S2x1x256x128 .f32) (ix4 l n j t)
      = cache (xR V0) (wnR V0) (wR V0) (gkR V0) 1 (V0 (Proc.devRef .tc main_arg6)) (ix4 l n j t) := by
  obtain rfl : n = 0 := Subsingleton.elim _ _
  refine (congrFun (val4_main_v181 V0) _).trans (Eq.trans ?_ (cache_ix _ _ _ _ _ _ l 0 j t).symm)
  pointwise
  by_cases h : l.val < 1
  · rw [dif_pos h, if_pos h]
  rw [dif_neg h, if_neg h]
  exact rows_ref V0 0 t 1 ⟨j.val / 128, by omega⟩ ⟨j.val / 64 % 2, by omega⟩ ⟨j.val % 64, by omega⟩

theorem cache2_ref (l : Fin 2) (n : Fin 1) (j : Fin 256) (t : Fin 128) :
    (val4 V0 (Proc.devRef .tc main_v188) : FVec Ideal S2x1x256x128 .f32) (ix4 l n j t)
      = cache (xR V0) (wnR V0) (wR V0) (gkR V0) 2 (V0 (Proc.devRef .tc main_arg7)) (ix4 l n j t) := by
  obtain rfl : n = 0 := Subsingleton.elim _ _
  refine (congrFun (val4_main_v188 V0) _).trans (Eq.trans ?_ (cache_ix _ _ _ _ _ _ l 0 j t).symm)
  pointwise
  by_cases h : l.val < 1
  · rw [dif_pos h, if_pos h]
  rw [dif_neg h, if_neg h]
  exact rows_ref V0 0 t 2 ⟨j.val / 128, by omega⟩ ⟨j.val / 64 % 2, by omega⟩ ⟨j.val % 64, by omega⟩

end Cert.FreshReferenceIdeal.Spec
end
-- ==== Proof.FreshIn.Claim.lean ====
module

public import proofs.«01_k».proof.Defs
public import proofs.«01_k».proof.Proof.FreshIn.KernelTok
public import proofs.«01_k».proof.Proof.FreshIn.KernelQ
public import proofs.«01_k».proof.Proof.FreshIn.KernelKv
public import proofs.«01_k».proof.Proof.FreshIn.RefTok
public import proofs.«01_k».proof.Proof.FreshIn.RefHead
public import proofs.«01_k».proof.Proof.FreshIn.RefCache
public import proofs.«01_k».proof.Proof.Gen.FreshIdeal.Value

@[expose] public section

set_option maxRecDepth 16384

noncomputable section

/-! The kernel and the reference of the input projection leave the same eight arrays. -/

namespace Cert.FreshIn

open Idealize.ShloMosaic Idealize.ShloMosaic.TcCoe Idealize.SL.Sem Idealize.ShloMosaic.StableHlo
open Cert.FreshReferenceIdeal Cert.FreshReferenceIdeal.Value Cert.FreshReferenceIdeal.Spec

section reference

variable (V0 : Valuation τ sig (Elt Ideal))

theorem r_glu : (val4 V0 (Proc.devRef .tc main_v138) : FVec Ideal S1x128x256 .f32) = glu (xR V0) (wnR V0) (wR V0) := by
  funext i; idx_vars i; exact glu_ref V0 _ _ _

theorem r_pin : (val4 V0 (Proc.devRef .tc main_v18) : FVec Ideal S1x128x256 .f32) = pin (xR V0) (wnR V0) (wR V0) := by
  funext i; idx_vars i; exact pin_ref V0 _ _ _

theorem r_sz : (val4 V0 (Proc.devRef .tc main_v166) : FVec Ideal S1x128x1024 .f32) = sz (xR V0) (wnR V0) (wR V0) := by
  funext i; idx_vars i; exact sz_ref V0 _ _ _

theorem r_gates : (val4 V0 (Proc.devRef .tc main_v190) : FVec Ideal S1x32x128 .f32) = gates (xR V0) (wnR V0) (wR V0) := by
  funext i; idx_vars i; exact gates_ref V0 _ _ _

theorem r_queries : (val4 V0 (Proc.devRef .tc main_v192) : FVec Ideal S1x512x128 .f32)
    = queries (xR V0) (wnR V0) (wR V0) (gqR V0) := by
  funext i; idx_vars i; exact queries_ref V0 _ _ _

theorem r_cache0 : (val4 V0 (Proc.devRef .tc main_v174) : FVec Ideal S2x1x256x128 .f32)
    = cache (xR V0) (wnR V0) (wR V0) (gkR V0) 0 (V0 (Proc.devRef .tc main_arg5)) := by
  funext i; idx_vars i; exact cache0_ref V0 _ _ _ _

theorem r_cache1 : (val4 V0 (Proc.devRef .tc main_v181) : FVec Ideal S2x1x256x128 .f32)
    = cache (xR V0) (wnR V0) (wR V0) (gkR V0) 1 (V0 (Proc.devRef .tc main_arg6)) := by
  funext i; idx_vars i; exact cache1_ref V0 _ _ _ _

theorem r_cache2 : (val4 V0 (Proc.devRef .tc main_v188) : FVec Ideal S2x1x256x128 .f32)
    = cache (xR V0) (wnR V0) (wR V0) (gkR V0) 2 (V0 (Proc.devRef .tc main_arg7)) := by
  funext i; idx_vars i; exact cache2_ref V0 _ _ _ _

end reference

open Cert.FreshIdeal.Spec in
theorem algebraic : Cert.algebraic_FreshIdeal_FreshReferenceIdeal (hFreshIdeal := Cert.FreshIdeal.Gen.facts)
    (hFreshReferenceIdeal := Cert.FreshReferenceIdeal.Gen.facts) := by
  intro m g m' g' _ h
  refine ⟨fun c => glu (xA m c) (wnA m c) (wA m c), fun c => pin (xA m c) (wnA m c) (wA m c),
    fun c => sz (xA m c) (wnA m c) (wA m c), fun c => gates (xA m c) (wnA m c) (wA m c),
    fun c => queries (xA m c) (wnA m c) (wA m c) (gqA m c),
    fun c => cache (xA m c) (wnA m c) (wA m c) (gkA m c) 0 (m ((c.tc : Thread Cert.FreshIdeal.nD Cert.FreshIdeal.τ).loc Cert.FreshIdeal.main_arg5)),
    fun c => cache (xA m c) (wnA m c) (wA m c) (gkA m c) 1 (m ((c.tc : Thread Cert.FreshIdeal.nD Cert.FreshIdeal.τ).loc Cert.FreshIdeal.main_arg6)),
    fun c => cache (xA m c) (wnA m c) (wA m c) (gkA m c) 2 (m ((c.tc : Thread Cert.FreshIdeal.nD Cert.FreshIdeal.τ).loc Cert.FreshIdeal.main_arg7)),
    ?_, ?_⟩
  · refine (θ_run _ _ _).mono (fun r k c => ?_) (Cert.FreshIdeal.Value.run_blocks m g)
    obtain ⟨k0, k1, k2, k3, k4, k5, k6, k7, k'⟩ := k c
    exact ⟨k0.trans (final7 m c), k1.trans (final8 m c), k2.trans (final9 m c), k3.trans (final10 m c),
      k4.trans (final11 m c), k5.trans (final12 m c), k6.trans (final13 m c), k7.trans (final14 m c), k'⟩
  · refine (θ_run _ _ _).mono (fun r k c => ?_) (Cert.FreshReferenceIdeal.Value.run m' g')
    obtain ⟨k0, k1, k2, k3, k4, k5, k6, k7, k'⟩ := k c
    obtain ⟨h0, h1, h2, h3, h4, h5, h6, h7⟩ := h c
    have e0 : xR (launchContents m' c) = xA m c := h0
    have e1 : wnR (launchContents m' c) = wnA m c := h1
    have e2 : wR (launchContents m' c) = wA m c := h2
    have e3 : gqR (launchContents m' c) = gqA m c := h3
    have e4 : gkR (launchContents m' c) = gkA m c := h4
    have q0 := r_glu (launchContents m' c)
    have q1 := r_pin (launchContents m' c)
    have q2 := r_sz (launchContents m' c)
    have q3 := r_gates (launchContents m' c)
    have q4 := r_queries (launchContents m' c)
    have q5 := r_cache0 (launchContents m' c)
    have q6 := r_cache1 (launchContents m' c)
    have q7 := r_cache2 (launchContents m' c)
    rw [e0, e1, e2] at q0 q1 q2 q3
    rw [e0, e1, e2, e3] at q4
    rw [e0, e1, e2, e4] at q5 q6 q7
    exact ⟨k0.trans ((val4_main_v138 (launchContents m' c)).symm.trans q0),
      k1.trans ((val4_main_v18 (launchContents m' c)).symm.trans q1),
      k2.trans ((val4_main_v166 (launchContents m' c)).symm.trans q2),
      k3.trans ((val4_main_v190 (launchContents m' c)).symm.trans q3),
      k4.trans ((val4_main_v192 (launchContents m' c)).symm.trans q4),
      k5.trans (((val4_main_v174 (launchContents m' c)).symm.trans q5).trans (congrArg _ h5)),
      k6.trans (((val4_main_v181 (launchContents m' c)).symm.trans q6).trans (congrArg _ h6)),
      k7.trans (((val4_main_v188 (launchContents m' c)).symm.trans q7).trans (congrArg _ h7)), k'⟩

end Cert.FreshIn

end
-- ==== Proof.Out.Kernel.lean ====
module

public import proofs.«01_k».proof.Proof.Gen.OutIdeal.Value
public import Idealize.ShloMosaic.Lib.Pointwise
public import Idealize.ShloMosaic.Lib.StableHlo.ReadAt
public import Idealize.ShloMosaic.Lib.Pipeline.ValueKit

@[expose] public section

set_option maxRecDepth 16384

noncomputable section

/-! The output projection of the sampled tokens: the array the call leaves. -/

namespace Cert.OutIdeal.Spec

open Cert.OutIdeal Cert.OutIdeal.Gen
open Idealize.ShloMosaic Idealize.ShloMosaic.TcCoe
open Idealize.ShloMosaic.Pipeline (Dat)

variable (m : (ℓ : Loc nD τ sig) → Buf (Elt Ideal) ℓ) (c : Dev nD)

abbrev xA : FVec Ideal S128x1024 .f32 := m ((c : Thread nD τ).loc main_arg0)
abbrev yabA : FVec Ideal S128x512 .f32 := m ((c : Thread nD τ).loc main_arg1)
abbrev oA : FVec Ideal S128x1x512 .f32 := m ((c : Thread nD τ).loc main_arg2)
abbrev szA : FVec Ideal S128x1024 .f32 := m ((c : Thread nD τ).loc main_arg3)
abbrev woutA : FVec Ideal S1024x1024 .f32 := m ((c : Thread nD τ).loc main_arg4)

/-- Channel `k` of the joined row of token `i`: the convolution's and the pooling's channels, then the attention's by their gates. -/
def joined (yab : FVec Ideal S128x512 .f32) (o : FVec Ideal S128x1x512 .f32) (sz : FVec Ideal S128x1024 .f32) (i : Fin 128) (k : Fin 1024) : EReal :=
  if h : k.val < 512 then yab (ix2 i ⟨k.val, h⟩) else o (ix3 i 0 ⟨k.val - 512, by omega⟩) * sz (ix2 i k)

/-- The layer's output: its input and the joined rows' projection. -/
def out (x : FVec Ideal S128x1024 .f32) (yab : FVec Ideal S128x512 .f32) (o : FVec Ideal S128x1x512 .f32) (sz : FVec Ideal S128x1024 .f32)
    (w : FVec Ideal S1024x1024 .f32) : FVec Ideal S1x128x1024 .f32 := fun i =>
  x (ix2 (i 1) (i 2)) + ∑ k : Fin 1024, joined yab o sz (i 1) k * w (ix2 k (i 2))

/-- A sum over 1024 channels is the sum over the first 512 and the sum over the last 512. -/
theorem sum_halves (f : Fin 1024 → EReal) :
    ∑ k : Fin 1024, f k = ∑ k : Fin 512, f ⟨k.val, by omega⟩ + ∑ k : Fin 512, f ⟨512 + k.val, by omega⟩ := by
  exact Fin.sum_univ_add (a := 512) (b := 512) f

theorem x_host (i : Fin 128) (k : Fin 1024) : (V m c main_v0 : FVec Ideal S1x128x1024 .f32) (ix3 0 i k) = xA m c (ix2 i k) := by
  show (StableHlo.after hostOps0 (fun b => m (c, b)) (Proc.devRef .tc main_v0) : FVec Ideal S1x128x1024 .f32) (ix3 0 i k) = _
  after_reads_simp
  pointwise
theorem yab_host (i : Fin 128) (k : Fin 512) : (V m c main_v1 : FVec Ideal S1x128x512 .f32) (ix3 0 i k) = yabA m c (ix2 i k) := by
  show (StableHlo.after hostOps0 (fun b => m (c, b)) (Proc.devRef .tc main_v1) : FVec Ideal S1x128x512 .f32) (ix3 0 i k) = _
  after_reads_simp
  pointwise
theorem o_host (i : Fin 128) (k : Fin 512) : (V m c main_v2 : FVec Ideal S1x128x512 .f32) (ix3 0 i k) = oA m c (ix3 i 0 k) := by
  show (StableHlo.after hostOps0 (fun b => m (c, b)) (Proc.devRef .tc main_v2) : FVec Ideal S1x128x512 .f32) (ix3 0 i k) = _
  after_reads_simp
  pointwise
theorem sz_host (i : Fin 128) (k : Fin 1024) : (V m c main_v3 : FVec Ideal S1x128x1024 .f32) (ix3 0 i k) = szA m c (ix2 i k) := by
  show (StableHlo.after hostOps0 (fun b => m (c, b)) (Proc.devRef .tc main_v3) : FVec Ideal S1x128x1024 .f32) (ix3 0 i k) = _
  after_reads_simp
  pointwise
theorem w_host (k e : Fin 1024) : (V m c main_v4 : FVec Ideal S1024x1024 .bf16) (ix2 k e) = woutA m c (ix2 k e) := by
  show (StableHlo.after hostOps0 (fun b => m (c, b)) (Proc.devRef .tc main_v4) : FVec Ideal S1024x1024 .bf16) (ix2 k e) = _
  after_reads_simp
  pointwise

theorem idx : ∀ t : Fin cfg0.N, win0_0.index t = ![0, 0, 0] ∧ win0_1.index t = ![0, 0, 0] ∧ win0_2.index t = ![0, 0, 0] ∧ win0_3.index t = ![0, 0, 1]
    ∧ win0_4.index t = ![0, 0] ∧ win0_5.index t = ![0, 0, 0] :=
  (by decide +kernel : ∀ t : Fin grid0.N, _)

theorem x_read (t : Fin cfg0.N) (i : Fin 128) (k : Fin 1024) : (iblk m c 0 t : FVec Ideal S1x128x1024 .f32) (ix3 0 i k) = xA m c (ix2 i k) := by
  refine Eq.trans ?_ (x_host m c i k); blk_ext [iblk, idx t]
theorem yab_read (t : Fin cfg0.N) (i : Fin 128) (k : Fin 512) : (iblk m c 1 t : FVec Ideal S1x128x512 .f32) (ix3 0 i k) = yabA m c (ix2 i k) := by
  refine Eq.trans ?_ (yab_host m c i k); blk_ext [iblk, idx t]
theorem o_read (t : Fin cfg0.N) (i : Fin 128) (k : Fin 512) : (iblk m c 2 t : FVec Ideal S1x128x512 .f32) (ix3 0 i k) = oA m c (ix3 i 0 k) := by
  refine Eq.trans ?_ (o_host m c i k); blk_ext [iblk, idx t]
theorem sz_read (t : Fin cfg0.N) (i : Fin 128) (k : Fin 512) : (iblk m c 3 t : FVec Ideal S1x128x512 .f32) (ix3 0 i k) = szA m c (ix2 i ⟨512 + k.val, by omega⟩) := by
  refine Eq.trans ?_ (sz_host m c i ⟨512 + k.val, by omega⟩); blk_ext [iblk, idx t]
theorem w_read (t : Fin cfg0.N) (k e : Fin 1024) : (iblk m c 4 t : FVec Ideal S1024x1024 .bf16) (ix2 k e) = woutA m c (ix2 k e) := by
  refine Eq.trans ?_ (w_host m c k e); blk_ext [iblk, idx t]

theorem pay1_at (a o s : FVec Ideal S1x128x512 .f32) (x : FVec Ideal S1x128x1024 .f32) (w0 w1 : FVec Ideal S512x1024 .bf16) (i : Fin 128) (e : Fin 1024) :
    k0_pay1 (F := Ideal) a o s x w0 w1 (ix3 0 i e)
      = x (ix3 0 i e) + ∑ k : Fin 512, a (ix3 0 i k) * w0 (ix2 k e) + ∑ k : Fin 512, o (ix3 0 i k) * s (ix3 0 i k) * w1 (ix2 k e) := by
  pointwise [k0_pay1]

/-- Rows `r` onwards of the projection's matrix. -/
theorem w_rows (b : FVec Ideal S1024x1024 .bf16) (r : ℕ) (inb) (k : Fin 512) (e p : Fin 1024) (h : p.val = r + k.val) :
    (View.ld (Val := Elt Ideal) (e' := .bf16) b (Rect.unit (s := S1024x1024) ![r, 0] ![512, 1024] inb) : FVec Ideal S512x1024 .bf16) (ix2 k e) = b (ix2 p e) := by
  show b _ = b _
  congr 1
  funext a
  apply Fin.ext
  match a with
  | 0 => show r + 1 * k.val = p.val; omega
  | 1 => show 0 + 1 * e.val = e.val; omega

/-- The layer's output, of the call's arguments. -/
abbrev res : FVec Ideal S1x128x1024 .f32 := out (xA m c) (yabA m c) (oA m c) (szA m c) (woutA m c)

theorem res_at (i : Fin 128) (e : Fin 1024) (j : S1x128x1024.Idx) (h : j = ix3 0 i e) :
    res m c j = xA m c (ix2 i e) + ∑ k : Fin 512, yabA m c (ix2 i k) * woutA m c (ix2 ⟨k.val, by omega⟩ e)
      + ∑ k : Fin 512, oA m c (ix3 i 0 k) * szA m c (ix2 i ⟨512 + k.val, by omega⟩) * woutA m c (ix2 ⟨512 + k.val, by omega⟩ e) := by
  subst h
  show xA m c (ix2 i e) + ∑ k : Fin 1024, joined (yabA m c) (oA m c) (szA m c) i k * woutA m c (ix2 k e) = _
  rw [sum_halves, ← add_assoc]
  refine congrArg₂ HAdd.hAdd (congrArg₂ HAdd.hAdd rfl (Finset.sum_congr rfl fun k _ => ?_)) (Finset.sum_congr rfl fun k _ => ?_)
  · rw [joined, dif_pos k.isLt]
  · rw [joined, dif_neg (by simp only; omega)]
    congr 3; congr 1; exact Fin.ext (by simp)

set_option maxHeartbeats 1600000 in
theorem arr : (dats m 0 c).arrAt 5 cfg0.N = res m c := by
  refine (dats m 0 c).arrAt_eq_of_covers 5 _ (by decide +kernel) fun t _ y => ?_
  blk_simp
  rw [after0_5]
  frame_out
  idx_vars y
  obtain rfl : y0 = 0 := Subsingleton.elim _ _
  refine (pay1_at _ _ _ _ _ _ y1 y2).trans (Eq.trans ?_ (res_at m c y1 y2 _ ?_).symm)
  rotate_left
  · funext a
    apply Fin.ext
    have z : ((0 : Fin 1) : ℕ) = 0 := rfl
    match a with
    | 0 => blk_simp [idx t] <;> try omega
    | 1 => blk_simp [idx t] <;> try omega
    | 2 => blk_simp [idx t] <;> try omega
  refine congrArg₂ HAdd.hAdd (congrArg₂ HAdd.hAdd (x_read m c t y1 y2) (Finset.sum_congr rfl fun k _ => ?_)) (Finset.sum_congr rfl fun k _ => ?_)
  · exact congrArg₂ HMul.hMul (yab_read m c t y1 k) ((w_rows _ 0 _ k y2 ⟨k.val, by omega⟩ (by simp)).trans (w_read m c t _ y2))
  · exact congrArg₂ HMul.hMul (congrArg₂ HMul.hMul (o_read m c t y1 k) (sz_read m c t y1 k))
      ((w_rows _ 512 _ k y2 ⟨512 + k.val, by omega⟩ rfl).trans (w_read m c t _ y2))

end Cert.OutIdeal.Spec

end
-- ==== Proof.Out.Claim.lean ====
module

public import proofs.«01_k».proof.Defs
public import proofs.«01_k».proof.Proof.Out.Kernel
public import proofs.«01_k».proof.Proof.Gen.OutReferenceIdeal.Run
public import Idealize.ShloMosaic.Lib.Pointwise

@[expose] public section

set_option maxRecDepth 16384

noncomputable section

/-! The kernel and the reference of the sampled tokens' output projection leave the same array. -/

namespace Cert.OutIdeal.Spec

open Cert.OutReferenceIdeal Cert.OutReferenceIdeal.Gen
open Idealize.ShloMosaic Idealize.ShloMosaic.TcCoe Idealize.SL.Sem

theorem proj_ref (x sz : FVec Ideal S128x1024 .f32) (a : FVec Ideal S128x512 .f32) (o : FVec Ideal S128x1x512 .f32) (w : FVec Ideal S1024x1024 .f32)
    (i : Fin 128) (e : Fin 1024) :
    (broadcastInDim S1x128x1024 ![1, 2] bcast_S128x1024_S1x128x1024_1_2 (addf x (Host.dotGeneral dot_S128x1024_S1024x1024_S128x1024_1_0_0_1_n_n none
        (concatenate S128x1024 1 [⟨S128x512, a⟩, ⟨S128x512, mulf (shapeCast S128x512 o shapeCasts_S128x1x512_S128x512) (extractStridedSlice S128x512 ![0, 512] sz slices_S128x1024_S128x512_0_512)⟩]
          concatenates_S128x512_S128x512_S128x1024_d1) w)) : FVec Ideal S1x128x1024 .f32) (ix3 0 i e)
      = x (ix2 i e) + ∑ k : Fin 1024, (if h : k.val < 512 then a (ix2 i ⟨k.val, h⟩)
          else o (ix3 i 0 ⟨k.val - 512, by omega⟩) * sz (ix2 i ⟨512 + (k.val - 512), by omega⟩)) * w (ix2 k e) := by
  pointwise

theorem out_ref (x sz : FVec Ideal S128x1024 .f32) (a : FVec Ideal S128x512 .f32) (o : FVec Ideal S128x1x512 .f32) (w : FVec Ideal S1024x1024 .f32) :
    (broadcastInDim S1x128x1024 ![1, 2] bcast_S128x1024_S1x128x1024_1_2 (addf x (Host.dotGeneral dot_S128x1024_S1024x1024_S128x1024_1_0_0_1_n_n none
        (concatenate S128x1024 1 [⟨S128x512, a⟩, ⟨S128x512, mulf (shapeCast S128x512 o shapeCasts_S128x1x512_S128x512) (extractStridedSlice S128x512 ![0, 512] sz slices_S128x1024_S128x512_0_512)⟩]
          concatenates_S128x512_S128x512_S128x1024_d1) w)) : FVec Ideal S1x128x1024 .f32) = out x a o sz w := by
  funext i; idx_vars i
  obtain rfl : i0 = 0 := Subsingleton.elim _ _
  refine (proj_ref x sz a o w i1 i2).trans ?_
  show _ = x (ix2 i1 i2) + ∑ k : Fin 1024, joined a o sz i1 k * w (ix2 k i2)
  refine congrArg₂ HAdd.hAdd rfl (Finset.sum_congr rfl fun k _ => congrArg₂ HMul.hMul ?_ rfl)
  unfold joined
  split_ifs with h
  · rfl
  · congr 3; exact Fin.ext (by show 512 + (k.val - 512) = k.val; omega)

theorem algebraic : Cert.algebraic_OutIdeal_OutReferenceIdeal (hOutIdeal := Cert.OutIdeal.Gen.facts)
    (hOutReferenceIdeal := Cert.OutReferenceIdeal.Gen.facts) := by
  intro m g m' g' _ h
  refine ⟨fun c => res m c, ?_, ?_⟩
  · refine (θ_run _ _ _).mono (fun r k c => ?_) (Cert.OutIdeal.Value.run_blocks m g)
    obtain ⟨k0, k'⟩ := k c
    exact ⟨k0.trans (arr m c), k'⟩
  · refine (θ_run _ _ _).mono (fun r k c => ?_) (Cert.OutReferenceIdeal.Value.run m' g')
    obtain ⟨k0, k'⟩ := k c
    obtain ⟨h0, h1, h2, h3, h4⟩ := h c
    refine ⟨k0.trans ?_, k'⟩
    refine (out_ref _ _ _ _ _).trans ?_
    unfold res
    exact congr (congr (congr (congr (congrArg out h0) h1) h2) h3) h4

end Cert.OutIdeal.Spec

end
-- ==== Proof.Attn.Id.Offsets.lean ====
/- Where the loads and stores at computed offsets lie: each chain of integer operations in closed form. -/
module

public import proofs.«01_k».proof.Proof.Gen.AttnIdeal.Skeleton
public import proofs.«01_k».proof.Proof.Gen.AttnIdeal.Points
public import Idealize.ShloMosaic.Lib.Tactic
public import Idealize.ShloMosaic.Lib.Pipeline.Kit

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem k0_off1_eq : ∀ (i : grid0.Coords) (k0_t1 : Fin (k0_t1_loop i).trips), k0_off1 i k0_t1 = ![0, 512 * k0_t1.val, 0] := by
  intro i k0_t1
  have h_c0_977 : Affine.IsInt 0#32 (0) := Affine.ofNat _ (by omega)
  have h_c0_i32_697 : Affine.IsInt 0#32 (0) := Affine.ofNat _ (by omega)
  have h_c1_i32_699 : Affine.IsInt 1#32 (1) := Affine.ofNat _ (by omega)
  have r_k0_t1 : k0_t1.val < 5 := Nat.lt_of_lt_of_le k0_t1.isLt (k0_t1_abs i).2.1
  have h_arg14 : Affine.IsInt _ ((k0_t1.val : Int)) := Affine.iv h_c0_i32_697 h_c1_i32_699 k0_t1.val (by omega)
  have c_arg14 : (k0_t1.val : Int) ≤ 5 - 1 := Affine.iv_lt (k0_t1_abs i).1 k0_t1.isLt (k0_t1_abs i).2.2 h_arg14
  have h_c512_i32_976 : Affine.IsInt 512#32 (512) := Affine.ofNat _ (by omega)
  have h_v3163 : Affine.IsInt _ (512 * (k0_t1.val : Int)) := Affine.muli h_arg14 h_c512_i32_976 (by omega)
  have h_v3168 : Affine.IsInt _ (512 * (k0_t1.val : Int)) := Affine.indexCast h_v3163
  have h_c0_978 : Affine.IsInt 0#32 (0) := Affine.ofNat _ (by omega)
  exact Affine.vec_cons (Affine.ofNat 0 (by omega) : Affine.IsInt 0#32 0) (by omega) <| Affine.vec_cons h_v3168 (by omega) <| Affine.vec_cons (Affine.ofNat 0 (by omega) : Affine.IsInt 0#32 0) (by omega) <| Affine.vec_nil
instance closedOff_k0_off1 (i : grid0.Coords) (k0_t1 : Fin (k0_t1_loop i).trips) : ClosedOff (k0_off1 i k0_t1) := ⟨![0, 512 * k0_t1.val, 0], k0_off1_eq i k0_t1⟩
theorem k0_off2_eq : ∀ (i : grid0.Coords) (k0_t1 : Fin (k0_t1_loop i).trips), k0_off2 i k0_t1 = ![0, 512 * k0_t1.val, 0] := by
  intro i k0_t1
  have h_c0_980 : Affine.IsInt 0#32 (0) := Affine.ofNat _ (by omega)
  have h_c0_i32_697 : Affine.IsInt 0#32 (0) := Affine.ofNat _ (by omega)
  have h_c1_i32_699 : Affine.IsInt 1#32 (1) := Affine.ofNat _ (by omega)
  have r_k0_t1 : k0_t1.val < 5 := Nat.lt_of_lt_of_le k0_t1.isLt (k0_t1_abs i).2.1
  have h_arg14 : Affine.IsInt _ ((k0_t1.val : Int)) := Affine.iv h_c0_i32_697 h_c1_i32_699 k0_t1.val (by omega)
  have c_arg14 : (k0_t1.val : Int) ≤ 5 - 1 := Affine.iv_lt (k0_t1_abs i).1 k0_t1.isLt (k0_t1_abs i).2.2 h_arg14
  have h_c512_i32_976 : Affine.IsInt 512#32 (512) := Affine.ofNat _ (by omega)
  have h_v3163 : Affine.IsInt _ (512 * (k0_t1.val : Int)) := Affine.muli h_arg14 h_c512_i32_976 (by omega)
  have h_v3173 : Affine.IsInt _ (512 * (k0_t1.val : Int)) := Affine.indexCast h_v3163
  have h_c0_981 : Affine.IsInt 0#32 (0) := Affine.ofNat _ (by omega)
  exact Affine.vec_cons (Affine.ofNat 0 (by omega) : Affine.IsInt 0#32 0) (by omega) <| Affine.vec_cons h_v3173 (by omega) <| Affine.vec_cons (Affine.ofNat 0 (by omega) : Affine.IsInt 0#32 0) (by omega) <| Affine.vec_nil
instance closedOff_k0_off2 (i : grid0.Coords) (k0_t1 : Fin (k0_t1_loop i).trips) : ClosedOff (k0_off2 i k0_t1) := ⟨![0, 512 * k0_t1.val, 0], k0_off2_eq i k0_t1⟩
theorem k0_off3_eq : ∀ (i : grid0.Coords) (k0_t1 : Fin (k0_t1_loop i).trips), k0_off3 i k0_t1 = ![1, 512 * k0_t1.val, 0] := by
  intro i k0_t1
  have h_c1_989 : Affine.IsInt 1#32 (1) := Affine.ofNat _ (by omega)
  have h_c0_i32_697 : Affine.IsInt 0#32 (0) := Affine.ofNat _ (by omega)
  have h_c1_i32_699 : Affine.IsInt 1#32 (1) := Affine.ofNat _ (by omega)
  have r_k0_t1 : k0_t1.val < 5 := Nat.lt_of_lt_of_le k0_t1.isLt (k0_t1_abs i).2.1
  have h_arg14 : Affine.IsInt _ ((k0_t1.val : Int)) := Affine.iv h_c0_i32_697 h_c1_i32_699 k0_t1.val (by omega)
  have c_arg14 : (k0_t1.val : Int) ≤ 5 - 1 := Affine.iv_lt (k0_t1_abs i).1 k0_t1.isLt (k0_t1_abs i).2.2 h_arg14
  have h_c512_i32_976 : Affine.IsInt 512#32 (512) := Affine.ofNat _ (by omega)
  have h_v3163 : Affine.IsInt _ (512 * (k0_t1.val : Int)) := Affine.muli h_arg14 h_c512_i32_976 (by omega)
  have h_v3185 : Affine.IsInt _ (512 * (k0_t1.val : Int)) := Affine.indexCast h_v3163
  have h_c0_990 : Affine.IsInt 0#32 (0) := Affine.ofNat _ (by omega)
  exact Affine.vec_cons (Affine.ofNat 1 (by omega) : Affine.IsInt 1#32 1) (by omega) <| Affine.vec_cons h_v3185 (by omega) <| Affine.vec_cons (Affine.ofNat 0 (by omega) : Affine.IsInt 0#32 0) (by omega) <| Affine.vec_nil
instance closedOff_k0_off3 (i : grid0.Coords) (k0_t1 : Fin (k0_t1_loop i).trips) : ClosedOff (k0_off3 i k0_t1) := ⟨![1, 512 * k0_t1.val, 0], k0_off3_eq i k0_t1⟩
theorem k0_off4_eq : ∀ (i : grid0.Coords) (k0_t1 : Fin (k0_t1_loop i).trips), k0_off4 i k0_t1 = ![1, 512 * k0_t1.val, 0] := by
  intro i k0_t1
  have h_c1_992 : Affine.IsInt 1#32 (1) := Affine.ofNat _ (by omega)
  have h_c0_i32_697 : Affine.IsInt 0#32 (0) := Affine.ofNat _ (by omega)
  have h_c1_i32_699 : Affine.IsInt 1#32 (1) := Affine.ofNat _ (by omega)
  have r_k0_t1 : k0_t1.val < 5 := Nat.lt_of_lt_of_le k0_t1.isLt (k0_t1_abs i).2.1
  have h_arg14 : Affine.IsInt _ ((k0_t1.val : Int)) := Affine.iv h_c0_i32_697 h_c1_i32_699 k0_t1.val (by omega)
  have c_arg14 : (k0_t1.val : Int) ≤ 5 - 1 := Affine.iv_lt (k0_t1_abs i).1 k0_t1.isLt (k0_t1_abs i).2.2 h_arg14
  have h_c512_i32_976 : Affine.IsInt 512#32 (512) := Affine.ofNat _ (by omega)
  have h_v3163 : Affine.IsInt _ (512 * (k0_t1.val : Int)) := Affine.muli h_arg14 h_c512_i32_976 (by omega)
  have h_v3190 : Affine.IsInt _ (512 * (k0_t1.val : Int)) := Affine.indexCast h_v3163
  have h_c0_993 : Affine.IsInt 0#32 (0) := Affine.ofNat _ (by omega)
  exact Affine.vec_cons (Affine.ofNat 1 (by omega) : Affine.IsInt 1#32 1) (by omega) <| Affine.vec_cons h_v3190 (by omega) <| Affine.vec_cons (Affine.ofNat 0 (by omega) : Affine.IsInt 0#32 0) (by omega) <| Affine.vec_nil
instance closedOff_k0_off4 (i : grid0.Coords) (k0_t1 : Fin (k0_t1_loop i).trips) : ClosedOff (k0_off4 i k0_t1) := ⟨![1, 512 * k0_t1.val, 0], k0_off4_eq i k0_t1⟩
theorem k0_off5_eq : ∀ (i : grid0.Coords) (k0_t2 : Fin (k0_t2_loop i).trips), k0_off5 i k0_t2 = ![0, 512 * ((i 1).val / 2 + k0_t2.val), 0] := fun i k0_t2 => absurd k0_t2.isLt (Nat.not_lt.2 (Nat.le_trans (k0_t2_abs i).2.1 (Nat.zero_le _)))
instance closedOff_k0_off5 (i : grid0.Coords) (k0_t2 : Fin (k0_t2_loop i).trips) : ClosedOff (k0_off5 i k0_t2) := ⟨![0, 512 * ((i 1).val / 2 + k0_t2.val), 0], k0_off5_eq i k0_t2⟩
theorem k0_off6_eq : ∀ (i : grid0.Coords) (k0_t2 : Fin (k0_t2_loop i).trips), k0_off6 i k0_t2 = ![0, 512 * ((i 1).val / 2 + k0_t2.val), 0] := fun i k0_t2 => absurd k0_t2.isLt (Nat.not_lt.2 (Nat.le_trans (k0_t2_abs i).2.1 (Nat.zero_le _)))
instance closedOff_k0_off6 (i : grid0.Coords) (k0_t2 : Fin (k0_t2_loop i).trips) : ClosedOff (k0_off6 i k0_t2) := ⟨![0, 512 * ((i 1).val / 2 + k0_t2.val), 0], k0_off6_eq i k0_t2⟩
theorem k0_off7_eq : ∀ (i : grid0.Coords) (k0_t2 : Fin (k0_t2_loop i).trips), k0_off7 i k0_t2 = ![1, 512 * ((i 1).val / 2 + k0_t2.val), 0] := fun i k0_t2 => absurd k0_t2.isLt (Nat.not_lt.2 (Nat.le_trans (k0_t2_abs i).2.1 (Nat.zero_le _)))
instance closedOff_k0_off7 (i : grid0.Coords) (k0_t2 : Fin (k0_t2_loop i).trips) : ClosedOff (k0_off7 i k0_t2) := ⟨![1, 512 * ((i 1).val / 2 + k0_t2.val), 0], k0_off7_eq i k0_t2⟩
theorem k0_off8_eq : ∀ (i : grid0.Coords) (k0_t2 : Fin (k0_t2_loop i).trips), k0_off8 i k0_t2 = ![1, 512 * ((i 1).val / 2 + k0_t2.val), 0] := fun i k0_t2 => absurd k0_t2.isLt (Nat.not_lt.2 (Nat.le_trans (k0_t2_abs i).2.1 (Nat.zero_le _)))
instance closedOff_k0_off8 (i : grid0.Coords) (k0_t2 : Fin (k0_t2_loop i).trips) : ClosedOff (k0_off8 i k0_t2) := ⟨![1, 512 * ((i 1).val / 2 + k0_t2.val), 0], k0_off8_eq i k0_t2⟩
theorem k0_off9_eq : ∀ i : grid0.Coords, k0_off9 i = ![0, 512 * ((((i 1).val + 1) / 2 + 8388607) % 8388608), 0] := by decide +kernel
instance closedOff_k0_off9 (i : grid0.Coords) : ClosedOff (k0_off9 i) := ⟨![0, 512 * ((((i 1).val + 1) / 2 + 8388607) % 8388608), 0], k0_off9_eq i⟩
theorem k0_off10_eq : ∀ i : grid0.Coords, k0_off10 i = ![0, 512 * ((((i 1).val + 1) / 2 + 8388607) % 8388608), 0] := by decide +kernel
instance closedOff_k0_off10 (i : grid0.Coords) : ClosedOff (k0_off10 i) := ⟨![0, 512 * ((((i 1).val + 1) / 2 + 8388607) % 8388608), 0], k0_off10_eq i⟩
theorem k0_off11_eq : ∀ i : grid0.Coords, k0_off11 i = ![1, 512 * ((((i 1).val + 1) / 2 + 8388607) % 8388608), 0] := by decide +kernel
instance closedOff_k0_off11 (i : grid0.Coords) : ClosedOff (k0_off11 i) := ⟨![1, 512 * ((((i 1).val + 1) / 2 + 8388607) % 8388608), 0], k0_off11_eq i⟩
theorem k0_off12_eq : ∀ i : grid0.Coords, k0_off12 i = ![1, 512 * ((((i 1).val + 1) / 2 + 8388607) % 8388608), 0] := by decide +kernel
instance closedOff_k0_off12 (i : grid0.Coords) : ClosedOff (k0_off12 i) := ⟨![1, 512 * ((((i 1).val + 1) / 2 + 8388607) % 8388608), 0], k0_off12_eq i⟩
theorem k0_off29_eq_00 : ∀ i : grid0.Coords, k0_off29 i 0#32 0#32 = ![0, 128 * (2 * (i 1).val + 0 - 2), 0] := by decide +kernel
instance closedOff_k0_off29_00 (i : grid0.Coords) : ClosedOff (k0_off29 i 0#32 0#32) := ⟨![0, 128 * (2 * (i 1).val + 0 - 2), 0], k0_off29_eq_00 i⟩
theorem k0_off29_eq_01 : ∀ i : grid0.Coords, k0_off29 i 0#32 1#32 = ![0, 128 * (2 * (i 1).val + 1 - 2), 0] := by decide +kernel
instance closedOff_k0_off29_01 (i : grid0.Coords) : ClosedOff (k0_off29 i 0#32 1#32) := ⟨![0, 128 * (2 * (i 1).val + 1 - 2), 0], k0_off29_eq_01 i⟩
theorem k0_off29_eq_02 : ∀ i : grid0.Coords, k0_off29 i 0#32 2#32 = ![0, 128 * (2 * (i 1).val + 2 - 2), 0] := by decide +kernel
instance closedOff_k0_off29_02 (i : grid0.Coords) : ClosedOff (k0_off29 i 0#32 2#32) := ⟨![0, 128 * (2 * (i 1).val + 2 - 2), 0], k0_off29_eq_02 i⟩
theorem k0_off29_eq_10 : ∀ i : grid0.Coords, k0_off29 i 1#32 0#32 = ![0, 128 * (2 * (i 1).val + 1 - 2), 0] := by decide +kernel
instance closedOff_k0_off29_10 (i : grid0.Coords) : ClosedOff (k0_off29 i 1#32 0#32) := ⟨![0, 128 * (2 * (i 1).val + 1 - 2), 0], k0_off29_eq_10 i⟩
theorem k0_off29_eq_11 : ∀ i : grid0.Coords, k0_off29 i 1#32 1#32 = ![0, 128 * (2 * (i 1).val + 2 - 2), 0] := by decide +kernel
instance closedOff_k0_off29_11 (i : grid0.Coords) : ClosedOff (k0_off29 i 1#32 1#32) := ⟨![0, 128 * (2 * (i 1).val + 2 - 2), 0], k0_off29_eq_11 i⟩
theorem k0_off29_eq_12 : ∀ i : grid0.Coords, k0_off29 i 1#32 2#32 = ![0, 128 * (2 * (i 1).val + 3 - 2), 0] := by decide +kernel
instance closedOff_k0_off29_12 (i : grid0.Coords) : ClosedOff (k0_off29 i 1#32 2#32) := ⟨![0, 128 * (2 * (i 1).val + 3 - 2), 0], k0_off29_eq_12 i⟩
theorem k0_off30_eq_00 : ∀ i : grid0.Coords, k0_off30 i 0#32 0#32 = ![0, 0, 128, 128 * (2 * (i 1).val + 0 - 2)] := by decide +kernel
instance closedOff_k0_off30_00 (i : grid0.Coords) : ClosedOff (k0_off30 i 0#32 0#32) := ⟨![0, 0, 128, 128 * (2 * (i 1).val + 0 - 2)], k0_off30_eq_00 i⟩
theorem k0_off30_eq_01 : ∀ i : grid0.Coords, k0_off30 i 0#32 1#32 = ![0, 0, 128, 128 * (2 * (i 1).val + 1 - 2)] := by decide +kernel
instance closedOff_k0_off30_01 (i : grid0.Coords) : ClosedOff (k0_off30 i 0#32 1#32) := ⟨![0, 0, 128, 128 * (2 * (i 1).val + 1 - 2)], k0_off30_eq_01 i⟩
theorem k0_off30_eq_02 : ∀ i : grid0.Coords, k0_off30 i 0#32 2#32 = ![0, 0, 128, 128 * (2 * (i 1).val + 2 - 2)] := by decide +kernel
instance closedOff_k0_off30_02 (i : grid0.Coords) : ClosedOff (k0_off30 i 0#32 2#32) := ⟨![0, 0, 128, 128 * (2 * (i 1).val + 2 - 2)], k0_off30_eq_02 i⟩
theorem k0_off30_eq_10 : ∀ i : grid0.Coords, k0_off30 i 1#32 0#32 = ![0, 0, 128, 128 * (2 * (i 1).val + 1 - 2)] := by decide +kernel
instance closedOff_k0_off30_10 (i : grid0.Coords) : ClosedOff (k0_off30 i 1#32 0#32) := ⟨![0, 0, 128, 128 * (2 * (i 1).val + 1 - 2)], k0_off30_eq_10 i⟩
theorem k0_off30_eq_11 : ∀ i : grid0.Coords, k0_off30 i 1#32 1#32 = ![0, 0, 128, 128 * (2 * (i 1).val + 2 - 2)] := by decide +kernel
instance closedOff_k0_off30_11 (i : grid0.Coords) : ClosedOff (k0_off30 i 1#32 1#32) := ⟨![0, 0, 128, 128 * (2 * (i 1).val + 2 - 2)], k0_off30_eq_11 i⟩
theorem k0_off30_eq_12 : ∀ i : grid0.Coords, k0_off30 i 1#32 2#32 = ![0, 0, 128, 128 * (2 * (i 1).val + 3 - 2)] := by decide +kernel
instance closedOff_k0_off30_12 (i : grid0.Coords) : ClosedOff (k0_off30 i 1#32 2#32) := ⟨![0, 0, 128, 128 * (2 * (i 1).val + 3 - 2)], k0_off30_eq_12 i⟩
theorem k0_off31_eq_00 : ∀ i : grid0.Coords, k0_off31 i 0#32 0#32 = ![1, 128 * (2 * (i 1).val + 0 - 2), 0] := by decide +kernel
instance closedOff_k0_off31_00 (i : grid0.Coords) : ClosedOff (k0_off31 i 0#32 0#32) := ⟨![1, 128 * (2 * (i 1).val + 0 - 2), 0], k0_off31_eq_00 i⟩
theorem k0_off31_eq_01 : ∀ i : grid0.Coords, k0_off31 i 0#32 1#32 = ![1, 128 * (2 * (i 1).val + 1 - 2), 0] := by decide +kernel
instance closedOff_k0_off31_01 (i : grid0.Coords) : ClosedOff (k0_off31 i 0#32 1#32) := ⟨![1, 128 * (2 * (i 1).val + 1 - 2), 0], k0_off31_eq_01 i⟩
theorem k0_off31_eq_02 : ∀ i : grid0.Coords, k0_off31 i 0#32 2#32 = ![1, 128 * (2 * (i 1).val + 2 - 2), 0] := by decide +kernel
instance closedOff_k0_off31_02 (i : grid0.Coords) : ClosedOff (k0_off31 i 0#32 2#32) := ⟨![1, 128 * (2 * (i 1).val + 2 - 2), 0], k0_off31_eq_02 i⟩
theorem k0_off31_eq_10 : ∀ i : grid0.Coords, k0_off31 i 1#32 0#32 = ![1, 128 * (2 * (i 1).val + 1 - 2), 0] := by decide +kernel
instance closedOff_k0_off31_10 (i : grid0.Coords) : ClosedOff (k0_off31 i 1#32 0#32) := ⟨![1, 128 * (2 * (i 1).val + 1 - 2), 0], k0_off31_eq_10 i⟩
theorem k0_off31_eq_11 : ∀ i : grid0.Coords, k0_off31 i 1#32 1#32 = ![1, 128 * (2 * (i 1).val + 2 - 2), 0] := by decide +kernel
instance closedOff_k0_off31_11 (i : grid0.Coords) : ClosedOff (k0_off31 i 1#32 1#32) := ⟨![1, 128 * (2 * (i 1).val + 2 - 2), 0], k0_off31_eq_11 i⟩
theorem k0_off31_eq_12 : ∀ i : grid0.Coords, k0_off31 i 1#32 2#32 = ![1, 128 * (2 * (i 1).val + 3 - 2), 0] := by decide +kernel
instance closedOff_k0_off31_12 (i : grid0.Coords) : ClosedOff (k0_off31 i 1#32 2#32) := ⟨![1, 128 * (2 * (i 1).val + 3 - 2), 0], k0_off31_eq_12 i⟩

end Cert.AttnIdeal.Run

end
-- ==== Proof.Attn.Id.Loops.lean ====
/- The two loops over the key chunks that come before the last one: their invariants. -/
module

public import proofs.«01_k».proof.Proof.Attn.Id.Offsets
public import proofs.«01_k».proof.Proof.Gen.AttnIdeal.Loops
public import Idealize.ShloMosaic.Lib.Exec

@[expose] public section

set_option maxRecDepth 16384
set_option maxHeartbeats 4000000

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-- What a trip of the loop holds: the memrefs it only reads at their contents, those it stores into at the contents it finds. -/
abbrev Trip_k0_t1 (c : Dev nD) (arg9 : Memref sig .tc .vmem S2x2048x128 .bf16) (arg11 : Memref sig .tc .vmem S2x2048x1024 .bf16) (arg13 : Memref sig .tc .vmem S2x1x1024 .f32) (X_arg9 : BufTy.Contents (Elt F) arg9.view.ty) (f_arg11 : BufTy.Contents (Elt F) arg11.view.ty) (f_arg13 : BufTy.Contents (Elt F) arg13.view.ty) : sProp 𝕄G :=
  iprop((arg9.view.loc (c : Thread nD τ) ↦[arg9.view.set]{fullShare} X_arg9) ∗ (arg11.view.loc (c : Thread nD τ) ↦[arg11.view.set]{fullShare} f_arg11) ∗ (arg13.view.loc (c : Thread nD τ) ↦[arg13.view.set]{fullShare} f_arg13))

/-- One trip at a symbolic trip number: the pieces it stores, as functions of the contents it finds, and its triple. -/
@[irreducible] def trip_k0_t1 (𝒱 : Variants) (c : Dev nD) (bd : Option 𝒱.V) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (v3 : IVec S1x256 32) (v1169 : FVec F S128x1024 .bf16) (v2289 : FVec F S128x1024 .bf16) (v2303 : BitVec 1) (v2323 : BitVec 32) (v2341 : BitVec 32) (X_arg9 : BufTy.Contents (Elt F) arg9.view.ty) (k : Fin (k0_t1_loop i).trips) :
    Σ' (L_arg11 : (BufTy.Contents (Elt F) arg11.view.ty → BufTy.Contents (Elt F) arg13.view.ty → List (View.Piece (Elt F) S2x2048x1024 .bf16))) , { L_arg13 : (BufTy.Contents (Elt F) arg11.view.ty → BufTy.Contents (Elt F) arg13.view.ty → List (View.Piece (Elt F) S2x1x1024 .f32)) // ∀ (E : Set ℕ) (f_arg11 : BufTy.Contents (Elt F) arg11.view.ty) (f_arg13 : BufTy.Contents (Elt F) arg13.view.ty),
      Trip_k0_t1 (F := F) c arg9 arg11 arg13 X_arg9 f_arg11 f_arg13
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 v3 v1169 v2289 v2303 v2323 v2341 k PUnit.unit)
          (fun _ => Trip_k0_t1 (F := F) c arg9 arg11 arg13 X_arg9 (arg11.view.writes (Elt F) f_arg11 (L_arg11 f_arg11 f_arg13)) (arg13.view.writes (Elt F) f_arg13 (L_arg13 f_arg11 f_arg13))) } := by
  refine ⟨?_, ?_, fun E f_arg11 f_arg13 => ?run⟩
  case run =>
    unfold k0_t1_body
    iintro ⟨HR_arg9, HW_arg11, HW_arg13⟩
    sl_exec
    sl_step
    sl_close

/-- The pieces one trip stores. -/
abbrev tripL_k0_t1 (𝒱 : Variants) (c : Dev nD) (bd : Option 𝒱.V) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (v3 : IVec S1x256 32) (v1169 : FVec F S128x1024 .bf16) (v2289 : FVec F S128x1024 .bf16) (v2303 : BitVec 1) (v2323 : BitVec 32) (v2341 : BitVec 32) (X_arg9 : BufTy.Contents (Elt F) arg9.view.ty) (k : Fin (k0_t1_loop i).trips) (f_arg11 : BufTy.Contents (Elt F) arg11.view.ty) (f_arg13 : BufTy.Contents (Elt F) arg13.view.ty) : List (View.Piece (Elt F) S2x2048x1024 .bf16) × List (View.Piece (Elt F) S2x1x1024 .f32) :=
  ((trip_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 k).1 f_arg11 f_arg13, (trip_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 k).2.1 f_arg11 f_arg13)

/-- The pieces stored so far, with those of trip `k` put in front. -/
@[irreducible] def pb_k0_t1Step (𝒱 : Variants) (c : Dev nD) (bd : Option 𝒱.V) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (v3 : IVec S1x256 32) (v1169 : FVec F S128x1024 .bf16) (v2289 : FVec F S128x1024 .bf16) (v2303 : BitVec 1) (v2323 : BitVec 32) (v2341 : BitVec 32) (X_arg9 : BufTy.Contents (Elt F) arg9.view.ty) (G_arg11 : BufTy.Contents (Elt F) arg11.view.ty) (G_arg13 : BufTy.Contents (Elt F) arg13.view.ty) (k : ℕ) (prev : List (View.Piece (Elt F) S2x2048x1024 .bf16) × List (View.Piece (Elt F) S2x1x1024 .f32)) : List (View.Piece (Elt F) S2x2048x1024 .bf16) × List (View.Piece (Elt F) S2x1x1024 .f32) :=
  if h : k < (k0_t1_loop i).trips then
    ((tripL_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 ⟨k, h⟩ (arg11.view.writes (Elt F) G_arg11 prev.1) (arg13.view.writes (Elt F) G_arg13 prev.2)).1 ++ prev.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 ⟨k, h⟩ (arg11.view.writes (Elt F) G_arg11 prev.1) (arg13.view.writes (Elt F) G_arg13 prev.2)).2 ++ prev.2)
  else prev

/-- The pieces of the trips before `k`, the last first. -/
def pb_k0_t1 (𝒱 : Variants) (c : Dev nD) (bd : Option 𝒱.V) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (v3 : IVec S1x256 32) (v1169 : FVec F S128x1024 .bf16) (v2289 : FVec F S128x1024 .bf16) (v2303 : BitVec 1) (v2323 : BitVec 32) (v2341 : BitVec 32) (X_arg9 : BufTy.Contents (Elt F) arg9.view.ty) (G_arg11 : BufTy.Contents (Elt F) arg11.view.ty) (G_arg13 : BufTy.Contents (Elt F) arg13.view.ty) : ℕ → List (View.Piece (Elt F) S2x2048x1024 .bf16) × List (View.Piece (Elt F) S2x1x1024 .f32)
  | 0 => ([], [])
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 G_arg11 G_arg13 k (pb_k0_t1 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 G_arg11 G_arg13 k)

/-- The pieces after one more trip. -/
theorem pb_k0_t1_succ (𝒱 : Variants) (c : Dev nD) (bd : Option 𝒱.V) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (v3 : IVec S1x256 32) (v1169 : FVec F S128x1024 .bf16) (v2289 : FVec F S128x1024 .bf16) (v2303 : BitVec 1) (v2323 : BitVec 32) (v2341 : BitVec 32) (X_arg9 : BufTy.Contents (Elt F) arg9.view.ty) (G_arg11 : BufTy.Contents (Elt F) arg11.view.ty) (G_arg13 : BufTy.Contents (Elt F) arg13.view.ty) (k : Fin (k0_t1_loop i).trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 G_arg11 G_arg13 (k.val + 1)
      = ((tripL_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 k (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 G_arg11 G_arg13 k.val).1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 G_arg11 G_arg13 k.val).2)).1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 G_arg11 G_arg13 k.val).1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 k (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 G_arg11 G_arg13 k.val).1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 G_arg11 G_arg13 k.val).2)).2 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 G_arg11 G_arg13 k.val).2) := by
  rw [pb_k0_t1.eq_2]; unfold pb_k0_t1Step; exact dif_pos k.isLt

/-- The loop invariant before trip `k`: each memref stored into holds the pieces of the earlier trips over what it held at entry. -/
abbrev inv_k0_t1 (𝒱 : Variants) (c : Dev nD) (bd : Option 𝒱.V) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (v3 : IVec S1x256 32) (v1169 : FVec F S128x1024 .bf16) (v2289 : FVec F S128x1024 .bf16) (v2303 : BitVec 1) (v2323 : BitVec 32) (v2341 : BitVec 32) (X_arg9 : BufTy.Contents (Elt F) arg9.view.ty) (G_arg11 : BufTy.Contents (Elt F) arg11.view.ty) (G_arg13 : BufTy.Contents (Elt F) arg13.view.ty) (k : ℕ) (_u : PUnit) : sProp 𝕄G :=
  iprop((arg9.view.loc (c : Thread nD τ) ↦[arg9.view.set]{fullShare} X_arg9) ∗ (∃ f, (arg11.view.loc (c : Thread nD τ) ↦[arg11.view.set]{fullShare} f) ∗ ⌜f = arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 G_arg11 G_arg13 k).1⌝) ∗ (∃ f, (arg13.view.loc (c : Thread nD τ) ↦[arg13.view.set]{fullShare} f) ∗ ⌜f = arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 G_arg11 G_arg13 k).2⌝))

set_option warn.classDefReducibility false in
/-- The loop is run by that invariant, one symbolic trip. -/
@[sl_loop] def loopInv_k0_t1 (𝒱 : Variants) (c : Dev nD) (bd : Option 𝒱.V) (E : Set ℕ) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (v3 : IVec S1x256 32) (v1169 : FVec F S128x1024 .bf16) (v2289 : FVec F S128x1024 .bf16) (v2303 : BitVec 1) (v2323 : BitVec 32) (v2341 : BitVec 32) (X_arg9 : BufTy.Contents (Elt F) arg9.view.ty) (G_arg11 : BufTy.Contents (Elt F) arg11.view.ty) (G_arg13 : BufTy.Contents (Elt F) arg13.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v3 v1169 v2289 v2303 v2323 v2341 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 G_arg11 G_arg13
  step k acc := by
    iintro ⟨HR_arg9, ⟨%f_arg11, HW_arg11, %h_arg11⟩, ⟨%f_arg13, HW_arg13, %h_arg13⟩⟩
    iapply (wp_wand_r Idealize.ShloMosaic.frame (wpE (defs₀ (F := F)) 𝒱 (c : Thread nD τ) bd) E)
    isplitl [HR_arg9 HW_arg11 HW_arg13]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 X_arg9 k).2.2 E f_arg11 f_arg13)
      isplitl [HR_arg9]; · iexact HR_arg9
      isplitl [HW_arg11]; · iexact HW_arg11
      iexact HW_arg13
    · iintro %_ ⟨HR_arg9, HW_arg11, HW_arg13⟩
      isplitl [HR_arg9]; · iexact HR_arg9
      rw [pb_k0_t1_succ]
      isplitl [HW_arg11]
      · iexists _; isplitl [HW_arg11]; · iexact HW_arg11
        ipureintro; rw [h_arg11, h_arg13, ← View.writes_append]
      iexists _; isplitl [HW_arg13]; · iexact HW_arg13
      ipureintro; rw [h_arg11, h_arg13, ← View.writes_append]

/-- What a trip of the loop holds: the memrefs it only reads at their contents, those it stores into at the contents it finds. -/
abbrev Trip_k0_t2 (c : Dev nD) (arg9 : Memref sig .tc .vmem S2x2048x128 .bf16) (arg11 : Memref sig .tc .vmem S2x2048x1024 .bf16) (arg13 : Memref sig .tc .vmem S2x1x1024 .f32) (X_arg9 : BufTy.Contents (Elt F) arg9.view.ty) (f_arg11 : BufTy.Contents (Elt F) arg11.view.ty) (f_arg13 : BufTy.Contents (Elt F) arg13.view.ty) : sProp 𝕄G :=
  iprop((arg9.view.loc (c : Thread nD τ) ↦[arg9.view.set]{fullShare} X_arg9) ∗ (arg11.view.loc (c : Thread nD τ) ↦[arg11.view.set]{fullShare} f_arg11) ∗ (arg13.view.loc (c : Thread nD τ) ↦[arg13.view.set]{fullShare} f_arg13))

/-- One trip at a symbolic trip number: the pieces it stores, as functions of the contents it finds, and its triple. -/
@[irreducible] def trip_k0_t2 (𝒱 : Variants) (c : Dev nD) (bd : Option 𝒱.V) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (v3 : IVec S1x256 32) (v1169 : FVec F S128x1024 .bf16) (v2289 : FVec F S128x1024 .bf16) (v2303 : BitVec 1) (v2323 : BitVec 32) (v2341 : BitVec 32) (v2354 : BitVec 32) (X_arg9 : BufTy.Contents (Elt F) arg9.view.ty) (k : Fin (k0_t2_loop i).trips) :
    Σ' (L_arg11 : (BufTy.Contents (Elt F) arg11.view.ty → BufTy.Contents (Elt F) arg13.view.ty → List (View.Piece (Elt F) S2x2048x1024 .bf16))) , { L_arg13 : (BufTy.Contents (Elt F) arg11.view.ty → BufTy.Contents (Elt F) arg13.view.ty → List (View.Piece (Elt F) S2x1x1024 .f32)) // ∀ (E : Set ℕ) (f_arg11 : BufTy.Contents (Elt F) arg11.view.ty) (f_arg13 : BufTy.Contents (Elt F) arg13.view.ty),
      Trip_k0_t2 (F := F) c arg9 arg11 arg13 X_arg9 f_arg11 f_arg13
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 v3 v1169 v2289 v2303 v2323 v2341 v2354 k PUnit.unit)
          (fun _ => Trip_k0_t2 (F := F) c arg9 arg11 arg13 X_arg9 (arg11.view.writes (Elt F) f_arg11 (L_arg11 f_arg11 f_arg13)) (arg13.view.writes (Elt F) f_arg13 (L_arg13 f_arg11 f_arg13))) } := by
  refine ⟨?_, ?_, fun E f_arg11 f_arg13 => ?run⟩
  case run =>
    unfold k0_t2_body
    iintro ⟨HR_arg9, HW_arg11, HW_arg13⟩
    sl_exec
    sl_step
    sl_close

/-- The pieces one trip stores. -/
abbrev tripL_k0_t2 (𝒱 : Variants) (c : Dev nD) (bd : Option 𝒱.V) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (v3 : IVec S1x256 32) (v1169 : FVec F S128x1024 .bf16) (v2289 : FVec F S128x1024 .bf16) (v2303 : BitVec 1) (v2323 : BitVec 32) (v2341 : BitVec 32) (v2354 : BitVec 32) (X_arg9 : BufTy.Contents (Elt F) arg9.view.ty) (k : Fin (k0_t2_loop i).trips) (f_arg11 : BufTy.Contents (Elt F) arg11.view.ty) (f_arg13 : BufTy.Contents (Elt F) arg13.view.ty) : List (View.Piece (Elt F) S2x2048x1024 .bf16) × List (View.Piece (Elt F) S2x1x1024 .f32) :=
  ((trip_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 k).1 f_arg11 f_arg13, (trip_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 k).2.1 f_arg11 f_arg13)

/-- The pieces stored so far, with those of trip `k` put in front. -/
@[irreducible] def pb_k0_t2Step (𝒱 : Variants) (c : Dev nD) (bd : Option 𝒱.V) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (v3 : IVec S1x256 32) (v1169 : FVec F S128x1024 .bf16) (v2289 : FVec F S128x1024 .bf16) (v2303 : BitVec 1) (v2323 : BitVec 32) (v2341 : BitVec 32) (v2354 : BitVec 32) (X_arg9 : BufTy.Contents (Elt F) arg9.view.ty) (G_arg11 : BufTy.Contents (Elt F) arg11.view.ty) (G_arg13 : BufTy.Contents (Elt F) arg13.view.ty) (k : ℕ) (prev : List (View.Piece (Elt F) S2x2048x1024 .bf16) × List (View.Piece (Elt F) S2x1x1024 .f32)) : List (View.Piece (Elt F) S2x2048x1024 .bf16) × List (View.Piece (Elt F) S2x1x1024 .f32) :=
  if h : k < (k0_t2_loop i).trips then
    ((tripL_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 ⟨k, h⟩ (arg11.view.writes (Elt F) G_arg11 prev.1) (arg13.view.writes (Elt F) G_arg13 prev.2)).1 ++ prev.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 ⟨k, h⟩ (arg11.view.writes (Elt F) G_arg11 prev.1) (arg13.view.writes (Elt F) G_arg13 prev.2)).2 ++ prev.2)
  else prev

/-- The pieces of the trips before `k`, the last first. -/
def pb_k0_t2 (𝒱 : Variants) (c : Dev nD) (bd : Option 𝒱.V) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (v3 : IVec S1x256 32) (v1169 : FVec F S128x1024 .bf16) (v2289 : FVec F S128x1024 .bf16) (v2303 : BitVec 1) (v2323 : BitVec 32) (v2341 : BitVec 32) (v2354 : BitVec 32) (X_arg9 : BufTy.Contents (Elt F) arg9.view.ty) (G_arg11 : BufTy.Contents (Elt F) arg11.view.ty) (G_arg13 : BufTy.Contents (Elt F) arg13.view.ty) : ℕ → List (View.Piece (Elt F) S2x2048x1024 .bf16) × List (View.Piece (Elt F) S2x1x1024 .f32)
  | 0 => ([], [])
  | k + 1 => pb_k0_t2Step 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 G_arg11 G_arg13 k (pb_k0_t2 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 G_arg11 G_arg13 k)

/-- The pieces after one more trip. -/
theorem pb_k0_t2_succ (𝒱 : Variants) (c : Dev nD) (bd : Option 𝒱.V) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (v3 : IVec S1x256 32) (v1169 : FVec F S128x1024 .bf16) (v2289 : FVec F S128x1024 .bf16) (v2303 : BitVec 1) (v2323 : BitVec 32) (v2341 : BitVec 32) (v2354 : BitVec 32) (X_arg9 : BufTy.Contents (Elt F) arg9.view.ty) (G_arg11 : BufTy.Contents (Elt F) arg11.view.ty) (G_arg13 : BufTy.Contents (Elt F) arg13.view.ty) (k : Fin (k0_t2_loop i).trips) :
    pb_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 G_arg11 G_arg13 (k.val + 1)
      = ((tripL_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 k (arg11.view.writes (Elt F) G_arg11 (pb_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 G_arg11 G_arg13 k.val).1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 G_arg11 G_arg13 k.val).2)).1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 G_arg11 G_arg13 k.val).1, (tripL_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 k (arg11.view.writes (Elt F) G_arg11 (pb_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 G_arg11 G_arg13 k.val).1) (arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 G_arg11 G_arg13 k.val).2)).2 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 G_arg11 G_arg13 k.val).2) := by
  rw [pb_k0_t2.eq_2]; unfold pb_k0_t2Step; exact dif_pos k.isLt

/-- The loop invariant before trip `k`: each memref stored into holds the pieces of the earlier trips over what it held at entry. -/
abbrev inv_k0_t2 (𝒱 : Variants) (c : Dev nD) (bd : Option 𝒱.V) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (v3 : IVec S1x256 32) (v1169 : FVec F S128x1024 .bf16) (v2289 : FVec F S128x1024 .bf16) (v2303 : BitVec 1) (v2323 : BitVec 32) (v2341 : BitVec 32) (v2354 : BitVec 32) (X_arg9 : BufTy.Contents (Elt F) arg9.view.ty) (G_arg11 : BufTy.Contents (Elt F) arg11.view.ty) (G_arg13 : BufTy.Contents (Elt F) arg13.view.ty) (k : ℕ) (_u : PUnit) : sProp 𝕄G :=
  iprop((arg9.view.loc (c : Thread nD τ) ↦[arg9.view.set]{fullShare} X_arg9) ∗ (∃ f, (arg11.view.loc (c : Thread nD τ) ↦[arg11.view.set]{fullShare} f) ∗ ⌜f = arg11.view.writes (Elt F) G_arg11 (pb_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 G_arg11 G_arg13 k).1⌝) ∗ (∃ f, (arg13.view.loc (c : Thread nD τ) ↦[arg13.view.set]{fullShare} f) ∗ ⌜f = arg13.view.writes (Elt F) G_arg13 (pb_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 G_arg11 G_arg13 k).2⌝))

set_option warn.classDefReducibility false in
/-- The loop is run by that invariant, one symbolic trip. -/
@[sl_loop] def loopInv_k0_t2 (𝒱 : Variants) (c : Dev nD) (bd : Option 𝒱.V) (E : Set ℕ) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (v3 : IVec S1x256 32) (v1169 : FVec F S128x1024 .bf16) (v2289 : FVec F S128x1024 .bf16) (v2303 : BitVec 1) (v2323 : BitVec 32) (v2341 : BitVec 32) (v2354 : BitVec 32) (X_arg9 : BufTy.Contents (Elt F) arg9.view.ty) (G_arg11 : BufTy.Contents (Elt F) arg11.view.ty) (G_arg13 : BufTy.Contents (Elt F) arg13.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v3 v1169 v2289 v2303 v2323 v2341 v2354 where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 G_arg11 G_arg13
  step k acc := by
    iintro ⟨HR_arg9, ⟨%f_arg11, HW_arg11, %h_arg11⟩, ⟨%f_arg13, HW_arg13, %h_arg13⟩⟩
    iapply (wp_wand_r Idealize.ShloMosaic.frame (wpE (defs₀ (F := F)) 𝒱 (c : Thread nD τ) bd) E)
    isplitl [HR_arg9 HW_arg11 HW_arg13]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 v3 v1169 v2289 v2303 v2323 v2341 v2354 X_arg9 k).2.2 E f_arg11 f_arg13)
      isplitl [HR_arg9]; · iexact HR_arg9
      isplitl [HW_arg11]; · iexact HW_arg11
      iexact HW_arg13
    · iintro %_ ⟨HR_arg9, HW_arg11, HW_arg13⟩
      isplitl [HR_arg9]; · iexact HR_arg9
      rw [pb_k0_t2_succ]
      isplitl [HW_arg11]
      · iexists _; isplitl [HW_arg11]; · iexact HW_arg11
        ipureintro; rw [h_arg11, h_arg13, ← View.writes_append]
      iexists _; isplitl [HW_arg13]; · iexact HW_arg13
      ipureintro; rw [h_arg11, h_arg13, ← View.writes_append]

end Cert.AttnIdeal.Run

end
-- ==== Proof.Attn.Id.Setup.lean ====
/- The branch conditions of the body by the number of the grid point, its staging memrefs and its scratch. -/
module

public import proofs.«01_k».proof.Proof.Gen.AttnIdeal.Frame
public import proofs.«01_k».proof.Proof.Attn.Id.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From a run that leaves each staged input array as the region found it, the argument arrays end as launched. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c))⟩) h

/-- The condition of the first branch: the first query block, which fills the key scratch. -/
abbrev cond0_0 (i : grid0.Coords) : Prop := (Scalar.cmpi .ne (Scalar.extui (Scalar.cmpi .eq (BitVec.ofNat 32 (i 1).val) 0#32)) 0#32) = 1#1
/-- It holds at every eighth grid point. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the second branch: the last key chunk is a whole one. -/
abbrev cond0_1 (i : grid0.Coords) : Prop := k0_cond2 i = 1#1
/-- It holds at the odd grid points. -/
theorem hcond0_1 : ∀ t : Fin cfg0.N, cond0_1 (grid0.coords t) ↔ t.val % 2 = 1 :=
  (by decide +kernel : ∀ t : Fin grid0.N, cond0_1 (grid0.coords t) ↔ t.val % 2 = 1)

/-- The condition of the third branch: the last key chunk is half a chunk. -/
abbrev cond0_2 (i : grid0.Coords) : Prop := k0_cond3 i = 1#1
/-- It holds at the even grid points. -/
theorem hcond0_2 : ∀ t : Fin cfg0.N, cond0_2 (grid0.coords t) ↔ t.val % 2 = 0 :=
  (by decide +kernel : ∀ t : Fin grid0.N, cond0_2 (grid0.coords t) ↔ t.val % 2 = 0)

/-- The condition of the fourth branch: the value product of half a chunk. -/
abbrev cond0_3 (i : grid0.Coords) : Prop := k0_cond4 i = 1#1
/-- It holds at the even grid points. -/
theorem hcond0_3 : ∀ t : Fin cfg0.N, cond0_3 (grid0.coords t) ↔ t.val % 2 = 0 :=
  (by decide +kernel : ∀ t : Fin grid0.N, cond0_3 (grid0.coords t) ↔ t.val % 2 = 0)

/-- The staging memref of each window at a grid point, and that it is a whole buffer. -/
abbrev ms0_0 (t : Fin cfg0.N) : Memref sig .tc .vmem S1x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x512 .f32 := win0_6.stage (cfg0.slots t 6)
abbrev hs0_6 (t : Fin cfg0.N) : (ms0_6 t).IsWhole := hstage0_6 ((cfg0.slots t 6).cast nbuf0_6)
/-- The five scratch buffers as memrefs: the two key copies, the scores, the accumulator, the running maximum. -/
abbrev scM0_0 : Memref sig .tc .vmem S2x2048x128 .bf16 := Memref.whole cc0_scratch0
abbrev scM0_1 : Memref sig .tc .vmem S2x2048x64 .bf16 := Memref.whole cc0_scratch1
abbrev scM0_2 : Memref sig .tc .vmem S2x2048x1024 .bf16 := Memref.whole cc0_scratch2
abbrev scM0_3 : Memref sig .tc .vmem S2x80x1024 .f32 := Memref.whole cc0_scratch3
abbrev scM0_4 : Memref sig .tc .vmem S2x1x1024 .f32 := Memref.whole cc0_scratch4

/-- What is carried between grid points: every scratch buffer at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.AttnIdeal.Run

end
-- ==== Proof.Attn.Id.RunA.lean ====
/- The whole body in one of its three cases. -/
module

public import proofs.«01_k».proof.Proof.Attn.Id.Setup

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3968000 in
/-- The body at a first query block: the key scratch is filled, the last chunk is a half one.  The inputs come back as they were, the output and the scratch at some contents. -/
theorem kernelRun0_A (c : Dev nD) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (hc0 : cond0_0 i) (hc1 : ¬cond0_1 i) (hc2 : cond0_2 i) (hc3 : cond0_3 i)
    (x0 : Vec F S1x512x256 .f32) (x1 : Vec F S1x128x256 .f32) (x2 : Vec F S1x1x256x2048 .f32) (x3 : Vec F S1x1x256x2048 .f32) (x4 : Vec F S1x32x256 .f32) (x5 : Vec F S32x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13) K := by
    intro E K
    simp only [cc0_attn_prompt_eq_skeleton]; unfold cc0_attn_prompt_skel
    simp only [k0_part120_eq_skeleton, k0_part51_eq_skeleton, k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part47_eq_skeleton, k0_part103_eq_skeleton, k0_part50_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.AttnIdeal.Run

end
-- ==== Proof.Attn.Id.RunB.lean ====
/- The whole body in one of its three cases. -/
module

public import proofs.«01_k».proof.Proof.Attn.Id.Setup

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2152000 in
/-- The body at an odd query block: the last chunk is a whole one. -/
theorem kernelRun0_B (c : Dev nD) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (hc0 : ¬cond0_0 i) (hc1 : cond0_1 i) (hc2 : ¬cond0_2 i) (hc3 : ¬cond0_3 i)
    (x0 : Vec F S1x512x256 .f32) (x1 : Vec F S1x128x256 .f32) (x2 : Vec F S1x1x256x2048 .f32) (x3 : Vec F S1x1x256x2048 .f32) (x4 : Vec F S1x32x256 .f32) (x5 : Vec F S32x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13) K := by
    intro E K
    simp only [cc0_attn_prompt_eq_skeleton]; unfold cc0_attn_prompt_skel
    simp only [k0_part120_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part46_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.AttnIdeal.Run

end
-- ==== Proof.Attn.Id.RunC.lean ====
/- The whole body in one of its three cases. -/
module

public import proofs.«01_k».proof.Proof.Attn.Id.Setup

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2216000 in
/-- The body at an even query block after the first: the last chunk is a half one. -/
theorem kernelRun0_C (c : Dev nD) (i : grid0.Coords) (arg2 : Memref sig .tc .vmem S1x512x256 .f32) (harg2 : arg2.IsWhole) (arg3 : Memref sig .tc .vmem S1x128x256 .f32) (harg3 : arg3.IsWhole) (arg4 : Memref sig .tc .vmem S1x1x256x2048 .f32) (harg4 : arg4.IsWhole) (arg5 : Memref sig .tc .vmem S1x1x256x2048 .f32) (harg5 : arg5.IsWhole) (arg6 : Memref sig .tc .vmem S1x32x256 .f32) (harg6 : arg6.IsWhole) (arg7 : Memref sig .tc .vmem S32x128 .bf16) (harg7 : arg7.IsWhole) (arg8 : Memref sig .tc .vmem S1x256x512 .f32) (harg8 : arg8.IsWhole) (arg9 : Memref sig .tc .vmem S2x2048x128 .bf16) (harg9 : arg9.IsWhole) (arg10 : Memref sig .tc .vmem S2x2048x64 .bf16) (harg10 : arg10.IsWhole) (arg11 : Memref sig .tc .vmem S2x2048x1024 .bf16) (harg11 : arg11.IsWhole) (arg12 : Memref sig .tc .vmem S2x80x1024 .f32) (harg12 : arg12.IsWhole) (arg13 : Memref sig .tc .vmem S2x1x1024 .f32) (harg13 : arg13.IsWhole) (hc0 : ¬cond0_0 i) (hc1 : ¬cond0_1 i) (hc2 : cond0_2 i) (hc3 : cond0_3 i)
    (x0 : Vec F S1x512x256 .f32) (x1 : Vec F S1x128x256 .f32) (x2 : Vec F S1x1x256x2048 .f32) (x3 : Vec F S1x1x256x2048 .f32) (x4 : Vec F S1x32x256 .f32) (x5 : Vec F S32x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13) K := by
    intro E K
    simp only [cc0_attn_prompt_eq_skeleton]; unfold cc0_attn_prompt_skel
    simp only [k0_part120_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part47_eq_skeleton, k0_part103_eq_skeleton, k0_part50_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.AttnIdeal.Run

end
-- ==== Proof.Attn.Id.Frame.lean ====
/- The frame of the attention: every execution ends, the argument arrays unchanged, every counter at zero. -/
module

public import proofs.«01_k».proof.Proof.Attn.Id.RunA
public import proofs.«01_k».proof.Proof.Attn.Id.RunB
public import proofs.«01_k».proof.Proof.Attn.Id.RunC
public import Idealize.ShloMosaic.Lib.Claim

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window: this certificate says nothing of its contents. -/
def forgets0 : Fin 7 → Bool := fun w => w.val == 6

/-- The proof data of the pipeline: the arrays as the region finds them, every input block unchanged by the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The arrays of the proof data are those the region finds. -/
theorem A_eq (c : Dev nD) (w : Fin cfg0.W) : (dats m 0 c).A w = V m c (Pipeline.arrRef spec0 w) := by
  dsimp only [dats]

/-- The inputs after the body, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 3600000 in
/-- The body at any grid point: its number says which of the three cases it is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 64 := lt_of_lt_of_eq t.isLt (show cfg0.N = 64 from N_0)
  by_cases h0 : t.val % 8 = 0
  · by_cases h1 : t.val % 2 = 1
    · exfalso; omega
    · by_cases h2 : t.val % 2 = 0
      · by_cases h3 : t.val % 2 = 0
        · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_A c (grid0.coords t) _ _ _ _ _ _ _ _ _ _ _ _ _ _ _ _ _ _ _ _ _ _ _ _ ((hcond0_0 t).mpr h0) (fun h => h1 ((hcond0_1 t).mp h)) ((hcond0_2 t).mpr h2) ((hcond0_3 t).mpr h3) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, HS0, HS1, HS2, HS3, HS4⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexact H6
        · exfalso; omega
      · exfalso; omega
  · by_cases h1 : t.val % 2 = 1
    · by_cases h2 : t.val % 2 = 0
      · exfalso; omega
      · by_cases h3 : t.val % 2 = 0
        · exfalso; omega
        · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, HS0, HS1, HS2, HS3, HS4⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexact H6
    · by_cases h2 : t.val % 2 = 0
      · by_cases h3 : t.val % 2 = 0
        · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, HS0, HS1, HS2, HS3, HS4⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexact H6
        · exfalso; omega
      · exfalso; omega

/-- The body table names this body. -/
theorem defs₀_row (t : Fin cfg0.N) :
    defs₀ (F := F) .tc cfg0.body (cfg0.bodyArgs t (cfg0.slots t)) = bodyAt0 t := by
  unfold defs₀; rw [Defs.onTc_tc]

/-- The pipeline obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl
set_option backward.isDefEq.respectTransparency.types false in
/-- The launch: every execution ends, with the input arrays unchanged and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame: the argument arrays end unchanged and the counters end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.AttnIdeal.Run

end
-- ==== Proof.lean ====
module

public import proofs.«01_k».proof.Defs
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.Step
public import proofs.«01_k».proof.Proof.Gen.Step.Frame
public import proofs.«01_k».proof.Proof.Gen.StepIdeal
public import proofs.«01_k».proof.Proof.Gen.StepIdeal.Frame
public import proofs.«01_k».proof.Proof.Gen.StepIdeal.Value
public import proofs.«01_k».proof.Proof.Gen.StepReferenceIdeal
public import proofs.«01_k».proof.Proof.Gen.StepReferenceIdeal.Run
public import proofs.«01_k».proof.Proof.Gen.Fresh
public import proofs.«01_k».proof.Proof.Gen.Fresh.Frame
public import proofs.«01_k».proof.Proof.Gen.FreshIdeal
public import proofs.«01_k».proof.Proof.Gen.FreshIdeal.Frame
public import proofs.«01_k».proof.Proof.Gen.FreshIdeal.Value
public import proofs.«01_k».proof.Proof.Gen.FreshReferenceIdeal
public import proofs.«01_k».proof.Proof.Gen.FreshReferenceIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.Attn
public import Idealize.ShloMosaic.Lib.Quiescent
public import proofs.«01_k».proof.Proof.Gen.AttnIdeal
public import proofs.«01_k».proof.Proof.InProj.Claim
public import proofs.«01_k».proof.Proof.Mixer.Claim
public import proofs.«01_k».proof.Proof.Step.Claim
public import proofs.«01_k».proof.Proof.FreshIn.Claim
public import proofs.«01_k».proof.Proof.Out.Claim
public import proofs.«01_k».proof.Proof.Attn.Hw.Frame
public import proofs.«01_k».proof.Proof.Attn.Id.Frame

@[expose] public section

noncomputable section

open Idealize.ShloMosaic Idealize.SL.Sem

namespace Cert.Proof

theorem claim : Cert.Claim :=
  ⟨Cert.Proj.Gen.facts, Cert.ProjIdeal.Gen.facts, Cert.ProjReferenceIdeal.Gen.facts, Cert.Mix.Gen.facts, Cert.MixIdeal.Gen.facts,
    Cert.MixReferenceIdeal.Gen.facts, Cert.Step.Gen.facts, Cert.StepIdeal.Gen.facts, Cert.StepReferenceIdeal.Gen.facts,
    Cert.Fresh.Gen.facts, Cert.FreshIdeal.Gen.facts, Cert.FreshReferenceIdeal.Gen.facts,
    Cert.Out.Gen.facts, Cert.OutIdeal.Gen.facts, Cert.OutReferenceIdeal.Gen.facts, Cert.Attn.Gen.facts, Cert.AttnIdeal.Gen.facts,
    fun m ρ _ => Cert.Proj.Gen.frame m ρ, fun m ρ _ => Cert.ProjIdeal.Gen.frame m ρ,
    fun m ρ _ => (θ_run _ _ _).mono (fun r k => ⟨fun c => (k c).2.2.2.2.2.2.2.2, sem_eq_zero_of_no_sems rfl _⟩) (Cert.ProjReferenceIdeal.Value.run m ρ),
    fun m ρ _ => Cert.Mix.Gen.frame m ρ, fun m ρ _ => Cert.MixIdeal.Gen.frame m ρ,
    fun m ρ _ => (θ_run _ _ _).mono (fun r k => ⟨fun c => (k c).2, sem_eq_zero_of_no_sems rfl _⟩) (Cert.MixReferenceIdeal.Value.run m ρ),
    fun m ρ _ => Cert.Step.Gen.frame m ρ, fun m ρ _ => Cert.StepIdeal.Gen.frame m ρ,
    fun m ρ _ => (θ_run _ _ _).mono (fun r k => ⟨fun c => (k c).2.2.2, sem_eq_zero_of_no_sems rfl _⟩) (Cert.StepReferenceIdeal.Value.run m ρ),
    fun m ρ _ => Cert.Fresh.Gen.frame m ρ, fun m ρ _ => Cert.FreshIdeal.Gen.frame m ρ,
    fun m ρ _ => (θ_run _ _ _).mono (fun r k => ⟨fun c => (k c).2.2.2.2.2.2.2.2, sem_eq_zero_of_no_sems rfl _⟩) (Cert.FreshReferenceIdeal.Value.run m ρ),
    fun m ρ _ => Cert.Out.Gen.frame m ρ, fun m ρ _ => Cert.OutIdeal.Gen.frame m ρ,
    fun m ρ _ => (θ_run _ _ _).mono (fun r k => ⟨fun c => (k c).2, sem_eq_zero_of_no_sems rfl _⟩) (Cert.OutReferenceIdeal.Value.run m ρ),
    fun m ρ _ => Cert.Attn.Run.frame m ρ, fun m ρ _ => Cert.AttnIdeal.Run.frame m ρ,
    trivial, Cert.InProj.algebraic, trivial, Cert.Mixer.algebraic, trivial, Cert.Step.algebraic, trivial, Cert.FreshIn.algebraic, trivial, Cert.OutIdeal.Spec.algebraic, trivial⟩

end Cert.Proof

end
